-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts_named : Cert.Pre_experts_named.Facts] (m : (ℓ : Loc Cert.Kernel4.nD Cert.Kernel4.τ Cert.Kernel4.sig) → Buf (Elt Bits) ℓ) : Prop :=
  ∀ c : Dev Cert.Kernel4.nD,
    (Cert.Pre_experts_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8))).1 = (fun _ => 1#1)
    ∧ (Cert.Pre_experts_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8))).2 = (fun _ => 1#1)

def Pre_Kernel4Ideal [hPre_experts_named : Cert.Pre_experts_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 = (fun _ => 1#1)
    ∧ (Cert.Pre_experts_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts_named [hPre_experts_named : Cert.Pre_experts_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).1 = (fun _ => 1#1)
    ∧ (Cert.Pre_experts_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_pages_named : Cert.Pre_pages_named.Facts] (m : (ℓ : Loc Cert.Kernel7.nD Cert.Kernel7.τ Cert.Kernel7.sig) → Buf (Elt Bits) ℓ) : Prop :=
  ∀ c : Dev Cert.Kernel7.nD,
    (Cert.Pre_pages_named.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2))) = (fun _ => 1#1)

def Pre_Kernel7Ideal [hPre_pages_named : Cert.Pre_pages_named.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_pages_named.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_pages_named [hPre_pages_named : Cert.Pre_pages_named.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_pages_named.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] [hPre_experts_named : Cert.Pre_experts_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_experts_named [hReference4Ideal : Cert.Reference4Ideal.Facts] [hPre_experts_named : Cert.Pre_experts_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts_named m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] [hPre_pages_named : Cert.Pre_pages_named.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] [hPre_pages_named : Cert.Pre_pages_named.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_pages_named [hReference7Ideal : Cert.Reference7Ideal.Facts] [hPre_pages_named : Cert.Pre_pages_named.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_pages_named m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)) (v5 : (c : Dev Cert.Kernel2Ideal.nD) → Buf (Elt Ideal) ((c.tc : Thread Cert.Kernel2Ideal.nD Cert.Kernel2Ideal.τ).loc Cert.Kernel2Ideal.main_v10_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_v10_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v53) = v3 c
          ∧ r.2.mem ((c.tc : Thread Cert.Reference2Ideal.nD Cert.Reference2Ideal.τ).loc Cert.Reference2Ideal.main_v54) = v4 c
          ∧ r.2.mem ((c.tc : Thread Cert.Reference2Ideal.nD Cert.Reference2Ideal.τ).loc Cert.Reference2Ideal.main_v55) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)) (v5 : (c : Dev Cert.Kernel3Ideal.nD) → Buf (Elt Ideal) ((c.tc : Thread Cert.Kernel3Ideal.nD Cert.Kernel3Ideal.τ).loc Cert.Kernel3Ideal.main_v10_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_v10_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_v52) = v3 c
          ∧ r.2.mem ((c.tc : Thread Cert.Reference3Ideal.nD Cert.Reference3Ideal.τ).loc Cert.Reference3Ideal.main_v53) = v4 c
          ∧ r.2.mem ((c.tc : Thread Cert.Reference3Ideal.nD Cert.Reference3Ideal.τ).loc Cert.Reference3Ideal.main_v54) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v76) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] [hPre_pages_named : Cert.Pre_pages_named.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_experts_named : Cert.Pre_experts_named.Facts) (hPre_pages_named : Cert.Pre_pages_named.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts_named := hPre_experts_named)
    ∧ quiescent_Kernel4Ideal (hKernel4Ideal := hKernel4Ideal) (hPre_experts_named := hPre_experts_named)
    ∧ quiescent_Reference4Ideal (hReference4Ideal := hReference4Ideal)
    ∧ quiescent_Reference4Ideal_pre_experts_named (hReference4Ideal := hReference4Ideal) (hPre_experts_named := hPre_experts_named)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_pages_named := hPre_pages_named)
    ∧ quiescent_Kernel7Ideal (hKernel7Ideal := hKernel7Ideal) (hPre_pages_named := hPre_pages_named)
    ∧ quiescent_Reference7Ideal (hReference7Ideal := hReference7Ideal)
    ∧ quiescent_Reference7Ideal_pre_pages_named (hReference7Ideal := hReference7Ideal) (hPre_pages_named := hPre_pages_named)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts_named := hPre_experts_named)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_pages_named := hPre_pages_named)
-- ==== Pre_experts_named.lean ====
abbrev S161 : Shape := ⟨1, ![161]⟩
abbrev S1 : Shape := ⟨1, ![1]⟩
abbrev S1318912x128 : Shape := ⟨2, ![1318912, 128]⟩
abbrev S32x1024x1024 : Shape := ⟨3, ![32, 1024, 1024]⟩
abbrev S32x1024 : Shape := ⟨2, ![32, 1024]⟩
abbrev S_ : Shape := ⟨0, ![]⟩

class Facts : Prop where
  bcast_S_S161 : S_.BroadcastsInDim S161 (![] : Fin 0 → Fin S161.rank)
  bcast_S_S1 : S_.BroadcastsInDim S1 (![] : Fin 0 → Fin S1.rank)

variable [Facts]

def fn {F : FTy → Type} [FloatOps F] (main_arg0 : IVec S161 32) (main_arg1 : IVec S1 32) (main_arg2 : FVec F S1318912x128 .f32) (main_arg3 : FVec F S32x1024x1024 .f32) (main_arg4 : FVec F S32x1024 .f32) (main_arg5 : FVec F S32x1024x1024 .f32) (main_arg6 : FVec F S32x1024 .f32) (main_arg7 : FVec F S32x1024x1024 .f32) (main_arg8 : FVec F S32x1024 .f32) : IVec S161 1 × IVec S1 1 :=
  let main_c : IVec S_ 32 := constantI S_ 32 0#32
  let main_v0 : IVec S161 32 := broadcastInDim S161 ![] bcast_S_S161 main_c
  let main_v1 : IVec S161 1 := cmpi .sge main_arg0 main_v0
  let main_c_0 : IVec S_ 32 := constantI S_ 32 32#32
  let main_v2 : IVec S161 32 := broadcastInDim S161 ![] bcast_S_S161 main_c_0
  let main_v3 : IVec S161 1 := cmpi .slt main_arg0 main_v2
  let main_v4 : IVec S161 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Pre_pages_named.lean ====
abbrev S32x128 : Shape := ⟨2, ![32, 128]⟩
abbrev S5120x512 : Shape := ⟨2, ![5120, 512]⟩
abbrev S32x4x8x128 : Shape := ⟨4, ![32, 4, 8, 128]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : IVec S32x128 32) (main_arg1 : FVec F S5120x512 .f32) (main_arg2 : FVec F S32x4x8x128 .f32) : IVec S32x128 1 :=
  let main_c : IVec S_ 32 := constantI S_ 32 0#32
  let main_v0 : IVec S32x128 32 := broadcastInDim S32x128 ![] bcast_S_S32x128 main_c
  let main_v1 : IVec S32x128 1 := cmpi .sge main_arg0 main_v0
  let main_c_0 : IVec S_ 32 := constantI S_ 32 5120#32
  let main_v2 : IVec S32x128 32 := broadcastInDim S32x128 ![] bcast_S_S32x128 main_c_0
  let main_v3 : IVec S32x128 1 := cmpi .slt main_arg0 main_v2
  let main_v4 : IVec S32x128 1 := andi main_v1 main_v3
  main_v4
-- ==== Kernel2.lean ====
abbrev S8x4096x1024 : Shape := ⟨3, ![8, 4096, 1024]⟩
abbrev S1024 : Shape := ⟨1, ![1024]⟩
abbrev S1024x3592 : Shape := ⟨2, ![1024, 3592]⟩
abbrev S128 : Shape := ⟨1, ![128]⟩
abbrev S32768x1024 : Shape := ⟨2, ![32768, 1024]⟩
abbrev S1x1024 : Shape := ⟨2, ![1, 1024]⟩
abbrev S1024x8 : Shape := ⟨2, ![1024, 8]⟩
abbrev S_ : Shape := ⟨0, ![]⟩
abbrev S1024x128 : Shape := ⟨2, ![1024, 128]⟩
abbrev S1024x2048 : Shape := ⟨2, ![1024, 2048]⟩
abbrev S1024x1536 : Shape := ⟨2, ![1024, 1536]⟩
abbrev S1024x3712 : Shape := ⟨2, ![1024, 3712]⟩
abbrev S1x128 : Shape := ⟨2, ![1, 128]⟩
abbrev S32768x1536 : Shape := ⟨2, ![32768, 1536]⟩
abbrev S32768x512 : Shape := ⟨2, ![32768, 512]⟩
abbrev S32768x128 : Shape := ⟨2, ![32768, 128]⟩
abbrev S8x4x4096x128 : Shape := ⟨4, ![8, 4, 4096, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S1x4x512x128 : Shape := ⟨4, ![1, 4, 512, 128]⟩
abbrev S512 : Shape := ⟨1, ![512]⟩
abbrev S512x1 : Shape := ⟨2, ![512, 1]⟩
abbrev S512x3712 : Shape := ⟨2, ![512, 3712]⟩
abbrev S1x1x512x128 : Shape := ⟨4, ![1, 1, 512, 128]⟩

abbrev nBuf : Space → Nat
  | .hbm => 23
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3592, .f32⟩
  | .hbm, ⟨3, _⟩ => ⟨S128, .f32⟩
  | .hbm, ⟨4, _⟩ => ⟨S128, .f32⟩
  | .hbm, ⟨5, _⟩ => ⟨S32768x1024, .f32⟩
  | .hbm, ⟨6, _⟩ => ⟨S1x1024, .f32⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x2048, .f32⟩
  | .hbm, ⟨12, _⟩ => ⟨S1024x1536, .f32⟩
  | .hbm, ⟨13, _⟩ => ⟨S1024x3712, .f32⟩
  | .hbm, ⟨14, _⟩ => ⟨S1024x3712, .bf16⟩
  | .hbm, ⟨15, _⟩ => ⟨S1x128, .f32⟩
  | .hbm, ⟨16, _⟩ => ⟨S1x128, .f32⟩
  | .hbm, ⟨17, _⟩ => ⟨S32768x1536, .f32⟩
  | .hbm, ⟨18, _⟩ => ⟨S32768x512, .f32⟩
  | .hbm, ⟨19, _⟩ => ⟨S32768x128, .f32⟩
  | .hbm, ⟨20, _⟩ => ⟨S8x4x4096x128, .f32⟩
  | .hbm, ⟨21, _⟩ => ⟨S8x4x4096x128, .f32⟩
  | .hbm, ⟨22, _⟩ => ⟨S8x4x4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S1x128, .f32⟩
  | .local _ .vmem, ⟨5, _⟩ => ⟨S1x128, .f32⟩
  | .local _ .vmem, ⟨6, _⟩ => ⟨S512x1536, .f32⟩
  | .local _ .vmem, ⟨7, _⟩ => ⟨S512x1536, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S1x4x512x128, .f32⟩
  | .local _ .vmem, ⟨13, _⟩ => ⟨S1x4x512x128, .f32⟩
  | .local _ .vmem, ⟨14, _⟩ => ⟨S1x4x512x128, .f32⟩
  | .local _ .vmem, ⟨15, _⟩ => ⟨S1x4x512x128, .f32⟩
  | .local _ .vmem, ⟨16, _⟩ => ⟨S1x4x512x128, .f32⟩
  | .local _ .vmem, ⟨17, _⟩ => ⟨S1x4x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x4096x1024 : Shape := ⟨3, ![8, 4096, 1024]⟩
abbrev S1024 : Shape := ⟨1, ![1024]⟩
abbrev S1024x3592 : Shape := ⟨2, ![1024, 3592]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3592 : Shape := ⟨3, ![8, 4096, 3592]⟩
abbrev S8x4096x1536 : Shape := ⟨3, ![8, 4096, 1536]⟩
abbrev S32768x1536 : Shape := ⟨2, ![32768, 1536]⟩
abbrev S8x4096x512 : Shape := ⟨3, ![8, 4096, 512]⟩
abbrev S32768x512 : Shape := ⟨2, ![32768, 512]⟩
abbrev S8x4096x8 : Shape := ⟨3, ![8, 4096, 8]⟩
abbrev S32768x8 : Shape := ⟨2, ![32768, 8]⟩
abbrev S32768x128 : Shape := ⟨2, ![32768, 128]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x4x4096x128 : Shape := ⟨4, ![8, 4, 4096, 128]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3592, .f32⟩
  | .hbm, ⟨3, _⟩ => ⟨S128, .f32⟩
  | .hbm, ⟨4, _⟩ => ⟨S128, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x3592, .f32⟩
  | .hbm, ⟨22, _⟩ => ⟨S8x4096x1536, .f32⟩
  | .hbm, ⟨23, _⟩ => ⟨S32768x1536, .f32⟩
  | .hbm, ⟨24, _⟩ => ⟨S8x4096x512, .f32⟩
  | .hbm, ⟨25, _⟩ => ⟨S32768x512, .f32⟩
  | .hbm, ⟨26, _⟩ => ⟨S8x4096x8, .f32⟩
  | .hbm, ⟨27, _⟩ => ⟨S32768x8, .f32⟩
  | .hbm, ⟨28, _⟩ => ⟨S_, .i32⟩
  | .hbm, ⟨29, _⟩ => ⟨S_, .f32⟩
  | .hbm, ⟨30, _⟩ => ⟨S32768x128, .f32⟩
  | .hbm, ⟨31, _⟩ => ⟨S8x4096x512, .f32⟩
  | .hbm, ⟨32, _⟩ => ⟨S8x4096x4x128, .f32⟩
  | .hbm, ⟨33, _⟩ => ⟨S8x4096x4x128, .f32⟩
  | .hbm, ⟨34, _⟩ => ⟨S_, .f32⟩
  | .hbm, ⟨35, _⟩ => ⟨S8x4096x4, .f32⟩
  | .hbm, ⟨36, _⟩ => ⟨S8x4096x4x1, .f32⟩
  | .hbm, ⟨37, _⟩ => ⟨S_, .f32⟩
  | .hbm, ⟨38, _⟩ => ⟨S8x4096x4x1, .f32⟩
  | .hbm, ⟨39, _⟩ => ⟨S8x4096x4x1, .f32⟩
  | .hbm, ⟨40, _⟩ => ⟨S_, .f32⟩
  | .hbm, ⟨41, _⟩ => ⟨S8x4096x4x1, .f32⟩
  | .hbm, ⟨42, _⟩ => ⟨S8x4096x4x1, .f32⟩
  | .hbm, ⟨43, _⟩ => ⟨S8x4096x4x1, .f32⟩
  | .hbm, ⟨44, _⟩ => ⟨S8x4096x4x128, .f32⟩
  | .hbm, ⟨45, _⟩ => ⟨S8x4096x4x128, .f32⟩
  | .hbm, ⟨46, _⟩ => ⟨S1x1x1x128, .f32⟩
  | .hbm, ⟨47, _⟩ => ⟨S8x4096x4x128, .f32⟩
  | .hbm, ⟨48, _⟩ => ⟨S8x4096x4x128, .f32⟩
  | .hbm, ⟨49, _⟩ => ⟨S8x4096x512, .f32⟩
  | .hbm, ⟨50, _⟩ => ⟨S8x4096x4x128, .f32⟩
  | .hbm, ⟨51, _⟩ => ⟨S8x4096x4x128, .f32⟩
  | .hbm, ⟨52, _⟩ => ⟨S_, .f32⟩
  | .hbm, ⟨53, _⟩ => ⟨S8x4096x4, .f32⟩
  | .hbm, ⟨54, _⟩ => ⟨S8x4096x4x1, .f32⟩
  | .hbm, ⟨55, _⟩ => ⟨S_, .f32⟩
  | .hbm, ⟨56, _⟩ => ⟨S8x4096x4x1, .f32⟩
  | .hbm, ⟨57, _⟩ => ⟨S8x4096x4x1, .f32⟩
  | .hbm, ⟨58, _⟩ => ⟨S_, .f32⟩
  | .hbm, ⟨59, _⟩ => ⟨S8x4096x4x1, .f32⟩
  | .hbm, ⟨60, _⟩ => ⟨S8x4096x4x1, .f32⟩
  | .hbm, ⟨61, _⟩ => ⟨S8x4096x4x1, .f32⟩
  | .hbm, ⟨62, _⟩ => ⟨S8x4096x4x128, .f32⟩
  | .hbm, ⟨63, _⟩ => ⟨S8x4096x4x128, .f32⟩
  | .hbm, ⟨64, _⟩ => ⟨S1x1x1x128, .f32⟩
  | .hbm, ⟨65, _⟩ => ⟨S8x4096x4x128, .f32⟩
  | .hbm, ⟨66, _⟩ => ⟨S8x4096x4x128, .f32⟩
  | .hbm, ⟨67, _⟩ => ⟨S8x4096x512, .f32⟩
  | .hbm, ⟨68, _⟩ => ⟨S8x4096x4x128, .f32⟩
  | .hbm, ⟨69, _⟩ => ⟨S8x4x4096x128, .f32⟩
  | .hbm, ⟨70, _⟩ => ⟨S8x4x4096x128, .f32⟩
  | .hbm, ⟨71, _⟩ => ⟨S8x4x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Kernel3.lean ====
abbrev S32x4x1024 : Shape := ⟨3, ![32, 4, 1024]⟩
abbrev S1024 : Shape := ⟨1, ![1024]⟩
abbrev S1024x3592 : Shape := ⟨2, ![1024, 3592]⟩
abbrev S128 : Shape := ⟨1, ![128]⟩
abbrev S128x1024 : Shape := ⟨2, ![128, 1024]⟩
abbrev S1x1024 : Shape := ⟨2, ![1, 1024]⟩
abbrev S1024x8 : Shape := ⟨2, ![1024, 8]⟩
abbrev S_ : Shape := ⟨0, ![]⟩
abbrev S1024x128 : Shape := ⟨2, ![1024, 128]⟩
abbrev S1024x2048 : Shape := ⟨2, ![1024, 2048]⟩
abbrev S1024x1536 : Shape := ⟨2, ![1024, 1536]⟩
abbrev S1024x3712 : Shape := ⟨2, ![1024, 3712]⟩
abbrev S1x128 : Shape := ⟨2, ![1, 128]⟩
abbrev S128x1536 : Shape := ⟨2, ![128, 1536]⟩
abbrev S128x512 : Shape := ⟨2, ![128, 512]⟩
abbrev S128x128 : Shape := ⟨2, ![128, 128]⟩
abbrev S128x1 : Shape := ⟨2, ![128, 1]⟩
abbrev S128x3712 : Shape := ⟨2, ![128, 3712]⟩

abbrev nBuf : Space → Nat
  | .hbm => 23
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3592, .f32⟩
  | .hbm, ⟨3, _⟩ => ⟨S128, .f32⟩
  | .hbm, ⟨4, _⟩ => ⟨S128, .f32⟩
  | .hbm, ⟨5, _⟩ => ⟨S128x1024, .f32⟩
  | .hbm, ⟨6, _⟩ => ⟨S1x1024, .f32⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x2048, .f32⟩
  | .hbm, ⟨12, _⟩ => ⟨S1024x1536, .f32⟩
  | .hbm, ⟨13, _⟩ => ⟨S1024x3712, .f32⟩
  | .hbm, ⟨14, _⟩ => ⟨S1024x3712, .bf16⟩
  | .hbm, ⟨15, _⟩ => ⟨S1x128, .f32⟩
  | .hbm, ⟨16, _⟩ => ⟨S1x128, .f32⟩
  | .hbm, ⟨17, _⟩ => ⟨S128x1536, .f32⟩
  | .hbm, ⟨18, _⟩ => ⟨S128x512, .f32⟩
  | .hbm, ⟨19, _⟩ => ⟨S128x128, .f32⟩
  | .hbm, ⟨20, _⟩ => ⟨S128x512, .f32⟩
  | .hbm, ⟨21, _⟩ => ⟨S128x512, .f32⟩
  | .hbm, ⟨22, _⟩ => ⟨S128x512, .f32⟩
  | .local _ .vmem, ⟨0, _⟩ => ⟨S128x1024, .f32⟩
  | .local _ .vmem, ⟨1, _⟩ => ⟨S1x1024, .f32⟩
  | .local _ .vmem, ⟨2, _⟩ => ⟨S1024x3712, .bf16⟩
  | .local _ .vmem, ⟨3, _⟩ => ⟨S1x128, .f32⟩
  | .local _ .vmem, ⟨4, _⟩ => ⟨S1x128, .f32⟩
  | .local _ .vmem, ⟨5, _⟩ => ⟨S128x1536, .f32⟩
  | .local _ .vmem, ⟨6, _⟩ => ⟨S128x512, .f32⟩
  | .local _ .vmem, ⟨7, _⟩ => ⟨S128x128, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference3Ideal.lean ====
abbrev S32x4x1024 : Shape := ⟨3, ![32, 4, 1024]⟩
abbrev S1024 : Shape := ⟨1, ![1024]⟩
abbrev S1024x3592 : Shape := ⟨2, ![1024, 3592]⟩
abbrev S128 : Shape := ⟨1, ![128]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x3592 : Shape := ⟨3, ![32, 4, 3592]⟩
abbrev S32x4x1536 : Shape := ⟨3, ![32, 4, 1536]⟩
abbrev S128x1536 : Shape := ⟨2, ![128, 1536]⟩
abbrev S32x4x512 : Shape := ⟨3, ![32, 4, 512]⟩
abbrev S128x512 : Shape := ⟨2, ![128, 512]⟩
abbrev S32x4x8 : Shape := ⟨3, ![32, 4, 8]⟩
abbrev S128x8 : Shape := ⟨2, ![128, 8]⟩
abbrev S128x128 : Shape := ⟨2, ![128, 128]⟩
abbrev S32x4x4x128 : Shape := ⟨4, ![32, 4, 4, 128]⟩
abbrev S32x4x4 : Shape := ⟨3, ![32, 4, 4]⟩
abbrev S32x4x4x1 : Shape := ⟨4, ![32, 4, 4, 1]⟩
abbrev S1x1x1x128 : Shape := ⟨4, ![1, 1, 1, 128]⟩

abbrev nBuf : Space → Nat
  | .hbm => 71
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3592, .f32⟩
  | .hbm, ⟨3, _⟩ => ⟨S128, .f32⟩
  | .hbm, ⟨4, _⟩ => ⟨S128, .f32⟩
  | .hbm, ⟨5, _⟩ => ⟨S32x4x1024, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x1024, .f32⟩
  | .hbm, ⟨17, _⟩ => ⟨S32x4x1024, .f32⟩
  | .hbm, ⟨18, _⟩ => ⟨S1x1x1024, .f32⟩
  | .hbm, ⟨19, _⟩ => ⟨S32x4x1024, .f32⟩
  | .hbm, ⟨20, _⟩ => ⟨S32x4x1024, .f32⟩
  | .hbm, ⟨21, _⟩ => ⟨S32x4x3592, .f32⟩
  | .hbm, ⟨22, _⟩ => ⟨S32x4x1536, .f32⟩
  | .hbm, ⟨23, _⟩ => ⟨S128x1536, .f32⟩
  | .hbm, ⟨24, _⟩ => ⟨S32x4x512, .f32⟩
  | .hbm, ⟨25, _⟩ => ⟨S128x512, .f32⟩
  | .hbm, ⟨26, _⟩ => ⟨S32x4x8, .f32⟩
  | .hbm, ⟨27, _⟩ => ⟨S128x8, .f32⟩
  | .hbm, ⟨28, _⟩ => ⟨S_, .i32⟩
  | .hbm, ⟨29, _⟩ => ⟨S_, .f32⟩
  | .hbm, ⟨30, _⟩ => ⟨S128x128, .f32⟩
  | .hbm, ⟨31, _⟩ => ⟨S32x4x512, .f32⟩
  | .hbm, ⟨32, _⟩ => ⟨S32x4x4x128, .f32⟩
  | .hbm, ⟨33, _⟩ => ⟨S32x4x4x128, .f32⟩
  | .hbm, ⟨34, _⟩ => ⟨S_, .f32⟩
  | .hbm, ⟨35, _⟩ => ⟨S32x4x4, .f32⟩
  | .hbm, ⟨36, _⟩ => ⟨S32x4x4x1, .f32⟩
  | .hbm, ⟨37, _⟩ => ⟨S_, .f32⟩
  | .hbm, ⟨38, _⟩ => ⟨S32x4x4x1, .f32⟩
  | .hbm, ⟨39, _⟩ => ⟨S32x4x4x1, .f32⟩
  | .hbm, ⟨40, _⟩ => ⟨S_, .f32⟩
  | .hbm, ⟨41, _⟩ => ⟨S32x4x4x1, .f32⟩
  | .hbm, ⟨42, _⟩ => ⟨S32x4x4x1, .f32⟩
  | .hbm, ⟨43, _⟩ => ⟨S32x4x4x1, .f32⟩
  | .hbm, ⟨44, _⟩ => ⟨S32x4x4x128, .f32⟩
  | .hbm, ⟨45, _⟩ => ⟨S32x4x4x128, .f32⟩
  | .hbm, ⟨46, _⟩ => ⟨S1x1x1x128, .f32⟩
  | .hbm, ⟨47, _⟩ => ⟨S32x4x4x128, .f32⟩
  | .hbm, ⟨48, _⟩ => ⟨S32x4x4x128, .f32⟩
  | .hbm, ⟨49, _⟩ => ⟨S32x4x512, .f32⟩
  | .hbm, ⟨50, _⟩ => ⟨S32x4x4x128, .f32⟩
  | .hbm, ⟨51, _⟩ => ⟨S32x4x4x128, .f32⟩
  | .hbm, ⟨52, _⟩ => ⟨S_, .f32⟩
  | .hbm, ⟨53, _⟩ => ⟨S32x4x4, .f32⟩
  | .hbm, ⟨54, _⟩ => ⟨S32x4x4x1, .f32⟩
  | .hbm, ⟨55, _⟩ => ⟨S_, .f32⟩
  | .hbm, ⟨56, _⟩ => ⟨S32x4x4x1, .f32⟩
  | .hbm, ⟨57, _⟩ => ⟨S32x4x4x1, .f32⟩
  | .hbm, ⟨58, _⟩ => ⟨S_, .f32⟩
  | .hbm, ⟨59, _⟩ => ⟨S32x4x4x1, .f32⟩
  | .hbm, ⟨60, _⟩ => ⟨S32x4x4x1, .f32⟩
  | .hbm, ⟨61, _⟩ => ⟨S32x4x4x1, .f32⟩
  | .hbm, ⟨62, _⟩ => ⟨S32x4x4x128, .f32⟩
  | .hbm, ⟨63, _⟩ => ⟨S32x4x4x128, .f32⟩
  | .hbm, ⟨64, _⟩ => ⟨S1x1x1x128, .f32⟩
  | .hbm, ⟨65, _⟩ => ⟨S32x4x4x128, .f32⟩
  | .hbm, ⟨66, _⟩ => ⟨S32x4x4x128, .f32⟩
  | .hbm, ⟨67, _⟩ => ⟨S32x4x512, .f32⟩
  | .hbm, ⟨68, _⟩ => ⟨S128x512, .f32⟩
  | .hbm, ⟨69, _⟩ => ⟨S128x512, .f32⟩
  | .hbm, ⟨70, _⟩ => ⟨S128x512, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Kernel4.lean ====
abbrev S161 : Shape := ⟨1, ![161]⟩
abbrev S1 : Shape := ⟨1, ![1]⟩
abbrev S1318912x128 : Shape := ⟨2, ![1318912, 128]⟩
abbrev S32x1024x1024 : Shape := ⟨3, ![32, 1024, 1024]⟩
abbrev S32x1024 : Shape := ⟨2, ![32, 1024]⟩
abbrev S_ : Shape := ⟨0, ![]⟩
abbrev S161x1 : Shape := ⟨2, ![161, 1]⟩
abbrev S32x1x1024 : Shape := ⟨3, ![32, 1, 1024]⟩
abbrev S8192x128 : Shape := ⟨2, ![8192, 128]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x128 : Shape := ⟨2, ![1024, 128]⟩
abbrev S1x1024 : Shape := ⟨2, ![1, 1024]⟩

abbrev nBuf : Space → Nat
  | .hbm => 25
  | .vmem => 20
  | .smem => 3
  | _ => 0

abbrev bufTy : (tb : Table) → Fin (tcTables nBuf tb) → BufTy
  | .hbm, ⟨0, _⟩ => ⟨S1318912x128, .f32⟩
  | .hbm, ⟨1, _⟩ => ⟨S32x1024x1024, .f32⟩
  | .hbm, ⟨2, _⟩ => ⟨S32x1024, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024, .f32⟩
  | .hbm, ⟨7, _⟩ => ⟨S161, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S161, .i32⟩
  | .hbm, ⟨12, _⟩ => ⟨S161, .i32⟩
  | .hbm, ⟨13, _⟩ => ⟨S_, .i32⟩
  | .hbm, ⟨14, _⟩ => ⟨S161, .i32⟩
  | .hbm, ⟨15, _⟩ => ⟨S161, .i1⟩
  | .hbm, ⟨16, _⟩ => ⟨S_, .i32⟩
  | .hbm, ⟨17, _⟩ => ⟨S161, .i32⟩
  | .hbm, ⟨18, _⟩ => ⟨S161, .i32⟩
  | .hbm, ⟨19, _⟩ => ⟨S161, .i32⟩
  | .hbm, ⟨20, _⟩ => ⟨S161x1, .i32⟩
  | .hbm, ⟨21, _⟩ => ⟨S32x1x1024, .f32⟩
  | .hbm, ⟨22, _⟩ => ⟨S32x1x1024, .f32⟩
  | .hbm, ⟨23, _⟩ => ⟨S32x1x1024, .f32⟩
  | .hbm, ⟨24, _⟩ => ⟨S1318912x128, .f32⟩
  | .local _ .vmem, ⟨0, _⟩ => ⟨S8192x128, .f32⟩
  | .local _ .vmem, ⟨1, _⟩ => ⟨S8192x128, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S8192x128, .f32⟩
  | .local _ .vmem, ⟨15, _⟩ => ⟨S8192x128, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .smem, ⟨0, _⟩ => ⟨S161, .i32⟩
  | .local _ .smem, ⟨1, _⟩ => ⟨S1, .i32⟩
  | .local _ .smem, ⟨2, _⟩ => ⟨S161, .i32⟩
  | _, _ => ⟨S1318912x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_arg0 : Ref sig .tc := ⟨.smem, 0, rfl⟩
abbrev main_arg1 : Ref sig .tc := ⟨.smem, 1, rfl⟩
abbrev main_v11 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![161], ![false]⟩

abbrev pre0 : Pipeline.Prefetch sig := ⟨3, ![main_arg0.idx, main_arg1.idx, main_v11.idx], fun | 0 => main_arg0.names | 1 => main_arg1.names | 2 => main_v11.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off3 (i : grid0.Coords) : Fin 1 → Nat :=
  let arg0 : BitVec 32 := BitVec.ofNat 32 (i 0).val
  let v13 : Index := Scalar.indexCast arg0
  ![v13.toNat]
def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .slt arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S161 : Shape := ⟨1, ![161]⟩
abbrev S1 : Shape := ⟨1, ![1]⟩
abbrev S1318912x128 : Shape := ⟨2, ![1318912, 128]⟩
abbrev S32x1024x1024 : Shape := ⟨3, ![32, 1024, 1024]⟩
abbrev S32x1024 : Shape := ⟨2, ![32, 1024]⟩
abbrev S161x1024x1024 : Shape := ⟨3, ![161, 1024, 1024]⟩
abbrev S_ : Shape := ⟨0, ![]⟩
abbrev S161x1 : Shape := ⟨2, ![161, 1]⟩
abbrev S161x1024 : Shape := ⟨2, ![161, 1024]⟩
abbrev S161x1x1024 : Shape := ⟨3, ![161, 1, 1024]⟩
abbrev S161x1x1 : Shape := ⟨3, ![161, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S161, .i32⟩
  | .hbm, ⟨1, _⟩ => ⟨S1, .i32⟩
  | .hbm, ⟨2, _⟩ => ⟨S1318912x128, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024, .f32⟩
  | .hbm, ⟨7, _⟩ => ⟨S32x1024x1024, .f32⟩
  | .hbm, ⟨8, _⟩ => ⟨S32x1024, .f32⟩
  | .hbm, ⟨9, _⟩ => ⟨S161x1024x1024, .f32⟩
  | .hbm, ⟨10, _⟩ => ⟨S_, .i32⟩
  | .hbm, ⟨11, _⟩ => ⟨S161, .i32⟩
  | .hbm, ⟨12, _⟩ => ⟨S161, .i1⟩
  | .hbm, ⟨13, _⟩ => ⟨S_, .i32⟩
  | .hbm, ⟨14, _⟩ => ⟨S161, .i32⟩
  | .hbm, ⟨15, _⟩ => ⟨S161, .i32⟩
  | .hbm, ⟨16, _⟩ => ⟨S161, .i32⟩
  | .hbm, ⟨17, _⟩ => ⟨S161x1, .i32⟩
  | .hbm, ⟨18, _⟩ => ⟨S161x1024x1024, .f32⟩
  | .hbm, ⟨19, _⟩ => ⟨S161x1024x1024, .f32⟩
  | .hbm, ⟨20, _⟩ => ⟨S_, .i32⟩
  | .hbm, ⟨21, _⟩ => ⟨S161, .i32⟩
  | .hbm, ⟨22, _⟩ => ⟨S161, .i1⟩
  | .hbm, ⟨23, _⟩ => ⟨S_, .i32⟩
  | .hbm, ⟨24, _⟩ => ⟨S161, .i32⟩
  | .hbm, ⟨25, _⟩ => ⟨S161, .i32⟩
  | .hbm, ⟨26, _⟩ => ⟨S161, .i32⟩
  | .hbm, ⟨27, _⟩ => ⟨S161x1, .i32⟩
  | .hbm, ⟨28, _⟩ => ⟨S161x1024, .f32⟩
  | .hbm, ⟨29, _⟩ => ⟨S161x1x1024, .f32⟩
  | .hbm, ⟨30, _⟩ => ⟨S161x1024x1024, .f32⟩
  | .hbm, ⟨31, _⟩ => ⟨S161x1024x1024, .f32⟩
  | .hbm, ⟨32, _⟩ => ⟨S_, .f32⟩
  | .hbm, ⟨33, _⟩ => ⟨S161x1024x1024, .f32⟩
  | .hbm, ⟨34, _⟩ => ⟨S161x1024x1024, .f32⟩
  | .hbm, ⟨35, _⟩ => ⟨S_, .i32⟩
  | .hbm, ⟨36, _⟩ => ⟨S161, .i32⟩
  | .hbm, ⟨37, _⟩ => ⟨S161, .i1⟩
  | .hbm, ⟨38, _⟩ => ⟨S_, .i32⟩
  | .hbm, ⟨39, _⟩ => ⟨S161, .i32⟩
  | .hbm, ⟨40, _⟩ => ⟨S161, .i32⟩
  | .hbm, ⟨41, _⟩ => ⟨S161, .i32⟩
  | .hbm, ⟨42, _⟩ => ⟨S161x1, .i32⟩
  | .hbm, ⟨43, _⟩ => ⟨S161x1024x1024, .f32⟩
  | .hbm, ⟨44, _⟩ => ⟨S161x1024x1024, .f32⟩
  | .hbm, ⟨45, _⟩ => ⟨S_, .i32⟩
  | .hbm, ⟨46, _⟩ => ⟨S161, .i32⟩
  | .hbm, ⟨47, _⟩ => ⟨S161, .i1⟩
  | .hbm, ⟨48, _⟩ => ⟨S_, .i32⟩
  | .hbm, ⟨49, _⟩ => ⟨S161, .i32⟩
  | .hbm, ⟨50, _⟩ => ⟨S161, .i32⟩
  | .hbm, ⟨51, _⟩ => ⟨S161, .i32⟩
  | .hbm, ⟨52, _⟩ => ⟨S161x1, .i32⟩
  | .hbm, ⟨53, _⟩ => ⟨S161x1024, .f32⟩
  | .hbm, ⟨54, _⟩ => ⟨S161x1x1024, .f32⟩
  | .hbm, ⟨55, _⟩ => ⟨S161x1024x1024, .f32⟩
  | .hbm, ⟨56, _⟩ => ⟨S161x1024x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S161x1024x1024, .f32⟩
  | .hbm, ⟨61, _⟩ => ⟨S161x1024x1024, .f32⟩
  | .hbm, ⟨62, _⟩ => ⟨S_, .f32⟩
  | .hbm, ⟨63, _⟩ => ⟨S161x1024x1024, .f32⟩
  | .hbm, ⟨64, _⟩ => ⟨S161x1024x1024, .f32⟩
  | .hbm, ⟨65, _⟩ => ⟨S_, .f32⟩
  | .hbm, ⟨66, _⟩ => ⟨S161x1024x1024, .f32⟩
  | .hbm, ⟨67, _⟩ => ⟨S161x1024x1024, .f32⟩
  | .hbm, ⟨68, _⟩ => ⟨S161x1024x1024, .f32⟩
  | .hbm, ⟨69, _⟩ => ⟨S161x1024x1024, .f32⟩
  | .hbm, ⟨70, _⟩ => ⟨S_, .f32⟩
  | .hbm, ⟨71, _⟩ => ⟨S161x1024x1024, .f32⟩
  | .hbm, ⟨72, _⟩ => ⟨S161x1024x1024, .f32⟩
  | .hbm, ⟨73, _⟩ => ⟨S_, .f32⟩
  | .hbm, ⟨74, _⟩ => ⟨S161x1024x1024, .f32⟩
  | .hbm, ⟨75, _⟩ => ⟨S161x1024x1024, .f32⟩
  | .hbm, ⟨76, _⟩ => ⟨S161x1024x1024, .f32⟩
  | .hbm, ⟨77, _⟩ => ⟨S_, .f32⟩
  | .hbm, ⟨78, _⟩ => ⟨S161x1024x1024, .f32⟩
  | .hbm, ⟨79, _⟩ => ⟨S161x1024x1024, .f32⟩
  | .hbm, ⟨80, _⟩ => ⟨S161x1024x1024, .f32⟩
  | .hbm, ⟨81, _⟩ => ⟨S_, .i32⟩
  | .hbm, ⟨82, _⟩ => ⟨S161, .i32⟩
  | .hbm, ⟨83, _⟩ => ⟨S161, .i1⟩
  | .hbm, ⟨84, _⟩ => ⟨S_, .i32⟩
  | .hbm, ⟨85, _⟩ => ⟨S161, .i32⟩
  | .hbm, ⟨86, _⟩ => ⟨S161, .i32⟩
  | .hbm, ⟨87, _⟩ => ⟨S161, .i32⟩
  | .hbm, ⟨88, _⟩ => ⟨S161x1, .i32⟩
  | .hbm, ⟨89, _⟩ => ⟨S161x1024x1024, .f32⟩
  | .hbm, ⟨90, _⟩ => ⟨S161x1024x1024, .f32⟩
  | .hbm, ⟨91, _⟩ => ⟨S_, .i32⟩
  | .hbm, ⟨92, _⟩ => ⟨S161, .i32⟩
  | .hbm, ⟨93, _⟩ => ⟨S161, .i1⟩
  | .hbm, ⟨94, _⟩ => ⟨S_, .i32⟩
  | .hbm, ⟨95, _⟩ => ⟨S161, .i32⟩
  | .hbm, ⟨96, _⟩ => ⟨S161, .i32⟩
  | .hbm, ⟨97, _⟩ => ⟨S161, .i32⟩
  | .hbm, ⟨98, _⟩ => ⟨S161x1, .i32⟩
  | .hbm, ⟨99, _⟩ => ⟨S161x1024, .f32⟩
  | .hbm, ⟨100, _⟩ => ⟨S161x1x1024, .f32⟩
  | .hbm, ⟨101, _⟩ => ⟨S161x1024x1024, .f32⟩
  | .hbm, ⟨102, _⟩ => ⟨S161x1024x1024, .f32⟩
  | .hbm, ⟨103, _⟩ => ⟨S161, .i32⟩
  | .hbm, ⟨104, _⟩ => ⟨S_, .i32⟩
  | .hbm, ⟨105, _⟩ => ⟨S161, .i32⟩
  | .hbm, ⟨106, _⟩ => ⟨S161, .i1⟩
  | .hbm, ⟨107, _⟩ => ⟨S161x1x1, .i1⟩
  | .hbm, ⟨108, _⟩ => ⟨S_, .f32⟩
  | .hbm, ⟨109, _⟩ => ⟨S_, .f32⟩
  | .hbm, ⟨110, _⟩ => ⟨S161x1024x1024, .i1⟩
  | .hbm, ⟨111, _⟩ => ⟨S161x1024x1024, .f32⟩
  | .hbm, ⟨112, _⟩ => ⟨S161x1024x1024, .f32⟩
  | .hbm, ⟨113, _⟩ => ⟨S1318912x128, .f32⟩
  | _, _ => ⟨S161, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_13 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_15 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== Kernel5.lean ====
abbrev S32768x1024 : Shape := ⟨2, ![32768, 1024]⟩
abbrev S32768x512 : Shape := ⟨2, ![32768, 512]⟩
abbrev S128x1024 : Shape := ⟨2, ![128, 1024]⟩
abbrev S128x512 : Shape := ⟨2, ![128, 512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S32x1024 : Shape := ⟨2, ![32, 1024]⟩
abbrev S_ : Shape := ⟨0, ![]⟩
abbrev S512x1024 : Shape := ⟨2, ![512, 1024]⟩
abbrev S512x512 : Shape := ⟨2, ![512, 512]⟩
abbrev S1x1024 : Shape := ⟨2, ![1, 1024]⟩
abbrev S32x1 : Shape := ⟨2, ![32, 1]⟩
abbrev S266240x128 : Shape := ⟨2, ![266240, 128]⟩
abbrev S16x33280 : Shape := ⟨2, ![16, 33280]⟩
abbrev S4096x128 : Shape := ⟨2, ![4096, 128]⟩
abbrev S16x512 : Shape := ⟨2, ![16, 512]⟩
abbrev S512x128 : Shape := ⟨2, ![512, 128]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S4x512 : Shape := ⟨2, ![4, 512]⟩

abbrev nBuf : Space → Nat
  | .hbm => 33
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S128x1024, .f32⟩
  | .hbm, ⟨4, _⟩ => ⟨S128x512, .bf16⟩
  | .hbm, ⟨5, _⟩ => ⟨S128x512, .bf16⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S1024x1024, .bf16⟩
  | .hbm, ⟨11, _⟩ => ⟨S32x1024, .f32⟩
  | .hbm, ⟨12, _⟩ => ⟨S32x1024, .bf16⟩
  | .hbm, ⟨13, _⟩ => ⟨S32x1024, .f32⟩
  | .hbm, ⟨14, _⟩ => ⟨S32x1024, .f32⟩
  | .hbm, ⟨15, _⟩ => ⟨S32x1024, .bf16⟩
  | .hbm, ⟨16, _⟩ => ⟨S_, .i32⟩
  | .hbm, ⟨17, _⟩ => ⟨S_, .f32⟩
  | .hbm, ⟨18, _⟩ => ⟨S512x1024, .f32⟩
  | .hbm, ⟨19, _⟩ => ⟨S_, .i32⟩
  | .hbm, ⟨20, _⟩ => ⟨S_, .bf16⟩
  | .hbm, ⟨21, _⟩ => ⟨S512x512, .bf16⟩
  | .hbm, ⟨22, _⟩ => ⟨S_, .i32⟩
  | .hbm, ⟨23, _⟩ => ⟨S_, .bf16⟩
  | .hbm, ⟨24, _⟩ => ⟨S512x512, .bf16⟩
  | .hbm, ⟨25, _⟩ => ⟨S512x1024, .bf16⟩
  | .hbm, ⟨26, _⟩ => ⟨S512x1024, .bf16⟩
  | .hbm, ⟨27, _⟩ => ⟨S1x1024, .f32⟩
  | .hbm, ⟨28, _⟩ => ⟨S32x1, .f32⟩
  | .hbm, ⟨29, _⟩ => ⟨S266240x128, .f32⟩
  | .hbm, ⟨30, _⟩ => ⟨S266240x128, .f32⟩
  | .hbm, ⟨31, _⟩ => ⟨S16x33280, .f32⟩
  | .hbm, ⟨32, _⟩ => ⟨S32x1, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S32x1024, .bf16⟩
  | .local _ .vmem, ⟨13, _⟩ => ⟨S32x1024, .bf16⟩
  | .local _ .vmem, ⟨14, _⟩ => ⟨S32x1, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S16x512, .f32⟩
  | .local _ .vmem, ⟨20, _⟩ => ⟨S16x512, .f32⟩
  | .local _ .vmem, ⟨21, _⟩ => ⟨S32x1, .f32⟩
  | .local _ .vmem, ⟨22, _⟩ => ⟨S32x1, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_v7 : Ref sig .tc := ⟨.hbm, 21, rfl⟩
abbrev main_c_1 : Ref sig .tc := ⟨.hbm, 22, rfl⟩
abbrev main_call2_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v13_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S32x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference5Ideal.lean ====
abbrev S32768x1024 : Shape := ⟨2, ![32768, 1024]⟩
abbrev S32768x512 : Shape := ⟨2, ![32768, 512]⟩
abbrev S128x1024 : Shape := ⟨2, ![128, 1024]⟩
abbrev S128x512 : Shape := ⟨2, ![128, 512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S32896x1024 : Shape := ⟨2, ![32896, 1024]⟩
abbrev S_ : Shape := ⟨0, ![]⟩
abbrev S33280x1024 : Shape := ⟨2, ![33280, 1024]⟩
abbrev S32896x512 : Shape := ⟨2, ![32896, 512]⟩
abbrev S33280x512 : Shape := ⟨2, ![33280, 512]⟩
abbrev S33280 : Shape := ⟨1, ![33280]⟩
abbrev S33280x1 : Shape := ⟨2, ![33280, 1]⟩
abbrev S1x1024 : Shape := ⟨2, ![1, 1024]⟩
abbrev S266240x128 : Shape := ⟨2, ![266240, 128]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S128x1024, .f32⟩
  | .hbm, ⟨4, _⟩ => ⟨S128x512, .bf16⟩
  | .hbm, ⟨5, _⟩ => ⟨S128x512, .bf16⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S32896x1024, .f32⟩
  | .hbm, ⟨11, _⟩ => ⟨S_, .i32⟩
  | .hbm, ⟨12, _⟩ => ⟨S_, .f32⟩
  | .hbm, ⟨13, _⟩ => ⟨S33280x1024, .f32⟩
  | .hbm, ⟨14, _⟩ => ⟨S32896x512, .bf16⟩
  | .hbm, ⟨15, _⟩ => ⟨S32896x512, .f32⟩
  | .hbm, ⟨16, _⟩ => ⟨S_, .i32⟩
  | .hbm, ⟨17, _⟩ => ⟨S_, .f32⟩
  | .hbm, ⟨18, _⟩ => ⟨S33280x512, .f32⟩
  | .hbm, ⟨19, _⟩ => ⟨S32896x512, .bf16⟩
  | .hbm, ⟨20, _⟩ => ⟨S32896x512, .f32⟩
  | .hbm, ⟨21, _⟩ => ⟨S_, .i32⟩
  | .hbm, ⟨22, _⟩ => ⟨S_, .f32⟩
  | .hbm, ⟨23, _⟩ => ⟨S33280x512, .f32⟩
  | .hbm, ⟨24, _⟩ => ⟨S33280x1024, .f32⟩
  | .hbm, ⟨25, _⟩ => ⟨S33280x1024, .f32⟩
  | .hbm, ⟨26, _⟩ => ⟨S33280x1024, .f32⟩
  | .hbm, ⟨27, _⟩ => ⟨S33280x1024, .f32⟩
  | .hbm, ⟨28, _⟩ => ⟨S_, .f32⟩
  | .hbm, ⟨29, _⟩ => ⟨S33280, .f32⟩
  | .hbm, ⟨30, _⟩ => ⟨S33280x1, .f32⟩
  | .hbm, ⟨31, _⟩ => ⟨S_, .f32⟩
  | .hbm, ⟨32, _⟩ => ⟨S33280x1, .f32⟩
  | .hbm, ⟨33, _⟩ => ⟨S33280x1, .f32⟩
  | .hbm, ⟨34, _⟩ => ⟨S_, .f32⟩
  | .hbm, ⟨35, _⟩ => ⟨S33280x1, .f32⟩
  | .hbm, ⟨36, _⟩ => ⟨S33280x1, .f32⟩
  | .hbm, ⟨37, _⟩ => ⟨S33280x1, .f32⟩
  | .hbm, ⟨38, _⟩ => ⟨S33280x1024, .f32⟩
  | .hbm, ⟨39, _⟩ => ⟨S33280x1024, .f32⟩
  | .hbm, ⟨40, _⟩ => ⟨S1x1024, .f32⟩
  | .hbm, ⟨41, _⟩ => ⟨S33280x1024, .f32⟩
  | .hbm, ⟨42, _⟩ => ⟨S33280x1024, .f32⟩
  | .hbm, ⟨43, _⟩ => ⟨S266240x128, .f32⟩
  | .hbm, ⟨44, _⟩ => ⟨S266240x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_call2_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel6.lean ====
abbrev S8x4x4096x128 : Shape := ⟨4, ![8, 4, 4096, 128]⟩
abbrev S20480x128x128 : Shape := ⟨3, ![20480, 128, 128]⟩
abbrev S8x4096x512 : Shape := ⟨3, ![8, 4096, 512]⟩
abbrev S20480x128 : Shape := ⟨2, ![20480, 128]⟩
abbrev S1x1x256x128 : Shape := ⟨4, ![1, 1, 256, 128]⟩
abbrev S1x1x4096x128 : Shape := ⟨4, ![1, 1, 4096, 128]⟩
abbrev S40x128x128 : Shape := ⟨3, ![40, 128, 128]⟩
abbrev S1x256x128 : Shape := ⟨3, ![1, 256, 128]⟩
abbrev S40x128 : Shape := ⟨2, ![40, 128]⟩
abbrev S16x256x128 : Shape := ⟨3, ![16, 256, 128]⟩
abbrev S16x128x256 : Shape := ⟨3, ![16, 128, 256]⟩
abbrev S16x128 : Shape := ⟨2, ![16, 128]⟩
abbrev S16x256 : Shape := ⟨2, ![16, 256]⟩
abbrev S256x128 : Shape := ⟨2, ![256, 128]⟩
abbrev S128 : Shape := ⟨1, ![128]⟩
abbrev S1x128 : Shape := ⟨2, ![1, 128]⟩
abbrev S128x256 : Shape := ⟨2, ![128, 256]⟩
abbrev S1x128x256 : Shape := ⟨3, ![1, 128, 256]⟩
abbrev S256 : Shape := ⟨1, ![256]⟩
abbrev S1x256 : Shape := ⟨2, ![1, 256]⟩
abbrev S256x256 : Shape := ⟨2, ![256, 256]⟩

abbrev nBuf : Space → Nat
  | .hbm => 6
  | .vmem => 16
  | .smem => 0
  | _ => 0

abbrev bufTy : (tb : Table) → Fin (tcTables nBuf tb) → BufTy
  | .hbm, ⟨0, _⟩ => ⟨S8x4x4096x128, .f32⟩
  | .hbm, ⟨1, _⟩ => ⟨S8x4x4096x128, .f32⟩
  | .hbm, ⟨2, _⟩ => ⟨S8x4x4096x128, .f32⟩
  | .hbm, ⟨3, _⟩ => ⟨S20480x128x128, .f32⟩
  | .hbm, ⟨4, _⟩ => ⟨S8x4096x512, .bf16⟩
  | .hbm, ⟨5, _⟩ => ⟨S20480x128, .f32⟩
  | .local _ .vmem, ⟨0, _⟩ => ⟨S1x1x256x128, .f32⟩
  | .local _ .vmem, ⟨1, _⟩ => ⟨S1x1x256x128, .f32⟩
  | .local _ .vmem, ⟨2, _⟩ => ⟨S1x1x4096x128, .f32⟩
  | .local _ .vmem, ⟨3, _⟩ => ⟨S1x1x4096x128, .f32⟩
  | .local _ .vmem, ⟨4, _⟩ => ⟨S1x1x4096x128, .f32⟩
  | .local _ .vmem, ⟨5, _⟩ => ⟨S1x1x4096x128, .f32⟩
  | .local _ .vmem, ⟨6, _⟩ => ⟨S40x128x128, .f32⟩
  | .local _ .vmem, ⟨7, _⟩ => ⟨S40x128x128, .f32⟩
  | .local _ .vmem, ⟨8, _⟩ => ⟨S1x256x128, .bf16⟩
  | .local _ .vmem, ⟨9, _⟩ => ⟨S1x256x128, .bf16⟩
  | .local _ .vmem, ⟨10, _⟩ => ⟨S40x128, .f32⟩
  | .local _ .vmem, ⟨11, _⟩ => ⟨S40x128, .f32⟩
  | .local _ .vmem, ⟨12, _⟩ => ⟨S16x256x128, .bf16⟩
  | .local _ .vmem, ⟨13, _⟩ => ⟨S16x128x256, .bf16⟩
  | .local _ .vmem, ⟨14, _⟩ => ⟨S16x128, .f32⟩
  | .local _ .vmem, ⟨15, _⟩ => ⟨S16x256, .f32⟩
  | _, _ => ⟨S8x4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 16], ![false, false, false]⟩

def k0_off1 (i : grid0.Coords) : Fin 3 → Nat :=
  let arg2 : BitVec 32 := BitVec.ofNat 32 (i 2).val
  let v68 : Index := Scalar.indexCast arg2
  let c0_31 : Index := 0#32
  let c0_32 : Index := 0#32
  ![v68.toNat, 0, 0]
@[reducible] def k0_t1_loop (i : grid0.Coords) : Scf.Loop 32 :=
  let c0_i32_46 : BitVec 32 := 0#32
  let arg2 : BitVec 32 := BitVec.ofNat 32 (i 2).val
  let v93 : BitVec 32 := Scalar.subi arg2 c0_i32_46
  let c1_i32 : BitVec 32 := 1#32
  let v95 : BitVec 32 := Scalar.divsi v93 c1_i32
  let v96 : BitVec 32 := Scalar.muli v95 c1_i32
  let v97 : BitVec 32 := Scalar.addi c0_i32_46 v96
  let c1_i32_47 : BitVec 32 := 1#32
  ⟨c0_i32_46, v97, c1_i32_47⟩
def k0_off2 (i : grid0.Coords) (k0_t1 : Fin (k0_t1_loop i).trips) : Fin 2 → Nat :=
  let c0_i32_46 : BitVec 32 := 0#32
  let c1_i32_47 : BitVec 32 := 1#32
  let arg13 : BitVec 32 := Scf.iv c0_i32_46 c1_i32_47 k0_t1
  let c1_i32_55 : BitVec 32 := 1#32
  let v112 : BitVec 32 := Scalar.addi arg13 c1_i32_55
  let v113 : Index := Scalar.indexCast v112
  let c0_56 : Index := 0#32
  ![v113.toNat, 0]
def k0_off3 (i : grid0.Coords) (k0_t1 : Fin (k0_t1_loop i).trips) : Fin 3 → Nat :=
  let c0_i32_46 : BitVec 32 := 0#32
  let c1_i32_47 : BitVec 32 := 1#32
  let arg13 : BitVec 32 := Scf.iv c0_i32_46 c1_i32_47 k0_t1
  let c1_i32_55 : BitVec 32 := 1#32
  let v112 : BitVec 32 := Scalar.addi arg13 c1_i32_55
  let v117 : Index := Scalar.indexCast v112
  let c0_58 : Index := 0#32
  let c0_59 : Index := 0#32
  ![v117.toNat, 0, 0]
def k0_off4 (arg16 : BitVec 32) : Fin 3 → Nat :=
  let v125 : Index := Scalar.indexCast arg16
  let c0_62 : Index := 0#32
  let c0_63 : Index := 0#32
  ![v125.toNat, 0, 0]

def k0_chk1 (i : grid0.Coords) (k0_t1 : Fin (k0_t1_loop i).trips) (arg16 : BitVec 32) : Prop :=
  (∀ a, (k0_off4 arg16) a + S1x128x256.size a ≤ S16x128x256.size a)
theorem k0_off4_inb : ∀ (i : grid0.Coords) (k0_t1 : Fin (k0_t1_loop i).trips) (arg16 : BitVec 32) (k0_hw1 : k0_chk1 i k0_t1 arg16), ∀ a, (k0_off4 arg16) a + S1x128x256.size a ≤ S16x128x256.size a := fun i k0_t1 arg16 k0_hw1 => k0_hw1

@[reducible] def k0_t2_loop (i : grid0.Coords) : Scf.Loop 32 :=
  let c0_i32_46 : BitVec 32 := 0#32
  let arg2 : BitVec 32 := BitVec.ofNat 32 (i 2).val
  let v93 : BitVec 32 := Scalar.subi arg2 c0_i32_46
  let c1_i32 : BitVec 32 := 1#32
  let v95 : BitVec 32 := Scalar.divsi v93 c1_i32
  let v96 : BitVec 32 := Scalar.muli v95 c1_i32
  let v97 : BitVec 32 := Scalar.addi c0_i32_46 v96
  let v94 : BitVec 32 := Scalar.addi c0_i32_46 v93
  let c1_i32_48 : BitVec 32 := 1#32
  ⟨v97, v94, c1_i32_48⟩
def k0_off5 (i : grid0.Coords) (k0_t2 : Fin (k0_t2_loop i).trips) : Fin 2 → Nat :=
  let c0_i32_46 : BitVec 32 := 0#32
  let arg2 : BitVec 32 := BitVec.ofNat 32 (i 2).val
  let v93 : BitVec 32 := Scalar.subi arg2 c0_i32_46
  let c1_i32 : BitVec 32 := 1#32
  let v95 : BitVec 32 := Scalar.divsi v93 c1_i32
  let v96 : BitVec 32 := Scalar.muli v95 c1_i32
  let v97 : BitVec 32 := Scalar.addi c0_i32_46 v96
  let c1_i32_48 : BitVec 32 := 1#32
  let arg13 : BitVec 32 := Scf.iv v97 c1_i32_48 k0_t2
  let c1_i32_55 : BitVec 32 := 1#32
  let v112 : BitVec 32 := Scalar.addi arg13 c1_i32_55
  let v113 : Index := Scalar.indexCast v112
  let c0_56 : Index := 0#32
  ![v113.toNat, 0]
def k0_off6 (i : grid0.Coords) (k0_t2 : Fin (k0_t2_loop i).trips) : Fin 3 → Nat :=
  let c0_i32_46 : BitVec 32 := 0#32
  let arg2 : BitVec 32 := BitVec.ofNat 32 (i 2).val
  let v93 : BitVec 32 := Scalar.subi arg2 c0_i32_46
  let c1_i32 : BitVec 32 := 1#32
  let v95 : BitVec 32 := Scalar.divsi v93 c1_i32
  let v96 : BitVec 32 := Scalar.muli v95 c1_i32
  let v97 : BitVec 32 := Scalar.addi c0_i32_46 v96
  let c1_i32_48 : BitVec 32 := 1#32
  let arg13 : BitVec 32 := Scf.iv v97 c1_i32_48 k0_t2
  let c1_i32_55 : BitVec 32 := 1#32
  let v112 : BitVec 32 := Scalar.addi arg13 c1_i32_55
  let v117 : Index := Scalar.indexCast v112
  let c0_58 : Index := 0#32
  let c0_59 : Index := 0#32
  ![v117.toNat, 0, 0]
def k0_off7 (arg16 : BitVec 32) : Fin 3 → Nat :=
  let v125 : Index := Scalar.indexCast arg16
  let c0_62 : Index := 0#32
  let c0_63 : Index := 0#32
  ![v125.toNat, 0, 0]

def k0_chk2 (i : grid0.Coords) (k0_t2 : Fin (k0_t2_loop i).trips) (arg16 : BitVec 32) : Prop :=
  (∀ a, (k0_off7 arg16) a + S1x128x256.size a ≤ S16x128x256.size a)
theorem k0_off7_inb : ∀ (i : grid0.Coords) (k0_t2 : Fin (k0_t2_loop i).trips) (arg16 : BitVec 32) (k0_hw2 : k0_chk2 i k0_t2 arg16), ∀ a, (k0_off7 arg16) a + S1x128x256.size a ≤ S16x128x256.size a := fun i k0_t2 arg16 k0_hw2 => k0_hw2

def k0_off8 (v99_2 : BitVec 32) : Fin 3 → Nat :=
  let v100 : Index := Scalar.indexCast v99_2
  let c0_49 : Index := 0#32
  let c0_50 : Index := 0#32
  ![v100.toNat, 0, 0]

def k0_chk3 (v99_2 : BitVec 32) : Prop :=
  (∀ a, (k0_off8 v99_2) a + S1x128x256.size a ≤ S16x128x256.size a)
theorem k0_off8_inb : ∀ (v99_2 : BitVec 32) (k0_hw3 : k0_chk3 v99_2), ∀ a, (k0_off8 v99_2) a + S1x128x256.size a ≤ S16x128x256.size a := fun v99_2 k0_hw3 => k0_hw3

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1x1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S40x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S40x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference6Ideal.lean ====
abbrev S8x4x4096x128 : Shape := ⟨4, ![8, 4, 4096, 128]⟩
abbrev S20480x128x128 : Shape := ⟨3, ![20480, 128, 128]⟩
abbrev S_ : Shape := ⟨0, ![]⟩
abbrev S20480x128 : Shape := ⟨2, ![20480, 128]⟩

abbrev nBuf : Space → Nat
  | .hbm => 6
  | .vmem => 0
  | .smem => 0
  | _ => 0

abbrev bufTy : (tb : Table) → Fin (tcTables nBuf tb) → BufTy
  | .hbm, ⟨0, _⟩ => ⟨S8x4x4096x128, .f32⟩
  | .hbm, ⟨1, _⟩ => ⟨S8x4x4096x128, .f32⟩
  | .hbm, ⟨2, _⟩ => ⟨S8x4x4096x128, .f32⟩
  | .hbm, ⟨3, _⟩ => ⟨S20480x128x128, .f32⟩
  | .hbm, ⟨4, _⟩ => ⟨S_, .f32⟩
  | .hbm, ⟨5, _⟩ => ⟨S20480x128, .f32⟩
  | _, _ => ⟨S8x4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩

abbrev nD : Nat := 1
abbrev τ : Topo := Topo.v7x

variable {F : FTy → Type} [FloatOps F]
-- ==== Kernel7.lean ====
abbrev S32x128 : Shape := ⟨2, ![32, 128]⟩
abbrev S5120x512 : Shape := ⟨2, ![5120, 512]⟩
abbrev S32x4x8x128 : Shape := ⟨4, ![32, 4, 8, 128]⟩
abbrev S4096 : Shape := ⟨1, ![4096]⟩
abbrev S1x4x8x128 : Shape := ⟨4, ![1, 4, 8, 128]⟩
abbrev S128x512 : Shape := ⟨2, ![128, 512]⟩
abbrev S1 : Shape := ⟨1, ![1]⟩
abbrev S1x512 : Shape := ⟨2, ![1, 512]⟩
abbrev S8x128 : Shape := ⟨2, ![8, 128]⟩
abbrev S1x1x8x128 : Shape := ⟨4, ![1, 1, 8, 128]⟩
abbrev S128x128 : Shape := ⟨2, ![128, 128]⟩
abbrev S8 : Shape := ⟨1, ![8]⟩
abbrev S8x1 : Shape := ⟨2, ![8, 1]⟩

abbrev nBuf : Space → Nat
  | .hbm => 4
  | .vmem => 6
  | .smem => 1
  | _ => 0

abbrev bufTy : (tb : Table) → Fin (tcTables nBuf tb) → BufTy
  | .hbm, ⟨0, _⟩ => ⟨S32x128, .i32⟩
  | .hbm, ⟨1, _⟩ => ⟨S5120x512, .f32⟩
  | .hbm, ⟨2, _⟩ => ⟨S32x4x8x128, .f32⟩
  | .hbm, ⟨3, _⟩ => ⟨S32x4x8x128, .i32⟩
  | .local _ .vmem, ⟨0, _⟩ => ⟨S5120x512, .f32⟩
  | .local _ .vmem, ⟨1, _⟩ => ⟨S1x4x8x128, .f32⟩
  | .local _ .vmem, ⟨2, _⟩ => ⟨S1x4x8x128, .f32⟩
  | .local _ .vmem, ⟨3, _⟩ => ⟨S1x4x8x128, .i32⟩
  | .local _ .vmem, ⟨4, _⟩ => ⟨S1x4x8x128, .i32⟩
  | .local _ .vmem, ⟨5, _⟩ => ⟨S128x512, .f32⟩
  | .local _ .smem, ⟨0, _⟩ => ⟨S4096, .i32⟩
  | _, _ => ⟨S32x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_off1 (i : grid0.Coords) (k0_t1 : Fin k0_t1_loop.trips) : Fin 1 → Nat :=
  let arg0 : BitVec 32 := BitVec.ofNat 32 (i 0).val
  let c128_i32_106 : BitVec 32 := 128#32
  let v242 : BitVec 32 := Scalar.muli arg0 c128_i32_106
  let c0_i32 : BitVec 32 := 0#32
  let c1_i32 : BitVec 32 := 1#32
  let arg6 : BitVec 32 := Scf.iv c0_i32 c1_i32 k0_t1
  let c2_i32_107 : BitVec 32 := 2#32
  let v243 : BitVec 32 := Scalar.muli arg6 c2_i32_107
  let v244 : BitVec 32 := Scalar.addi v242 v243
  let v245 : Index := Scalar.indexCast v244
  ![v245.toNat]
def k0_off2 (v246 : BitVec 32) : Fin 2 → Nat :=
  let v247 : Index := Scalar.indexCast v246
  let c0_108 : Index := 0#32
  ![v247.toNat, 0]

def k0_chk1 (v246 : BitVec 32) : Prop :=
  (∀ a, (k0_off2 v246) a + S1x512.size a ≤ S5120x512.size a)
theorem k0_off2_inb : ∀ (v246 : BitVec 32) (k0_hw1 : k0_chk1 v246), ∀ a, (k0_off2 v246) a + S1x512.size a ≤ S5120x512.size a := fun v246 k0_hw1 => k0_hw1

def k0_off3 (i : grid0.Coords) (k0_t1 : Fin k0_t1_loop.trips) : Fin 1 → Nat :=
  let arg0 : BitVec 32 := BitVec.ofNat 32 (i 0).val
  let c128_i32_109 : BitVec 32 := 128#32
  let v249 : BitVec 32 := Scalar.muli arg0 c128_i32_109
  let c0_i32 : BitVec 32 := 0#32
  let c1_i32 : BitVec 32 := 1#32
  let arg6 : BitVec 32 := Scf.iv c0_i32 c1_i32 k0_t1
  let c2_i32_110 : BitVec 32 := 2#32
  let v250 : BitVec 32 := Scalar.muli arg6 c2_i32_110
  let v251 : BitVec 32 := Scalar.addi v249 v250
  let c1_i32_111 : BitVec 32 := 1#32
  let v252 : BitVec 32 := Scalar.addi v251 c1_i32_111
  let v253 : Index := Scalar.indexCast v252
  ![v253.toNat]
def k0_off4 (v254 : BitVec 32) : Fin 2 → Nat :=
  let v255 : Index := Scalar.indexCast v254
  let c0_112 : Index := 0#32
  ![v255.toNat, 0]

def k0_chk2 (v254 : BitVec 32) : Prop :=
  (∀ a, (k0_off4 v254) a + S1x512.size a ≤ S5120x512.size a)
theorem k0_off4_inb : ∀ (v254 : BitVec 32) (k0_hw2 : k0_chk2 v254), ∀ a, (k0_off4 v254) a + S1x512.size a ≤ S5120x512.size a := fun v254 k0_hw2 => k0_hw2

def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let v260 : Index := Scalar.indexCast arg6
  let c0_114 : Index := 0#32
  ![v260.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S5120x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S32x128 : Shape := ⟨2, ![32, 128]⟩
abbrev S5120x512 : Shape := ⟨2, ![5120, 512]⟩
abbrev S32x4x8x128 : Shape := ⟨4, ![32, 4, 8, 128]⟩
abbrev S_ : Shape := ⟨0, ![]⟩
abbrev S32x128x1 : Shape := ⟨3, ![32, 128, 1]⟩
abbrev S32x128x512 : Shape := ⟨3, ![32, 128, 512]⟩
abbrev S32x64x2x4x128 : Shape := ⟨5, ![32, 64, 2, 4, 128]⟩
abbrev S32x64x4x128 : Shape := ⟨4, ![32, 64, 4, 128]⟩
abbrev S32x4x8x64 : Shape := ⟨4, ![32, 4, 8, 64]⟩
abbrev S64 : Shape := ⟨1, ![64]⟩
abbrev S32x4x8 : Shape := ⟨3, ![32, 4, 8]⟩
abbrev S32x4x8x1 : Shape := ⟨4, ![32, 4, 8, 1]⟩
abbrev S1x1x1x64 : Shape := ⟨4, ![1, 1, 1, 64]⟩
abbrev S32x4x8x3 : Shape := ⟨4, ![32, 4, 8, 3]⟩

abbrev nBuf : Space → Nat
  | .hbm => 90
  | .vmem => 0
  | .smem => 0
  | _ => 0

abbrev bufTy : (tb : Table) → Fin (tcTables nBuf tb) → BufTy
  | .hbm, ⟨0, _⟩ => ⟨S32x128, .i32⟩
  | .hbm, ⟨1, _⟩ => ⟨S5120x512, .f32⟩
  | .hbm, ⟨2, _⟩ => ⟨S32x4x8x128, .f32⟩
  | .hbm, ⟨3, _⟩ => ⟨S_, .i32⟩
  | .hbm, ⟨4, _⟩ => ⟨S32x128, .i32⟩
  | .hbm, ⟨5, _⟩ => ⟨S32x128, .i1⟩
  | .hbm, ⟨6, _⟩ => ⟨S_, .i32⟩
  | .hbm, ⟨7, _⟩ => ⟨S32x128, .i32⟩
  | .hbm, ⟨8, _⟩ => ⟨S32x128, .i32⟩
  | .hbm, ⟨9, _⟩ => ⟨S32x128, .i32⟩
  | .hbm, ⟨10, _⟩ => ⟨S32x128x1, .i32⟩
  | .hbm, ⟨11, _⟩ => ⟨S32x128x512, .f32⟩
  | .hbm, ⟨12, _⟩ => ⟨S32x64x2x4x128, .f32⟩
  | .hbm, ⟨13, _⟩ => ⟨S_, .f32⟩
  | .hbm, ⟨14, _⟩ => ⟨S32x64x4x128, .f32⟩
  | .hbm, ⟨15, _⟩ => ⟨S_, .f32⟩
  | .hbm, ⟨16, _⟩ => ⟨S32x64x4x128, .f32⟩
  | .hbm, ⟨17, _⟩ => ⟨S32x64x4x128, .f32⟩
  | .hbm, ⟨18, _⟩ => ⟨S32x4x8x64, .f32⟩
  | .hbm, ⟨19, _⟩ => ⟨S64, .i32⟩
  | .hbm, ⟨20, _⟩ => ⟨S_, .f32⟩
  | .hbm, ⟨21, _⟩ => ⟨S32x4x8, .f32⟩
  | .hbm, ⟨22, _⟩ => ⟨S32x4x8x1, .f32⟩
  | .hbm, ⟨23, _⟩ => ⟨S32x4x8x64, .f32⟩
  | .hbm, ⟨24, _⟩ => ⟨S32x4x8x64, .i1⟩
  | .hbm, ⟨25, _⟩ => ⟨S_, .i32⟩
  | .hbm, ⟨26, _⟩ => ⟨S_, .i32⟩
  | .hbm, ⟨27, _⟩ => ⟨S32x4x8x64, .i32⟩
  | .hbm, ⟨28, _⟩ => ⟨S32x4x8x64, .i32⟩
  | .hbm, ⟨29, _⟩ => ⟨S32x4x8x64, .i32⟩
  | .hbm, ⟨30, _⟩ => ⟨S_, .i32⟩
  | .hbm, ⟨31, _⟩ => ⟨S32x4x8, .i32⟩
  | .hbm, ⟨32, _⟩ => ⟨S32x4x8x1, .i32⟩
  | .hbm, ⟨33, _⟩ => ⟨S1x1x1x64, .i32⟩
  | .hbm, ⟨34, _⟩ => ⟨S32x4x8x64, .i32⟩
  | .hbm, ⟨35, _⟩ => ⟨S32x4x8x64, .i32⟩
  | .hbm, ⟨36, _⟩ => ⟨S32x4x8x64, .i1⟩
  | .hbm, ⟨37, _⟩ => ⟨S_, .f32⟩
  | .hbm, ⟨38, _⟩ => ⟨S_, .f32⟩
  | .hbm, ⟨39, _⟩ => ⟨S32x4x8x64, .f32⟩
  | .hbm, ⟨40, _⟩ => ⟨S32x4x8x64, .f32⟩
  | .hbm, ⟨41, _⟩ => ⟨S_, .f32⟩
  | .hbm, ⟨42, _⟩ => ⟨S32x4x8, .f32⟩
  | .hbm, ⟨43, _⟩ => ⟨S32x4x8x1, .f32⟩
  | .hbm, ⟨44, _⟩ => ⟨S32x4x8x64, .f32⟩
  | .hbm, ⟨45, _⟩ => ⟨S32x4x8x64, .i1⟩
  | .hbm, ⟨46, _⟩ => ⟨S_, .i32⟩
  | .hbm, ⟨47, _⟩ => ⟨S_, .i32⟩
  | .hbm, ⟨48, _⟩ => ⟨S32x4x8x64, .i32⟩
  | .hbm, ⟨49, _⟩ => ⟨S32x4x8x64, .i32⟩
  | .hbm, ⟨50, _⟩ => ⟨S32x4x8x64, .i32⟩
  | .hbm, ⟨51, _⟩ => ⟨S_, .i32⟩
  | .hbm, ⟨52, _⟩ => ⟨S32x4x8, .i32⟩
  | .hbm, ⟨53, _⟩ => ⟨S32x4x8x1, .i32⟩
  | .hbm, ⟨54, _⟩ => ⟨S1x1x1x64, .i32⟩
  | .hbm, ⟨55, _⟩ => ⟨S32x4x8x64, .i32⟩
  | .hbm, ⟨56, _⟩ => ⟨S32x4x8x64, .i32⟩
  | .hbm, ⟨57, _⟩ => ⟨S32x4x8x64, .i1⟩
  | .hbm, ⟨58, _⟩ => ⟨S_, .f32⟩
  | .hbm, ⟨59, _⟩ => ⟨S_, .f32⟩
  | .hbm, ⟨60, _⟩ => ⟨S32x4x8x64, .f32⟩
  | .hbm, ⟨61, _⟩ => ⟨S32x4x8x64, .f32⟩
  | .hbm, ⟨62, _⟩ => ⟨S_, .f32⟩
  | .hbm, ⟨63, _⟩ => ⟨S32x4x8, .f32⟩
  | .hbm, ⟨64, _⟩ => ⟨S32x4x8x1, .f32⟩
  | .hbm, ⟨65, _⟩ => ⟨S32x4x8x64, .f32⟩
  | .hbm, ⟨66, _⟩ => ⟨S32x4x8x64, .i1⟩
  | .hbm, ⟨67, _⟩ => ⟨S_, .i32⟩
  | .hbm, ⟨68, _⟩ => ⟨S_, .i32⟩
  | .hbm, ⟨69, _⟩ => ⟨S32x4x8x64, .i32⟩
  | .hbm, ⟨70, _⟩ => ⟨S32x4x8x64, .i32⟩
  | .hbm, ⟨71, _⟩ => ⟨S32x4x8x64, .i32⟩
  | .hbm, ⟨72, _⟩ => ⟨S_, .i32⟩
  | .hbm, ⟨73, _⟩ => ⟨S32x4x8, .i32⟩
  | .hbm, ⟨74, _⟩ => ⟨S32x4x8x1, .i32⟩
  | .hbm, ⟨75, _⟩ => ⟨S1x1x1x64, .i32⟩
  | .hbm, ⟨76, _⟩ => ⟨S32x4x8x64, .i32⟩
  | .hbm, ⟨77, _⟩ => ⟨S32x4x8x64, .i32⟩
  | .hbm, ⟨78, _⟩ => ⟨S32x4x8x64, .i1⟩
  | .hbm, ⟨79, _⟩ => ⟨S_, .f32⟩
  | .hbm, ⟨80, _⟩ => ⟨S_, .f32⟩
  | .hbm, ⟨81, _⟩ => ⟨S32x4x8x64, .f32⟩
  | .hbm, ⟨82, _⟩ => ⟨S32x4x8x64, .f32⟩
  | .hbm, ⟨83, _⟩ => ⟨S32x4x8x1, .i32⟩
  | .hbm, ⟨84, _⟩ => ⟨S32x4x8x1, .i32⟩
  | .hbm, ⟨85, _⟩ => ⟨S32x4x8x1, .i32⟩
  | .hbm, ⟨86, _⟩ => ⟨S32x4x8x3, .i32⟩
  | .hbm, ⟨87, _⟩ => ⟨S_, .i32⟩
  | .hbm, ⟨88, _⟩ => ⟨S_, .i32⟩
  | .hbm, ⟨89, _⟩ => ⟨S32x4x8x128, .i32⟩
  | _, _ => ⟨S32x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_call3_v0 : Ref sig .tc := ⟨.hbm, 59, rfl⟩
abbrev main_call3_v1 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_11 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v41 : Ref sig .tc := ⟨.hbm, 71, rfl⟩
abbrev main_c_12 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_13 : Ref sig .tc := ⟨.hbm, 79, rfl⟩
abbrev main_call5_v0 : Ref sig .tc := ⟨.hbm, 80, rfl⟩
abbrev main_call5_v1 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_14 : Ref sig .tc := ⟨.hbm, 87, rfl⟩
abbrev main_call6_v0 : Ref sig .tc := ⟨.hbm, 88, rfl⟩
abbrev main_v53 : Ref sig .tc := ⟨.hbm, 89, rfl⟩

abbrev nD : Nat := 1
abbrev τ : Topo := Topo.v7x

variable {F : FTy → Type} [FloatOps F]
-- ==== Proof.ProjSpec.lean ====
/- The projection's mathematics at one entry, over the extended reals: what the kernel's block and the host's
   reference are both read to. -/
module

public import Idealize.ShloMosaic.Lib.Pointwise
public import Idealize.ShloMosaic.Lib.Claim
public import Idealize.ShloMosaic.PureOps.Ideal.Laws

@[expose] public section

noncomputable section

namespace Cert.Proof.Proj

open Idealize.ShloMosaic

/-- The reciprocal root of a row's mean square, the mean taken by the word `den` and shifted by 1e-6. -/
def rinv {n : Nat} (den : BitVec 32) (x : Fin n → EReal) : EReal :=
  Ideal.rsqrt (Ideal.div (∑ k, x k * x k) (Ideal.ofBits .f32 den) + Ideal.ofBits .f32 0x358637BD#32)

/-- A row normalised by its root mean square and scaled by the weights. -/
def rms {n : Nat} (den : BitVec 32) (x w : Fin n → EReal) (i : Fin n) : EReal := x i * rinv den x * w i

/-- One entry of the projected token: the normalised row against one column of the weights. -/
def proj (x ln col : Fin 1024 → EReal) : EReal := ∑ k, rms 0x44800000#32 x ln k * col k

/-- The column of the input weights that column `c` of the packed weights holds (columns past the last hold zero). -/
def colOf (W : Fin 1024 → Fin 3592 → EReal) (c : Nat) (k : Fin 1024) : EReal :=
  if h : c < 2048 then W k ⟨c, by omega⟩
  else if h : c < 3584 then W k ⟨c + 8, by omega⟩
  else if h : c < 3592 then W k ⟨c - 1536, by omega⟩ else 0

/-- The packed columns as the host lays them side by side: the first 2048, then those from 2056 on, then the eight between, and zeros. -/
theorem colOf_packed (f : Fin 1024 → Fin 3592 → EReal) (j : Nat) (k : Fin 1024) :
    (if h : j < 2048 then f k ⟨j, by omega⟩
      else if h' : j - 2048 < 1536 then f k ⟨2056 + (j - 2048), by omega⟩
      else if h'' : j - 2048 - 1536 < 8 then f k ⟨2048 + (j - 2048 - 1536), by omega⟩ else 0) = colOf f j k := by
  unfold colOf
  by_cases h1 : j < 2048
  · rw [dif_pos h1, dif_pos h1]
  · rw [dif_neg h1, dif_neg h1]
    by_cases h2 : j < 3584
    · have h2' : j - 2048 < 1536 := by omega
      rw [dif_pos h2', dif_pos h2]
      exact congrArg (f k) (Fin.ext (by show 2056 + (j - 2048) = j + 8; omega))
    · have h2' : ¬ j - 2048 < 1536 := by omega
      rw [dif_neg h2', dif_neg h2]
      by_cases h3 : j < 3592
      · have h3' : j - 2048 - 1536 < 8 := by omega
        rw [dif_pos h3', dif_pos h3]
        exact congrArg (f k) (Fin.ext (by show 2048 + (j - 2048 - 1536) = j - 1536; omega))
      · have h3' : ¬ j - 2048 - 1536 < 8 := by omega
        rw [dif_neg h3', dif_neg h3]

theorem colOf_lo (f : Fin 1024 → Fin 3592 → EReal) (j : Nat) (k : Fin 1024) (h : j < 2048) : colOf f j k = f k ⟨j, by omega⟩ :=
  dif_pos h

theorem colOf_mid (f : Fin 1024 → Fin 3592 → EReal) (j : Nat) (k : Fin 1024) (h : 2048 ≤ j) (h' : j < 3584) : colOf f j k = f k ⟨j + 8, by omega⟩ :=
  (dif_neg (by omega)).trans (dif_pos h')

theorem colOf_hi (f : Fin 1024 → Fin 3592 → EReal) (j : Nat) (k : Fin 1024) (h : 3584 ≤ j) (h' : j < 3592) : colOf f j k = f k ⟨j - 1536, by omega⟩ :=
  (dif_neg (by omega)).trans ((dif_neg (by omega)).trans (dif_pos h'))

theorem colOf_end (f : Fin 1024 → Fin 3592 → EReal) (j : Nat) (k : Fin 1024) (h : 3592 ≤ j) : colOf f j k = 0 :=
  (dif_neg (by omega)).trans ((dif_neg (by omega)).trans (dif_neg (by omega)))

/-- A packed column past the last holds zeros, so the projection there is zero. -/
theorem proj_zero (x ln : Fin 1024 → EReal) : proj x ln (fun _ => 0) = 0 := by
  simp [proj]

end Cert.Proof.Proj

end
-- ==== Proof.ProjPrompt.lean ====
/- The prompt's projection: what each of the six result arrays holds after the run, entry by entry. -/
module

public import proofs.«01_k».proof.Proof.ProjSpec
public import proofs.«01_k».proof.Proof.Gen.Kernel2Ideal.Value
public import Idealize.ShloMosaic.Lib.Pipeline.Value

@[expose] public section

set_option maxRecDepth 16384

noncomputable section

namespace Cert.Proof.ProjPrompt

open Idealize.ShloMosaic Idealize.ShloMosaic.TcCoe Idealize.SL.Sem
open Cert.Kernel2Ideal Cert.Kernel2Ideal.Gen Cert.Kernel2Ideal.Value Cert.Proof.Proj

variable (m : (ℓ : Loc nD τ sig) → Buf (Elt Ideal) ℓ) (c : Dev nD)

/-- The tokens, the layer norm's weights, the projection's weights and the two head norms' weights, as launched. -/
def X : S8x4096x1024.Idx → EReal := m ((c.tc : Thread nD τ).loc main_arg0)
def Ln : S1024.Idx → EReal := m ((c.tc : Thread nD τ).loc main_arg1)
def W : S1024x3592.Idx → EReal := m ((c.tc : Thread nD τ).loc main_arg2)
def Qn : S128.Idx → EReal := m ((c.tc : Thread nD τ).loc main_arg3)
def Kn : S128.Idx → EReal := m ((c.tc : Thread nD τ).loc main_arg4)

/-- Entry `(n, j)` of the tokens against the packed weights, the tokens numbered through the batches. -/
def H (n : Fin 32768) (j : Nat) : EReal :=
  proj (fun k => X m c (ix3 ⟨n.val / 4096, by omega⟩ ⟨n.val % 4096, by omega⟩ k)) (fun k => Ln m c (ix1 k))
    (colOf (fun a b => W m c (ix2 a b)) j)

/-- The body's product over a block, at an entry. -/
theorem pay2_apply (P0 : Vec Ideal S512x1024 .f32) (P1 : Vec Ideal S1x1024 .f32) (P2 : Vec Ideal S1024x3712 .bf16)
    (r : Fin 512) (j : Fin 3712) :
    k0_pay2 P0 P1 P2 (ix2 r j) = proj (fun k => P0 (ix2 r k)) (fun k => P1 (ix2 0 k)) (fun k => P2 (ix2 k j)) := by
  pointwise [k0_pay2, proj, rms, rinv]

/-! ## The arrays that the region is entered with -/

theorem V_x (n : Fin 32768) (k : Fin 1024) : (V m c main_v0 : S32768x1024.Idx → EReal) (ix2 n k)
    = X m c (ix3 ⟨n.val / 4096, by omega⟩ ⟨n.val % 4096, by omega⟩ k) := by
  have h : (V m c main_v0 : S32768x1024.Idx → EReal) = shapeCast S32768x1024 (X m c) shapeCasts_S8x4096x1024_S32768x1024 := by
    show StableHlo.after (List.flatten [hostOps0, hostOps0_1, hostOps0_2]) _ _ = _
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise

theorem V_ln (k : Fin 1024) : (V m c main_v1 : S1x1024.Idx → EReal) (ix2 0 k) = Ln m c (ix1 k) := by
  have h : (V m c main_v1 : S1x1024.Idx → EReal) = shapeCast S1x1024 (Ln m c) shapeCasts_S1024_S1x1024 := by
    show StableHlo.after (List.flatten [hostOps0, hostOps0_1, hostOps0_2]) _ _ = _
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise

theorem V_qn (k : Fin 128) : (V m c main_v8 : S1x128.Idx → EReal) (ix2 0 k) = Qn m c (ix1 k) := by
  have h : (V m c main_v8 : S1x128.Idx → EReal) = shapeCast S1x128 (Qn m c) shapeCasts_S128_S1x128 := by
    show StableHlo.after (List.flatten [hostOps0, hostOps0_1, hostOps0_2]) _ _ = _
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise

theorem V_kn (k : Fin 128) : (V m c main_v9 : S1x128.Idx → EReal) (ix2 0 k) = Kn m c (ix1 k) := by
  have h : (V m c main_v9 : S1x128.Idx → EReal) = shapeCast S1x128 (Kn m c) shapeCasts_S128_S1x128 := by
    show StableHlo.after (List.flatten [hostOps0, hostOps0_1, hostOps0_2]) _ _ = _
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise

theorem V_w (k : Fin 1024) (j : Fin 3712) :
    (V m c main_v7 : S1024x3712.Idx → EReal) (ix2 k j) = colOf (fun a b => W m c (ix2 a b)) j k := by
  have h : (V m c main_v7 : S1024x3712.Idx → EReal) = truncf (F := Ideal) (φ := .f32) .bf16 (concatenate S1024x3712 1
      [⟨S1024x2048, extractStridedSlice S1024x2048 ![0, 0] (W m c) slices_S1024x3592_S1024x2048_0_0⟩,
       ⟨S1024x1536, extractStridedSlice S1024x1536 ![0, 2056] (W m c) slices_S1024x3592_S1024x1536_0_2056⟩,
       ⟨S1024x128, pad S1024x128 ![0, 0] ![0, 120] ![0, 0] (extractStridedSlice S1024x8 ![0, 2048] (W m c) slices_S1024x3592_S1024x8_0_2048)
         (sitofp (F := Ideal) .f32 (constantI S_ 32 0#32)) pads_S1024x8_S1024x128_000_01200 h_S_⟩]
      concatenates_S1024x2048_S1024x1536_S1024x128_S1024x3712_d1) bitsLt_bf16_f32 := by
    show StableHlo.after (List.flatten [hostOps0, hostOps0_1, hostOps0_2]) _ _ = _
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  have hz : (FloatOps.sitofp (F := Ideal) FTy.f32 (0#32 : BitVec 32)) = (0 : EReal) := by
    show ((((0#32 : BitVec 32).toInt : ℤ) : ℝ) : EReal) = 0
    simp
  refine Eq.trans ?_ (colOf_packed (fun a b => W m c (ix2 a b)) j.val k)
  pointwise [hz]

/-! ## The blocks -/

theorem ix_x : ∀ t : Fin cfg0.N, win0_0.index t 0 = t.val ∧ win0_0.index t 1 = 0 :=
  (by decide +kernel : ∀ t : Fin grid0.N, win0_0.index t 0 = t.val ∧ win0_0.index t 1 = 0)
theorem ix_c : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) :=
  (by decide +kernel : ∀ t : Fin grid0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0))
theorem ix_o : ∀ t : Fin cfg0.N, (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, (win0_5.index t 0 = t.val ∧ win0_5.index t 1 = 0) ∧ (win0_6.index t 0 = t.val ∧ win0_6.index t 1 = 0)
    ∧ (win0_7.index t 0 = t.val ∧ win0_7.index t 1 = 0))
theorem ix_h : ∀ t : Fin cfg0.N, (win0_8.index t 0 = t.val / 8 ∧ win0_8.index t 1 = 0 ∧ win0_8.index t 2 = t.val % 8 ∧ win0_8.index t 3 = 0)
    ∧ (win0_9.index t 0 = t.val / 8 ∧ win0_9.index t 1 = 0 ∧ win0_9.index t 2 = t.val % 8 ∧ win0_9.index t 3 = 0)
    ∧ (win0_10.index t 0 = t.val / 8 ∧ win0_10.index t 1 = 0 ∧ win0_10.index t 2 = t.val % 8 ∧ win0_10.index t 3 = 0) :=
  (by decide +kernel : ∀ t : Fin grid0.N, (win0_8.index t 0 = t.val / 8 ∧ win0_8.index t 1 = 0 ∧ win0_8.index t 2 = t.val % 8 ∧ win0_8.index t 3 = 0)
    ∧ (win0_9.index t 0 = t.val / 8 ∧ win0_9.index t 1 = 0 ∧ win0_9.index t 2 = t.val % 8 ∧ win0_9.index t 3 = 0)
    ∧ (win0_10.index t 0 = t.val / 8 ∧ win0_10.index t 1 = 0 ∧ win0_10.index t 2 = t.val % 8 ∧ win0_10.index t 3 = 0))

theorem tlt (t : Fin cfg0.N) : t.val < 64 := t.isLt

/-- Token `r` of point `t`'s block. -/
def tok (t : Fin cfg0.N) (r : Fin 512) : Fin 32768 := ⟨t.val * 512 + r.val, by have := tlt t; omega⟩

theorem blk_x (t : Fin cfg0.N) (r : Fin 512) (k : Fin 1024) : (iblk m c 0 t : S512x1024.Idx → EReal) (ix2 r k)
    = X m c (ix3 ⟨(tok t r).val / 4096, by omega⟩ ⟨(tok t r).val % 4096, by omega⟩ k) := by
  rw [← V_x m c (tok t r) k]
  unfold iblk
  rw [View.read_apply]
  show (V m c main_v0 : S32768x1024.Idx → EReal) _ = (V m c main_v0 : S32768x1024.Idx → EReal) _
  refine congrArg _ (funext fun a => Fin.ext ?_)
  match a with
  | ⟨0, _⟩ => show win0_0.index t 0 * 512 + 1 * r.val = t.val * 512 + r.val; rw [(ix_x t).1]; omega
  | ⟨1, _⟩ => show win0_0.index t 1 * 1024 + 1 * k.val = k.val; rw [(ix_x t).2]; omega

theorem blk_ln (t : Fin cfg0.N) (k : Fin 1024) : (iblk m c 1 t : S1x1024.Idx → EReal) (ix2 0 k) = Ln m c (ix1 k) := by
  rw [← V_ln m c k]
  unfold iblk
  rw [View.read_apply]
  show (V m c main_v1 : S1x1024.Idx → EReal) _ = (V m c main_v1 : S1x1024.Idx → EReal) _
  refine congrArg _ (funext fun a => Fin.ext ?_)
  match a with
  | ⟨0, _⟩ => show win0_1.index t 0 * 1 + 1 * 0 = 0; rw [(ix_c t).1.1]
  | ⟨1, _⟩ => show win0_1.index t 1 * 1024 + 1 * k.val = k.val; rw [(ix_c t).1.2]; omega

theorem blk_w (t : Fin cfg0.N) (k : Fin 1024) (j : Fin 3712) : (iblk m c 2 t : S1024x3712.Idx → EReal) (ix2 k j)
    = colOf (fun a b => W m c (ix2 a b)) j k := by
  rw [← V_w m c k j]
  unfold iblk
  rw [View.read_apply]
  show (V m c main_v7 : S1024x3712.Idx → EReal) _ = (V m c main_v7 : S1024x3712.Idx → EReal) _
  refine congrArg _ (funext fun a => Fin.ext ?_)
  match a with
  | ⟨0, _⟩ => show win0_2.index t 0 * 1024 + 1 * k.val = k.val; rw [(ix_c t).2.1.1]; omega
  | ⟨1, _⟩ => show win0_2.index t 1 * 3712 + 1 * j.val = j.val; rw [(ix_c t).2.1.2]; omega

theorem blk_qn (t : Fin cfg0.N) (k : Fin 128) : (iblk m c 3 t : S1x128.Idx → EReal) (ix2 0 k) = Qn m c (ix1 k) := by
  rw [← V_qn m c k]
  unfold iblk
  rw [View.read_apply]
  show (V m c main_v8 : S1x128.Idx → EReal) _ = (V m c main_v8 : S1x128.Idx → EReal) _
  refine congrArg _ (funext fun a => Fin.ext ?_)
  match a with
  | ⟨0, _⟩ => show win0_3.index t 0 * 1 + 1 * 0 = 0; rw [(ix_c t).2.2.1.1]
  | ⟨1, _⟩ => show win0_3.index t 1 * 128 + 1 * k.val = k.val; rw [(ix_c t).2.2.1.2]; omega

theorem blk_kn (t : Fin cfg0.N) (k : Fin 128) : (iblk m c 4 t : S1x128.Idx → EReal) (ix2 0 k) = Kn m c (ix1 k) := by
  rw [← V_kn m c k]
  unfold iblk
  rw [View.read_apply]
  show (V m c main_v9 : S1x128.Idx → EReal) _ = (V m c main_v9 : S1x128.Idx → EReal) _
  refine congrArg _ (funext fun a => Fin.ext ?_)
  match a with
  | ⟨0, _⟩ => show win0_4.index t 0 * 1 + 1 * 0 = 0; rw [(ix_c t).2.2.2.1]
  | ⟨1, _⟩ => show win0_4.index t 1 * 128 + 1 * k.val = k.val; rw [(ix_c t).2.2.2.2]; omega

/-- The product over point `t`'s blocks is the whole array's entry at the point's token. -/
theorem pay2_blk (t : Fin cfg0.N) (r : Fin 512) (j : Fin 3712) :
    k0_pay2 (iblk m c 0 t) (iblk m c 1 t) (iblk m c 2 t) (ix2 r j) = H m c (tok t r) j := by
  rw [pay2_apply]
  unfold H
  simp only [blk_x, blk_ln, blk_w]

/-! ## The result arrays -/

def G5 : S32768x1536.Idx → EReal := fun i => H m c (i 0) (i 1).val
def G6 : S32768x512.Idx → EReal := fun i => H m c (i 0) ((i 1).val + 1536)
def G7 : S32768x128.Idx → EReal := fun i => H m c (i 0) ((i 1).val + 3584)
/-- Token `s` of batch `b`, numbered through the batches. -/
def tk (b : Fin 8) (s : Fin 4096) : Fin 32768 := ⟨b.val * 4096 + s.val, by omega⟩
def G8 : S8x4x4096x128.Idx → EReal := fun i =>
  rms 0x43000000#32 (fun d => H m c (tk (i 0) (i 2)) ((i 1).val * 128 + d.val + 2048)) (fun d => Qn m c (ix1 d)) (i 3)
def G9 : S8x4x4096x128.Idx → EReal := fun i =>
  rms 0x43000000#32 (fun d => H m c (tk (i 0) (i 2)) ((i 1).val * 128 + d.val + 2560)) (fun d => Kn m c (ix1 d)) (i 3)
def G10 : S8x4x4096x128.Idx → EReal := fun i => H m c (tk (i 0) (i 2)) ((i 1).val * 128 + (i 3).val + 3072)

theorem hz2 : (![0, 0] : Fin 2 → Nat) = fun _ => 0 := funext fun a => by fin_cases a <;> rfl

theorem emb5 (t : Fin cfg0.N) (y0 : Fin 512) (y1 : Fin 1536) :
    (((cfg0.win 5).blk t).view.emb (ix2 y0 y1) : S32768x1536.Idx) = ix2 (tok t y0) y1 := by
  funext a
  apply Fin.ext
  match a with
  | ⟨0, _⟩ => show win0_5.index t 0 * 512 + 1 * y0.val = t.val * 512 + y0.val; rw [(ix_o t).1.1]; omega
  | ⟨1, _⟩ => show win0_5.index t 1 * 1536 + 1 * y1.val = y1.val; rw [(ix_o t).1.2]; omega

theorem cover5 (i : S32768x1536.Idx) : ∃ t : Fin cfg0.N, (cfg0.win 5).flush t = true ∧ i ∈ ((cfg0.win 5).blk t).view.set := by
  have i0 : (i 0).val < 32768 := (i 0).isLt
  have i1 : (i 1).val < 1536 := (i 1).isLt
  obtain ⟨t, ht⟩ : ∃ t : Fin cfg0.N, t.val = (i 0).val / 512 := ⟨⟨(i 0).val / 512, by show (i 0).val / 512 < 64; omega⟩, rfl⟩
  refine ⟨t, flush0_5 _, ?_⟩
  show i ∈ ((View.whole main_v10_0).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + 512
              rw [(ix_o t).1.1]; omega
  | ⟨1, _⟩ => show win0_5.index t 1 * 1536 ≤ (i 1 : Nat) ∧ (i 1 : Nat) < win0_5.index t 1 * 1536 + 1536
              rw [(ix_o t).1.2]; omega

theorem val5 : (dats m 0 c).arrAt 5 cfg0.N = G5 m c := by
  refine (dats m 0 c).arrAt_eq_of_cover 5 (G5 m c) (fun t _ => ?_) cover5
  rw [flushed5]
  funext y
  obtain ⟨y0, y1, rfl⟩ : ∃ (a : Fin 512) (b : Fin 1536), y = ix2 a b := ⟨y 0, y 1, eq_ix2 y⟩
  rw [View.read_apply]
  show (out0_5 (iblk m c 0 t) (iblk m c 1 t) (iblk m c 2 t) (iblk m c 3 t) (iblk m c 4 t) (ix2 y0 y1) : EReal) = G5 m c _
  unfold_out out0_5
  refine (canon5_eq _ _ _ _).trans ?_
  rw [View.ld_unit_zero hz2, View.ld_unit_zero hz2, View.ld_unit_zero hz2]
  refine ((congrArg _ ?_).trans (pay2_blk m c t y0 ⟨y1.val, by omega⟩)).trans ?_
  · funext a; apply Fin.ext; match a with | ⟨0, _⟩ => rfl | ⟨1, _⟩ => rfl
  · exact (congrArg (G5 m c) (emb5 t y0 y1)).symm

theorem emb6 (t : Fin cfg0.N) (y0 : Fin 512) (y1 : Fin 512) :
    (((cfg0.win 6).blk t).view.emb (ix2 y0 y1) : S32768x512.Idx) = ix2 (tok t y0) y1 := by
  funext a
  apply Fin.ext
  match a with
  | ⟨0, _⟩ => show win0_6.index t 0 * 512 + 1 * y0.val = t.val * 512 + y0.val; rw [(ix_o t).2.1.1]; omega
  | ⟨1, _⟩ => show win0_6.index t 1 * 512 + 1 * y1.val = y1.val; rw [(ix_o t).2.1.2]; omega

theorem cover6 (i : S32768x512.Idx) : ∃ t : Fin cfg0.N, (cfg0.win 6).flush t = true ∧ i ∈ ((cfg0.win 6).blk t).view.set := by
  have i0 : (i 0).val < 32768 := (i 0).isLt
  have i1 : (i 1).val < 512 := (i 1).isLt
  obtain ⟨t, ht⟩ : ∃ t : Fin cfg0.N, t.val = (i 0).val / 512 := ⟨⟨(i 0).val / 512, by show (i 0).val / 512 < 64; omega⟩, rfl⟩
  refine ⟨t, flush0_6 _, ?_⟩
  show i ∈ ((View.whole main_v10_1).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + 512
              rw [(ix_o t).2.1.1]; omega
  | ⟨1, _⟩ => show win0_6.index t 1 * 512 ≤ (i 1 : Nat) ∧ (i 1 : Nat) < win0_6.index t 1 * 512 + 512
              rw [(ix_o t).2.1.2]; omega

theorem val6 : (dats m 0 c).arrAt 6 cfg0.N = G6 m c := by
  refine (dats m 0 c).arrAt_eq_of_cover 6 (G6 m c) (fun t _ => ?_) cover6
  rw [flushed6]
  funext y
  obtain ⟨y0, y1, rfl⟩ : ∃ (a : Fin 512) (b : Fin 512), y = ix2 a b := ⟨y 0, y 1, eq_ix2 y⟩
  rw [View.read_apply]
  show (out0_6 (iblk m c 0 t) (iblk m c 1 t) (iblk m c 2 t) (iblk m c 3 t) (iblk m c 4 t) (ix2 y0 y1) : EReal) = G6 m c _
  unfold_out out0_6
  refine (canon6_eq _ _ _ _).trans ?_
  rw [View.ld_unit_zero hz2, View.ld_unit_zero hz2, View.ld_unit_zero hz2]
  refine ((congrArg _ ?_).trans (pay2_blk m c t y0 ⟨y1.val + 1536, by omega⟩)).trans ?_
  · funext a; apply Fin.ext; match a with | ⟨0, _⟩ => rfl | ⟨1, _⟩ => rfl
  · exact (congrArg (G6 m c) (emb6 t y0 y1)).symm

theorem emb7 (t : Fin cfg0.N) (y0 : Fin 512) (y1 : Fin 128) :
    (((cfg0.win 7).blk t).view.emb (ix2 y0 y1) : S32768x128.Idx) = ix2 (tok t y0) y1 := by
  funext a
  apply Fin.ext
  match a with
  | ⟨0, _⟩ => show win0_7.index t 0 * 512 + 1 * y0.val = t.val * 512 + y0.val; rw [(ix_o t).2.2.1]; omega
  | ⟨1, _⟩ => show win0_7.index t 1 * 128 + 1 * y1.val = y1.val; rw [(ix_o t).2.2.2]; omega

theorem cover7 (i : S32768x128.Idx) : ∃ t : Fin cfg0.N, (cfg0.win 7).flush t = true ∧ i ∈ ((cfg0.win 7).blk t).view.set := by
  have i0 : (i 0).val < 32768 := (i 0).isLt
  have i1 : (i 1).val < 128 := (i 1).isLt
  obtain ⟨t, ht⟩ : ∃ t : Fin cfg0.N, t.val = (i 0).val / 512 := ⟨⟨(i 0).val / 512, by show (i 0).val / 512 < 64; omega⟩, rfl⟩
  refine ⟨t, flush0_7 _, ?_⟩
  show i ∈ ((View.whole main_v10_2).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512
              rw [(ix_o t).2.2.1]; omega
  | ⟨1, _⟩ => show win0_7.index t 1 * 128 ≤ (i 1 : Nat) ∧ (i 1 : Nat) < win0_7.index t 1 * 128 + 128
              rw [(ix_o t).2.2.2]; omega

theorem val7 : (dats m 0 c).arrAt 7 cfg0.N = G7 m c := by
  refine (dats m 0 c).arrAt_eq_of_cover 7 (G7 m c) (fun t _ => ?_) cover7
  rw [flushed7]
  funext y
  obtain ⟨y0, y1, rfl⟩ : ∃ (a : Fin 512) (b : Fin 128), y = ix2 a b := ⟨y 0, y 1, eq_ix2 y⟩
  rw [View.read_apply]
  show (out0_7 (iblk m c 0 t) (iblk m c 1 t) (iblk m c 2 t) (iblk m c 3 t) (iblk m c 4 t) (ix2 y0 y1) : EReal) = G7 m c _
  unfold_out out0_7
  refine (canon7_eq _ _ _ _).trans ?_
  rw [View.ld_unit_zero hz2, View.ld_unit_zero hz2, View.ld_unit_zero hz2]
  refine ((congrArg _ ?_).trans (pay2_blk m c t y0 ⟨y1.val + 3584, by omega⟩)).trans ?_
  · funext a; apply Fin.ext; match a with | ⟨0, _⟩ => rfl | ⟨1, _⟩ => rfl
  · exact (congrArg (G7 m c) (emb7 t y0 y1)).symm

/-- A head output's block, from the product's block and the norm's weights: the normalised heads from column `o` on. -/
def E8 (hd : S512x3712.Idx → EReal) (q : S1x128.Idx → EReal) (o : Nat) (ho : o ≤ 3200) (y : S1x4x512x128.Idx) : EReal :=
  rms 0x43000000#32 (fun d : Fin 128 => hd (ix2 (y 2) ⟨(y 1).val * 128 + d.val + o, by have : (y 1).val < 4 := (y 1).isLt; omega⟩)) (fun d => q (ix2 0 d)) (y 3)

theorem piece8_3 (hd : FVec Ideal S512x3712 .f32) (q : Vec Ideal S1x128 .f32) (x : S1x1x512x128.Idx) :
    k0_pay24 hd q x = E8 hd q 2048 (by omega) (r0_10.idx x) := by
  obtain ⟨a, b, e, f, rfl⟩ : ∃ (a : Fin 1) (b : Fin 1) (e : Fin 512) (f : Fin 128), x = ix4 a b e f := ⟨x 0, x 1, x 2, x 3, eq_ix4 x⟩
  pointwise [k0_pay24, E8, rms, rinv]
  simp only [show ∀ x : Nat, 384 + x + 2048 = 2432 + x from fun x => by omega]

theorem piece8_2 (hd : FVec Ideal S512x3712 .f32) (q : Vec Ideal S1x128 .f32) (x : S1x1x512x128.Idx) :
    k0_pay20 (k0_pay19 hd) q x = E8 hd q 2048 (by omega) (r0_9.idx x) := by
  obtain ⟨a, b, e, f, rfl⟩ : ∃ (a : Fin 1) (b : Fin 1) (e : Fin 512) (f : Fin 128), x = ix4 a b e f := ⟨x 0, x 1, x 2, x 3, eq_ix4 x⟩
  pointwise [k0_pay20, k0_pay19, E8, rms, rinv]
  simp only [show ∀ x : Nat, 256 + x + 2048 = 2304 + x from fun x => by omega]

theorem piece8_1 (hd : FVec Ideal S512x3712 .f32) (q : Vec Ideal S1x128 .f32) (x : S1x1x512x128.Idx) :
    k0_pay16 (k0_pay13 hd) (k0_pay14 q) (k0_pay15 hd) x = E8 hd q 2048 (by omega) (r0_8.idx x) := by
  obtain ⟨a, b, e, f, rfl⟩ : ∃ (a : Fin 1) (b : Fin 1) (e : Fin 512) (f : Fin 128), x = ix4 a b e f := ⟨x 0, x 1, x 2, x 3, eq_ix4 x⟩
  pointwise [k0_pay16, k0_pay13, k0_pay14, k0_pay15, E8, rms, rinv]
  simp only [show ∀ x : Nat, 128 + x + 2048 = 2176 + x from fun x => by omega]

theorem piece8_0 (P0 : Vec Ideal S512x1024 .f32) (P1 : Vec Ideal S1x1024 .f32) (P2 : Vec Ideal S1024x3712 .bf16) (q : Vec Ideal S1x128 .f32) (x : S1x1x512x128.Idx) :
    k0_pay10 (k0_pay6 P0 P1 P2) (k0_pay7 q) (k0_pay8 P0 P1 P2) (k0_pay9 (F := Ideal)) x = E8 (k0_pay2 P0 P1 P2) q 2048 (by omega) (r0_7.idx x) := by
  obtain ⟨a, b, e, f, rfl⟩ : ∃ (a : Fin 1) (b : Fin 1) (e : Fin 512) (f : Fin 128), x = ix4 a b e f := ⟨x 0, x 1, x 2, x 3, eq_ix4 x⟩
  pointwise [k0_pay10, k0_pay6, k0_pay7, k0_pay8, k0_pay9, E8, rms, rinv]
  simp only [show ∀ x : Nat, x + 2048 = 2048 + x from fun x => by omega]

theorem piece9_0 (hd : FVec Ideal S512x3712 .f32) (q : Vec Ideal S1x128 .f32) (x : S1x1x512x128.Idx) :
    k0_pay11 hd q x = E8 hd q 2560 (by omega) (r0_7.idx x) := by
  obtain ⟨a, b, e, f, rfl⟩ : ∃ (a : Fin 1) (b : Fin 1) (e : Fin 512) (f : Fin 128), x = ix4 a b e f := ⟨x 0, x 1, x 2, x 3, eq_ix4 x⟩
  pointwise [k0_pay11, E8, rms, rinv]
  simp only [show ∀ x : Nat, x + 2560 = 2560 + x from fun x => by omega]

theorem piece9_1 (hd : FVec Ideal S512x3712 .f32) (q : Vec Ideal S1x128 .f32) (x : S1x1x512x128.Idx) :
    k0_pay17 hd q x = E8 hd q 2560 (by omega) (r0_8.idx x) := by
  obtain ⟨a, b, e, f, rfl⟩ : ∃ (a : Fin 1) (b : Fin 1) (e : Fin 512) (f : Fin 128), x = ix4 a b e f := ⟨x 0, x 1, x 2, x 3, eq_ix4 x⟩
  pointwise [k0_pay17, E8, rms, rinv]
  simp only [show ∀ x : Nat, 128 + x + 2560 = 2688 + x from fun x => by omega]

theorem piece9_2 (hd : FVec Ideal S512x3712 .f32) (q : Vec Ideal S1x128 .f32) (x : S1x1x512x128.Idx) :
    k0_pay21 hd q x = E8 hd q 2560 (by omega) (r0_9.idx x) := by
  obtain ⟨a, b, e, f, rfl⟩ : ∃ (a : Fin 1) (b : Fin 1) (e : Fin 512) (f : Fin 128), x = ix4 a b e f := ⟨x 0, x 1, x 2, x 3, eq_ix4 x⟩
  pointwise [k0_pay21, E8, rms, rinv]
  simp only [show ∀ x : Nat, 256 + x + 2560 = 2816 + x from fun x => by omega]

theorem piece9_3 (hd : FVec Ideal S512x3712 .f32) (q : Vec Ideal S1x128 .f32) (x : S1x1x512x128.Idx) :
    k0_pay25 hd q x = E8 hd q 2560 (by omega) (r0_10.idx x) := by
  obtain ⟨a, b, e, f, rfl⟩ : ∃ (a : Fin 1) (b : Fin 1) (e : Fin 512) (f : Fin 128), x = ix4 a b e f := ⟨x 0, x 1, x 2, x 3, eq_ix4 x⟩
  pointwise [k0_pay25, E8, rms, rinv]
  simp only [show ∀ x : Nat, 384 + x + 2560 = 2944 + x from fun x => by omega]

theorem tok_eq (t : Fin cfg0.N) (r : Fin 512) :
    tok t r = tk ⟨t.val / 8, by have := tlt t; omega⟩ ⟨t.val % 8 * 512 + r.val, by omega⟩ := by
  apply Fin.ext
  show t.val * 512 + r.val = t.val / 8 * 4096 + (t.val % 8 * 512 + r.val)
  omega

theorem emb8 (t : Fin cfg0.N) (y0 : Fin 1) (y1 : Fin 4) (y2 : Fin 512) (y3 : Fin 128) :
    (((cfg0.win 8).blk t).view.emb (ix4 y0 y1 y2 y3) : S8x4x4096x128.Idx)
      = ix4 (⟨t.val / 8, by have := tlt t; omega⟩ : Fin 8) y1 (⟨t.val % 8 * 512 + y2.val, by omega⟩ : Fin 4096) y3 := by
  funext a
  apply Fin.ext
  match a with
  | ⟨0, _⟩ => show win0_8.index t 0 * 1 + 1 * y0.val = t.val / 8; rw [(ix_h t).1.1]; omega
  | ⟨1, _⟩ => show win0_8.index t 1 * 4 + 1 * y1.val = y1.val; rw [(ix_h t).1.2.1]; omega
  | ⟨2, _⟩ => show win0_8.index t 2 * 512 + 1 * y2.val = t.val % 8 * 512 + y2.val; rw [(ix_h t).1.2.2.1]; omega
  | ⟨3, _⟩ => show win0_8.index t 3 * 128 + 1 * y3.val = y3.val; rw [(ix_h t).1.2.2.2]; omega

theorem cover8 (i : S8x4x4096x128.Idx) : ∃ t : Fin cfg0.N, (cfg0.win 8).flush t = true ∧ i ∈ ((cfg0.win 8).blk t).view.set := by
  have i0 : (i 0).val < 8 := (i 0).isLt
  have i1 : (i 1).val < 4 := (i 1).isLt
  have i2 : (i 2).val < 4096 := (i 2).isLt
  have i3 : (i 3).val < 128 := (i 3).isLt
  obtain ⟨t, ht⟩ : ∃ t : Fin cfg0.N, t.val = (i 0).val * 8 + (i 2).val / 512 :=
    ⟨⟨(i 0).val * 8 + (i 2).val / 512, by show (i 0).val * 8 + (i 2).val / 512 < 64; omega⟩, rfl⟩
  refine ⟨t, flush0_8 _, ?_⟩
  show i ∈ ((View.whole main_v10_3).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1
              rw [(ix_h t).1.1]; omega
  | ⟨1, _⟩ => show win0_8.index t 1 * 4 ≤ (i 1 : Nat) ∧ (i 1 : Nat) < win0_8.index t 1 * 4 + 4
              rw [(ix_h t).1.2.1]; omega
  | ⟨2, _⟩ => show win0_8.index t 2 * 512 ≤ (i 2 : Nat) ∧ (i 2 : Nat) < win0_8.index t 2 * 512 + 512
              rw [(ix_h t).1.2.2.1]; omega
  | ⟨3, _⟩ => show win0_8.index t 3 * 128 ≤ (i 3 : Nat) ∧ (i 3 : Nat) < win0_8.index t 3 * 128 + 128
              rw [(ix_h t).1.2.2.2]; omega

theorem val8 : (dats m 0 c).arrAt 8 cfg0.N = G8 m c := by
  refine (dats m 0 c).arrAt_eq_of_cover 8 (G8 m c) (fun t _ => ?_) cover8
  rw [flushed8]
  funext y
  obtain ⟨y0, y1, y2, y3, rfl⟩ : ∃ (a : Fin 1) (b : Fin 4) (e : Fin 512) (f : Fin 128), y = ix4 a b e f := ⟨y 0, y 1, y 2, y 3, eq_ix4 y⟩
  rw [View.read_apply]
  show (out0_8 (iblk m c 0 t) (iblk m c 1 t) (iblk m c 2 t) (iblk m c 3 t) (iblk m c 4 t) (ix4 y0 y1 y2 y3) : EReal) = G8 m c _
  unfold_out out0_8
  rw [View.ld_unit_zero hz2, View.ld_unit_zero hz2, View.ld_unit_zero hz2, View.ld_unit_zero hz2]
  refine (View.canon_apply_of_pieces (E8 (k0_pay2 (iblk m c 0 t) (iblk m c 1 t) (iblk m c 2 t)) (iblk m c 3 t) 2048 (by omega)) _ ?_ _ (cover0_8 _ _ _ _ _)).trans ?_
  · intro pc hpc
    rcases List.mem_cons.mp hpc with rfl | hpc
    · intro x; exact piece8_3 _ _ x
    rcases List.mem_cons.mp hpc with rfl | hpc
    · intro x; exact piece8_2 _ _ x
    rcases List.mem_cons.mp hpc with rfl | hpc
    · intro x; exact piece8_1 _ _ x
    rcases List.mem_cons.mp hpc with rfl | hpc
    · intro x; exact piece8_0 _ _ _ _ x
    nomatch hpc
  · refine Eq.trans ?_ (congrArg (G8 m c) (emb8 t y0 y1 y2 y3)).symm
    unfold E8 G8
    show rms _ (fun d : Fin 128 => (k0_pay2 (iblk m c 0 t) (iblk m c 1 t) (iblk m c 2 t)) (ix2 y2 ⟨y1.val * 128 + d.val + 2048, _⟩)) (fun d => (iblk m c 3 t : S1x128.Idx → EReal) (ix2 0 d)) y3 = _
    simp only [pay2_blk, blk_qn, tok_eq]
    rfl

theorem emb9 (t : Fin cfg0.N) (y0 : Fin 1) (y1 : Fin 4) (y2 : Fin 512) (y3 : Fin 128) :
    (((cfg0.win 9).blk t).view.emb (ix4 y0 y1 y2 y3) : S8x4x4096x128.Idx)
      = ix4 (⟨t.val / 8, by have := tlt t; omega⟩ : Fin 8) y1 (⟨t.val % 8 * 512 + y2.val, by omega⟩ : Fin 4096) y3 := by
  funext a
  apply Fin.ext
  match a with
  | ⟨0, _⟩ => show win0_9.index t 0 * 1 + 1 * y0.val = t.val / 8; rw [(ix_h t).2.1.1]; omega
  | ⟨1, _⟩ => show win0_9.index t 1 * 4 + 1 * y1.val = y1.val; rw [(ix_h t).2.1.2.1]; omega
  | ⟨2, _⟩ => show win0_9.index t 2 * 512 + 1 * y2.val = t.val % 8 * 512 + y2.val; rw [(ix_h t).2.1.2.2.1]; omega
  | ⟨3, _⟩ => show win0_9.index t 3 * 128 + 1 * y3.val = y3.val; rw [(ix_h t).2.1.2.2.2]; omega

theorem cover9 (i : S8x4x4096x128.Idx) : ∃ t : Fin cfg0.N, (cfg0.win 9).flush t = true ∧ i ∈ ((cfg0.win 9).blk t).view.set := by
  have i0 : (i 0).val < 8 := (i 0).isLt
  have i1 : (i 1).val < 4 := (i 1).isLt
  have i2 : (i 2).val < 4096 := (i 2).isLt
  have i3 : (i 3).val < 128 := (i 3).isLt
  obtain ⟨t, ht⟩ : ∃ t : Fin cfg0.N, t.val = (i 0).val * 8 + (i 2).val / 512 :=
    ⟨⟨(i 0).val * 8 + (i 2).val / 512, by show (i 0).val * 8 + (i 2).val / 512 < 64; omega⟩, rfl⟩
  refine ⟨t, flush0_9 _, ?_⟩
  show i ∈ ((View.whole main_v10_4).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1
              rw [(ix_h t).2.1.1]; omega
  | ⟨1, _⟩ => show win0_9.index t 1 * 4 ≤ (i 1 : Nat) ∧ (i 1 : Nat) < win0_9.index t 1 * 4 + 4
              rw [(ix_h t).2.1.2.1]; omega
  | ⟨2, _⟩ => show win0_9.index t 2 * 512 ≤ (i 2 : Nat) ∧ (i 2 : Nat) < win0_9.index t 2 * 512 + 512
              rw [(ix_h t).2.1.2.2.1]; omega
  | ⟨3, _⟩ => show win0_9.index t 3 * 128 ≤ (i 3 : Nat) ∧ (i 3 : Nat) < win0_9.index t 3 * 128 + 128
              rw [(ix_h t).2.1.2.2.2]; omega

theorem val9 : (dats m 0 c).arrAt 9 cfg0.N = G9 m c := by
  refine (dats m 0 c).arrAt_eq_of_cover 9 (G9 m c) (fun t _ => ?_) cover9
  rw [flushed9]
  funext y
  obtain ⟨y0, y1, y2, y3, rfl⟩ : ∃ (a : Fin 1) (b : Fin 4) (e : Fin 512) (f : Fin 128), y = ix4 a b e f := ⟨y 0, y 1, y 2, y 3, eq_ix4 y⟩
  rw [View.read_apply]
  show (out0_9 (iblk m c 0 t) (iblk m c 1 t) (iblk m c 2 t) (iblk m c 3 t) (iblk m c 4 t) (ix4 y0 y1 y2 y3) : EReal) = G9 m c _
  unfold_out out0_9
  rw [View.ld_unit_zero hz2, View.ld_unit_zero hz2, View.ld_unit_zero hz2, View.ld_unit_zero hz2]
  refine (View.canon_apply_of_pieces (E8 (k0_pay2 (iblk m c 0 t) (iblk m c 1 t) (iblk m c 2 t)) (iblk m c 4 t) 2560 (by omega)) _ ?_ _ (cover0_9 _ _ _ _ _)).trans ?_
  · intro pc hpc
    rcases List.mem_cons.mp hpc with rfl | hpc
    · intro x; exact piece9_3 _ _ x
    rcases List.mem_cons.mp hpc with rfl | hpc
    · intro x; exact piece9_2 _ _ x
    rcases List.mem_cons.mp hpc with rfl | hpc
    · intro x; exact piece9_1 _ _ x
    rcases List.mem_cons.mp hpc with rfl | hpc
    · intro x; exact piece9_0 _ _ x
    nomatch hpc
  · refine Eq.trans ?_ (congrArg (G9 m c) (emb9 t y0 y1 y2 y3)).symm
    unfold E8 G9
    show rms _ (fun d : Fin 128 => (k0_pay2 (iblk m c 0 t) (iblk m c 1 t) (iblk m c 2 t)) (ix2 y2 ⟨y1.val * 128 + d.val + 2560, _⟩)) (fun d => (iblk m c 4 t : S1x128.Idx → EReal) (ix2 0 d)) y3 = _
    simp only [pay2_blk, blk_kn, tok_eq]
    rfl

theorem emb10 (t : Fin cfg0.N) (y0 : Fin 1) (y1 : Fin 4) (y2 : Fin 512) (y3 : Fin 128) :
    (((cfg0.win 10).blk t).view.emb (ix4 y0 y1 y2 y3) : S8x4x4096x128.Idx)
      = ix4 (⟨t.val / 8, by have := tlt t; omega⟩ : Fin 8) y1 (⟨t.val % 8 * 512 + y2.val, by omega⟩ : Fin 4096) y3 := by
  funext a
  apply Fin.ext
  match a with
  | ⟨0, _⟩ => show win0_10.index t 0 * 1 + 1 * y0.val = t.val / 8; rw [(ix_h t).2.2.1]; omega
  | ⟨1, _⟩ => show win0_10.index t 1 * 4 + 1 * y1.val = y1.val; rw [(ix_h t).2.2.2.1]; omega
  | ⟨2, _⟩ => show win0_10.index t 2 * 512 + 1 * y2.val = t.val % 8 * 512 + y2.val; rw [(ix_h t).2.2.2.2.1]; omega
  | ⟨3, _⟩ => show win0_10.index t 3 * 128 + 1 * y3.val = y3.val; rw [(ix_h t).2.2.2.2.2]; omega

theorem cover10 (i : S8x4x4096x128.Idx) : ∃ t : Fin cfg0.N, (cfg0.win 10).flush t = true ∧ i ∈ ((cfg0.win 10).blk t).view.set := by
  have i0 : (i 0).val < 8 := (i 0).isLt
  have i1 : (i 1).val < 4 := (i 1).isLt
  have i2 : (i 2).val < 4096 := (i 2).isLt
  have i3 : (i 3).val < 128 := (i 3).isLt
  obtain ⟨t, ht⟩ : ∃ t : Fin cfg0.N, t.val = (i 0).val * 8 + (i 2).val / 512 :=
    ⟨⟨(i 0).val * 8 + (i 2).val / 512, by show (i 0).val * 8 + (i 2).val / 512 < 64; omega⟩, rfl⟩
  refine ⟨t, flush0_10 _, ?_⟩
  show i ∈ ((View.whole main_v10_5).slice (win0_10.rect t)).set
  rw [View.set_slice_whole, Rect.mem_set_unit]
  intro a
  match a with
  | ⟨0, _⟩ => show win0_10.index t 0 * 1 ≤ (i 0 : Nat) ∧ (i 0 : Nat) < win0_10.index t 0 * 1 + 1
              rw [(ix_h t).2.2.1]; omega
  | ⟨1, _⟩ => show win0_10.index t 1 * 4 ≤ (i 1 : Nat) ∧ (i 1 : Nat) < win0_10.index t 1 * 4 + 4
              rw [(ix_h t).2.2.2.1]; omega
  | ⟨2, _⟩ => show win0_10.index t 2 * 512 ≤ (i 2 : Nat) ∧ (i 2 : Nat) < win0_10.index t 2 * 512 + 512
              rw [(ix_h t).2.2.2.2.1]; omega
  | ⟨3, _⟩ => show win0_10.index t 3 * 128 ≤ (i 3 : Nat) ∧ (i 3 : Nat) < win0_10.index t 3 * 128 + 128
              rw [(ix_h t).2.2.2.2.2]; omega

theorem val10 : (dats m 0 c).arrAt 10 cfg0.N = G10 m c := by
  refine (dats m 0 c).arrAt_eq_of_cover 10 (G10 m c) (fun t _ => ?_) cover10
  rw [flushed10]
  funext y
  obtain ⟨y0, y1, y2, y3, rfl⟩ : ∃ (a : Fin 1) (b : Fin 4) (e : Fin 512) (f : Fin 128), y = ix4 a b e f := ⟨y 0, y 1, y 2, y 3, eq_ix4 y⟩
  rw [View.read_apply]
  show (out0_10 (iblk m c 0 t) (iblk m c 1 t) (iblk m c 2 t) (iblk m c 3 t) (iblk m c 4 t) (ix4 y0 y1 y2 y3) : EReal) = G10 m c _
  unfold_out out0_10
  refine (canon10_eq _ _ _ _).trans ?_
  rw [View.ld_unit_zero hz2, View.ld_unit_zero hz2, View.ld_unit_zero hz2]
  refine ((congrArg _ ?_).trans (pay2_blk m c t y2 ⟨y1.val * 128 + y3.val + 3072, by omega⟩)).trans ?_
  · funext a; apply Fin.ext; match a with | ⟨0, _⟩ => rfl | ⟨1, _⟩ => rfl
  · refine Eq.trans ?_ (congrArg (G10 m c) (emb10 t y0 y1 y2 y3)).symm
    rw [tok_eq]
    rfl

end Cert.Proof.ProjPrompt

end
-- ==== Proof.ProjPromptRef.lean ====
/- The prompt's projection on the reference's side: its six results, entry by entry. -/
module

public import proofs.«01_k».proof.Proof.ProjSpec
public import proofs.«01_k».proof.Proof.Gen.Reference2Ideal.Run

@[expose] public section

set_option maxRecDepth 16384

noncomputable section

namespace Cert.Proof.ProjPromptRef

open Idealize.ShloMosaic Idealize.ShloMosaic.TcCoe Idealize.SL.Sem
open Cert.Reference2Ideal Cert.Reference2Ideal.Value Cert.Proof.Proj

variable (m : (ℓ : Loc nD τ sig) → Buf (Elt Ideal) ℓ) (c : Dev nD)

/-- The arguments, as launched. -/
def X : S8x4096x1024.Idx → EReal := m ((c.tc : Thread nD τ).loc main_arg0)
def Ln : S1024.Idx → EReal := m ((c.tc : Thread nD τ).loc main_arg1)
def W : S1024x3592.Idx → EReal := m ((c.tc : Thread nD τ).loc main_arg2)
def Qn : S128.Idx → EReal := m ((c.tc : Thread nD τ).loc main_arg3)
def Kn : S128.Idx → EReal := m ((c.tc : Thread nD τ).loc main_arg4)

/-- Token `s` of batch `b` against column `j` of the weights. -/
def P (b : Fin 8) (s : Fin 4096) (j : Fin 3592) : EReal :=
  proj (fun k => X m c (ix3 b s k)) (fun k => Ln m c (ix1 k)) (fun k => W m c (ix2 k j))

def R5 : S32768x1536.Idx → EReal := fun i =>
  P m c ⟨(i 0).val / 4096, by have : (i 0).val < 32768 := (i 0).isLt; omega⟩ ⟨(i 0).val % 4096, by omega⟩ ⟨(i 1).val, by have : (i 1).val < 1536 := (i 1).isLt; omega⟩
def R6 : S32768x512.Idx → EReal := fun i =>
  P m c ⟨(i 0).val / 4096, by have : (i 0).val < 32768 := (i 0).isLt; omega⟩ ⟨(i 0).val % 4096, by omega⟩ ⟨1536 + (i 1).val, by have : (i 1).val < 512 := (i 1).isLt; omega⟩
def R7 : S32768x128.Idx → EReal := fun i =>
  if h : (i 1).val < 8 then P m c ⟨(i 0).val / 4096, by have : (i 0).val < 32768 := (i 0).isLt; omega⟩ ⟨(i 0).val % 4096, by omega⟩ ⟨2048 + (i 1).val, by omega⟩ else 0
def R8 : S8x4x4096x128.Idx → EReal := fun i =>
  rms 0x43000000#32 (fun d : Fin 128 => P m c (i 0) (i 2) ⟨2056 + ((i 1).val * 128 + d.val), by have : (i 1).val < 4 := (i 1).isLt; omega⟩) (fun d => Qn m c (ix1 d)) (i 3)
def R9 : S8x4x4096x128.Idx → EReal := fun i =>
  rms 0x43000000#32 (fun d : Fin 128 => P m c (i 0) (i 2) ⟨2568 + ((i 1).val * 128 + d.val), by have : (i 1).val < 4 := (i 1).isLt; omega⟩) (fun d => Kn m c (ix1 d)) (i 3)
def R10 : S8x4x4096x128.Idx → EReal := fun i =>
  P m c (i 0) (i 2) ⟨3080 + ((i 1).val * 128 + (i 3).val), by have : (i 1).val < 4 := (i 1).isLt; have : (i 3).val < 128 := (i 3).isLt; omega⟩

theorem run (ρ : Dev nD → PrngReg) :
    θ_run defs (onTc (τ := τ) (main (F := Ideal))) ⟨m, fun _ => 0, ρ⟩ fun r => ∀ c : Dev nD,
      r.2.mem ((c.tc : Thread nD τ).loc main_v15) = R5 m c
      ∧ r.2.mem ((c.tc : Thread nD τ).loc main_v17) = R6 m c
      ∧ r.2.mem ((c.tc : Thread nD τ).loc main_v20) = R7 m c
      ∧ r.2.mem ((c.tc : Thread nD τ).loc main_v53) = R8 m c
      ∧ r.2.mem ((c.tc : Thread nD τ).loc main_v54) = R9 m c
      ∧ r.2.mem ((c.tc : Thread nD τ).loc main_v55) = R10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h5, h6, h7, h8, h9, h10, ha⟩ := h c
  refine ⟨h5.trans ?_, h6.trans ?_, h7.trans ?_, h8.trans ?_, h9.trans ?_, h10.trans ?_, ha⟩
  · funext i
    obtain ⟨a, b, rfl⟩ : ∃ (a : Fin 32768) (b : Fin 1536), i = ix2 a b := ⟨i 0, i 1, eq_ix2 i⟩
    pointwise [R5, P, proj, rms, rinv, X, Ln, W]
  · funext i
    obtain ⟨a, b, rfl⟩ : ∃ (a : Fin 32768) (b : Fin 512), i = ix2 a b := ⟨i 0, i 1, eq_ix2 i⟩
    pointwise [R6, P, proj, rms, rinv, X, Ln, W]
  · funext i
    obtain ⟨a, b, rfl⟩ : ∃ (a : Fin 32768) (b : Fin 128), i = ix2 a b := ⟨i 0, i 1, eq_ix2 i⟩
    have hz : (FloatOps.sitofp FTy.f32 (0#32 : BitVec 32) : Ideal .f32) = (0 : EReal) := by simp [FloatOps.sitofp]
    pointwise [R7, P, proj, rms, rinv, X, Ln, W, hz]
  · funext i
    obtain ⟨a, b, e, f, rfl⟩ : ∃ (a : Fin 8) (b : Fin 4) (e : Fin 4096) (f : Fin 128), i = ix4 a b e f := ⟨i 0, i 1, i 2, i 3, eq_ix4 i⟩
    pointwise [R8, P, proj, rms, rinv, X, Ln, W, Qn]
  · funext i
    obtain ⟨a, b, e, f, rfl⟩ : ∃ (a : Fin 8) (b : Fin 4) (e : Fin 4096) (f : Fin 128), i = ix4 a b e f := ⟨i 0, i 1, i 2, i 3, eq_ix4 i⟩
    pointwise [R9, P, proj, rms, rinv, X, Ln, W, Kn]
  · funext i
    obtain ⟨a, b, e, f, rfl⟩ : ∃ (a : Fin 8) (b : Fin 4) (e : Fin 4096) (f : Fin 128), i = ix4 a b e f := ⟨i 0, i 1, i 2, i 3, eq_ix4 i⟩
    pointwise [R10, P, proj, rms, rinv, X, Ln, W]

end Cert.Proof.ProjPromptRef

end
-- ==== Proof.ProjPromptClaim.lean ====
/- The prompt's projection: the kernel's six results and the reference's are the same entries. -/
module

public import proofs.«01_k».proof.Defs
public import proofs.«01_k».proof.Proof.ProjPrompt
public import proofs.«01_k».proof.Proof.ProjPromptRef
public import proofs.«01_k».proof.Proof.Gen.Reference2Ideal.Run

@[expose] public section

set_option maxRecDepth 16384

noncomputable section

namespace Cert.Proof.ProjPromptClaim

open Idealize.ShloMosaic Idealize.ShloMosaic.TcCoe Idealize.SL.Sem Cert.Proof.Proj

section
open Cert.Kernel2Ideal
variable (m : (ℓ : Loc nD τ sig) → Buf (Elt Ideal) ℓ)
  (m' : (ℓ : Loc Cert.Reference2Ideal.nD Cert.Reference2Ideal.τ Cert.Reference2Ideal.sig) → Buf (Elt Ideal) ℓ) (c : Dev nD)
  (hX : ProjPromptRef.X m' c = ProjPrompt.X m c) (hL : ProjPromptRef.Ln m' c = ProjPrompt.Ln m c)
  (hW : ProjPromptRef.W m' c = ProjPrompt.W m c) (hQ : ProjPromptRef.Qn m' c = ProjPrompt.Qn m c)
  (hK : ProjPromptRef.Kn m' c = ProjPrompt.Kn m c)
include hX hL hW

/-- Column `j` of the weights is packed column `j'`, so the two sides' projections agree there. -/
theorem P_H (b : Fin 8) (s : Fin 4096) (j : Fin 3592) (n : Fin 32768) (j' : Nat)
    (hn : n.val = b.val * 4096 + s.val)
    (hj : ∀ (f : Fin 1024 → Fin 3592 → EReal) k, colOf f j' k = f k j) :
    ProjPromptRef.P m' c b s j = ProjPrompt.H m c n j' := by
  unfold ProjPromptRef.P ProjPrompt.H
  rw [hX, hL, hW]
  have hb : (⟨n.val / 4096, by omega⟩ : Fin 8) = b := Fin.ext (by show n.val / 4096 = b.val; omega)
  have hs : (⟨n.val % 4096, by omega⟩ : Fin 4096) = s := Fin.ext (by show n.val % 4096 = s.val; omega)
  rw [hb, hs]
  congr 1
  funext k
  exact (hj (fun a b => ProjPrompt.W m c (ix2 a b)) k).symm

theorem eq5 : ProjPromptRef.R5 m' c = ProjPrompt.G5 m c := by
  funext i
  have h0 : (i 0).val < 32768 := (i 0).isLt
  have h1 : (i 1).val < 1536 := (i 1).isLt
  refine P_H m m' c hX hL hW _ _ _ _ _ (by show (i 0).val = (i 0).val / 4096 * 4096 + (i 0).val % 4096; omega) (fun f k => ?_)
  exact colOf_lo f _ k (by omega)

theorem eq6 : ProjPromptRef.R6 m' c = ProjPrompt.G6 m c := by
  funext i
  have h0 : (i 0).val < 32768 := (i 0).isLt
  have h1 : (i 1).val < 512 := (i 1).isLt
  refine P_H m m' c hX hL hW _ _ _ _ _ (by show (i 0).val = (i 0).val / 4096 * 4096 + (i 0).val % 4096; omega) (fun f k => ?_)
  refine (colOf_lo f _ k (by omega)).trans (congrArg (f k) (Fin.ext ?_))
  show (i 1).val + 1536 = 1536 + (i 1).val
  omega

theorem eq7 : ProjPromptRef.R7 m' c = ProjPrompt.G7 m c := by
  funext i
  have h0 : (i 0).val < 32768 := (i 0).isLt
  have h1 : (i 1).val < 128 := (i 1).isLt
  unfold ProjPromptRef.R7 ProjPrompt.G7
  by_cases h : (i 1).val < 8
  · rw [dif_pos h]
    refine P_H m m' c hX hL hW _ _ _ _ _ (by show (i 0).val = (i 0).val / 4096 * 4096 + (i 0).val % 4096; omega) (fun f k => ?_)
    refine (colOf_hi f _ k (by omega) (by omega)).trans (congrArg (f k) (Fin.ext ?_))
    show (i 1).val + 3584 - 1536 = 2048 + (i 1).val
    omega
  · rw [dif_neg h]
    unfold ProjPrompt.H
    have hz : colOf (fun a b => ProjPrompt.W m c (ix2 a b)) ((i 1).val + 3584) = fun _ => 0 := funext fun k => colOf_end _ _ k (by omega)
    rw [hz]
    exact (proj_zero _ _).symm

include hQ in
theorem eq8 : ProjPromptRef.R8 m' c = ProjPrompt.G8 m c := by
  funext i
  have h1 : (i 1).val < 4 := (i 1).isLt
  unfold ProjPromptRef.R8 ProjPrompt.G8
  rw [hQ]
  congr 1
  funext d
  refine P_H m m' c hX hL hW _ _ _ _ _ rfl (fun f k => ?_)
  refine (colOf_mid f _ k (by omega) (by omega)).trans (congrArg (f k) (Fin.ext ?_))
  show (i 1).val * 128 + d.val + 2048 + 8 = 2056 + ((i 1).val * 128 + d.val)
  omega

include hK in
theorem eq9 : ProjPromptRef.R9 m' c = ProjPrompt.G9 m c := by
  funext i
  have h1 : (i 1).val < 4 := (i 1).isLt
  unfold ProjPromptRef.R9 ProjPrompt.G9
  rw [hK]
  congr 1
  funext d
  refine P_H m m' c hX hL hW _ _ _ _ _ rfl (fun f k => ?_)
  refine (colOf_mid f _ k (by omega) (by omega)).trans (congrArg (f k) (Fin.ext ?_))
  show (i 1).val * 128 + d.val + 2560 + 8 = 2568 + ((i 1).val * 128 + d.val)
  omega

theorem eq10 : ProjPromptRef.R10 m' c = ProjPrompt.G10 m c := by
  funext i
  have h1 : (i 1).val < 4 := (i 1).isLt
  have h3 : (i 3).val < 128 := (i 3).isLt
  refine P_H m m' c hX hL hW _ _ _ _ _ rfl (fun f k => ?_)
  refine (colOf_mid f _ k (by omega) (by omega)).trans (congrArg (f k) (Fin.ext ?_))
  show (i 1).val * 128 + (i 3).val + 3072 + 8 = 3080 + ((i 1).val * 128 + (i 3).val)
  omega

end

theorem alg [h1 : Cert.Kernel2Ideal.Facts] [h2 : Cert.Reference2Ideal.Facts] : Cert.algebraic_Kernel2Ideal_Reference2Ideal := by
  intro m g m' g' _ hag
  refine ⟨fun c => ProjPrompt.G5 m c, fun c => ProjPrompt.G6 m c, fun c => ProjPrompt.G7 m c, fun c => ProjPrompt.G8 m c,
    fun c => ProjPrompt.G9 m c, fun c => ProjPrompt.G10 m c, ?_, ?_⟩
  · refine (θ_run _ _ _).mono (fun r h c => ?_) (Cert.Kernel2Ideal.Value.run_blocks (F := Ideal) m g)
    obtain ⟨h5, h6, h7, h8, h9, h10, ha⟩ := h c
    exact ⟨h5.trans (ProjPrompt.val5 m c), h6.trans (ProjPrompt.val6 m c), h7.trans (ProjPrompt.val7 m c),
      h8.trans (ProjPrompt.val8 m c), h9.trans (ProjPrompt.val9 m c), h10.trans (ProjPrompt.val10 m c), ha⟩
  · refine (θ_run _ _ _).mono (fun r h c => ?_) (ProjPromptRef.run m' g')
    obtain ⟨h5, h6, h7, h8, h9, h10, ha⟩ := h c
    obtain ⟨a0, a1, a2, a3, a4⟩ := hag c
    exact ⟨h5.trans (eq5 m m' c a0 a1 a2), h6.trans (eq6 m m' c a0 a1 a2), h7.trans (eq7 m m' c a0 a1 a2),
      h8.trans (eq8 m m' c a0 a1 a2 a3), h9.trans (eq9 m m' c a0 a1 a2 a4), h10.trans (eq10 m m' c a0 a1 a2), ha⟩

end Cert.Proof.ProjPromptClaim

end
-- ==== Proof.ProjSample.lean ====
/- The sample's projection: what each of the six result arrays holds after the run, entry by entry. -/
module

public import proofs.«01_k».proof.Proof.ProjSpec
public import proofs.«01_k».proof.Proof.Gen.Kernel3Ideal.Value
public import Idealize.ShloMosaic.Lib.Pipeline.Value

@[expose] public section

set_option maxRecDepth 16384

noncomputable section

namespace Cert.Proof.ProjSample

open Idealize.ShloMosaic Idealize.ShloMosaic.TcCoe Idealize.SL.Sem
open Cert.Kernel3Ideal Cert.Kernel3Ideal.Gen Cert.Kernel3Ideal.Value Cert.Proof.Proj

variable (m : (ℓ : Loc nD τ sig) → Buf (Elt Ideal) ℓ) (c : Dev nD)

/-- The tokens, the layer norm's weights, the projection's weights and the two head norms' weights, as launched. -/
def X : S32x4x1024.Idx → EReal := m ((c.tc : Thread nD τ).loc main_arg0)
def Ln : S1024.Idx → EReal := m ((c.tc : Thread nD τ).loc main_arg1)
def W : S1024x3592.Idx → EReal := m ((c.tc : Thread nD τ).loc main_arg2)
def Qn : S128.Idx → EReal := m ((c.tc : Thread nD τ).loc main_arg3)
def Kn : S128.Idx → EReal := m ((c.tc : Thread nD τ).loc main_arg4)

/-- Entry `(n, j)` of the tokens against the packed weights, the tokens numbered through the batches. -/
def H (n : Fin 128) (j : Nat) : EReal :=
  proj (fun k => X m c (ix3 ⟨n.val / 4, by omega⟩ ⟨n.val % 4, by omega⟩ k)) (fun k => Ln m c (ix1 k))
    (colOf (fun a b => W m c (ix2 a b)) j)

/-- The body's product over a block, at an entry. -/
theorem pay3_apply (P0 : Vec Ideal S128x1024 .f32) (P1 : Vec Ideal S1x1024 .f32) (P2 : Vec Ideal S1024x3712 .bf16)
    (r : Fin 128) (j : Fin 3712) :
    k0_pay3 P0 P1 P2 (ix2 r j) = proj (fun k => P0 (ix2 r k)) (fun k => P1 (ix2 0 k)) (fun k => P2 (ix2 k j)) := by
  pointwise [k0_pay3, proj, rms, rinv]

/-! ## The arrays that the region is entered with -/

theorem V_x (n : Fin 128) (k : Fin 1024) : (V m c main_v0 : S128x1024.Idx → EReal) (ix2 n k)
    = X m c (ix3 ⟨n.val / 4, by omega⟩ ⟨n.val % 4, by omega⟩ k) := by
  have h : (V m c main_v0 : S128x1024.Idx → EReal) = shapeCast S128x1024 (X m c) shapeCasts_S32x4x1024_S128x1024 := by
    show StableHlo.after (List.flatten [hostOps0, hostOps0_1, hostOps0_2]) _ _ = _
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise

theorem V_ln (k : Fin 1024) : (V m c main_v1 : S1x1024.Idx → EReal) (ix2 0 k) = Ln m c (ix1 k) := by
  have h : (V m c main_v1 : S1x1024.Idx → EReal) = shapeCast S1x1024 (Ln m c) shapeCasts_S1024_S1x1024 := by
    show StableHlo.after (List.flatten [hostOps0, hostOps0_1, hostOps0_2]) _ _ = _
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise

theorem V_qn (k : Fin 128) : (V m c main_v8 : S1x128.Idx → EReal) (ix2 0 k) = Qn m c (ix1 k) := by
  have h : (V m c main_v8 : S1x128.Idx → EReal) = shapeCast S1x128 (Qn m c) shapeCasts_S128_S1x128 := by
    show StableHlo.after (List.flatten [hostOps0, hostOps0_1, hostOps0_2]) _ _ = _
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise

theorem V_kn (k : Fin 128) : (V m c main_v9 : S1x128.Idx → EReal) (ix2 0 k) = Kn m c (ix1 k) := by
  have h : (V m c main_v9 : S1x128.Idx → EReal) = shapeCast S1x128 (Kn m c) shapeCasts_S128_S1x128 := by
    show StableHlo.after (List.flatten [hostOps0, hostOps0_1, hostOps0_2]) _ _ = _
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise

theorem V_w (k : Fin 1024) (j : Fin 3712) :
    (V m c main_v7 : S1024x3712.Idx → EReal) (ix2 k j) = colOf (fun a b => W m c (ix2 a b)) j k := by
  have h : (V m c main_v7 : S1024x3712.Idx → EReal) = truncf (F := Ideal) (φ := .f32) .bf16 (concatenate S1024x3712 1
      [⟨S1024x2048, extractStridedSlice S1024x2048 ![0, 0] (W m c) slices_S1024x3592_S1024x2048_0_0⟩,
       ⟨S1024x1536, extractStridedSlice S1024x1536 ![0, 2056] (W m c) slices_S1024x3592_S1024x1536_0_2056⟩,
       ⟨S1024x128, pad S1024x128 ![0, 0] ![0, 120] ![0, 0] (extractStridedSlice S1024x8 ![0, 2048] (W m c) slices_S1024x3592_S1024x8_0_2048)
         (sitofp (F := Ideal) .f32 (constantI S_ 32 0#32)) pads_S1024x8_S1024x128_000_01200 h_S_⟩]
      concatenates_S1024x2048_S1024x1536_S1024x128_S1024x3712_d1) bitsLt_bf16_f32 := by
    show StableHlo.after (List.flatten [hostOps0, hostOps0_1, hostOps0_2]) _ _ = _
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  have hz : (FloatOps.sitofp (F := Ideal) FTy.f32 (0#32 : BitVec 32)) = (0 : EReal) := by
    show ((((0#32 : BitVec 32).toInt : ℤ) : ℝ) : EReal) = 0
    simp
  refine Eq.trans ?_ (colOf_packed (fun a b => W m c (ix2 a b)) j.val k)
  pointwise [hz]

/-! ## The blocks: one point, whole arrays -/

theorem ix_all : ∀ t : Fin cfg0.N, (win0_0.index t 0 = 0 ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) :=
  (by decide +kernel : ∀ t : Fin grid0.N, (win0_0.index t 0 = 0 ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0))

theorem blk_x (t : Fin cfg0.N) (r : Fin 128) (k : Fin 1024) : (iblk m c 0 t : S128x1024.Idx → EReal) (ix2 r k)
    = X m c (ix3 ⟨r.val / 4, by omega⟩ ⟨r.val % 4, by omega⟩ k) := by
  rw [← V_x m c r k]
  unfold iblk
  rw [View.read_apply]
  show (V m c main_v0 : S128x1024.Idx → EReal) _ = (V m c main_v0 : S128x1024.Idx → EReal) _
  refine congrArg _ (funext fun a => Fin.ext ?_)
  match a with
  | ⟨0, _⟩ => show win0_0.index t 0 * 128 + 1 * r.val = r.val; rw [(ix_all t).1.1]; omega
  | ⟨1, _⟩ => show win0_0.index t 1 * 1024 + 1 * k.val = k.val; rw [(ix_all t).1.2]; omega

theorem blk_ln (t : Fin cfg0.N) (k : Fin 1024) : (iblk m c 1 t : S1x1024.Idx → EReal) (ix2 0 k) = Ln m c (ix1 k) := by
  rw [← V_ln m c k]
  unfold iblk
  rw [View.read_apply]
  show (V m c main_v1 : S1x1024.Idx → EReal) _ = (V m c main_v1 : S1x1024.Idx → EReal) _
  refine congrArg _ (funext fun a => Fin.ext ?_)
  match a with
  | ⟨0, _⟩ => show win0_1.index t 0 * 1 + 1 * 0 = 0; rw [(ix_all t).2.1.1]
  | ⟨1, _⟩ => show win0_1.index t 1 * 1024 + 1 * k.val = k.val; rw [(ix_all t).2.1.2]; omega

theorem blk_w (t : Fin cfg0.N) (k : Fin 1024) (j : Fin 3712) : (iblk m c 2 t : S1024x3712.Idx → EReal) (ix2 k j)
    = colOf (fun a b => W m c (ix2 a b)) j k := by
  rw [← V_w m c k j]
  unfold iblk
  rw [View.read_apply]
  show (V m c main_v7 : S1024x3712.Idx → EReal) _ = (V m c main_v7 : S1024x3712.Idx → EReal) _
  refine congrArg _ (funext fun a => Fin.ext ?_)
  match a with
  | ⟨0, _⟩ => show win0_2.index t 0 * 1024 + 1 * k.val = k.val; rw [(ix_all t).2.2.1.1]; omega
  | ⟨1, _⟩ => show win0_2.index t 1 * 3712 + 1 * j.val = j.val; rw [(ix_all t).2.2.1.2]; omega

theorem blk_qn (t : Fin cfg0.N) (k : Fin 128) : (iblk m c 3 t : S1x128.Idx → EReal) (ix2 0 k) = Qn m c (ix1 k) := by
  rw [← V_qn m c k]
  unfold iblk
  rw [View.read_apply]
  show (V m c main_v8 : S1x128.Idx → EReal) _ = (V m c main_v8 : S1x128.Idx → EReal) _
  refine congrArg _ (funext fun a => Fin.ext ?_)
  match a with
  | ⟨0, _⟩ => show win0_3.index t 0 * 1 + 1 * 0 = 0; rw [(ix_all t).2.2.2.1.1]
  | ⟨1, _⟩ => show win0_3.index t 1 * 128 + 1 * k.val = k.val; rw [(ix_all t).2.2.2.1.2]; omega

theorem blk_kn (t : Fin cfg0.N) (k : Fin 128) : (iblk m c 4 t : S1x128.Idx → EReal) (ix2 0 k) = Kn m c (ix1 k) := by
  rw [← V_kn m c k]
  unfold iblk
  rw [View.read_apply]
  show (V m c main_v9 : S1x128.Idx → EReal) _ = (V m c main_v9 : S1x128.Idx → EReal) _
  refine congrArg _ (funext fun a => Fin.ext ?_)
  match a with
  | ⟨0, _⟩ => show win0_4.index t 0 * 1 + 1 * 0 = 0; rw [(ix_all t).2.2.2.2.1.1]
  | ⟨1, _⟩ => show win0_4.index t 1 * 128 + 1 * k.val = k.val; rw [(ix_all t).2.2.2.2.1.2]; omega

/-- The product over the blocks is the whole array's entry. -/
theorem pay3_blk (t : Fin cfg0.N) (r : Fin 128) (j : Fin 3712) :
    k0_pay3 (iblk m c 0 t) (iblk m c 1 t) (iblk m c 2 t) (ix2 r j) = H m c r j := by
  rw [pay3_apply]
  unfold H
  simp only [blk_x, blk_ln, blk_w]

/-! ## The result arrays -/

def G5 : S128x1536.Idx → EReal := fun i => H m c (i 0) (i 1).val
def G6 : S128x512.Idx → EReal := fun i => H m c (i 0) ((i 1).val + 1536)
def G7 : S128x128.Idx → EReal := fun i => H m c (i 0) ((i 1).val + 3584)
/-- A row's heads normalised, the heads laid side by side. -/
def G8 : S128x512.Idx → EReal := fun i =>
  rms 0x43000000#32 (fun d : Fin 128 => H m c (i 0) ((i 1).val / 128 * 128 + d.val + 2048)) (fun d => Qn m c (ix1 d)) ⟨(i 1).val % 128, by omega⟩
def G9 : S128x512.Idx → EReal := fun i =>
  rms 0x43000000#32 (fun d : Fin 128 => H m c (i 0) ((i 1).val / 128 * 128 + d.val + 2560)) (fun d => Kn m c (ix1 d)) ⟨(i 1).val % 128, by omega⟩
def G10 : S128x512.Idx → EReal := fun i => H m c (i 0) ((i 1).val + 3072)

theorem hz2 : (![0, 0] : Fin 2 → Nat) = fun _ => 0 := funext fun a => by fin_cases a <;> rfl

theorem emb5 (t : Fin cfg0.N) (y0 : Fin 128) (y1 : Fin 1536) :
    (((cfg0.win 5).blk t).view.emb (ix2 y0 y1) : S128x1536.Idx) = ix2 y0 y1 := by
  funext a
  apply Fin.ext
  match a with
  | ⟨0, _⟩ => show win0_5.index t 0 * 128 + 1 * y0.val = y0.val; rw [(ix_all t).2.2.2.2.2.1.1]; omega
  | ⟨1, _⟩ => show win0_5.index t 1 * 1536 + 1 * y1.val = y1.val; rw [(ix_all t).2.2.2.2.2.1.2]; omega

theorem cover5 (i : S128x1536.Idx) : ∃ t : Fin cfg0.N, (cfg0.win 5).flush t = true ∧ i ∈ ((cfg0.win 5).blk t).view.set := by
  have i0 : (i 0).val < 128 := (i 0).isLt
  have i1 : (i 1).val < 1536 := (i 1).isLt
  obtain ⟨t, ht⟩ : ∃ t : Fin cfg0.N, t.val = 0 := ⟨⟨0, by show 0 < 1; omega⟩, rfl⟩
  refine ⟨t, flush0_5 _, ?_⟩
  show i ∈ ((View.whole main_v10_0).slice (win0_5.rect t)).set
  rw [View.set_slice_whole, Rect.mem_set_unit]
  intro a
  match a with
  | ⟨0, _⟩ => show win0_5.index t 0 * 128 ≤ (i 0 : Nat) ∧ (i 0 : Nat) < win0_5.index t 0 * 128 + 128
              rw [(ix_all t).2.2.2.2.2.1.1]; omega
  | ⟨1, _⟩ => show win0_5.index t 1 * 1536 ≤ (i 1 : Nat) ∧ (i 1 : Nat) < win0_5.index t 1 * 1536 + 1536
              rw [(ix_all t).2.2.2.2.2.1.2]; omega

theorem emb6 (t : Fin cfg0.N) (y0 : Fin 128) (y1 : Fin 512) :
    (((cfg0.win 6).blk t).view.emb (ix2 y0 y1) : S128x512.Idx) = ix2 y0 y1 := by
  funext a
  apply Fin.ext
  match a with
  | ⟨0, _⟩ => show win0_6.index t 0 * 128 + 1 * y0.val = y0.val; rw [(ix_all t).2.2.2.2.2.2.1.1]; omega
  | ⟨1, _⟩ => show win0_6.index t 1 * 512 + 1 * y1.val = y1.val; rw [(ix_all t).2.2.2.2.2.2.1.2]; omega

theorem cover6 (i : S128x512.Idx) : ∃ t : Fin cfg0.N, (cfg0.win 6).flush t = true ∧ i ∈ ((cfg0.win 6).blk t).view.set := by
  have i0 : (i 0).val < 128 := (i 0).isLt
  have i1 : (i 1).val < 512 := (i 1).isLt
  obtain ⟨t, ht⟩ : ∃ t : Fin cfg0.N, t.val = 0 := ⟨⟨0, by show 0 < 1; omega⟩, rfl⟩
  refine ⟨t, flush0_6 _, ?_⟩
  show i ∈ ((View.whole main_v10_1).slice (win0_6.rect t)).set
  rw [View.set_slice_whole, Rect.mem_set_unit]
  intro a
  match a with
  | ⟨0, _⟩ => show win0_6.index t 0 * 128 ≤ (i 0 : Nat) ∧ (i 0 : Nat) < win0_6.index t 0 * 128 + 128
              rw [(ix_all t).2.2.2.2.2.2.1.1]; omega
  | ⟨1, _⟩ => show win0_6.index t 1 * 512 ≤ (i 1 : Nat) ∧ (i 1 : Nat) < win0_6.index t 1 * 512 + 512
              rw [(ix_all t).2.2.2.2.2.2.1.2]; omega

theorem emb7 (t : Fin cfg0.N) (y0 : Fin 128) (y1 : Fin 128) :
    (((cfg0.win 7).blk t).view.emb (ix2 y0 y1) : S128x128.Idx) = ix2 y0 y1 := by
  funext a
  apply Fin.ext
  match a with
  | ⟨0, _⟩ => show win0_7.index t 0 * 128 + 1 * y0.val = y0.val; rw [(ix_all t).2.2.2.2.2.2.2.1.1]; omega
  | ⟨1, _⟩ => show win0_7.index t 1 * 128 + 1 * y1.val = y1.val; rw [(ix_all t).2.2.2.2.2.2.2.1.2]; omega

theorem cover7 (i : S128x128.Idx) : ∃ t : Fin cfg0.N, (cfg0.win 7).flush t = true ∧ i ∈ ((cfg0.win 7).blk t).view.set := by
  have i0 : (i 0).val < 128 := (i 0).isLt
  have i1 : (i 1).val < 128 := (i 1).isLt
  obtain ⟨t, ht⟩ : ∃ t : Fin cfg0.N, t.val = 0 := ⟨⟨0, by show 0 < 1; omega⟩, rfl⟩
  refine ⟨t, flush0_7 _, ?_⟩
  show i ∈ ((View.whole main_v10_2).slice (win0_7.rect t)).set
  rw [View.set_slice_whole, Rect.mem_set_unit]
  intro a
  match a with
  | ⟨0, _⟩ => show win0_7.index t 0 * 128 ≤ (i 0 : Nat) ∧ (i 0 : Nat) < win0_7.index t 0 * 128 + 128
              rw [(ix_all t).2.2.2.2.2.2.2.1.1]; omega
  | ⟨1, _⟩ => show win0_7.index t 1 * 128 ≤ (i 1 : Nat) ∧ (i 1 : Nat) < win0_7.index t 1 * 128 + 128
              rw [(ix_all t).2.2.2.2.2.2.2.1.2]; omega

theorem emb8 (t : Fin cfg0.N) (y0 : Fin 128) (y1 : Fin 512) :
    (((cfg0.win 8).blk t).view.emb (ix2 y0 y1) : S128x512.Idx) = ix2 y0 y1 := by
  funext a
  apply Fin.ext
  match a with
  | ⟨0, _⟩ => show win0_8.index t 0 * 128 + 1 * y0.val = y0.val; rw [(ix_all t).2.2.2.2.2.2.2.2.1.1]; omega
  | ⟨1, _⟩ => show win0_8.index t 1 * 512 + 1 * y1.val = y1.val; rw [(ix_all t).2.2.2.2.2.2.2.2.1.2]; omega

theorem cover8 (i : S128x512.Idx) : ∃ t : Fin cfg0.N, (cfg0.win 8).flush t = true ∧ i ∈ ((cfg0.win 8).blk t).view.set := by
  have i0 : (i 0).val < 128 := (i 0).isLt
  have i1 : (i 1).val < 512 := (i 1).isLt
  obtain ⟨t, ht⟩ : ∃ t : Fin cfg0.N, t.val = 0 := ⟨⟨0, by show 0 < 1; omega⟩, rfl⟩
  refine ⟨t, flush0_8 _, ?_⟩
  show i ∈ ((View.whole main_v10_3).slice (win0_8.rect t)).set
  rw [View.set_slice_whole, Rect.mem_set_unit]
  intro a
  match a with
  | ⟨0, _⟩ => show win0_8.index t 0 * 128 ≤ (i 0 : Nat) ∧ (i 0 : Nat) < win0_8.index t 0 * 128 + 128
              rw [(ix_all t).2.2.2.2.2.2.2.2.1.1]; omega
  | ⟨1, _⟩ => show win0_8.index t 1 * 512 ≤ (i 1 : Nat) ∧ (i 1 : Nat) < win0_8.index t 1 * 512 + 512
              rw [(ix_all t).2.2.2.2.2.2.2.2.1.2]; omega

theorem emb9 (t : Fin cfg0.N) (y0 : Fin 128) (y1 : Fin 512) :
    (((cfg0.win 9).blk t).view.emb (ix2 y0 y1) : S128x512.Idx) = ix2 y0 y1 := by
  funext a
  apply Fin.ext
  match a with
  | ⟨0, _⟩ => show win0_9.index t 0 * 128 + 1 * y0.val = y0.val; rw [(ix_all t).2.2.2.2.2.2.2.2.2.1.1]; omega
  | ⟨1, _⟩ => show win0_9.index t 1 * 512 + 1 * y1.val = y1.val; rw [(ix_all t).2.2.2.2.2.2.2.2.2.1.2]; omega

theorem cover9 (i : S128x512.Idx) : ∃ t : Fin cfg0.N, (cfg0.win 9).flush t = true ∧ i ∈ ((cfg0.win 9).blk t).view.set := by
  have i0 : (i 0).val < 128 := (i 0).isLt
  have i1 : (i 1).val < 512 := (i 1).isLt
  obtain ⟨t, ht⟩ : ∃ t : Fin cfg0.N, t.val = 0 := ⟨⟨0, by show 0 < 1; omega⟩, rfl⟩
  refine ⟨t, flush0_9 _, ?_⟩
  show i ∈ ((View.whole main_v10_4).slice (win0_9.rect t)).set
  rw [View.set_slice_whole, Rect.mem_set_unit]
  intro a
  match a with
  | ⟨0, _⟩ => show win0_9.index t 0 * 128 ≤ (i 0 : Nat) ∧ (i 0 : Nat) < win0_9.index t 0 * 128 + 128
              rw [(ix_all t).2.2.2.2.2.2.2.2.2.1.1]; omega
  | ⟨1, _⟩ => show win0_9.index t 1 * 512 ≤ (i 1 : Nat) ∧ (i 1 : Nat) < win0_9.index t 1 * 512 + 512
              rw [(ix_all t).2.2.2.2.2.2.2.2.2.1.2]; omega

theorem emb10 (t : Fin cfg0.N) (y0 : Fin 128) (y1 : Fin 512) :
    (((cfg0.win 10).blk t).view.emb (ix2 y0 y1) : S128x512.Idx) = ix2 y0 y1 := by
  funext a
  apply Fin.ext
  match a with
  | ⟨0, _⟩ => show win0_10.index t 0 * 128 + 1 * y0.val = y0.val; rw [(ix_all t).2.2.2.2.2.2.2.2.2.2.1]; omega
  | ⟨1, _⟩ => show win0_10.index t 1 * 512 + 1 * y1.val = y1.val; rw [(ix_all t).2.2.2.2.2.2.2.2.2.2.2]; omega

theorem cover10 (i : S128x512.Idx) : ∃ t : Fin cfg0.N, (cfg0.win 10).flush t = true ∧ i ∈ ((cfg0.win 10).blk t).view.set := by
  have i0 : (i 0).val < 128 := (i 0).isLt
  have i1 : (i 1).val < 512 := (i 1).isLt
  obtain ⟨t, ht⟩ : ∃ t : Fin cfg0.N, t.val = 0 := ⟨⟨0, by show 0 < 1; omega⟩, rfl⟩
  refine ⟨t, flush0_10 _, ?_⟩
  show i ∈ ((View.whole main_v10_5).slice (win0_10.rect t)).set
  rw [View.set_slice_whole, Rect.mem_set_unit]
  intro a
  match a with
  | ⟨0, _⟩ => show win0_10.index t 0 * 128 ≤ (i 0 : Nat) ∧ (i 0 : Nat) < win0_10.index t 0 * 128 + 128
              rw [(ix_all t).2.2.2.2.2.2.2.2.2.2.1]; omega
  | ⟨1, _⟩ => show win0_10.index t 1 * 512 ≤ (i 1 : Nat) ∧ (i 1 : Nat) < win0_10.index t 1 * 512 + 512
              rw [(ix_all t).2.2.2.2.2.2.2.2.2.2.2]; omega

/-- A head output, from the product and the norm's weights: the normalised heads from column `o` on. -/
def E8 (hd : S128x3712.Idx → EReal) (q : S1x128.Idx → EReal) (o : Nat) (ho : o ≤ 3200) (y : S128x512.Idx) : EReal :=
  rms 0x43000000#32 (fun d : Fin 128 => hd (ix2 (y 0) ⟨(y 1).val / 128 * 128 + d.val + o, by have : (y 1).val < 512 := (y 1).isLt; omega⟩))
    (fun d => q (ix2 0 d)) ⟨(y 1).val % 128, by omega⟩

/-- At column `f` of head `j`. -/
theorem E8_at (hd : S128x3712.Idx → EReal) (q : S1x128.Idx → EReal) (o : Nat) (ho : o ≤ 3200) (a : Fin 128) (j : Nat) (hj : j < 4) (f : Fin 128)
    (y : S128x512.Idx) (h0 : (y 0).val = a.val) (h1 : (y 1).val = j * 128 + f.val) :
    E8 hd q o ho y = rms 0x43000000#32 (fun d : Fin 128 => hd (ix2 a ⟨j * 128 + o + d.val, by omega⟩)) (fun d => q (ix2 0 d)) f := by
  unfold E8
  have e0 : y 0 = a := Fin.ext h0
  have e1 : (⟨(y 1).val % 128, by omega⟩ : Fin 128) = f := Fin.ext (by show (y 1).val % 128 = f.val; omega)
  have e2 : ∀ d : Fin 128, (⟨(y 1).val / 128 * 128 + d.val + o, by have : (y 1).val < 512 := (y 1).isLt; omega⟩ : Fin 3712) = ⟨j * 128 + o + d.val, by omega⟩ :=
    fun d => Fin.ext (by show (y 1).val / 128 * 128 + d.val + o = j * 128 + o + d.val; omega)
  simp only [e1, e2, e0]

theorem piece8_3 (hd : FVec Ideal S128x3712 .f32) (q : Vec Ideal S1x128 .f32) (x : S128x128.Idx) :
    k0_pay24 hd q x = E8 hd q 2048 (by omega) (r0_10.idx x) := by
  obtain ⟨a, f, rfl⟩ : ∃ (a : Fin 128) (f : Fin 128), x = ix2 a f := ⟨x 0, x 1, eq_ix2 x⟩
  rw [E8_at _ _ _ _ a 3 (by omega) f _ (by show 0 + 1 * a.val = a.val; omega) (by show 384 + 1 * f.val = 3 * 128 + f.val; omega)]
  pointwise [k0_pay24, rms, rinv]

theorem piece8_2 (hd : FVec Ideal S128x3712 .f32) (q : Vec Ideal S1x128 .f32) (x : S128x128.Idx) :
    k0_pay18 hd q x = E8 hd q 2048 (by omega) (r0_9.idx x) := by
  obtain ⟨a, f, rfl⟩ : ∃ (a : Fin 128) (f : Fin 128), x = ix2 a f := ⟨x 0, x 1, eq_ix2 x⟩
  rw [E8_at _ _ _ _ a 2 (by omega) f _ (by show 0 + 1 * a.val = a.val; omega) (by show 256 + 1 * f.val = 2 * 128 + f.val; omega)]
  pointwise [k0_pay18, rms, rinv]

theorem piece8_1 (hd : FVec Ideal S128x3712 .f32) (q : Vec Ideal S1x128 .f32) (x : S128x128.Idx) :
    k0_pay14 hd q x = E8 hd q 2048 (by omega) (r0_8.idx x) := by
  obtain ⟨a, f, rfl⟩ : ∃ (a : Fin 128) (f : Fin 128), x = ix2 a f := ⟨x 0, x 1, eq_ix2 x⟩
  rw [E8_at _ _ _ _ a 1 (by omega) f _ (by show 0 + 1 * a.val = a.val; omega) (by show 128 + 1 * f.val = 1 * 128 + f.val; omega)]
  pointwise [k0_pay14, rms, rinv]

theorem piece8_0 (P0 : Vec Ideal S128x1024 .f32) (P1 : Vec Ideal S1x1024 .f32) (P2 : Vec Ideal S1024x3712 .bf16) (q : Vec Ideal S1x128 .f32) (x : S128x128.Idx) :
    k0_pay11 (k0_pay7 P0 P1 P2) (k0_pay8 q) (k0_pay9 P0 P1 P2) (k0_pay10 (F := Ideal)) x = E8 (k0_pay3 P0 P1 P2) q 2048 (by omega) (r0_7.idx x) := by
  obtain ⟨a, f, rfl⟩ : ∃ (a : Fin 128) (f : Fin 128), x = ix2 a f := ⟨x 0, x 1, eq_ix2 x⟩
  rw [E8_at _ _ _ _ a 0 (by omega) f _ (by show 0 + 1 * a.val = a.val; omega) (by show 0 + 1 * f.val = 0 * 128 + f.val; omega)]
  pointwise [k0_pay11, k0_pay7, k0_pay8, k0_pay9, k0_pay10, rms, rinv]

theorem piece9_3 (hd : FVec Ideal S128x3712 .f32) (q : Vec Ideal S1x128 .f32) (x : S128x128.Idx) :
    k0_pay1 (k0_pay25 hd) (k0_pay26 q) (k0_pay27 hd) x = E8 hd q 2560 (by omega) (r0_10.idx x) := by
  obtain ⟨a, f, rfl⟩ : ∃ (a : Fin 128) (f : Fin 128), x = ix2 a f := ⟨x 0, x 1, eq_ix2 x⟩
  rw [E8_at _ _ _ _ a 3 (by omega) f _ (by show 0 + 1 * a.val = a.val; omega) (by show 384 + 1 * f.val = 3 * 128 + f.val; omega)]
  pointwise [k0_pay1, k0_pay25, k0_pay26, k0_pay27, rms, rinv]

theorem piece9_2 (hd : FVec Ideal S128x3712 .f32) (q : Vec Ideal S1x128 .f32) (x : S128x128.Idx) :
    k0_pay22 (k0_pay19 hd) (k0_pay20 q) (k0_pay21 hd) x = E8 hd q 2560 (by omega) (r0_9.idx x) := by
  obtain ⟨a, f, rfl⟩ : ∃ (a : Fin 128) (f : Fin 128), x = ix2 a f := ⟨x 0, x 1, eq_ix2 x⟩
  rw [E8_at _ _ _ _ a 2 (by omega) f _ (by show 0 + 1 * a.val = a.val; omega) (by show 256 + 1 * f.val = 2 * 128 + f.val; omega)]
  pointwise [k0_pay22, k0_pay19, k0_pay20, k0_pay21, rms, rinv]

theorem piece9_1 (hd : FVec Ideal S128x3712 .f32) (q : Vec Ideal S1x128 .f32) (x : S128x128.Idx) :
    k0_pay16 (k0_pay15 hd) q x = E8 hd q 2560 (by omega) (r0_8.idx x) := by
  obtain ⟨a, f, rfl⟩ : ∃ (a : Fin 128) (f : Fin 128), x = ix2 a f := ⟨x 0, x 1, eq_ix2 x⟩
  rw [E8_at _ _ _ _ a 1 (by omega) f _ (by show 0 + 1 * a.val = a.val; omega) (by show 128 + 1 * f.val = 1 * 128 + f.val; omega)]
  pointwise [k0_pay16, k0_pay15, rms, rinv]

theorem piece9_0 (hd : FVec Ideal S128x3712 .f32) (q : Vec Ideal S1x128 .f32) (x : S128x128.Idx) :
    k0_pay12 hd q x = E8 hd q 2560 (by omega) (r0_7.idx x) := by
  obtain ⟨a, f, rfl⟩ : ∃ (a : Fin 128) (f : Fin 128), x = ix2 a f := ⟨x 0, x 1, eq_ix2 x⟩
  rw [E8_at _ _ _ _ a 0 (by omega) f _ (by show 0 + 1 * a.val = a.val; omega) (by show 0 + 1 * f.val = 0 * 128 + f.val; omega)]
  pointwise [k0_pay12, rms, rinv]

/-- The values' block: the columns from 3072 on. -/
def E0 (hd : S128x3712.Idx → EReal) (y : S128x512.Idx) : EReal :=
  hd (ix2 (y 0) ⟨(y 1).val + 3072, by have : (y 1).val < 512 := (y 1).isLt; omega⟩)

theorem E0_at (hd : S128x3712.Idx → EReal) (a : Fin 128) (j : Nat) (hj : j < 4) (f : Fin 128)
    (y : S128x512.Idx) (h0 : (y 0).val = a.val) (h1 : (y 1).val = j * 128 + f.val) :
    E0 hd y = hd (ix2 a ⟨j * 128 + 3072 + f.val, by omega⟩) := by
  unfold E0
  have e0 : y 0 = a := Fin.ext h0
  have e2 : (⟨(y 1).val + 3072, by have : (y 1).val < 512 := (y 1).isLt; omega⟩ : Fin 3712) = ⟨j * 128 + 3072 + f.val, by omega⟩ :=
    Fin.ext (by show (y 1).val + 3072 = j * 128 + 3072 + f.val; omega)
  rw [e2, e0]

theorem piece10_0 (hd : FVec Ideal S128x3712 .f32) (x : S128x128.Idx) :
    k0_pay13 hd x = E0 hd (r0_7.idx x) := by
  obtain ⟨a, f, rfl⟩ : ∃ (a : Fin 128) (f : Fin 128), x = ix2 a f := ⟨x 0, x 1, eq_ix2 x⟩
  rw [E0_at _ a 0 (by omega) f _ (by show 0 + 1 * a.val = a.val; omega) (by show 0 + 1 * f.val = 0 * 128 + f.val; omega)]
  pointwise [k0_pay13]

theorem piece10_1 (hd : FVec Ideal S128x3712 .f32) (x : S128x128.Idx) :
    k0_pay17 hd x = E0 hd (r0_8.idx x) := by
  obtain ⟨a, f, rfl⟩ : ∃ (a : Fin 128) (f : Fin 128), x = ix2 a f := ⟨x 0, x 1, eq_ix2 x⟩
  rw [E0_at _ a 1 (by omega) f _ (by show 0 + 1 * a.val = a.val; omega) (by show 128 + 1 * f.val = 1 * 128 + f.val; omega)]
  pointwise [k0_pay17]

theorem piece10_2 (hd : FVec Ideal S128x3712 .f32) (x : S128x128.Idx) :
    k0_pay23 hd x = E0 hd (r0_9.idx x) := by
  obtain ⟨a, f, rfl⟩ : ∃ (a : Fin 128) (f : Fin 128), x = ix2 a f := ⟨x 0, x 1, eq_ix2 x⟩
  rw [E0_at _ a 2 (by omega) f _ (by show 0 + 1 * a.val = a.val; omega) (by show 256 + 1 * f.val = 2 * 128 + f.val; omega)]
  pointwise [k0_pay23]

theorem piece10_3 (hd : FVec Ideal S128x3712 .f32) (x : S128x128.Idx) :
    k0_pay2 hd x = E0 hd (r0_10.idx x) := by
  obtain ⟨a, f, rfl⟩ : ∃ (a : Fin 128) (f : Fin 128), x = ix2 a f := ⟨x 0, x 1, eq_ix2 x⟩
  rw [E0_at _ a 3 (by omega) f _ (by show 0 + 1 * a.val = a.val; omega) (by show 384 + 1 * f.val = 3 * 128 + f.val; omega)]
  pointwise [k0_pay2]

theorem val5 : (dats m 0 c).arrAt 5 cfg0.N = G5 m c := by
  refine (dats m 0 c).arrAt_eq_of_cover 5 (G5 m c) (fun t _ => ?_) cover5
  rw [flushed5]
  funext y
  obtain ⟨y0, y1, rfl⟩ : ∃ (a : Fin 128) (b : Fin 1536), y = ix2 a b := ⟨y 0, y 1, eq_ix2 y⟩
  rw [View.read_apply]
  show (out0_5 (iblk m c 0 t) (iblk m c 1 t) (iblk m c 2 t) (iblk m c 3 t) (iblk m c 4 t) (ix2 y0 y1) : EReal) = G5 m c _
  unfold_out out0_5
  refine (canon5_eq _ _ _ _).trans ?_
  rw [View.ld_unit_zero hz2, View.ld_unit_zero hz2, View.ld_unit_zero hz2]
  refine ((congrArg _ ?_).trans (pay3_blk m c t y0 ⟨y1.val, by omega⟩)).trans ?_
  · funext a; apply Fin.ext; match a with | ⟨0, _⟩ => rfl | ⟨1, _⟩ => rfl
  · exact (congrArg (G5 m c) (emb5 t y0 y1)).symm

theorem val6 : (dats m 0 c).arrAt 6 cfg0.N = G6 m c := by
  refine (dats m 0 c).arrAt_eq_of_cover 6 (G6 m c) (fun t _ => ?_) cover6
  rw [flushed6]
  funext y
  obtain ⟨y0, y1, rfl⟩ : ∃ (a : Fin 128) (b : Fin 512), y = ix2 a b := ⟨y 0, y 1, eq_ix2 y⟩
  rw [View.read_apply]
  show (out0_6 (iblk m c 0 t) (iblk m c 1 t) (iblk m c 2 t) (iblk m c 3 t) (iblk m c 4 t) (ix2 y0 y1) : EReal) = G6 m c _
  unfold_out out0_6
  refine (canon6_eq _ _ _ _).trans ?_
  rw [View.ld_unit_zero hz2, View.ld_unit_zero hz2, View.ld_unit_zero hz2]
  refine ((congrArg _ ?_).trans (pay3_blk m c t y0 ⟨y1.val + 1536, by omega⟩)).trans ?_
  · funext a; apply Fin.ext; match a with | ⟨0, _⟩ => rfl | ⟨1, _⟩ => rfl
  · exact (congrArg (G6 m c) (emb6 t y0 y1)).symm

theorem val7 : (dats m 0 c).arrAt 7 cfg0.N = G7 m c := by
  refine (dats m 0 c).arrAt_eq_of_cover 7 (G7 m c) (fun t _ => ?_) cover7
  rw [flushed7]
  funext y
  obtain ⟨y0, y1, rfl⟩ : ∃ (a : Fin 128) (b : Fin 128), y = ix2 a b := ⟨y 0, y 1, eq_ix2 y⟩
  rw [View.read_apply]
  show (out0_7 (iblk m c 0 t) (iblk m c 1 t) (iblk m c 2 t) (iblk m c 3 t) (iblk m c 4 t) (ix2 y0 y1) : EReal) = G7 m c _
  unfold_out out0_7
  refine (canon7_eq _ _ _ _).trans ?_
  rw [View.ld_unit_zero hz2, View.ld_unit_zero hz2, View.ld_unit_zero hz2]
  refine ((congrArg _ ?_).trans (pay3_blk m c t y0 ⟨y1.val + 3584, by omega⟩)).trans ?_
  · funext a; apply Fin.ext; match a with | ⟨0, _⟩ => rfl | ⟨1, _⟩ => rfl
  · exact (congrArg (G7 m c) (emb7 t y0 y1)).symm

theorem val8 : (dats m 0 c).arrAt 8 cfg0.N = G8 m c := by
  refine (dats m 0 c).arrAt_eq_of_cover 8 (G8 m c) (fun t _ => ?_) cover8
  rw [flushed8]
  funext y
  obtain ⟨y0, y1, rfl⟩ : ∃ (a : Fin 128) (b : Fin 512), y = ix2 a b := ⟨y 0, y 1, eq_ix2 y⟩
  rw [View.read_apply]
  show (out0_8 (iblk m c 0 t) (iblk m c 1 t) (iblk m c 2 t) (iblk m c 3 t) (iblk m c 4 t) (ix2 y0 y1) : EReal) = G8 m c _
  unfold_out out0_8
  rw [View.ld_unit_zero hz2, View.ld_unit_zero hz2, View.ld_unit_zero hz2, View.ld_unit_zero hz2]
  refine (View.canon_apply_of_pieces (E8 (k0_pay3 (iblk m c 0 t) (iblk m c 1 t) (iblk m c 2 t)) (iblk m c 3 t) 2048 (by omega)) _ ?_ _ (cover0_8 _ _ _ _ _)).trans ?_
  · intro pc hpc
    rcases List.mem_cons.mp hpc with rfl | hpc
    · intro x; exact piece8_3 _ _ x
    rcases List.mem_cons.mp hpc with rfl | hpc
    · intro x; exact piece8_2 _ _ x
    rcases List.mem_cons.mp hpc with rfl | hpc
    · intro x; exact piece8_1 _ _ x
    rcases List.mem_cons.mp hpc with rfl | hpc
    · intro x; exact piece8_0 _ _ _ _ x
    nomatch hpc
  · refine Eq.trans ?_ (congrArg (G8 m c) (emb8 t y0 y1)).symm
    unfold E8 G8
    show rms _ (fun d : Fin 128 => (k0_pay3 (iblk m c 0 t) (iblk m c 1 t) (iblk m c 2 t)) (ix2 y0 ⟨y1.val / 128 * 128 + d.val + 2048, _⟩)) (fun d => (iblk m c 3 t : S1x128.Idx → EReal) (ix2 0 d)) _ = _
    simp only [pay3_blk, blk_qn]
    rfl

theorem val9 : (dats m 0 c).arrAt 9 cfg0.N = G9 m c := by
  refine (dats m 0 c).arrAt_eq_of_cover 9 (G9 m c) (fun t _ => ?_) cover9
  rw [flushed9]
  funext y
  obtain ⟨y0, y1, rfl⟩ : ∃ (a : Fin 128) (b : Fin 512), y = ix2 a b := ⟨y 0, y 1, eq_ix2 y⟩
  rw [View.read_apply]
  show (out0_9 (iblk m c 0 t) (iblk m c 1 t) (iblk m c 2 t) (iblk m c 3 t) (iblk m c 4 t) (ix2 y0 y1) : EReal) = G9 m c _
  unfold_out out0_9
  rw [View.ld_unit_zero hz2, View.ld_unit_zero hz2, View.ld_unit_zero hz2, View.ld_unit_zero hz2]
  refine (View.canon_apply_of_pieces (E8 (k0_pay3 (iblk m c 0 t) (iblk m c 1 t) (iblk m c 2 t)) (iblk m c 4 t) 2560 (by omega)) _ ?_ _ (cover0_9 _ _ _ _ _)).trans ?_
  · intro pc hpc
    rcases List.mem_cons.mp hpc with rfl | hpc
    · intro x; exact piece9_3 _ _ x
    rcases List.mem_cons.mp hpc with rfl | hpc
    · intro x; exact piece9_2 _ _ x
    rcases List.mem_cons.mp hpc with rfl | hpc
    · intro x; exact piece9_1 _ _ x
    rcases List.mem_cons.mp hpc with rfl | hpc
    · intro x; exact piece9_0 _ _ x
    nomatch hpc
  · refine Eq.trans ?_ (congrArg (G9 m c) (emb9 t y0 y1)).symm
    unfold E8 G9
    show rms _ (fun d : Fin 128 => (k0_pay3 (iblk m c 0 t) (iblk m c 1 t) (iblk m c 2 t)) (ix2 y0 ⟨y1.val / 128 * 128 + d.val + 2560, _⟩)) (fun d => (iblk m c 4 t : S1x128.Idx → EReal) (ix2 0 d)) _ = _
    simp only [pay3_blk, blk_kn]
    rfl

theorem val10 : (dats m 0 c).arrAt 10 cfg0.N = G10 m c := by
  refine (dats m 0 c).arrAt_eq_of_cover 10 (G10 m c) (fun t _ => ?_) cover10
  rw [flushed10]
  funext y
  obtain ⟨y0, y1, rfl⟩ : ∃ (a : Fin 128) (b : Fin 512), y = ix2 a b := ⟨y 0, y 1, eq_ix2 y⟩
  rw [View.read_apply]
  show (out0_10 (iblk m c 0 t) (iblk m c 1 t) (iblk m c 2 t) (iblk m c 3 t) (iblk m c 4 t) (ix2 y0 y1) : EReal) = G10 m c _
  unfold_out out0_10
  rw [View.ld_unit_zero hz2, View.ld_unit_zero hz2, View.ld_unit_zero hz2]
  refine (View.canon_apply_of_pieces (E0 (k0_pay3 (iblk m c 0 t) (iblk m c 1 t) (iblk m c 2 t))) _ ?_ _ (cover0_10 _ _ _ _ _)).trans ?_
  · intro pc hpc
    rcases List.mem_cons.mp hpc with rfl | hpc
    · intro x; exact piece10_3 (k0_pay3 (iblk m c 0 t) (iblk m c 1 t) (iblk m c 2 t)) x
    rcases List.mem_cons.mp hpc with rfl | hpc
    · intro x; exact piece10_2 (k0_pay3 (iblk m c 0 t) (iblk m c 1 t) (iblk m c 2 t)) x
    rcases List.mem_cons.mp hpc with rfl | hpc
    · intro x; exact piece10_1 (k0_pay3 (iblk m c 0 t) (iblk m c 1 t) (iblk m c 2 t)) x
    rcases List.mem_cons.mp hpc with rfl | hpc
    · intro x; exact piece10_0 (k0_pay3 (iblk m c 0 t) (iblk m c 1 t) (iblk m c 2 t)) x
    nomatch hpc
  · refine Eq.trans ?_ (congrArg (G10 m c) (emb10 t y0 y1)).symm
    exact pay3_blk m c t y0 ⟨y1.val + 3072, by omega⟩

end Cert.Proof.ProjSample

end
-- ==== Proof.ProjSampleRef.lean ====
/- The sample's projection on the reference's side: its six results, entry by entry. -/
module

public import proofs.«01_k».proof.Proof.ProjSpec
public import proofs.«01_k».proof.Proof.Gen.Reference3Ideal.Run

@[expose] public section

set_option maxRecDepth 16384

noncomputable section

namespace Cert.Proof.ProjSampleRef

open Idealize.ShloMosaic Idealize.ShloMosaic.TcCoe Idealize.SL.Sem
open Cert.Reference3Ideal Cert.Reference3Ideal.Value Cert.Proof.Proj

variable (m : (ℓ : Loc nD τ sig) → Buf (Elt Ideal) ℓ) (c : Dev nD)

/-- The arguments, as launched. -/
def X : S32x4x1024.Idx → EReal := m ((c.tc : Thread nD τ).loc main_arg0)
def Ln : S1024.Idx → EReal := m ((c.tc : Thread nD τ).loc main_arg1)
def W : S1024x3592.Idx → EReal := m ((c.tc : Thread nD τ).loc main_arg2)
def Qn : S128.Idx → EReal := m ((c.tc : Thread nD τ).loc main_arg3)
def Kn : S128.Idx → EReal := m ((c.tc : Thread nD τ).loc main_arg4)

/-- Token `s` of batch `b` against column `j` of the weights. -/
def P (b : Fin 32) (s : Fin 4) (j : Fin 3592) : EReal :=
  proj (fun k => X m c (ix3 b s k)) (fun k => Ln m c (ix1 k)) (fun k => W m c (ix2 k j))

def R5 : S128x1536.Idx → EReal := fun i =>
  P m c ⟨(i 0).val / 4, by have : (i 0).val < 128 := (i 0).isLt; omega⟩ ⟨(i 0).val % 4, by omega⟩ ⟨(i 1).val, by have : (i 1).val < 1536 := (i 1).isLt; omega⟩
def R6 : S128x512.Idx → EReal := fun i =>
  P m c ⟨(i 0).val / 4, by have : (i 0).val < 128 := (i 0).isLt; omega⟩ ⟨(i 0).val % 4, by omega⟩ ⟨1536 + (i 1).val, by have : (i 1).val < 512 := (i 1).isLt; omega⟩
def R7 : S128x128.Idx → EReal := fun i =>
  if h : (i 1).val < 8 then P m c ⟨(i 0).val / 4, by have : (i 0).val < 128 := (i 0).isLt; omega⟩ ⟨(i 0).val % 4, by omega⟩ ⟨2048 + (i 1).val, by omega⟩ else 0
def R8 : S128x512.Idx → EReal := fun i =>
  rms 0x43000000#32 (fun d : Fin 128 => P m c ⟨(i 0).val / 4, by have : (i 0).val < 128 := (i 0).isLt; omega⟩ ⟨(i 0).val % 4, by omega⟩ ⟨2056 + ((i 1).val / 128 * 128 + d.val), by have : (i 1).val < 512 := (i 1).isLt; omega⟩) (fun d => Qn m c (ix1 d)) ⟨(i 1).val % 128, by omega⟩
def R9 : S128x512.Idx → EReal := fun i =>
  rms 0x43000000#32 (fun d : Fin 128 => P m c ⟨(i 0).val / 4, by have : (i 0).val < 128 := (i 0).isLt; omega⟩ ⟨(i 0).val % 4, by omega⟩ ⟨2568 + ((i 1).val / 128 * 128 + d.val), by have : (i 1).val < 512 := (i 1).isLt; omega⟩) (fun d => Kn m c (ix1 d)) ⟨(i 1).val % 128, by omega⟩
def R10 : S128x512.Idx → EReal := fun i =>
  P m c ⟨(i 0).val / 4, by have : (i 0).val < 128 := (i 0).isLt; omega⟩ ⟨(i 0).val % 4, by omega⟩ ⟨3080 + (i 1).val, by have : (i 1).val < 512 := (i 1).isLt; omega⟩

theorem run (ρ : Dev nD → PrngReg) :
    θ_run defs (onTc (τ := τ) (main (F := Ideal))) ⟨m, fun _ => 0, ρ⟩ fun r => ∀ c : Dev nD,
      r.2.mem ((c.tc : Thread nD τ).loc main_v15) = R5 m c
      ∧ r.2.mem ((c.tc : Thread nD τ).loc main_v17) = R6 m c
      ∧ r.2.mem ((c.tc : Thread nD τ).loc main_v20) = R7 m c
      ∧ r.2.mem ((c.tc : Thread nD τ).loc main_v52) = R8 m c
      ∧ r.2.mem ((c.tc : Thread nD τ).loc main_v53) = R9 m c
      ∧ r.2.mem ((c.tc : Thread nD τ).loc main_v54) = R10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h5, h6, h7, h8, h9, h10, ha⟩ := h c
  refine ⟨h5.trans ?_, h6.trans ?_, h7.trans ?_, h8.trans ?_, h9.trans ?_, h10.trans ?_, ha⟩
  · funext i
    obtain ⟨a, b, rfl⟩ : ∃ (a : Fin 128) (b : Fin 1536), i = ix2 a b := ⟨i 0, i 1, eq_ix2 i⟩
    pointwise [R5, P, proj, rms, rinv, X, Ln, W]
  · funext i
    obtain ⟨a, b, rfl⟩ : ∃ (a : Fin 128) (b : Fin 512), i = ix2 a b := ⟨i 0, i 1, eq_ix2 i⟩
    pointwise [R6, P, proj, rms, rinv, X, Ln, W]
  · funext i
    obtain ⟨a, b, rfl⟩ : ∃ (a : Fin 128) (b : Fin 128), i = ix2 a b := ⟨i 0, i 1, eq_ix2 i⟩
    have hz : (FloatOps.sitofp FTy.f32 (0#32 : BitVec 32) : Ideal .f32) = (0 : EReal) := by simp [FloatOps.sitofp]
    pointwise [R7, P, proj, rms, rinv, X, Ln, W, hz]
  · funext i
    obtain ⟨a, b, rfl⟩ : ∃ (a : Fin 128) (b : Fin 512), i = ix2 a b := ⟨i 0, i 1, eq_ix2 i⟩
    pointwise [R8, P, proj, rms, rinv, X, Ln, W, Qn]
    simp only [Nat.div_add_mod']
  · funext i
    obtain ⟨a, b, rfl⟩ : ∃ (a : Fin 128) (b : Fin 512), i = ix2 a b := ⟨i 0, i 1, eq_ix2 i⟩
    pointwise [R9, P, proj, rms, rinv, X, Ln, W, Kn]
    simp only [Nat.div_add_mod']
  · funext i
    obtain ⟨a, b, rfl⟩ : ∃ (a : Fin 128) (b : Fin 512), i = ix2 a b := ⟨i 0, i 1, eq_ix2 i⟩
    pointwise [R10, P, proj, rms, rinv, X, Ln, W]

end Cert.Proof.ProjSampleRef

end
-- ==== Proof.ProjSampleClaim.lean ====
/- The sample's projection: the kernel's six results and the reference's are the same entries. -/
module

public import proofs.«01_k».proof.Defs
public import proofs.«01_k».proof.Proof.ProjSample
public import proofs.«01_k».proof.Proof.ProjSampleRef
public import proofs.«01_k».proof.Proof.Gen.Reference3Ideal.Run

@[expose] public section

set_option maxRecDepth 16384

noncomputable section

namespace Cert.Proof.ProjSampleClaim

open Idealize.ShloMosaic Idealize.ShloMosaic.TcCoe Idealize.SL.Sem Cert.Proof.Proj

section
open Cert.Kernel3Ideal
variable (m : (ℓ : Loc nD τ sig) → Buf (Elt Ideal) ℓ)
  (m' : (ℓ : Loc Cert.Reference3Ideal.nD Cert.Reference3Ideal.τ Cert.Reference3Ideal.sig) → Buf (Elt Ideal) ℓ) (c : Dev nD)
  (hX : ProjSampleRef.X m' c = ProjSample.X m c) (hL : ProjSampleRef.Ln m' c = ProjSample.Ln m c)
  (hW : ProjSampleRef.W m' c = ProjSample.W m c) (hQ : ProjSampleRef.Qn m' c = ProjSample.Qn m c)
  (hK : ProjSampleRef.Kn m' c = ProjSample.Kn m c)
include hX hL hW

/-- Column `j` of the weights is packed column `j'`, so the two sides' projections agree there. -/
theorem P_H (b : Fin 32) (s : Fin 4) (j : Fin 3592) (n : Fin 128) (j' : Nat)
    (hn : n.val = b.val * 4 + s.val)
    (hj : ∀ (f : Fin 1024 → Fin 3592 → EReal) k, colOf f j' k = f k j) :
    ProjSampleRef.P m' c b s j = ProjSample.H m c n j' := by
  unfold ProjSampleRef.P ProjSample.H
  rw [hX, hL, hW]
  have hb : (⟨n.val / 4, by omega⟩ : Fin 32) = b := Fin.ext (by show n.val / 4 = b.val; omega)
  have hs : (⟨n.val % 4, by omega⟩ : Fin 4) = s := Fin.ext (by show n.val % 4 = s.val; omega)
  rw [hb, hs]
  congr 1
  funext k
  exact (hj (fun a b => ProjSample.W m c (ix2 a b)) k).symm

theorem eq5 : ProjSampleRef.R5 m' c = ProjSample.G5 m c := by
  funext i
  have h0 : (i 0).val < 128 := (i 0).isLt
  have h1 : (i 1).val < 1536 := (i 1).isLt
  refine P_H m m' c hX hL hW _ _ _ _ _ (by show (i 0).val = (i 0).val / 4 * 4 + (i 0).val % 4; omega) (fun f k => ?_)
  exact colOf_lo f _ k (by omega)

theorem eq6 : ProjSampleRef.R6 m' c = ProjSample.G6 m c := by
  funext i
  have h0 : (i 0).val < 128 := (i 0).isLt
  have h1 : (i 1).val < 512 := (i 1).isLt
  refine P_H m m' c hX hL hW _ _ _ _ _ (by show (i 0).val = (i 0).val / 4 * 4 + (i 0).val % 4; omega) (fun f k => ?_)
  refine (colOf_lo f _ k (by omega)).trans (congrArg (f k) (Fin.ext ?_))
  show (i 1).val + 1536 = 1536 + (i 1).val
  omega

theorem eq7 : ProjSampleRef.R7 m' c = ProjSample.G7 m c := by
  funext i
  have h0 : (i 0).val < 128 := (i 0).isLt
  have h1 : (i 1).val < 128 := (i 1).isLt
  unfold ProjSampleRef.R7 ProjSample.G7
  by_cases h : (i 1).val < 8
  · rw [dif_pos h]
    refine P_H m m' c hX hL hW _ _ _ _ _ (by show (i 0).val = (i 0).val / 4 * 4 + (i 0).val % 4; omega) (fun f k => ?_)
    refine (colOf_hi f _ k (by omega) (by omega)).trans (congrArg (f k) (Fin.ext ?_))
    show (i 1).val + 3584 - 1536 = 2048 + (i 1).val
    omega
  · rw [dif_neg h]
    unfold ProjSample.H
    have hz : colOf (fun a b => ProjSample.W m c (ix2 a b)) ((i 1).val + 3584) = fun _ => 0 := funext fun k => colOf_end _ _ k (by omega)
    rw [hz]
    exact (proj_zero _ _).symm

include hQ in
theorem eq8 : ProjSampleRef.R8 m' c = ProjSample.G8 m c := by
  funext i
  have h0 : (i 0).val < 128 := (i 0).isLt
  have h1 : (i 1).val < 512 := (i 1).isLt
  unfold ProjSampleRef.R8 ProjSample.G8
  rw [hQ]
  congr 1
  funext d
  refine P_H m m' c hX hL hW _ _ _ _ _ (by show (i 0).val = (i 0).val / 4 * 4 + (i 0).val % 4; omega) (fun f k => ?_)
  refine (colOf_mid f _ k (by omega) (by omega)).trans (congrArg (f k) (Fin.ext ?_))
  show (i 1).val / 128 * 128 + d.val + 2048 + 8 = 2056 + ((i 1).val / 128 * 128 + d.val)
  omega

include hK in
theorem eq9 : ProjSampleRef.R9 m' c = ProjSample.G9 m c := by
  funext i
  have h0 : (i 0).val < 128 := (i 0).isLt
  have h1 : (i 1).val < 512 := (i 1).isLt
  unfold ProjSampleRef.R9 ProjSample.G9
  rw [hK]
  congr 1
  funext d
  refine P_H m m' c hX hL hW _ _ _ _ _ (by show (i 0).val = (i 0).val / 4 * 4 + (i 0).val % 4; omega) (fun f k => ?_)
  refine (colOf_mid f _ k (by omega) (by omega)).trans (congrArg (f k) (Fin.ext ?_))
  show (i 1).val / 128 * 128 + d.val + 2560 + 8 = 2568 + ((i 1).val / 128 * 128 + d.val)
  omega

theorem eq10 : ProjSampleRef.R10 m' c = ProjSample.G10 m c := by
  funext i
  have h0 : (i 0).val < 128 := (i 0).isLt
  have h1 : (i 1).val < 512 := (i 1).isLt
  refine P_H m m' c hX hL hW _ _ _ _ _ (by show (i 0).val = (i 0).val / 4 * 4 + (i 0).val % 4; omega) (fun f k => ?_)
  refine (colOf_mid f _ k (by omega) (by omega)).trans (congrArg (f k) (Fin.ext ?_))
  show (i 1).val + 3072 + 8 = 3080 + (i 1).val
  omega

end

theorem alg [h1 : Cert.Kernel3Ideal.Facts] [h2 : Cert.Reference3Ideal.Facts] : Cert.algebraic_Kernel3Ideal_Reference3Ideal := by
  intro m g m' g' _ hag
  refine ⟨fun c => ProjSample.G5 m c, fun c => ProjSample.G6 m c, fun c => ProjSample.G7 m c, fun c => ProjSample.G8 m c,
    fun c => ProjSample.G9 m c, fun c => ProjSample.G10 m c, ?_, ?_⟩
  · refine (θ_run _ _ _).mono (fun r h c => ?_) (Cert.Kernel3Ideal.Value.run_blocks (F := Ideal) m g)
    obtain ⟨h5, h6, h7, h8, h9, h10, ha⟩ := h c
    exact ⟨h5.trans (ProjSample.val5 m c), h6.trans (ProjSample.val6 m c), h7.trans (ProjSample.val7 m c),
      h8.trans (ProjSample.val8 m c), h9.trans (ProjSample.val9 m c), h10.trans (ProjSample.val10 m c), ha⟩
  · refine (θ_run _ _ _).mono (fun r h c => ?_) (ProjSampleRef.run m' g')
    obtain ⟨h5, h6, h7, h8, h9, h10, ha⟩ := h c
    obtain ⟨a0, a1, a2, a3, a4⟩ := hag c
    exact ⟨h5.trans (eq5 m m' c a0 a1 a2), h6.trans (eq6 m m' c a0 a1 a2), h7.trans (eq7 m m' c a0 a1 a2),
      h8.trans (eq8 m m' c a0 a1 a2 a3), h9.trans (eq9 m m' c a0 a1 a2 a4), h10.trans (eq10 m m' c a0 a1 a2), ha⟩

end Cert.Proof.ProjSampleClaim

end
-- ==== Proof.PostSpec.lean ====
/- The output projection's mathematics, over rows of extended reals: what the kernel and the reference both come to. -/
module

public import proofs.«01_k».proof.Proof.ProjSpec

@[expose] public section

noncomputable section

namespace Cert.Proof.Out

open Idealize.ShloMosaic

/-- The prompt's tokens, then the sampled ones, then zeros: one column of them. -/
def row (P : Fin 32768 → EReal) (S : Fin 128 → EReal) (n : Nat) : EReal :=
  if h : n < 32768 then P ⟨n, h⟩ else if h : n - 32768 < 128 then S ⟨n - 32768, h⟩ else 0

/-- One entry of a token plus the projection of its two halves `d` and `e`. -/
def out (x : EReal) (d e : Fin 512 → EReal) (w : Fin 1024 → EReal) : EReal :=
  x + ∑ k : Fin 512, d k * w ⟨k.val, by omega⟩ + ∑ k : Fin 512, e k * w ⟨512 + k.val, by omega⟩

/-- The two halves side by side, projected at once. -/
theorem out_joined (x : EReal) (d e : Fin 512 → EReal) (w : Fin 1024 → EReal) :
    x + ∑ k : Fin 1024, (if h : k.val < 512 then d ⟨k.val, h⟩ else e ⟨k.val - 512, by omega⟩) * w k = out x d e w := by
  unfold out
  rw [add_assoc]
  congr 1
  refine (Fin.sum_univ_add (a := 512) (b := 512) _).trans ?_
  congr 1

end Cert.Proof.Out

end
-- ==== Proof.PostRunZ.lean ====
/- The run of the output projection's body at the first block, which clears the carried counts. -/
module

public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Post

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first block: both results are stored in eight strided pieces each; the routing rows, the counts and the carried counts end at something. -/
noncomputable def runZ (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S16x512 .f32) (harg15 : arg15.IsWhole) (arg16 : Memref sig .tc .vmem S32x1 .f32) (harg16 : arg16.IsWhole) (arg17 : Memref sig .tc .vmem S32x1 .f32) (harg17 : arg17.IsWhole)
    (x1 : Vec F S512x1024 .f32) (x2 : Vec F S512x512 .bf16) (x3 : Vec F S512x512 .bf16) (x4 : Vec F S512x1024 .f32) (x5 : Vec F S512x512 .bf16) (x6 : Vec F S512x512 .bf16) (x7 : Vec F S512x1024 .bf16) (x8 : Vec F S512x1024 .bf16) (x9 : Vec F S1x1024 .f32) (x10 : Vec F S32x1024 .bf16) (x11 : Vec F S32x1024 .bf16) (x12 : Vec F S32x1 .f32)
    (h1 : Scalar.cmpi .ne (Scalar.extui (Scalar.cmpi .eq (BitVec.ofNat 32 (i 0).val) 0#32)) 0#32 = 1#1) :
    Σ' (L13 : List (View.Piece (Elt F) S4096x128 .f32)), { L14 : List (View.Piece (Elt F) S4096x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_post_eq_skeleton]; unfold cc0_post_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]; · iexists _; iexact H14
    isplitl [H15]
    · iexists _; iexists _; isplitr; swap; · iexact H15
      ipureintro; rfl
    isplitl [H16]
    · iexists _; iexists _; isplitr; swap; · iexact H16
      ipureintro; rfl
    iexists _; iexists _; isplitr; swap; · iexact H17
    ipureintro; rfl

end Cert.Kernel5Ideal.Post

end
-- ==== Proof.PostRunK.lean ====
/- The run of the output projection's body at a later block, which takes the carried counts as they stand. -/
module

public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Post

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later block: as at the first, with the carried counts not cleared. -/
noncomputable def runK (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S16x512 .f32) (harg15 : arg15.IsWhole) (arg16 : Memref sig .tc .vmem S32x1 .f32) (harg16 : arg16.IsWhole) (arg17 : Memref sig .tc .vmem S32x1 .f32) (harg17 : arg17.IsWhole)
    (x1 : Vec F S512x1024 .f32) (x2 : Vec F S512x512 .bf16) (x3 : Vec F S512x512 .bf16) (x4 : Vec F S512x1024 .f32) (x5 : Vec F S512x512 .bf16) (x6 : Vec F S512x512 .bf16) (x7 : Vec F S512x1024 .bf16) (x8 : Vec F S512x1024 .bf16) (x9 : Vec F S1x1024 .f32) (x10 : Vec F S32x1024 .bf16) (x11 : Vec F S32x1024 .bf16) (x12 : Vec F S32x1 .f32)
    (h1 : ¬ Scalar.cmpi .ne (Scalar.extui (Scalar.cmpi .eq (BitVec.ofNat 32 (i 0).val) 0#32)) 0#32 = 1#1) :
    Σ' (L13 : List (View.Piece (Elt F) S4096x128 .f32)), { L14 : List (View.Piece (Elt F) S4096x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_post_eq_skeleton]; unfold cc0_post_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]; · iexists _; iexact H14
    isplitl [H15]
    · iexists _; iexists _; isplitr; swap; · iexact H15
      ipureintro; rfl
    isplitl [H16]
    · iexists _; iexists _; isplitr; swap; · iexact H16
      ipureintro; rfl
    iexists _; iexists _; isplitr; swap; · iexact H17
    ipureintro; rfl

end Cert.Kernel5Ideal.Post

end
-- ==== Proof.PostBlock.lean ====
/- What the output projection's runs leave in the two blocks of results, in closed form. -/
module

public import proofs.«01_k».proof.Proof.PostRunZ
public import proofs.«01_k».proof.Proof.PostRunK
public import Idealize.ShloMosaic.Lib.VecWindow
public import Idealize.ShloMosaic.Lib.Pipeline.Value
public import Idealize.ShloMosaic.Lib.ValueIdx

@[expose] public section

set_option maxRecDepth 16384

noncomputable section

namespace Cert.Kernel5Ideal.Post

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The packed form of a block of results: row `8 r + b` holds lanes `128 b …` of token `r`. -/
def packed (y : FVec F S512x1024 .f32) : FVec F S4096x128 .f32 := fun i =>
  y (ix2 (⟨(i 0).val / 8, by have h0 : (i 0).val < 4096 := (i 0).isLt; omega⟩ : Fin 512)
      (⟨128 * ((i 0).val % 8) + (i 1).val, by have h1 : (i 1).val < 128 := (i 1).isLt; omega⟩ : Fin 1024))

/-- The stores that pack a block of results, last first. -/
abbrev pieces (y : FVec F S512x1024 .f32) : List (View.Piece (Elt F) S4096x128 .f32) :=
  [⟨⟨(⟨![7, 0], S512x128.size, ![8, 1], inb_S4096x128_S512x128_7_0_s_8_1⟩ : LoadRect S4096x128), spos_8_1⟩, extractStridedSlice S512x128 ![0, 896] y slices_S512x1024_o0_896_S512x128⟩,
   ⟨⟨(⟨![6, 0], S512x128.size, ![8, 1], inb_S4096x128_S512x128_6_0_s_8_1⟩ : LoadRect S4096x128), spos_8_1⟩, extractStridedSlice S512x128 ![0, 768] y slices_S512x1024_o0_768_S512x128⟩,
   ⟨⟨(⟨![5, 0], S512x128.size, ![8, 1], inb_S4096x128_S512x128_5_0_s_8_1⟩ : LoadRect S4096x128), spos_8_1⟩, extractStridedSlice S512x128 ![0, 640] y slices_S512x1024_o0_640_S512x128⟩,
   ⟨⟨(⟨![4, 0], S512x128.size, ![8, 1], inb_S4096x128_S512x128_4_0_s_8_1⟩ : LoadRect S4096x128), spos_8_1⟩, extractStridedSlice S512x128 ![0, 512] y slices_S512x1024_o0_512_S512x128⟩,
   ⟨⟨(⟨![3, 0], S512x128.size, ![8, 1], inb_S4096x128_S512x128_3_0_s_8_1⟩ : LoadRect S4096x128), spos_8_1⟩, extractStridedSlice S512x128 ![0, 384] y slices_S512x1024_o0_384_S512x128⟩,
   ⟨⟨(⟨![2, 0], S512x128.size, ![8, 1], inb_S4096x128_S512x128_2_0_s_8_1⟩ : LoadRect S4096x128), spos_8_1⟩, extractStridedSlice S512x128 ![0, 256] y slices_S512x1024_o0_256_S512x128⟩,
   ⟨⟨(⟨![1, 0], S512x128.size, ![8, 1], inb_S4096x128_S512x128_1_0_s_8_1⟩ : LoadRect S4096x128), spos_8_1⟩, extractStridedSlice S512x128 ![0, 128] y slices_S512x1024_o0_128_S512x128⟩,
   ⟨⟨(⟨![0, 0], S512x128.size, ![8, 1], inb_S4096x128_S512x128_0_0_s_8_1⟩ : LoadRect S4096x128), spos_8_1⟩, extractStridedSlice S512x128 ![0, 0] y slices_S512x1024_o0_0_S512x128⟩]

/-- A column slice of the results, at the packed place it is stored. -/
theorem piece_packed (y : FVec F S512x1024 .f32) (j : Nat) (hj : j < 8) (inb) (hs)
    (sl : (⟨2, ![512, 1024]⟩ : Shape).Slices ![0, 128 * j] S512x128) (x : S512x128.Idx) :
    extractStridedSlice S512x128 ![0, 128 * j] y sl x
      = packed y (Rect.emb (s := S4096x128) ⟨(⟨![j, 0], S512x128.size, ![8, 1], inb⟩ : LoadRect S4096x128), hs⟩ x) := by
  have h0 : (x 0).val < 512 := (x 0).isLt
  have h1 : (x 1).val < 128 := (x 1).isLt
  refine congrArg y (funext fun a => Fin.ext ?_)
  match a with
  | ⟨0, _⟩ =>
    show 0 + (x 0).val = (j + 8 * (x 0).val) / 8
    omega
  | ⟨1, _⟩ =>
    show 128 * j + (x 1).val = 128 * ((j + 8 * (x 0).val) % 8) + (0 + 1 * (x 1).val)
    omega

/-- The stores cover the block and read back as its packed form. -/
theorem pieces_read (v : View sig .tc .vmem S4096x128 .f32) (y : FVec F S512x1024 .f32) (f) :
    v.read (Elt F) (v.writes (Elt F) f (pieces y)) = packed y := by
  funext i
  refine View.read_writes_apply_of_pieces v f (packed y) _ ?_ i ?_
  · intro p hp
    rcases List.mem_cons.mp hp with rfl | hp
    · exact piece_packed y 7 (by decide) _ _ slices_S512x1024_o0_896_S512x128
    rcases List.mem_cons.mp hp with rfl | hp
    · exact piece_packed y 6 (by decide) _ _ slices_S512x1024_o0_768_S512x128
    rcases List.mem_cons.mp hp with rfl | hp
    · exact piece_packed y 5 (by decide) _ _ slices_S512x1024_o0_640_S512x128
    rcases List.mem_cons.mp hp with rfl | hp
    · exact piece_packed y 4 (by decide) _ _ slices_S512x1024_o0_512_S512x128
    rcases List.mem_cons.mp hp with rfl | hp
    · exact piece_packed y 3 (by decide) _ _ slices_S512x1024_o0_384_S512x128
    rcases List.mem_cons.mp hp with rfl | hp
    · exact piece_packed y 2 (by decide) _ _ slices_S512x1024_o0_256_S512x128
    rcases List.mem_cons.mp hp with rfl | hp
    · exact piece_packed y 1 (by decide) _ _ slices_S512x1024_o0_128_S512x128
    rcases List.mem_cons.mp hp with rfl | hp
    · exact piece_packed y 0 (by decide) _ _ slices_S512x1024_o0_0_S512x128
    exact nomatch hp
  · have h0 : (i 0).val < 4096 := (i 0).isLt
    have h1 : (i 1).val < 128 := (i 1).isLt
    have hm : ∀ j : Nat, (i 0).val % 8 = j → ∀ inb, i ∈ (⟨![j, 0], S512x128.size, ![8, 1], inb⟩ : LoadRect S4096x128).set := by
      intro j hj inb
      rw [LoadRect.mem_set]
      intro a
      match a with
      | ⟨0, _⟩ => exact ⟨(i 0).val / 8, by show (i 0).val / 8 < 512; omega, by show (i 0).val = j + 8 * ((i 0).val / 8); omega⟩
      | ⟨1, _⟩ => exact ⟨(i 1).val, h1, by show (i 1).val = 0 + 1 * (i 1).val; omega⟩
    have hq : (i 0).val % 8 < 8 := by omega
    generalize hQ : (i 0).val % 8 = q at hq hm
    match q, hq with
    | 0, _ => exact ⟨_, .tail _ (.tail _ (.tail _ (.tail _ (.tail _ (.tail _ (.tail _ (.head _))))))), hm 0 rfl inb_S4096x128_S512x128_0_0_s_8_1⟩
    | 1, _ => exact ⟨_, .tail _ (.tail _ (.tail _ (.tail _ (.tail _ (.tail _ (.head _)))))), hm 1 rfl inb_S4096x128_S512x128_1_0_s_8_1⟩
    | 2, _ => exact ⟨_, .tail _ (.tail _ (.tail _ (.tail _ (.tail _ (.head _))))), hm 2 rfl inb_S4096x128_S512x128_2_0_s_8_1⟩
    | 3, _ => exact ⟨_, .tail _ (.tail _ (.tail _ (.tail _ (.head _)))), hm 3 rfl inb_S4096x128_S512x128_3_0_s_8_1⟩
    | 4, _ => exact ⟨_, .tail _ (.tail _ (.tail _ (.head _))), hm 4 rfl inb_S4096x128_S512x128_4_0_s_8_1⟩
    | 5, _ => exact ⟨_, .tail _ (.tail _ (.head _)), hm 5 rfl inb_S4096x128_S512x128_5_0_s_8_1⟩
    | 6, _ => exact ⟨_, .tail _ (.head _), hm 6 rfl inb_S4096x128_S512x128_6_0_s_8_1⟩
    | 7, _ => exact ⟨_, .head _, hm 7 rfl inb_S4096x128_S512x128_7_0_s_8_1⟩

/-- A whole buffer, read whole, is the contents it was given. -/
theorem read_back {s : Shape} {e : EltTy} (a : Memref sig .tc .vmem s e) (h : a.IsWhole) (w : Vec F s e) (off : Fin s.rank → Nat) (inb) (ho : off = fun _ => 0) :
    a.view.readAt (Elt F) (Rect.unit (s := s) off s.size inb).toLoadRect (h.unread w) = w := by
  subst ho
  exact (View.readAt_full _ _ _).trans (h.read_unread _)

/-- A block of the residual stream: the tokens plus the two halves' projections. -/
abbrev resid (i : grid0.Coords) (x1 x4 : Vec F S512x1024 .f32) (x2 x3 x5 x6 : Vec F S512x512 .bf16) (x7 x8 : Vec F S512x1024 .bf16) : FVec F S512x1024 .f32 :=
  k0_pay2 i x1 x4 x2 x5 x3 x6 x7 x8

set_option maxHeartbeats 1000000 in
/-- What the run at the first block leaves in the sums' block. -/
theorem runZ_read13 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S16x512 .f32) (harg15 : arg15.IsWhole) (arg16 : Memref sig .tc .vmem S32x1 .f32) (harg16 : arg16.IsWhole) (arg17 : Memref sig .tc .vmem S32x1 .f32) (harg17 : arg17.IsWhole)
    (x1 : Vec F S512x1024 .f32) (x2 : Vec F S512x512 .bf16) (x3 : Vec F S512x512 .bf16) (x4 : Vec F S512x1024 .f32) (x5 : Vec F S512x512 .bf16) (x6 : Vec F S512x512 .bf16) (x7 : Vec F S512x1024 .bf16) (x8 : Vec F S512x1024 .bf16) (x9 : Vec F S1x1024 .f32) (x10 : Vec F S32x1024 .bf16) (x11 : Vec F S32x1024 .bf16) (x12 : Vec F S32x1 .f32)
    (h1 : Scalar.cmpi .ne (Scalar.extui (Scalar.cmpi .eq (BitVec.ofNat 32 (i 0).val) 0#32)) 0#32 = 1#1) (f) :
    arg13.view.read (Elt F) (arg13.view.writes (Elt F) f (runZ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 h1).1) = packed (resid i x1 x4 x2 x3 x5 x6 x7 x8) := by
  have e : (runZ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 h1).1 = pieces (k0_pay2 i (arg1.view.readAt (Elt F) (Rect.unit (s := S512x1024) ![0, 0] S512x1024.size inb_S512x1024_S512x1024_0_0).toLoadRect (harg1.unread x1)) (arg4.view.readAt (Elt F) (Rect.unit (s := S512x1024) ![0, 0] S512x1024.size inb_S512x1024_S512x1024_0_0).toLoadRect (harg4.unread x4)) (arg2.view.readAt (Elt F) (Rect.unit (s := S512x512) ![0, 0] S512x512.size inb_S512x512_S512x512_0_0).toLoadRect (harg2.unread x2)) (arg5.view.readAt (Elt F) (Rect.unit (s := S512x512) ![0, 0] S512x512.size inb_S512x512_S512x512_0_0).toLoadRect (harg5.unread x5)) (arg3.view.readAt (Elt F) (Rect.unit (s := S512x512) ![0, 0] S512x512.size inb_S512x512_S512x512_0_0).toLoadRect (harg3.unread x3)) (arg6.view.readAt (Elt F) (Rect.unit (s := S512x512) ![0, 0] S512x512.size inb_S512x512_S512x512_0_0).toLoadRect (harg6.unread x6)) (arg7.view.readAt (Elt F) (Rect.unit (s := S512x1024) ![0, 0] S512x1024.size inb_S512x1024_S512x1024_0_0).toLoadRect (harg7.unread x7)) (arg8.view.readAt (Elt F) (Rect.unit (s := S512x1024) ![0, 0] S512x1024.size inb_S512x1024_S512x1024_0_0).toLoadRect (harg8.unread x8))) := rfl
  rw [e, pieces_read]
  rw [read_back arg1 harg1 x1 _ _ (funext fun a => by fin_cases a <;> rfl), read_back arg4 harg4 x4 _ _ (funext fun a => by fin_cases a <;> rfl), read_back arg2 harg2 x2 _ _ (funext fun a => by fin_cases a <;> rfl), read_back arg5 harg5 x5 _ _ (funext fun a => by fin_cases a <;> rfl), read_back arg3 harg3 x3 _ _ (funext fun a => by fin_cases a <;> rfl), read_back arg6 harg6 x6 _ _ (funext fun a => by fin_cases a <;> rfl), read_back arg7 harg7 x7 _ _ (funext fun a => by fin_cases a <;> rfl), read_back arg8 harg8 x8 _ _ (funext fun a => by fin_cases a <;> rfl)]

set_option maxHeartbeats 1000000 in
/-- What the run at the first block leaves in the norms' block. -/
theorem runZ_read14 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S16x512 .f32) (harg15 : arg15.IsWhole) (arg16 : Memref sig .tc .vmem S32x1 .f32) (harg16 : arg16.IsWhole) (arg17 : Memref sig .tc .vmem S32x1 .f32) (harg17 : arg17.IsWhole)
    (x1 : Vec F S512x1024 .f32) (x2 : Vec F S512x512 .bf16) (x3 : Vec F S512x512 .bf16) (x4 : Vec F S512x1024 .f32) (x5 : Vec F S512x512 .bf16) (x6 : Vec F S512x512 .bf16) (x7 : Vec F S512x1024 .bf16) (x8 : Vec F S512x1024 .bf16) (x9 : Vec F S1x1024 .f32) (x10 : Vec F S32x1024 .bf16) (x11 : Vec F S32x1024 .bf16) (x12 : Vec F S32x1 .f32)
    (h1 : Scalar.cmpi .ne (Scalar.extui (Scalar.cmpi .eq (BitVec.ofNat 32 (i 0).val) 0#32)) 0#32 = 1#1) (f) :
    arg14.view.read (Elt F) (arg14.view.writes (Elt F) f (runZ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 h1).2.1) = packed (k0_pay11 (resid i x1 x4 x2 x3 x5 x6 x7 x8) x9) := by
  have e : (runZ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 h1).2.1 = pieces (k0_pay11 (k0_pay2 i (arg1.view.readAt (Elt F) (Rect.unit (s := S512x1024) ![0, 0] S512x1024.size inb_S512x1024_S512x1024_0_0).toLoadRect (harg1.unread x1)) (arg4.view.readAt (Elt F) (Rect.unit (s := S512x1024) ![0, 0] S512x1024.size inb_S512x1024_S512x1024_0_0).toLoadRect (harg4.unread x4)) (arg2.view.readAt (Elt F) (Rect.unit (s := S512x512) ![0, 0] S512x512.size inb_S512x512_S512x512_0_0).toLoadRect (harg2.unread x2)) (arg5.view.readAt (Elt F) (Rect.unit (s := S512x512) ![0, 0] S512x512.size inb_S512x512_S512x512_0_0).toLoadRect (harg5.unread x5)) (arg3.view.readAt (Elt F) (Rect.unit (s := S512x512) ![0, 0] S512x512.size inb_S512x512_S512x512_0_0).toLoadRect (harg3.unread x3)) (arg6.view.readAt (Elt F) (Rect.unit (s := S512x512) ![0, 0] S512x512.size inb_S512x512_S512x512_0_0).toLoadRect (harg6.unread x6)) (arg7.view.readAt (Elt F) (Rect.unit (s := S512x1024) ![0, 0] S512x1024.size inb_S512x1024_S512x1024_0_0).toLoadRect (harg7.unread x7)) (arg8.view.readAt (Elt F) (Rect.unit (s := S512x1024) ![0, 0] S512x1024.size inb_S512x1024_S512x1024_0_0).toLoadRect (harg8.unread x8))) (arg9.view.readAt (Elt F) (Rect.unit (s := S1x1024) ![0, 0] S1x1024.size inb_S1x1024_S1x1024_0_0).toLoadRect (harg9.unread x9))) := rfl
  rw [e, pieces_read]
  rw [read_back arg1 harg1 x1 _ _ (funext fun a => by fin_cases a <;> rfl), read_back arg4 harg4 x4 _ _ (funext fun a => by fin_cases a <;> rfl), read_back arg2 harg2 x2 _ _ (funext fun a => by fin_cases a <;> rfl), read_back arg5 harg5 x5 _ _ (funext fun a => by fin_cases a <;> rfl), read_back arg3 harg3 x3 _ _ (funext fun a => by fin_cases a <;> rfl), read_back arg6 harg6 x6 _ _ (funext fun a => by fin_cases a <;> rfl), read_back arg7 harg7 x7 _ _ (funext fun a => by fin_cases a <;> rfl), read_back arg8 harg8 x8 _ _ (funext fun a => by fin_cases a <;> rfl), read_back arg9 harg9 x9 _ _ (funext fun a => by fin_cases a <;> rfl)]

set_option maxHeartbeats 1000000 in
/-- What the run at a later block leaves in the sums' block. -/
theorem runK_read13 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S16x512 .f32) (harg15 : arg15.IsWhole) (arg16 : Memref sig .tc .vmem S32x1 .f32) (harg16 : arg16.IsWhole) (arg17 : Memref sig .tc .vmem S32x1 .f32) (harg17 : arg17.IsWhole)
    (x1 : Vec F S512x1024 .f32) (x2 : Vec F S512x512 .bf16) (x3 : Vec F S512x512 .bf16) (x4 : Vec F S512x1024 .f32) (x5 : Vec F S512x512 .bf16) (x6 : Vec F S512x512 .bf16) (x7 : Vec F S512x1024 .bf16) (x8 : Vec F S512x1024 .bf16) (x9 : Vec F S1x1024 .f32) (x10 : Vec F S32x1024 .bf16) (x11 : Vec F S32x1024 .bf16) (x12 : Vec F S32x1 .f32)
    (h1 : ¬ Scalar.cmpi .ne (Scalar.extui (Scalar.cmpi .eq (BitVec.ofNat 32 (i 0).val) 0#32)) 0#32 = 1#1) (f) :
    arg13.view.read (Elt F) (arg13.view.writes (Elt F) f (runK c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 h1).1) = packed (resid i x1 x4 x2 x3 x5 x6 x7 x8) := by
  have e : (runK c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 h1).1 = pieces (k0_pay2 i (arg1.view.readAt (Elt F) (Rect.unit (s := S512x1024) ![0, 0] S512x1024.size inb_S512x1024_S512x1024_0_0).toLoadRect (harg1.unread x1)) (arg4.view.readAt (Elt F) (Rect.unit (s := S512x1024) ![0, 0] S512x1024.size inb_S512x1024_S512x1024_0_0).toLoadRect (harg4.unread x4)) (arg2.view.readAt (Elt F) (Rect.unit (s := S512x512) ![0, 0] S512x512.size inb_S512x512_S512x512_0_0).toLoadRect (harg2.unread x2)) (arg5.view.readAt (Elt F) (Rect.unit (s := S512x512) ![0, 0] S512x512.size inb_S512x512_S512x512_0_0).toLoadRect (harg5.unread x5)) (arg3.view.readAt (Elt F) (Rect.unit (s := S512x512) ![0, 0] S512x512.size inb_S512x512_S512x512_0_0).toLoadRect (harg3.unread x3)) (arg6.view.readAt (Elt F) (Rect.unit (s := S512x512) ![0, 0] S512x512.size inb_S512x512_S512x512_0_0).toLoadRect (harg6.unread x6)) (arg7.view.readAt (Elt F) (Rect.unit (s := S512x1024) ![0, 0] S512x1024.size inb_S512x1024_S512x1024_0_0).toLoadRect (harg7.unread x7)) (arg8.view.readAt (Elt F) (Rect.unit (s := S512x1024) ![0, 0] S512x1024.size inb_S512x1024_S512x1024_0_0).toLoadRect (harg8.unread x8))) := rfl
  rw [e, pieces_read]
  rw [read_back arg1 harg1 x1 _ _ (funext fun a => by fin_cases a <;> rfl), read_back arg4 harg4 x4 _ _ (funext fun a => by fin_cases a <;> rfl), read_back arg2 harg2 x2 _ _ (funext fun a => by fin_cases a <;> rfl), read_back arg5 harg5 x5 _ _ (funext fun a => by fin_cases a <;> rfl), read_back arg3 harg3 x3 _ _ (funext fun a => by fin_cases a <;> rfl), read_back arg6 harg6 x6 _ _ (funext fun a => by fin_cases a <;> rfl), read_back arg7 harg7 x7 _ _ (funext fun a => by fin_cases a <;> rfl), read_back arg8 harg8 x8 _ _ (funext fun a => by fin_cases a <;> rfl)]

set_option maxHeartbeats 1000000 in
/-- What the run at a later block leaves in the norms' block. -/
theorem runK_read14 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x1024 .bf16) (harg11 : arg11.IsWhole) (arg12 : Memref sig .tc .vmem S32x1 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S16x512 .f32) (harg15 : arg15.IsWhole) (arg16 : Memref sig .tc .vmem S32x1 .f32) (harg16 : arg16.IsWhole) (arg17 : Memref sig .tc .vmem S32x1 .f32) (harg17 : arg17.IsWhole)
    (x1 : Vec F S512x1024 .f32) (x2 : Vec F S512x512 .bf16) (x3 : Vec F S512x512 .bf16) (x4 : Vec F S512x1024 .f32) (x5 : Vec F S512x512 .bf16) (x6 : Vec F S512x512 .bf16) (x7 : Vec F S512x1024 .bf16) (x8 : Vec F S512x1024 .bf16) (x9 : Vec F S1x1024 .f32) (x10 : Vec F S32x1024 .bf16) (x11 : Vec F S32x1024 .bf16) (x12 : Vec F S32x1 .f32)
    (h1 : ¬ Scalar.cmpi .ne (Scalar.extui (Scalar.cmpi .eq (BitVec.ofNat 32 (i 0).val) 0#32)) 0#32 = 1#1) (f) :
    arg14.view.read (Elt F) (arg14.view.writes (Elt F) f (runK c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 h1).2.1) = packed (k0_pay11 (resid i x1 x4 x2 x3 x5 x6 x7 x8) x9) := by
  have e : (runK c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 h1).2.1 = pieces (k0_pay11 (k0_pay2 i (arg1.view.readAt (Elt F) (Rect.unit (s := S512x1024) ![0, 0] S512x1024.size inb_S512x1024_S512x1024_0_0).toLoadRect (harg1.unread x1)) (arg4.view.readAt (Elt F) (Rect.unit (s := S512x1024) ![0, 0] S512x1024.size inb_S512x1024_S512x1024_0_0).toLoadRect (harg4.unread x4)) (arg2.view.readAt (Elt F) (Rect.unit (s := S512x512) ![0, 0] S512x512.size inb_S512x512_S512x512_0_0).toLoadRect (harg2.unread x2)) (arg5.view.readAt (Elt F) (Rect.unit (s := S512x512) ![0, 0] S512x512.size inb_S512x512_S512x512_0_0).toLoadRect (harg5.unread x5)) (arg3.view.readAt (Elt F) (Rect.unit (s := S512x512) ![0, 0] S512x512.size inb_S512x512_S512x512_0_0).toLoadRect (harg3.unread x3)) (arg6.view.readAt (Elt F) (Rect.unit (s := S512x512) ![0, 0] S512x512.size inb_S512x512_S512x512_0_0).toLoadRect (harg6.unread x6)) (arg7.view.readAt (Elt F) (Rect.unit (s := S512x1024) ![0, 0] S512x1024.size inb_S512x1024_S512x1024_0_0).toLoadRect (harg7.unread x7)) (arg8.view.readAt (Elt F) (Rect.unit (s := S512x1024) ![0, 0] S512x1024.size inb_S512x1024_S512x1024_0_0).toLoadRect (harg8.unread x8))) (arg9.view.readAt (Elt F) (Rect.unit (s := S1x1024) ![0, 0] S1x1024.size inb_S1x1024_S1x1024_0_0).toLoadRect (harg9.unread x9))) := rfl
  rw [e, pieces_read]
  rw [read_back arg1 harg1 x1 _ _ (funext fun a => by fin_cases a <;> rfl), read_back arg4 harg4 x4 _ _ (funext fun a => by fin_cases a <;> rfl), read_back arg2 harg2 x2 _ _ (funext fun a => by fin_cases a <;> rfl), read_back arg5 harg5 x5 _ _ (funext fun a => by fin_cases a <;> rfl), read_back arg3 harg3 x3 _ _ (funext fun a => by fin_cases a <;> rfl), read_back arg6 harg6 x6 _ _ (funext fun a => by fin_cases a <;> rfl), read_back arg7 harg7 x7 _ _ (funext fun a => by fin_cases a <;> rfl), read_back arg8 harg8 x8 _ _ (funext fun a => by fin_cases a <;> rfl), read_back arg9 harg9 x9 _ _ (funext fun a => by fin_cases a <;> rfl)]

end Cert.Kernel5Ideal.Post

end
-- ==== Proof.PostFrame.lean ====
/- The output projection's body at a point, with the routing rows and the counts forgotten, and the launch. -/
module

public import proofs.«01_k».proof.Proof.PostBlock

@[expose] public section

set_option maxRecDepth 16384

noncomputable section

namespace Cert.Kernel5Ideal.Post

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result's block at a point, before it is packed. -/
def sumAt (c : Dev nD) (t : Fin cfg0.N) : FVec F S512x1024 .f32 :=
  resid (grid0.coords t) (iblk m c 0 t) (iblk m c 3 t) (iblk m c 1 t) (iblk m c 2 t) (iblk m c 4 t) (iblk m c 5 t) (iblk m c 6 t) (iblk m c 7 t)

/-- The second result's block at a point, before it is packed. -/
def normAt (c : Dev nD) (t : Fin cfg0.N) : FVec F S512x1024 .f32 := k0_pay11 (sumAt m c t) (iblk m c 8 t)

/-- The windows whose contents are not followed: the routing rows and the counts. -/
def unread : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨n + 16, h⟩ => absurd (show n + 16 < 16 from h) (Nat.not_lt.2 (Nat.le_add_left _ _))

/-- The proof data: after a point each input's buffer at its block, the two results' at their packed blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => packed (sumAt m c t)
    | ⟨13, _⟩ => packed (normAt m c t)
    | ⟨14, _⟩ => fun _ => Scalar.ofBits .f32 0#32
    | ⟨15, _⟩ => fun _ => Scalar.ofBits .f32 0#32
    | ⟨n + 16, h⟩ => absurd (show n + 16 < 16 from h) (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

section
variable (c : Dev nD) (t : Fin cfg0.N)
theorem after0_0 : (dats m 0 c).after 0 t = iblk m c 0 t := by dsimp only [dats]; try rfl
theorem after0_1 : (dats m 0 c).after 1 t = iblk m c 1 t := by dsimp only [dats]; try rfl
theorem after0_2 : (dats m 0 c).after 2 t = iblk m c 2 t := by dsimp only [dats]; try rfl
theorem after0_3 : (dats m 0 c).after 3 t = iblk m c 3 t := by dsimp only [dats]; try rfl
theorem after0_4 : (dats m 0 c).after 4 t = iblk m c 4 t := by dsimp only [dats]; try rfl
theorem after0_5 : (dats m 0 c).after 5 t = iblk m c 5 t := by dsimp only [dats]; try rfl
theorem after0_6 : (dats m 0 c).after 6 t = iblk m c 6 t := by dsimp only [dats]; try rfl
theorem after0_7 : (dats m 0 c).after 7 t = iblk m c 7 t := by dsimp only [dats]; try rfl
theorem after0_8 : (dats m 0 c).after 8 t = iblk m c 8 t := by dsimp only [dats]; try rfl
theorem after0_9 : (dats m 0 c).after 9 t = iblk m c 9 t := by dsimp only [dats]; try rfl
theorem after0_10 : (dats m 0 c).after 10 t = iblk m c 10 t := by dsimp only [dats]; try rfl
theorem after0_11 : (dats m 0 c).after 11 t = iblk m c 11 t := by dsimp only [dats]; try rfl
theorem after0_12 : (dats m 0 c).after 12 t = packed (sumAt m c t) := by dsimp only [dats]; try rfl
theorem after0_13 : (dats m 0 c).after 13 t = packed (normAt m c t) := by dsimp only [dats]; try rfl

theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d
theorem before0_6 (d) : (dats m 0 c).before 6 t d = iblk m c 6 t := before0_6_of m (dats m 0 c) (A_eq m c 6) (after0_6 m c) t d
theorem before0_7 (d) : (dats m 0 c).before 7 t d = iblk m c 7 t := before0_7_of m (dats m 0 c) (A_eq m c 7) (after0_7 m c) t d
theorem before0_8 (d) : (dats m 0 c).before 8 t d = iblk m c 8 t := before0_8_of m (dats m 0 c) (A_eq m c 8) (after0_8 m c) t d
theorem before0_9 (d) : (dats m 0 c).before 9 t d = iblk m c 9 t := before0_9_of m (dats m 0 c) (A_eq m c 9) (after0_9 m c) t d
theorem before0_10 (d) : (dats m 0 c).before 10 t d = iblk m c 10 t := before0_10_of m (dats m 0 c) (A_eq m c 10) (after0_10 m c) t d
theorem before0_11 (d) : (dats m 0 c).before 11 t d = iblk m c 11 t := before0_11_of m (dats m 0 c) (A_eq m c 11) (after0_11 m c) t d
end

/-- A memref held whole at `x`. -/
abbrev own (c : Dev nD) {S : Shape} {e : EltTy} (a : Memref sig .tc .vmem S e) (x : Vec F S e) : sProp 𝕄 :=
  owns (c : Thread nD τ) a fullShare x

/-- The scratch operand: the counts carried from block to block. -/
abbrev scM : Memref sig .tc .vmem S32x1 .f32 := Memref.whole cc0_scratch0

theorem PhiA0_eq (c : Dev nD) :
    (Pipeline.ΦA spec0 c : sProp 𝕄) = iprop((∃ d, own c scM d) ∗ (∃ r, prngReg c r)) := by
  unfold Pipeline.ΦA; rw [scopedRest0_eq]; simp only [scM, own, owns_whole]; try rfl

/-! ## The body at a point -/

/-- What the body is called with, the input blocks read. -/
def pointPre (c : Dev nD) (t : Fin cfg0.N) : sProp 𝕄 :=
  iprop(((∃ d, own c scM d) ∗ (∃ r, prngReg c r)) ∗ own c (st0_0 t) (iblk m c 0 t) ∗ own c (st0_1 t) (iblk m c 1 t) ∗ own c (st0_2 t) (iblk m c 2 t) ∗ own c (st0_3 t) (iblk m c 3 t) ∗ own c (st0_4 t) (iblk m c 4 t) ∗ own c (st0_5 t) (iblk m c 5 t) ∗ own c (st0_6 t) (iblk m c 6 t) ∗ own c (st0_7 t) (iblk m c 7 t) ∗ own c (st0_8 t) (iblk m c 8 t) ∗ own c (st0_9 t) (iblk m c 9 t) ∗ own c (st0_10 t) (iblk m c 10 t) ∗ own c (st0_11 t) (iblk m c 11 t) ∗ (∃ d, own c (st0_12 t) d) ∗ (∃ d, own c (st0_13 t) d) ∗ (∃ d, own c (st0_14 t) d) ∗ (∃ d, own c (st0_15 t) d))

/-- What the body returns. -/
def pointPost (c : Dev nD) (t : Fin cfg0.N) : sProp 𝕄 :=
  iprop(((∃ d, own c scM d) ∗ (∃ r, prngReg c r)) ∗ own c (st0_0 t) (iblk m c 0 t) ∗ own c (st0_1 t) (iblk m c 1 t) ∗ own c (st0_2 t) (iblk m c 2 t) ∗ own c (st0_3 t) (iblk m c 3 t) ∗ own c (st0_4 t) (iblk m c 4 t) ∗ own c (st0_5 t) (iblk m c 5 t) ∗ own c (st0_6 t) (iblk m c 6 t) ∗ own c (st0_7 t) (iblk m c 7 t) ∗ own c (st0_8 t) (iblk m c 8 t) ∗ own c (st0_9 t) (iblk m c 9 t) ∗ own c (st0_10 t) (iblk m c 10 t) ∗ own c (st0_11 t) (iblk m c 11 t) ∗ own c (st0_12 t) (packed (sumAt m c t)) ∗ own c (st0_13 t) (packed (normAt m c t)) ∗ (∃ d, own c (st0_14 t) d) ∗ (∃ d, own c (st0_15 t) d))

set_option maxHeartbeats 1200000 in
/-- The first block. -/
theorem sound_Z (c : Dev nD) (t : Fin cfg0.N) (h1 : Scalar.cmpi .ne (Scalar.extui (Scalar.cmpi .eq (BitVec.ofNat 32 (grid0.coords t 0).val) 0#32)) 0#32 = 1#1) :
    pointPre m c t ⊢ wp frame (wpE (defs₀ (F := F)) Variants.none c none) Set.univ (bodyAt0 t) (fun _ => pointPost m c t) := by
  unfold pointPre pointPost bodyAt0
  iintro ⟨⟨HS, Hg⟩, H0, H1, H2, H3, H4, H5, H6, H7, H8, H9, H10, H11, H12, H13, H14, H15⟩
  iapply ((runZ c (grid0.coords t) _ _ _ _ _ _ _ _ _ _ _ _ _ _ _ _ _ _ _ _ _ _ _ _ _ _ _ _ _ _ _ _ _ _ _ _ _ _ _ _ _ _ _ _ _ _ h1).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS]; · iexact HS
  iintro ⟨H0, H1, H2, H3, H4, H5, H6, H7, H8, H9, H10, H11, ⟨%e12, H12⟩, ⟨%e13, H13⟩, H14, H15, HS⟩
  isplitl [HS Hg]
  · isplitl [HS]; · iexact HS
    iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold own owns; iexists _; isplitr
    swap; · iexact H12
    ipureintro
    exact runZ_read13 c (grid0.coords t) _ _ _ _ _ _ _ _ _ _ _ _ _ _ _ _ _ _ _ _ _ _ _ _ _ _ _ _ _ _ _ _ _ _ _ _ _ _ _ _ _ _ _ _ _ _ h1 e12
  isplitl [H13]
  · unfold own owns; iexists _; isplitr
    swap; · iexact H13
    ipureintro
    exact runZ_read14 c (grid0.coords t) _ _ _ _ _ _ _ _ _ _ _ _ _ _ _ _ _ _ _ _ _ _ _ _ _ _ _ _ _ _ _ _ _ _ _ _ _ _ _ _ _ _ _ _ _ _ h1 e13
  isplitl [H14]; · iexact H14
  iexact H15

set_option maxHeartbeats 1200000 in
/-- A later block. -/
theorem sound_K (c : Dev nD) (t : Fin cfg0.N) (h1 : ¬ Scalar.cmpi .ne (Scalar.extui (Scalar.cmpi .eq (BitVec.ofNat 32 (grid0.coords t 0).val) 0#32)) 0#32 = 1#1) :
    pointPre m c t ⊢ wp frame (wpE (defs₀ (F := F)) Variants.none c none) Set.univ (bodyAt0 t) (fun _ => pointPost m c t) := by
  unfold pointPre pointPost bodyAt0
  iintro ⟨⟨HS, Hg⟩, H0, H1, H2, H3, H4, H5, H6, H7, H8, H9, H10, H11, H12, H13, H14, H15⟩
  iapply ((runK c (grid0.coords t) _ _ _ _ _ _ _ _ _ _ _ _ _ _ _ _ _ _ _ _ _ _ _ _ _ _ _ _ _ _ _ _ _ _ _ _ _ _ _ _ _ _ _ _ _ _ h1).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS]; · iexact HS
  iintro ⟨H0, H1, H2, H3, H4, H5, H6, H7, H8, H9, H10, H11, ⟨%e12, H12⟩, ⟨%e13, H13⟩, H14, H15, HS⟩
  isplitl [HS Hg]
  · isplitl [HS]; · iexact HS
    iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold own owns; iexists _; isplitr
    swap; · iexact H12
    ipureintro
    exact runK_read13 c (grid0.coords t) _ _ _ _ _ _ _ _ _ _ _ _ _ _ _ _ _ _ _ _ _ _ _ _ _ _ _ _ _ _ _ _ _ _ _ _ _ _ _ _ _ _ _ _ _ _ h1 e12
  isplitl [H13]
  · unfold own owns; iexists _; isplitr
    swap; · iexact H13
    ipureintro
    exact runK_read14 c (grid0.coords t) _ _ _ _ _ _ _ _ _ _ _ _ _ _ _ _ _ _ _ _ _ _ _ _ _ _ _ _ _ _ _ _ _ _ _ _ _ _ _ _ _ _ _ _ _ _ h1 e13
  isplitl [H14]; · iexact H14
  iexact H15

/-- The body at any point. -/
theorem sound_point (c : Dev nD) (t : Fin cfg0.N) :
    pointPre m c t ⊢ wp frame (wpE (defs₀ (F := F)) Variants.none c none) Set.univ (bodyAt0 t) (fun _ => pointPost m c t) := by
  by_cases h1 : Scalar.cmpi .ne (Scalar.extui (Scalar.cmpi .eq (BitVec.ofNat 32 (grid0.coords t 0).val) 0#32)) 0#32 = 1#1
  · exact sound_Z m c t h1
  · exact sound_K m c t h1

/-- What the body is called with at point `t`, window by window, -/
def bodyPre (c : Dev nD) (t : Fin cfg0.N) : sProp 𝕄 :=
  iprop((dats m 0 c).Φ t.castSucc ∗ (dats m 0 c).owesAt () t.castSucc ∗ (∃ d, own c (st0_0 t) ((dats m 0 c).before 0 t d)) ∗ (∃ d, own c (st0_1 t) ((dats m 0 c).before 1 t d)) ∗ (∃ d, own c (st0_2 t) ((dats m 0 c).before 2 t d)) ∗ (∃ d, own c (st0_3 t) ((dats m 0 c).before 3 t d)) ∗ (∃ d, own c (st0_4 t) ((dats m 0 c).before 4 t d)) ∗ (∃ d, own c (st0_5 t) ((dats m 0 c).before 5 t d)) ∗ (∃ d, own c (st0_6 t) ((dats m 0 c).before 6 t d)) ∗ (∃ d, own c (st0_7 t) ((dats m 0 c).before 7 t d)) ∗ (∃ d, own c (st0_8 t) ((dats m 0 c).before 8 t d)) ∗ (∃ d, own c (st0_9 t) ((dats m 0 c).before 9 t d)) ∗ (∃ d, own c (st0_10 t) ((dats m 0 c).before 10 t d)) ∗ (∃ d, own c (st0_11 t) ((dats m 0 c).before 11 t d)) ∗ (∃ d, own c (st0_12 t) ((dats m 0 c).before 12 t d)) ∗ (∃ d, own c (st0_13 t) ((dats m 0 c).before 13 t d)) ∗ (∃ X, own c (st0_14 t) X) ∗ (∃ X, own c (st0_15 t) X))

/-- and what it returns. -/
def bodyPost (c : Dev nD) (t : Fin cfg0.N) : sProp 𝕄 :=
  iprop((dats m 0 c).Φ t.succ ∗ (dats m 0 c).owesAt () t.succ ∗ own c (st0_0 t) ((dats m 0 c).after 0 t) ∗ own c (st0_1 t) ((dats m 0 c).after 1 t) ∗ own c (st0_2 t) ((dats m 0 c).after 2 t) ∗ own c (st0_3 t) ((dats m 0 c).after 3 t) ∗ own c (st0_4 t) ((dats m 0 c).after 4 t) ∗ own c (st0_5 t) ((dats m 0 c).after 5 t) ∗ own c (st0_6 t) ((dats m 0 c).after 6 t) ∗ own c (st0_7 t) ((dats m 0 c).after 7 t) ∗ own c (st0_8 t) ((dats m 0 c).after 8 t) ∗ own c (st0_9 t) ((dats m 0 c).after 9 t) ∗ own c (st0_10 t) ((dats m 0 c).after 10 t) ∗ own c (st0_11 t) ((dats m 0 c).after 11 t) ∗ own c (st0_12 t) ((dats m 0 c).after 12 t) ∗ own c (st0_13 t) ((dats m 0 c).after 13 t) ∗ (∃ X, own c (st0_14 t) X) ∗ (∃ X, own c (st0_15 t) X))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  have hp := sound_point m c t
  unfold bodyPre bodyPost
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, show (dats m 0 c).Φ t.succ = Pipeline.ΦA spec0 c from rfl, PhiA0_eq]
  refine BIBase.Entails.trans (Q := iprop((dats m 0 c).owesAt () t.castSucc ∗ pointPre m c t)) ?_ ?_
  · unfold pointPre
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15⟩
    isplitl [Ho]; · iexact Ho
    isplitl [HP]; · iexact HP
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexact H14
    iexact H15
  · refine (sep_mono .rfl hp).trans ?_
    refine (wp_frame_l _ _ _).trans (wp_mono _ _ _ fun _ => ?_)
    unfold pointPost
    iintro ⟨Ho, HP, H0, H1, H2, H3, H4, H5, H6, H7, H8, H9, H10, H11, H12, H13, H14, H15⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem defs₀_row (t : Fin cfg0.N) : defs₀ (F := F) .tc cfg0.body (cfg0.bodyArgs t (cfg0.slots t)) = bodyAt0 t := by
  unfold defs₀; rw [Defs.onTc_tc]

/-- The body obligation at every point, the unread windows at anything. -/
theorem body_obligation (c : Dev nD) : BodyObligation (dats (F := F) m 0 c) (defs₀ (F := F)) Variants.none () Set.univ unread := fun t => by
  rw [bigSep_W0, bigSep_W0, defs₀_row]
  exact sound_body m c t

-- the launch theorem's implicit arguments are found by unifying its conclusion with this one
set_option backward.isDefEq.respectTransparency.types false in
/-- The launch. -/
theorem run_main_quiescent : θ_run defs (onTc (τ := τ) (main (F := F))) (s₀ m ρ)
    (fun r => Pipeline.RDat.FramePost (cfgs (0 : Fin 1)) (fun c => (dats m 0 c).toRForget unread) (V m) r ∧ r.2.sem = fun _ => 0) :=
  Pipeline.θ_run_frame_forget (Q' := _) cfgs (dats m) (0 : Fin 1) launch0 defs₀ Variants.none unread m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- What a run leaves in the arrays: the arguments as they were, the first result's blocks and the second's. -/
theorem run_main : θ_run defs (onTc (τ := τ) (main (F := F))) (s₀ m ρ) (fun r => ∀ c : Dev nD,
    r.2.mem ((c.tc : Thread nD τ).loc main_v13_0) = (dats m 0 c).arrAt 12 cfg0.N
    ∧ r.2.mem ((c.tc : Thread nD τ).loc main_v13_1) = (dats m 0 c).arrAt 13 cfg0.N) :=
  (θ_run defs _ _).mono (fun _ h c =>
    ⟨((dats m 0 c).toRForget_arrAt_iff (fgt := unread) (w := 12) rfl _ _).mp ((h.1 c).1 12),
     ((dats m 0 c).toRForget_arrAt_iff (fgt := unread) (w := 13) rfl _ _).mp ((h.1 c).1 13)⟩) (run_main_quiescent m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9))
      ∧ r.2.sem = fun _ => 0) :=
  (θ_run defs _ _).mono (fun _ h => ⟨fun c => ⟨(Pipeline.RDat.FramePost.arr_in h.1 c 0 rfl).trans ((A_eq m c 0).trans (V_main_arg0 m c)), (Pipeline.RDat.FramePost.arr_in h.1 c 1 rfl).trans ((A_eq m c 1).trans (V_main_arg1 m c)), (Pipeline.RDat.FramePost.arr_in h.1 c 2 rfl).trans ((A_eq m c 2).trans (V_main_arg2 m c)), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c), ((h.1 c).2 main_arg8 (Pipeline.mem_restRefs_of main_arg8 (by decide) (by decide))).trans (V_main_arg8 m c), ((h.1 c).2 main_arg9 (Pipeline.mem_restRefs_of main_arg9 (by decide) (by decide))).trans (V_main_arg9 m c)⟩, h.2⟩) (run_main_quiescent m ρ)

end Cert.Kernel5Ideal.Post

end
-- ==== Proof.PostValue.lean ====
/- The output projection on the kernel's side: what the two result arrays hold after the run, entry by entry. -/
module

public import proofs.«01_k».proof.Proof.PostSpec
public import proofs.«01_k».proof.Proof.PostFrame
public import Idealize.ShloMosaic.Lib.Pipeline.Value

@[expose] public section

set_option maxRecDepth 16384

noncomputable section

namespace Cert.Proof.PostValue

open Idealize.ShloMosaic Idealize.ShloMosaic.TcCoe Idealize.SL.Sem
open Cert.Kernel5Ideal Cert.Kernel5Ideal.Gen Cert.Kernel5Ideal.Post Cert.Proof.Proj Cert.Proof.Out

variable (m : (ℓ : Loc nD τ sig) → Buf (Elt Ideal) ℓ) (c : Dev nD)

/-! ## The arguments, as launched -/

def Xp : S32768x1024.Idx → EReal := m ((c.tc : Thread nD τ).loc main_arg0)
def Dp : S32768x512.Idx → EReal := m ((c.tc : Thread nD τ).loc main_arg1)
def Ep : S32768x512.Idx → EReal := m ((c.tc : Thread nD τ).loc main_arg2)
def Xs : S128x1024.Idx → EReal := m ((c.tc : Thread nD τ).loc main_arg3)
def Ds : S128x512.Idx → EReal := m ((c.tc : Thread nD τ).loc main_arg4)
def Es : S128x512.Idx → EReal := m ((c.tc : Thread nD τ).loc main_arg5)
def Wo : S1024x1024.Idx → EReal := m ((c.tc : Thread nD τ).loc main_arg6)
def Ln : S1024.Idx → EReal := m ((c.tc : Thread nD τ).loc main_arg7)

/-- Entry `j` of row `n` of the tokens and of the two halves' outputs: the prompt's rows, the sampled rows, zeros. -/
def xrow (n : Nat) (j : Fin 1024) : EReal := row (fun a => Xp m c (ix2 a j)) (fun a => Xs m c (ix2 a j)) n
def drow (n : Nat) (k : Fin 512) : EReal := row (fun a => Dp m c (ix2 a k)) (fun a => Ds m c (ix2 a k)) n
def erow (n : Nat) (k : Fin 512) : EReal := row (fun a => Ep m c (ix2 a k)) (fun a => Es m c (ix2 a k)) n

/-- Entry `j` of row `n` of the residual stream after the output projection. -/
def S (n : Nat) (j : Fin 1024) : EReal := out (xrow m c n j) (drow m c n) (erow m c n) (fun k => Wo m c (ix2 k j))

/-! ## The body's arithmetic -/

/-- A block of the prompt. -/
theorem pay2_lo (i : grid0.Coords) (hi : (i 0).val < 64) (a b : Vec Ideal S512x1024 .f32) (d d' e e' : Vec Ideal S512x512 .bf16)
    (u v : Vec Ideal S512x1024 .bf16) (r : Fin 512) (j : Fin 1024) :
    k0_pay2 i a b d d' e e' u v (ix2 r j)
      = a (ix2 r j) + ∑ k : Fin 512, d (ix2 r k) * u (ix2 k j) + ∑ k : Fin 512, e (ix2 r k) * v (ix2 k j) := by
  have hc : Scalar.cmpi .slt (BitVec.ofNat 32 (i 0).val) 64#32 = 1#1 := by
    show IntOp.cmpi .slt (BitVec.ofNat 32 (i 0).val) 64#32 = 1#1
    rw [WordCmp.cmpi_slt_eq, WordCmp.ofBool_decide_eq_one_iff, BitVec.toInt_eq_toNat_cond, BitVec.toNat_ofNat, Nat.mod_eq_of_lt (by omega : (i 0).val < 2 ^ 32), if_pos (by omega)]
    show ((i 0).val : Int) < 64
    omega
  unfold k0_pay2
  have hs : ∀ {α : Type} (x y : α), Scalar.select 1#1 x y = x := fun x y => if_pos rfl
  simp only [hc, hs]
  pointwise

/-- The block of the sampled tokens. -/
theorem pay2_hi (i : grid0.Coords) (hi : (i 0).val = 64) (a b : Vec Ideal S512x1024 .f32) (d d' e e' : Vec Ideal S512x512 .bf16)
    (u v : Vec Ideal S512x1024 .bf16) (r : Fin 512) (j : Fin 1024) :
    k0_pay2 i a b d d' e e' u v (ix2 r j)
      = b (ix2 r j) + ∑ k : Fin 512, d' (ix2 r k) * u (ix2 k j) + ∑ k : Fin 512, e' (ix2 r k) * v (ix2 k j) := by
  have hc : Scalar.cmpi .slt (BitVec.ofNat 32 (i 0).val) 64#32 = 0#1 := by rw [hi]; rfl
  unfold k0_pay2
  have hs : ∀ {α : Type} (x y : α), Scalar.select 0#1 x y = y := fun x y => if_neg (by decide)
  simp only [hc, hs]
  pointwise

/-- The normalised block. -/
theorem pay11_apply (y : FVec Ideal S512x1024 .f32) (g : Vec Ideal S1x1024 .f32) (r : Fin 512) (j : Fin 1024) :
    k0_pay11 y g (ix2 r j) = rms 0x44800000#32 (fun k => y (ix2 r k)) (fun k => g (ix2 0 k)) j := by
  pointwise [k0_pay11, rms, rinv]

/-! ## The arrays that the region is entered with -/

theorem V_Xs (r : Fin 512) (k : Fin 1024) : (V m c main_v6 : S512x1024.Idx → EReal) (ix2 r k)
    = if h : r.val < 128 then Xs m c (ix2 ⟨r.val, h⟩ k) else 0 := by
  have h : (V m c main_v6 : S512x1024.Idx → EReal) = pad S512x1024 ![0, 0] ![384, 0] ![0, 0] (Xs m c) (sitofp (F := Ideal) .f32 (constantI S_ 32 0#32)) pads_S128x1024_S512x1024_03840_000 h_S_ := by
    show StableHlo.after (List.flatten [hostOps0, hostOps0_1, hostOps0_2, hostOps0_3, hostOps0_4, hostOps0_5, hostOps0_6]) _ _ = _
    simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  have hz : (FloatOps.sitofp (F := Ideal) FTy.f32 (0#32 : BitVec 32)) = (0 : EReal) := by
    show ((((0#32 : BitVec 32).toInt : ℤ) : ℝ) : EReal) = 0
    simp
  pointwise [hz]

theorem V_Ds (r : Fin 512) (k : Fin 512) : (V m c main_v7 : S512x512.Idx → EReal) (ix2 r k)
    = if h : r.val < 128 then Ds m c (ix2 ⟨r.val, h⟩ k) else 0 := by
  have h : (V m c main_v7 : S512x512.Idx → EReal) = pad S512x512 ![0, 0] ![384, 0] ![0, 0] (Ds m c) (sitofp (F := Ideal) .bf16 (constantI S_ 32 0#32)) pads_S128x512_S512x512_03840_000 h_S_ := by
    show StableHlo.after (List.flatten [hostOps0, hostOps0_1, hostOps0_2, hostOps0_3, hostOps0_4, hostOps0_5, hostOps0_6]) _ _ = _
    simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  have hz : (FloatOps.sitofp (F := Ideal) FTy.bf16 (0#32 : BitVec 32)) = (0 : EReal) := by
    show ((((0#32 : BitVec 32).toInt : ℤ) : ℝ) : EReal) = 0
    simp
  pointwise [hz]

theorem V_Es (r : Fin 512) (k : Fin 512) : (V m c main_v8 : S512x512.Idx → EReal) (ix2 r k)
    = if h : r.val < 128 then Es m c (ix2 ⟨r.val, h⟩ k) else 0 := by
  have h : (V m c main_v8 : S512x512.Idx → EReal) = pad S512x512 ![0, 0] ![384, 0] ![0, 0] (Es m c) (sitofp (F := Ideal) .bf16 (constantI S_ 32 0#32)) pads_S128x512_S512x512_03840_000 h_S_ := by
    show StableHlo.after (List.flatten [hostOps0, hostOps0_1, hostOps0_2, hostOps0_3, hostOps0_4, hostOps0_5, hostOps0_6]) _ _ = _
    simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  have hz : (FloatOps.sitofp (F := Ideal) FTy.bf16 (0#32 : BitVec 32)) = (0 : EReal) := by
    show ((((0#32 : BitVec 32).toInt : ℤ) : ℝ) : EReal) = 0
    simp
  pointwise [hz]

theorem V_w1 (k : Fin 512) (j : Fin 1024) : (V m c main_v9 : S512x1024.Idx → EReal) (ix2 k j) = Wo m c (ix2 ⟨k.val, by omega⟩ j) := by
  have h : (V m c main_v9 : S512x1024.Idx → EReal) = extractStridedSlice S512x1024 ![0, 0] (truncf (F := Ideal) (φ := .f32) .bf16 (Wo m c) bitsLt_bf16_f32) slices_S1024x1024_S512x1024_0_0 := by
    show StableHlo.after (List.flatten [hostOps0, hostOps0_1, hostOps0_2, hostOps0_3, hostOps0_4, hostOps0_5, hostOps0_6]) _ _ = _
    simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise

theorem V_w2 (k : Fin 512) (j : Fin 1024) : (V m c main_v10 : S512x1024.Idx → EReal) (ix2 k j) = Wo m c (ix2 ⟨512 + k.val, by omega⟩ j) := by
  have h : (V m c main_v10 : S512x1024.Idx → EReal) = extractStridedSlice S512x1024 ![512, 0] (truncf (F := Ideal) (φ := .f32) .bf16 (Wo m c) bitsLt_bf16_f32) slices_S1024x1024_S512x1024_512_0 := by
    show StableHlo.after (List.flatten [hostOps0, hostOps0_1, hostOps0_2, hostOps0_3, hostOps0_4, hostOps0_5, hostOps0_6]) _ _ = _
    simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise

theorem V_ln (k : Fin 1024) : (V m c main_v11 : S1x1024.Idx → EReal) (ix2 0 k) = Ln m c (ix1 k) := by
  have h : (V m c main_v11 : S1x1024.Idx → EReal) = shapeCast S1x1024 (Ln m c) shapeCasts_S1024_S1x1024 := by
    show StableHlo.after (List.flatten [hostOps0, hostOps0_1, hostOps0_2, hostOps0_3, hostOps0_4, hostOps0_5, hostOps0_6]) _ _ = _
    simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  pointwise

/-! ## The blocks -/

theorem coord (t : Fin cfg0.N) : (grid0.coords t 0).val = t.val :=
  (by decide +kernel : ∀ t : Fin grid0.N, (grid0.coords t 0).val = t.val) t
theorem ix_p : ∀ t : Fin cfg0.N, (win0_0.index t 0 = min t.val 63 ∧ win0_0.index t 1 = 0) ∧ (win0_1.index t 0 = min t.val 63 ∧ win0_1.index t 1 = 0) ∧ (win0_2.index t 0 = min t.val 63 ∧ win0_2.index t 1 = 0) :=
  (by decide +kernel : ∀ t : Fin grid0.N, (win0_0.index t 0 = min t.val 63 ∧ win0_0.index t 1 = 0) ∧ (win0_1.index t 0 = min t.val 63 ∧ win0_1.index t 1 = 0) ∧ (win0_2.index t 0 = min t.val 63 ∧ win0_2.index t 1 = 0))
theorem ix_c : ∀ t : Fin cfg0.N, (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) :=
  (by decide +kernel : ∀ t : Fin grid0.N, (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0))
theorem ix_o : ∀ t : Fin cfg0.N, (win0_12.index t 0 = t.val ∧ win0_12.index t 1 = 0) ∧ (win0_13.index t 0 = t.val ∧ win0_13.index t 1 = 0) :=
  (by decide +kernel : ∀ t : Fin grid0.N, (win0_12.index t 0 = t.val ∧ win0_12.index t 1 = 0) ∧ (win0_13.index t 0 = t.val ∧ win0_13.index t 1 = 0))

theorem tlt (t : Fin cfg0.N) : t.val < 65 := t.isLt

theorem blk_Xp (t : Fin cfg0.N) (ht : t.val < 64) (r : Fin 512) (k : Fin 1024) : (iblk m c 0 t : S512x1024.Idx → EReal) (ix2 r k)
    = Xp m c (ix2 ⟨t.val * 512 + r.val, by omega⟩ k) := by
  unfold iblk
  rw [View.read_apply]
  show (V m c main_arg0 : S32768x1024.Idx → EReal) _ = _
  rw [V_main_arg0]
  refine congrArg (Xp m c) (funext fun a => Fin.ext ?_)
  match a with
  | ⟨0, _⟩ => show win0_0.index t 0 * 512 + 1 * r.val = t.val * 512 + r.val; rw [(ix_p t).1.1]; omega
  | ⟨1, _⟩ => show win0_0.index t 1 * 1024 + 1 * k.val = k.val; rw [(ix_p t).1.2]; omega

theorem blk_Dp (t : Fin cfg0.N) (ht : t.val < 64) (r : Fin 512) (k : Fin 512) : (iblk m c 1 t : S512x512.Idx → EReal) (ix2 r k)
    = Dp m c (ix2 ⟨t.val * 512 + r.val, by omega⟩ k) := by
  unfold iblk
  rw [View.read_apply]
  show (V m c main_arg1 : S32768x512.Idx → EReal) _ = _
  rw [V_main_arg1]
  refine congrArg (Dp m c) (funext fun a => Fin.ext ?_)
  match a with
  | ⟨0, _⟩ => show win0_1.index t 0 * 512 + 1 * r.val = t.val * 512 + r.val; rw [(ix_p t).2.1.1]; omega
  | ⟨1, _⟩ => show win0_1.index t 1 * 512 + 1 * k.val = k.val; rw [(ix_p t).2.1.2]; omega

theorem blk_Ep (t : Fin cfg0.N) (ht : t.val < 64) (r : Fin 512) (k : Fin 512) : (iblk m c 2 t : S512x512.Idx → EReal) (ix2 r k)
    = Ep m c (ix2 ⟨t.val * 512 + r.val, by omega⟩ k) := by
  unfold iblk
  rw [View.read_apply]
  show (V m c main_arg2 : S32768x512.Idx → EReal) _ = _
  rw [V_main_arg2]
  refine congrArg (Ep m c) (funext fun a => Fin.ext ?_)
  match a with
  | ⟨0, _⟩ => show win0_2.index t 0 * 512 + 1 * r.val = t.val * 512 + r.val; rw [(ix_p t).2.2.1]; omega
  | ⟨1, _⟩ => show win0_2.index t 1 * 512 + 1 * k.val = k.val; rw [(ix_p t).2.2.2]; omega

theorem blk_Xs (t : Fin cfg0.N) (r : Fin 512) (k : Fin 1024) : (iblk m c 3 t : S512x1024.Idx → EReal) (ix2 r k)
    = if h : r.val < 128 then Xs m c (ix2 ⟨r.val, h⟩ k) else 0 := by
  refine Eq.trans ?_ (V_Xs m c r k)
  unfold iblk
  rw [View.read_apply]
  show (V m c main_v6 : S512x1024.Idx → EReal) _ = _
  refine congrArg _ (funext fun a => Fin.ext ?_)
  match a with
  | ⟨0, _⟩ => show win0_3.index t 0 * 512 + 1 * r.val = r.val; rw [(ix_c t).1.1]; omega
  | ⟨1, _⟩ => show win0_3.index t 1 * 1024 + 1 * k.val = k.val; rw [(ix_c t).1.2]; omega

theorem blk_Ds (t : Fin cfg0.N) (r : Fin 512) (k : Fin 512) : (iblk m c 4 t : S512x512.Idx → EReal) (ix2 r k)
    = if h : r.val < 128 then Ds m c (ix2 ⟨r.val, h⟩ k) else 0 := by
  refine Eq.trans ?_ (V_Ds m c r k)
  unfold iblk
  rw [View.read_apply]
  show (V m c main_v7 : S512x512.Idx → EReal) _ = _
  refine congrArg _ (funext fun a => Fin.ext ?_)
  match a with
  | ⟨0, _⟩ => show win0_4.index t 0 * 512 + 1 * r.val = r.val; rw [(ix_c t).2.1.1]; omega
  | ⟨1, _⟩ => show win0_4.index t 1 * 512 + 1 * k.val = k.val; rw [(ix_c t).2.1.2]; omega

theorem blk_Es (t : Fin cfg0.N) (r : Fin 512) (k : Fin 512) : (iblk m c 5 t : S512x512.Idx → EReal) (ix2 r k)
    = if h : r.val < 128 then Es m c (ix2 ⟨r.val, h⟩ k) else 0 := by
  refine Eq.trans ?_ (V_Es m c r k)
  unfold iblk
  rw [View.read_apply]
  show (V m c main_v8 : S512x512.Idx → EReal) _ = _
  refine congrArg _ (funext fun a => Fin.ext ?_)
  match a with
  | ⟨0, _⟩ => show win0_5.index t 0 * 512 + 1 * r.val = r.val; rw [(ix_c t).2.2.1.1]; omega
  | ⟨1, _⟩ => show win0_5.index t 1 * 512 + 1 * k.val = k.val; rw [(ix_c t).2.2.1.2]; omega

theorem blk_w1 (t : Fin cfg0.N) (r : Fin 512) (k : Fin 1024) : (iblk m c 6 t : S512x1024.Idx → EReal) (ix2 r k)
    = Wo m c (ix2 ⟨r.val, by omega⟩ k) := by
  refine Eq.trans ?_ (V_w1 m c r k)
  unfold iblk
  rw [View.read_apply]
  show (V m c main_v9 : S512x1024.Idx → EReal) _ = _
  refine congrArg _ (funext fun a => Fin.ext ?_)
  match a with
  | ⟨0, _⟩ => show win0_6.index t 0 * 512 + 1 * r.val = r.val; rw [(ix_c t).2.2.2.1.1]; omega
  | ⟨1, _⟩ => show win0_6.index t 1 * 1024 + 1 * k.val = k.val; rw [(ix_c t).2.2.2.1.2]; omega

theorem blk_w2 (t : Fin cfg0.N) (r : Fin 512) (k : Fin 1024) : (iblk m c 7 t : S512x1024.Idx → EReal) (ix2 r k)
    = Wo m c (ix2 ⟨512 + r.val, by omega⟩ k) := by
  refine Eq.trans ?_ (V_w2 m c r k)
  unfold iblk
  rw [View.read_apply]
  show (V m c main_v10 : S512x1024.Idx → EReal) _ = _
  refine congrArg _ (funext fun a => Fin.ext ?_)
  match a with
  | ⟨0, _⟩ => show win0_7.index t 0 * 512 + 1 * r.val = r.val; rw [(ix_c t).2.2.2.2.1.1]; omega
  | ⟨1, _⟩ => show win0_7.index t 1 * 1024 + 1 * k.val = k.val; rw [(ix_c t).2.2.2.2.1.2]; omega

theorem blk_ln (t : Fin cfg0.N) (k : Fin 1024) : (iblk m c 8 t : S1x1024.Idx → EReal) (ix2 0 k) = Ln m c (ix1 k) := by
  rw [← V_ln m c k]
  unfold iblk
  rw [View.read_apply]
  show (V m c main_v11 : S1x1024.Idx → EReal) _ = _
  refine congrArg _ (funext fun a => Fin.ext ?_)
  match a with
  | ⟨0, _⟩ => show win0_8.index t 0 * 1 + 1 * 0 = 0; rw [(ix_c t).2.2.2.2.2.1]
  | ⟨1, _⟩ => show win0_8.index t 1 * 1024 + 1 * k.val = k.val; rw [(ix_c t).2.2.2.2.2.2]; omega

/-- A padded row of the last block is a row past the prompt. -/
theorem row_hi (P : Fin 32768 → EReal) (Q : Fin 128 → EReal) (t : Nat) (ht : t = 64) (r : Fin 512) :
    (if h : r.val < 128 then Q ⟨r.val, h⟩ else 0) = row P Q (t * 512 + r.val) := by
  subst ht
  unfold row
  rw [dif_neg (show ¬ 64 * 512 + r.val < 32768 by omega)]
  by_cases h : r.val < 128
  · rw [dif_pos h, dif_pos (show 64 * 512 + r.val - 32768 < 128 by omega)]
    exact congrArg Q (Fin.ext (by show r.val = 64 * 512 + r.val - 32768; omega))
  · rw [dif_neg h, dif_neg (show ¬ 64 * 512 + r.val - 32768 < 128 by omega)]

theorem row_lo (P : Fin 32768 → EReal) (Q : Fin 128 → EReal) (n : Nat) (h : n < 32768) : row P Q n = P ⟨n, h⟩ := dif_pos h

/-- Point `t`'s block of the residual stream is rows `512 t …` of it. -/
theorem sumAt_apply (t : Fin cfg0.N) (r : Fin 512) (j : Fin 1024) : sumAt m c t (ix2 r j) = S m c (t.val * 512 + r.val) j := by
  have h65 := tlt t
  unfold sumAt S out
  by_cases ht : t.val < 64
  · refine (pay2_lo _ (by rw [coord]; exact ht) _ _ _ _ _ _ _ _ r j).trans ?_
    refine congrArg₂ (· + ·) (congrArg₂ (· + ·) ?_ (Finset.sum_congr rfl fun k _ => congrArg₂ (· * ·) ?_ ?_)) (Finset.sum_congr rfl fun k _ => congrArg₂ (· * ·) ?_ ?_)
    · exact (blk_Xp m c t ht r j).trans (row_lo (fun a => Xp m c (ix2 a j)) (fun a => Xs m c (ix2 a j)) _ (by omega)).symm
    · exact (blk_Dp m c t ht r k).trans (row_lo (fun a => Dp m c (ix2 a k)) (fun a => Ds m c (ix2 a k)) _ (by omega)).symm
    · exact blk_w1 m c t k j
    · exact (blk_Ep m c t ht r k).trans (row_lo (fun a => Ep m c (ix2 a k)) (fun a => Es m c (ix2 a k)) _ (by omega)).symm
    · exact blk_w2 m c t k j
  · have h64 : t.val = 64 := by omega
    refine (pay2_hi _ (by rw [coord]; exact h64) _ _ _ _ _ _ _ _ r j).trans ?_
    refine congrArg₂ (· + ·) (congrArg₂ (· + ·) ?_ (Finset.sum_congr rfl fun k _ => congrArg₂ (· * ·) ?_ ?_)) (Finset.sum_congr rfl fun k _ => congrArg₂ (· * ·) ?_ ?_)
    · exact (blk_Xs m c t r j).trans (row_hi (fun a => Xp m c (ix2 a j)) (fun a => Xs m c (ix2 a j)) _ h64 r)
    · exact (blk_Ds m c t r k).trans (row_hi (fun a => Dp m c (ix2 a k)) (fun a => Ds m c (ix2 a k)) _ h64 r)
    · exact blk_w1 m c t k j
    · exact (blk_Es m c t r k).trans (row_hi (fun a => Ep m c (ix2 a k)) (fun a => Es m c (ix2 a k)) _ h64 r)
    · exact blk_w2 m c t k j

theorem normAt_apply (t : Fin cfg0.N) (r : Fin 512) (j : Fin 1024) :
    normAt m c t (ix2 r j) = rms 0x44800000#32 (S m c (t.val * 512 + r.val)) (fun k => Ln m c (ix1 k)) j := by
  unfold normAt
  refine (pay11_apply _ _ r j).trans ?_
  simp only [blk_ln, sumAt_apply]

/-! ## The results -/

/-- The residual stream and its normalised form, packed: row `8 n + b` holds lanes `128 b …` of token `n`. -/
def G12 : S266240x128.Idx → EReal := fun i =>
  S m c ((i 0).val / 8) ⟨128 * ((i 0).val % 8) + (i 1).val, by have : (i 1).val < 128 := (i 1).isLt; omega⟩
def G13 : S266240x128.Idx → EReal := fun i =>
  rms 0x44800000#32 (S m c ((i 0).val / 8)) (fun k => Ln m c (ix1 k)) ⟨128 * ((i 0).val % 8) + (i 1).val, by have : (i 1).val < 128 := (i 1).isLt; omega⟩

theorem emb12 (t : Fin cfg0.N) (y0 : Fin 4096) (y1 : Fin 128) :
    (((cfg0.win 12).blk t).view.emb (ix2 y0 y1) : S266240x128.Idx) = ix2 (⟨t.val * 4096 + y0.val, by have := tlt t; omega⟩ : Fin 266240) y1 := by
  funext a
  apply Fin.ext
  match a with
  | ⟨0, _⟩ => show win0_12.index t 0 * 4096 + 1 * y0.val = t.val * 4096 + y0.val; rw [(ix_o t).1.1]; omega
  | ⟨1, _⟩ => show win0_12.index t 1 * 128 + 1 * y1.val = y1.val; rw [(ix_o t).1.2]; omega

theorem cover12 (i : S266240x128.Idx) : ∃ t : Fin cfg0.N, (cfg0.win 12).flush t = true ∧ i ∈ ((cfg0.win 12).blk t).view.set := by
  have i0 : (i 0).val < 266240 := (i 0).isLt
  have i1 : (i 1).val < 128 := (i 1).isLt
  obtain ⟨t, ht⟩ : ∃ t : Fin cfg0.N, t.val = (i 0).val / 4096 := ⟨⟨(i 0).val / 4096, by show (i 0).val / 4096 < 65; omega⟩, rfl⟩
  refine ⟨t, flush0_12 t, ?_⟩
  have key : ∀ h, i ∈ ((View.whole main_v13_0).slice (Rect.unit (s := S266240x128) (fun a => win0_12.index t a * S4096x128.size a) S4096x128.size h)).set := by
    intro h
    rw [View.set_slice_whole, Rect.mem_set_unit]
    intro a
    match a with
    | ⟨0, _⟩ => show win0_12.index t 0 * 4096 ≤ (i 0 : Nat) ∧ (i 0 : Nat) < win0_12.index t 0 * 4096 + 4096
                rw [(ix_o t).1.1]; omega
    | ⟨1, _⟩ => show win0_12.index t 1 * 128 ≤ (i 1 : Nat) ∧ (i 1 : Nat) < win0_12.index t 1 * 128 + 128
                rw [(ix_o t).1.2]; omega
  exact key _

theorem val12 : (dats m 0 c).arrAt 12 cfg0.N = G12 m c := by
  refine (dats m 0 c).arrAt_eq_of_cover 12 (G12 m c) (fun t _ => ?_) cover12
  have hf : (dats m 0 c).flushed 12 t = (cfg0.win 12).cut (grid0.coords t) (packed (sumAt m c t)) := by
    show (cfg0.win 12).cut (grid0.coords t) ((dats m 0 c).after 12 t) = _
    rw [after0_12]
  rw [hf]
  funext (y : S4096x128.Idx)
  obtain ⟨y0, y1, rfl⟩ : ∃ (a : Fin 4096) (b : Fin 128), y = ix2 a b := ⟨y 0, y 1, eq_ix2 y⟩
  rw [View.read_apply]
  show (sumAt m c t (ix2 (⟨y0.val / 8, by omega⟩ : Fin 512) (⟨128 * (y0.val % 8) + y1.val, by omega⟩ : Fin 1024)) : EReal) = G12 m c _
  refine Eq.trans ?_ (congrArg (G12 m c) (emb12 t y0 y1)).symm
  rw [sumAt_apply]
  unfold G12
  have hn : t.val * 512 + y0.val / 8 = (t.val * 4096 + y0.val) / 8 := by omega
  have hj : (⟨128 * (y0.val % 8) + y1.val, by omega⟩ : Fin 1024) = ⟨128 * ((t.val * 4096 + y0.val) % 8) + y1.val, by omega⟩ :=
    Fin.ext (by show 128 * (y0.val % 8) + y1.val = 128 * ((t.val * 4096 + y0.val) % 8) + y1.val; omega)
  rw [hn, hj]
  rfl

theorem emb13 (t : Fin cfg0.N) (y0 : Fin 4096) (y1 : Fin 128) :
    (((cfg0.win 13).blk t).view.emb (ix2 y0 y1) : S266240x128.Idx) = ix2 (⟨t.val * 4096 + y0.val, by have := tlt t; omega⟩ : Fin 266240) y1 := by
  funext a
  apply Fin.ext
  match a with
  | ⟨0, _⟩ => show win0_13.index t 0 * 4096 + 1 * y0.val = t.val * 4096 + y0.val; rw [(ix_o t).2.1]; omega
  | ⟨1, _⟩ => show win0_13.index t 1 * 128 + 1 * y1.val = y1.val; rw [(ix_o t).2.2]; omega

theorem cover13 (i : S266240x128.Idx) : ∃ t : Fin cfg0.N, (cfg0.win 13).flush t = true ∧ i ∈ ((cfg0.win 13).blk t).view.set := by
  have i0 : (i 0).val < 266240 := (i 0).isLt
  have i1 : (i 1).val < 128 := (i 1).isLt
  obtain ⟨t, ht⟩ : ∃ t : Fin cfg0.N, t.val = (i 0).val / 4096 := ⟨⟨(i 0).val / 4096, by show (i 0).val / 4096 < 65; omega⟩, rfl⟩
  refine ⟨t, flush0_13 t, ?_⟩
  have key : ∀ h, i ∈ ((View.whole main_v13_1).slice (Rect.unit (s := S266240x128) (fun a => win0_13.index t a * S4096x128.size a) S4096x128.size h)).set := by
    intro h
    rw [View.set_slice_whole, Rect.mem_set_unit]
    intro a
    match a with
    | ⟨0, _⟩ => show win0_13.index t 0 * 4096 ≤ (i 0 : Nat) ∧ (i 0 : Nat) < win0_13.index t 0 * 4096 + 4096
                rw [(ix_o t).2.1]; omega
    | ⟨1, _⟩ => show win0_13.index t 1 * 128 ≤ (i 1 : Nat) ∧ (i 1 : Nat) < win0_13.index t 1 * 128 + 128
                rw [(ix_o t).2.2]; omega
  exact key _

theorem val13 : (dats m 0 c).arrAt 13 cfg0.N = G13 m c := by
  refine (dats m 0 c).arrAt_eq_of_cover 13 (G13 m c) (fun t _ => ?_) cover13
  have hf : (dats m 0 c).flushed 13 t = (cfg0.win 13).cut (grid0.coords t) (packed (normAt m c t)) := by
    show (cfg0.win 13).cut (grid0.coords t) ((dats m 0 c).after 13 t) = _
    rw [after0_13]
  rw [hf]
  funext (y : S4096x128.Idx)
  obtain ⟨y0, y1, rfl⟩ : ∃ (a : Fin 4096) (b : Fin 128), y = ix2 a b := ⟨y 0, y 1, eq_ix2 y⟩
  rw [View.read_apply]
  show (normAt m c t (ix2 (⟨y0.val / 8, by omega⟩ : Fin 512) (⟨128 * (y0.val % 8) + y1.val, by omega⟩ : Fin 1024)) : EReal) = G13 m c _
  refine Eq.trans ?_ (congrArg (G13 m c) (emb13 t y0 y1)).symm
  rw [normAt_apply]
  unfold G13
  have hn : t.val * 512 + y0.val / 8 = (t.val * 4096 + y0.val) / 8 := by omega
  have hj : (⟨128 * (y0.val % 8) + y1.val, by omega⟩ : Fin 1024) = ⟨128 * ((t.val * 4096 + y0.val) % 8) + y1.val, by omega⟩ :=
    Fin.ext (by show 128 * (y0.val % 8) + y1.val = 128 * ((t.val * 4096 + y0.val) % 8) + y1.val; omega)
  rw [hn, hj]
  rfl

end Cert.Proof.PostValue

end
-- ==== Proof.PostRef.lean ====
/- The output projection on the reference's side: its two results, entry by entry. -/
module

public import proofs.«01_k».proof.Proof.PostSpec
public import proofs.«01_k».proof.Proof.Gen.Reference5Ideal.Run

@[expose] public section

set_option maxRecDepth 16384

noncomputable section

namespace Cert.Proof.PostRef

open Idealize.ShloMosaic Idealize.ShloMosaic.TcCoe Idealize.SL.Sem
open Cert.Reference5Ideal Cert.Reference5Ideal.Gen Cert.Reference5Ideal.Value Cert.Proof.Proj Cert.Proof.Out

variable (m : (ℓ : Loc nD τ sig) → Buf (Elt Ideal) ℓ) (c : Dev nD)

/-- The arguments, as launched. -/
def Xp : S32768x1024.Idx → EReal := m ((c.tc : Thread nD τ).loc main_arg0)
def Dp : S32768x512.Idx → EReal := m ((c.tc : Thread nD τ).loc main_arg1)
def Ep : S32768x512.Idx → EReal := m ((c.tc : Thread nD τ).loc main_arg2)
def Xs : S128x1024.Idx → EReal := m ((c.tc : Thread nD τ).loc main_arg3)
def Ds : S128x512.Idx → EReal := m ((c.tc : Thread nD τ).loc main_arg4)
def Es : S128x512.Idx → EReal := m ((c.tc : Thread nD τ).loc main_arg5)
def Wo : S1024x1024.Idx → EReal := m ((c.tc : Thread nD τ).loc main_arg6)
def Ln : S1024.Idx → EReal := m ((c.tc : Thread nD τ).loc main_arg7)

/-- The tokens and the two halves' outputs: the prompt's rows, the sampled rows, zeros. -/
def xs : FVec Ideal S33280x1024 .f32 :=
  pad S33280x1024 ![0, 0] ![384, 0] ![0, 0] (concatenate S32896x1024 0 [⟨S32768x1024, Xp m c⟩, ⟨S128x1024, Xs m c⟩] concatenates_S32768x1024_S128x1024_S32896x1024_d0)
    (sitofp (F := Ideal) .f32 (constantI S_ 32 0#32)) pads_S32896x1024_S33280x1024_03840_000 h_S_
def ds : FVec Ideal S33280x512 .f32 :=
  pad S33280x512 ![0, 0] ![384, 0] ![0, 0] (extf (F := Ideal) (φ := .bf16) .f32 (concatenate S32896x512 0 [⟨S32768x512, Dp m c⟩, ⟨S128x512, Ds m c⟩] concatenates_S32768x512_S128x512_S32896x512_d0) bitsLt_bf16_f32)
    (sitofp (F := Ideal) .f32 (constantI S_ 32 0#32)) pads_S32896x512_S33280x512_03840_000 h_S_
def es : FVec Ideal S33280x512 .f32 :=
  pad S33280x512 ![0, 0] ![384, 0] ![0, 0] (extf (F := Ideal) (φ := .bf16) .f32 (concatenate S32896x512 0 [⟨S32768x512, Ep m c⟩, ⟨S128x512, Es m c⟩] concatenates_S32768x512_S128x512_S32896x512_d0) bitsLt_bf16_f32)
    (sitofp (F := Ideal) .f32 (constantI S_ 32 0#32)) pads_S32896x512_S33280x512_03840_000 h_S_
/-- The residual stream after the output projection. -/
def ys : FVec Ideal S33280x1024 .f32 :=
  addf (xs m c) (Host.dotGeneral (F := Ideal) (φ₁ := .f32) (φ₂ := .f32) dot_S33280x1024_S1024x1024_S33280x1024_1_0_0_1_n_n none
    (concatenate S33280x1024 1 [⟨S33280x512, ds m c⟩, ⟨S33280x512, es m c⟩] concatenates_S33280x512_S33280x512_S33280x1024_d1) (Wo m c : FVec Ideal S1024x1024 .f32))
/-- Its normalised form. -/
def ns (y : FVec Ideal S33280x1024 .f32) : FVec Ideal S33280x1024 .f32 :=
  mulf (mulf y (broadcastInDim S33280x1024 ![0, 1] bcast_S33280x1_S33280x1024_0_1 (Host.rsqrt (addf (Host.divf (broadcastInDim S33280x1 ![0] bcast_S33280_S33280x1_0
    (Host.reduceAdd (mulf y y) (constant S_ .f32 0x00000000#32) reducesTo_S33280x1024_S33280_d1 h_S_)) (broadcastInDim S33280x1 ![] bcast_S_S33280x1 (constant S_ .f32 0x44800000#32)))
    (broadcastInDim S33280x1 ![] bcast_S_S33280x1 (constant S_ .f32 0x358637BD#32))))))
    (broadcastInDim S33280x1024 ![0, 1] bcast_S1x1024_S33280x1024_0_1 (broadcastInDim S1x1024 ![1] bcast_S1024_S1x1024_1 (Ln m c : FVec Ideal S1024 .f32)))

def xrow (n : Nat) (j : Fin 1024) : EReal := row (fun a => Xp m c (ix2 a j)) (fun a => Xs m c (ix2 a j)) n
def drow (n : Nat) (k : Fin 512) : EReal := row (fun a => Dp m c (ix2 a k)) (fun a => Ds m c (ix2 a k)) n
def erow (n : Nat) (k : Fin 512) : EReal := row (fun a => Ep m c (ix2 a k)) (fun a => Es m c (ix2 a k)) n
/-- Entry `j` of row `n` of the residual stream after the output projection. -/
def S (n : Nat) (j : Fin 1024) : EReal := out (xrow m c n j) (drow m c n) (erow m c n) (fun k => Wo m c (ix2 k j))

/-- The padding of the joined rows, as the host lays them. -/
theorem row_laid (P : Fin 32768 → EReal) (Q : Fin 128 → EReal) (n : Fin 33280) :
    (if h : n.val < 32896 then (if h' : n.val < 32768 then P ⟨n.val, h'⟩ else Q ⟨n.val - 32768, by omega⟩) else 0) = row P Q n.val := by
  unfold row
  by_cases h1 : n.val < 32768
  · rw [dif_pos (show n.val < 32896 by omega), dif_pos h1, dif_pos h1]
  · rw [dif_neg h1]
    by_cases h2 : n.val < 32896
    · rw [dif_pos h2, dif_neg h1, dif_pos (show n.val - 32768 < 128 by omega)]
    · rw [dif_neg h2, dif_neg (show ¬ n.val - 32768 < 128 by omega)]

theorem zero_word : (FloatOps.sitofp (F := Ideal) FTy.f32 (0#32 : BitVec 32)) = (0 : EReal) := by
  show ((((0#32 : BitVec 32).toInt : ℤ) : ℝ) : EReal) = 0
  simp

theorem xs_apply (n : Fin 33280) (j : Fin 1024) : xs m c (ix2 n j) = xrow m c n.val j := by
  refine Eq.trans ?_ (row_laid (fun a => Xp m c (ix2 a j)) (fun a => Xs m c (ix2 a j)) n)
  have hz := zero_word
  pointwise [xs, hz]
theorem ds_apply (n : Fin 33280) (k : Fin 512) : ds m c (ix2 n k) = drow m c n.val k := by
  refine Eq.trans ?_ (row_laid (fun a => Dp m c (ix2 a k)) (fun a => Ds m c (ix2 a k)) n)
  have hz := zero_word
  pointwise [ds, hz]
theorem es_apply (n : Fin 33280) (k : Fin 512) : es m c (ix2 n k) = erow m c n.val k := by
  refine Eq.trans ?_ (row_laid (fun a => Ep m c (ix2 a k)) (fun a => Es m c (ix2 a k)) n)
  have hz := zero_word
  pointwise [es, hz]

theorem ys_apply (n : Fin 33280) (j : Fin 1024) : ys m c (ix2 n j) = S m c n.val j := by
  refine Eq.trans ?_ (out_joined (xrow m c n.val j) (drow m c n.val) (erow m c n.val) (fun k => Wo m c (ix2 k j)))
  have h : ys m c (ix2 n j) = xs m c (ix2 n j) + ∑ k : Fin 1024,
      (if h : k.val < 512 then ds m c (ix2 n ⟨k.val, h⟩) else es m c (ix2 n ⟨k.val - 512, by omega⟩)) * Wo m c (ix2 k j) := by
    pointwise [ys]
  rw [h]
  simp only [xs_apply, ds_apply, es_apply]

theorem ns_apply (y : FVec Ideal S33280x1024 .f32) (n : Fin 33280) (j : Fin 1024) :
    ns m c y (ix2 n j) = rms 0x44800000#32 (fun k => y (ix2 n k)) (fun k => Ln m c (ix1 k)) j := by
  pointwise [ns, rms, rinv]

/-- The two results, packed: row `8 n + b` holds lanes `128 b …` of token `n`. -/
def R24 : S266240x128.Idx → EReal := fun i =>
  S m c ((i 0).val / 8) ⟨128 * ((i 0).val % 8) + (i 1).val, by have : (i 1).val < 128 := (i 1).isLt; omega⟩
def R25 : S266240x128.Idx → EReal := fun i =>
  rms 0x44800000#32 (S m c ((i 0).val / 8)) (fun k => Ln m c (ix1 k)) ⟨128 * ((i 0).val % 8) + (i 1).val, by have : (i 1).val < 128 := (i 1).isLt; omega⟩

/-- Packing lays a row's eight groups of 128 lanes under each other. -/
theorem packed_apply (y : S33280x1024.Idx → EReal) (i : S266240x128.Idx) :
    shapeCast S266240x128 y shapeCasts_S33280x1024_S266240x128 i
      = y (ix2 (⟨(i 0).val / 8, by have : (i 0).val < 266240 := (i 0).isLt; omega⟩ : Fin 33280)
          (⟨128 * ((i 0).val % 8) + (i 1).val, by have : (i 1).val < 128 := (i 1).isLt; omega⟩ : Fin 1024)) := by
  have i0 : (i 0).val < 266240 := (i 0).isLt
  have i1 : (i 1).val < 128 := (i 1).isLt
  refine shapeCast_apply _ shapeCasts_S33280x1024_S266240x128 i _ ?_
  rw [Shape.rowMajor_val_two, Shape.rowMajor_val_two]
  show (i 0).val / 8 * 1024 + (128 * ((i 0).val % 8) + (i 1).val) = (i 0).val * 128 + (i 1).val
  omega

theorem run (ρ : Dev nD → PrngReg) :
    θ_run defs (onTc (τ := τ) (main (F := Ideal))) ⟨m, fun _ => 0, ρ⟩ fun r => ∀ c : Dev nD,
      r.2.mem ((c.tc : Thread nD τ).loc main_v24) = R24 m c
      ∧ r.2.mem ((c.tc : Thread nD τ).loc main_v25) = R25 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Value.run m ρ)
  obtain ⟨h24, h25, ha⟩ := h c
  refine ⟨h24.trans ?_, h25.trans ?_, ha⟩
  · show shapeCast S266240x128 (ys m c) shapeCasts_S33280x1024_S266240x128 = _
    funext i
    refine (packed_apply _ i).trans ?_
    exact ys_apply m c _ _
  · show shapeCast S266240x128 (ns m c (ys m c)) shapeCasts_S33280x1024_S266240x128 = _
    funext i
    refine (packed_apply _ i).trans ((ns_apply m c _ _ _).trans ?_)
    simp only [ys_apply]
    rfl

end Cert.Proof.PostRef

end
-- ==== Proof.PostClaim.lean ====
/- The output projection: the kernel's two results and the reference's are the same entries. -/
module

public import proofs.«01_k».proof.Defs
public import proofs.«01_k».proof.Proof.PostValue
public import proofs.«01_k».proof.Proof.PostRef

@[expose] public section

set_option maxRecDepth 16384

noncomputable section

namespace Cert.Proof.PostClaim

open Idealize.ShloMosaic Idealize.ShloMosaic.TcCoe Idealize.SL.Sem

section
open Cert.Kernel5Ideal
variable (m : (ℓ : Loc nD τ sig) → Buf (Elt Ideal) ℓ)
  (m' : (ℓ : Loc Cert.Reference5Ideal.nD Cert.Reference5Ideal.τ Cert.Reference5Ideal.sig) → Buf (Elt Ideal) ℓ) (c : Dev nD)
  (hXp : PostRef.Xp m' c = PostValue.Xp m c)
  (hDp : PostRef.Dp m' c = PostValue.Dp m c)
  (hEp : PostRef.Ep m' c = PostValue.Ep m c)
  (hXs : PostRef.Xs m' c = PostValue.Xs m c)
  (hDs : PostRef.Ds m' c = PostValue.Ds m c)
  (hEs : PostRef.Es m' c = PostValue.Es m c)
  (hWo : PostRef.Wo m' c = PostValue.Wo m c)
  (hLn : PostRef.Ln m' c = PostValue.Ln m c)
include hXp hDp hEp hXs hDs hEs hWo

/-- The two sides' residual streams are the same rows. -/
theorem eqS : PostRef.S m' c = PostValue.S m c := by
  funext n j
  unfold PostRef.S PostValue.S PostRef.xrow PostValue.xrow PostRef.drow PostValue.drow PostRef.erow PostValue.erow
  rw [hXp, hDp, hEp, hXs, hDs, hEs, hWo]

theorem eq0 : PostRef.R24 m' c = PostValue.G12 m c := by
  funext i
  unfold PostRef.R24 PostValue.G12
  rw [eqS m m' c hXp hDp hEp hXs hDs hEs hWo]

include hLn in
theorem eq1 : PostRef.R25 m' c = PostValue.G13 m c := by
  funext i
  unfold PostRef.R25 PostValue.G13
  rw [eqS m m' c hXp hDp hEp hXs hDs hEs hWo, hLn]

end

/-- From arguments that agree, the kernel and the reference end with the same two results. -/
theorem alg [h1 : Cert.Kernel5Ideal.Facts] [h2 : Cert.Reference5Ideal.Facts] : Cert.algebraic_Kernel5Ideal_Reference5Ideal := by
  intro m g m' g' _ hag
  refine ⟨fun c => PostValue.G12 m c, fun c => PostValue.G13 m c, ?_, ?_⟩
  · refine (θ_run _ _ _).mono (fun r h c => ?_) (θ_run_and (Cert.Kernel5Ideal.Post.run_main (F := Ideal) m g) (Cert.Kernel5Ideal.Post.frame (F := Ideal) m g))
    exact ⟨(h.1 c).1.trans (PostValue.val12 m c), (h.1 c).2.trans (PostValue.val13 m c), h.2.1 c⟩
  · refine (θ_run _ _ _).mono (fun r h c => ?_) (PostRef.run m' g')
    obtain ⟨h24, h25, ha⟩ := h c
    obtain ⟨a0, a1, a2, a3, a4, a5, a6, a7, a8, a9⟩ := hag c
    exact ⟨h24.trans (eq0 m m' c a0 a1 a2 a3 a4 a5 a6), h25.trans (eq1 m m' c a0 a1 a2 a3 a4 a5 a6 a7), ha⟩

end Cert.Proof.PostClaim

end
-- ==== Proof.Attn.lean ====
/- The run of the prompt attention's body at a point, and the launch. -/
module

public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.VecWindow

@[expose] public section

set_option maxRecDepth 16384

noncomputable section

namespace Cert.Kernel6Ideal.Attn

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref held whole at `x`; -/
abbrev own (c : Dev nD) {S : Shape} {e : EltTy} (a : Memref sig .tc .vmem S e) (x : Vec F S e) : sProp 𝕄 :=
  owns (c : Thread nD τ) a fullShare x
/-- held at something. -/
abbrev held (c : Dev nD) {S : Shape} {e : EltTy} (a : Memref sig .tc .vmem S e) : sProp 𝕄 :=
  iprop(∃ d, owns (c : Thread nD τ) a fullShare d)
/-- The same of its buffer, as the run holds it. -/
abbrev buf (c : Dev nD) {S : Shape} {e : EltTy} (a : Memref sig .tc .vmem S e)
    (f : Buf (Elt F) (a.view.loc (c : Thread nD τ))) : sProp 𝕄 :=
  a.view.loc (c : Thread nD τ) ↦[a.view.set]{fullShare} f

/-- A buffer reading `x` is a memref held at `x`, -/
theorem to_own (c : Dev nD) {S : Shape} {e : EltTy} (a : Memref sig .tc .vmem S e) {f} {x : Vec F S e}
    (h : a.view.read (Elt F) f = x) : buf c a f ⊢ iprop(∃ g, ⌜a.view.read (Elt F) g = x⌝ ∗ buf c a g) := by
  iintro H; iexists _; isplitr; · ipureintro; exact h
  iexact H
/-- and held at something. -/
theorem to_held (c : Dev nD) {S : Shape} {e : EltTy} (a : Memref sig .tc .vmem S e) {f} :
    buf (F := F) c a f ⊢ iprop(∃ d g, ⌜a.view.read (Elt F) g = d⌝ ∗ buf c a g) := by
  iintro H; iexists _; iexists _; isplitr; swap; · iexact H
  ipureintro; rfl

/-- A block number below 16 names a slot of the value scratch. -/
theorem slot_ok (w : BitVec 32) (h : w.toNat < 16) : k0_chk3 w := by
  unfold k0_chk3 k0_off8; intro a
  fin_cases a
  · show w.toNat + 1 ≤ 16; omega
  · show (0 + 128 : ℕ) ≤ 128; omega
  · show (0 + 256 : ℕ) ≤ 256; omega

section

variable (c : Dev nD) (i : grid0.Coords)
  (arg3 : Memref sig .tc .vmem S1x1x256x128 .f32) (harg3 : arg3.IsWhole)
  (arg4 : Memref sig .tc .vmem S1x1x4096x128 .f32) (harg4 : arg4.IsWhole)
  (arg5 : Memref sig .tc .vmem S1x1x4096x128 .f32) (harg5 : arg5.IsWhole)
  (arg6 : Memref sig .tc .vmem S40x128x128 .f32) (harg6 : arg6.IsWhole)
  (arg7 : Memref sig .tc .vmem S1x256x128 .bf16) (harg7 : arg7.IsWhole)
  (arg8 : Memref sig .tc .vmem S40x128 .f32) (harg8 : arg8.IsWhole)
  (arg9 : Memref sig .tc .vmem S16x256x128 .bf16) (harg9 : arg9.IsWhole)
  (arg10 : Memref sig .tc .vmem S16x128x256 .bf16) (harg10 : arg10.IsWhole)
  (arg11 : Memref sig .tc .vmem S16x128 .f32) (harg11 : arg11.IsWhole)
  (arg12 : Memref sig .tc .vmem S16x256 .f32) (harg12 : arg12.IsWhole)

set_option warn.classDefReducibility false in
set_option maxHeartbeats 4000000 in
/-- The loop over the earlier blocks: the scratch buffers are only read, and the carried number is a block's. -/
@[sl_loop] def loopInv (f9 : Buf (Elt F) (arg9.view.loc (c : Thread nD τ))) (f10 : Buf (Elt F) (arg10.view.loc (c : Thread nD τ)))
    (f12 : Buf (Elt F) (arg12.view.loc (c : Thread nD τ))) (E : Set ℕ) (v64 : FVec F S256x128 .bf16) (v73 : FVec F S256x256 .f32) (hok) (init) :
    LoopInv (M := 𝕄) frame (wpE (defs₀ (F := F)) Variants.none c none) E 0#32
      (k0_t1_loop i).ub 1#32 hok init
      (k0_t1_body i arg3 harg3 arg4 harg4 arg5 harg5 arg6 harg6 arg7 harg7 arg8 harg8 arg9 harg9 arg10 harg10 arg11 harg11 arg12 harg12 (BitVec.ofNat 32 (i 2).val) v64 v73) where
  inv _ acc := iprop(⌜acc.2.2.1.toNat < 16⌝ ∗ buf c arg9 f9 ∗ buf c arg10 f10 ∗ buf c arg12 f12)
  step k acc := by
    unfold buf k0_t1_body
    iintro ⟨%h, H9, H10, H12⟩
    have hc : k0_chk1 i k acc.2.2.1 := slot_ok _ h
    sl_exec
    sl_step
    isplitr
    · ipureintro
      have hk : k.val < 15 := k.isLt.trans_le (k0_t1_abs i).2.1
      show (0#32 + BitVec.ofNat 32 k.val * 1#32).toNat < 16
      simp; omega
    isplitl [H9]; · iexact H9
    isplitl [H10]; · iexact H10
    iexact H12

set_option maxHeartbeats 8000000 in
/-- The body at any point: the inputs are kept and the page sums are the slabs' sums. -/
theorem run (x3 : Vec F S1x1x256x128 .f32) (x4 : Vec F S1x1x4096x128 .f32) (x5 : Vec F S1x1x4096x128 .f32) (x6 : Vec F S40x128x128 .f32) (E : Set ℕ) (K : PUnit → sProp 𝕄) :
    iprop(own c arg3 x3 ∗ own c arg4 x4 ∗ own c arg5 x5 ∗ own c arg6 x6 ∗ held c arg7 ∗ held c arg8 ∗ held c arg9 ∗ held c arg10 ∗ held c arg11 ∗ held c arg12
        ∗ (iprop(own c arg3 x3 ∗ own c arg4 x4 ∗ own c arg5 x5 ∗ own c arg6 x6 ∗ held c arg7 ∗ own c arg8 (k0_pay71 x6) ∗ held c arg9 ∗ held c arg10 ∗ held c arg11 ∗ held c arg12) -∗ K ⟨⟩))
      ⊢ wp frame (wpE (defs₀ (F := F)) Variants.none c none) E (cc0_moba_prompt i arg3 harg3 arg4 harg4 arg5 harg5 arg6 harg6 arg7 harg7 arg8 harg8 arg9 harg9 arg10 harg10 arg11 harg11 arg12 harg12) K := by
  simp only [cc0_moba_prompt_eq_skeleton]; unfold cc0_moba_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold own held owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg3.eq_unread hf3; obtain rfl := harg4.eq_unread hf4; obtain rfl := harg5.eq_unread hf5; obtain rfl := harg6.eq_unread hf6
  have hw : (BitVec.ofNat 32 (i 2).val).toNat < 16 := by
    rw [BitVec.toNat_ofNat]; exact (Nat.mod_le _ _).trans_lt (i 2).isLt
  by_cases h1 : Scalar.cmpi .ne (Scalar.extui (Scalar.cmpi .eq (BitVec.ofNat 32 (i 2).val) 0#32)) 0#32 = 1#1
  all_goals
    sl_exec (disch := exact slot_ok _ (by assumption))
    sl_step
    iapply Hk
    isplitl [H3]; · iapply to_own c arg3 hf3; iexact H3
    isplitl [H4]; · iapply to_own c arg4 hf4; iexact H4
    isplitl [H5]; · iapply to_own c arg5 hf5; iexact H5
    isplitl [H6]; · iapply to_own c arg6 hf6; iexact H6
    isplitl [H7]; · iapply to_held; iexact H7
    isplitl [H8]
    · iapply to_own c arg8 ((View.read_writes_full _ _ _ _ _).trans (congrArg k0_pay71 ((View.readAt_full _ _ _).trans hf6))); iexact H8
    isplitl [H9]; · iapply to_held; iexact H9
    isplitl [H10]; · iapply to_held; iexact H10
    isplitl [H11]; · iapply to_held; iexact H11
    iapply to_held; iexact H12

end

/-! ## The launch -/

variable (m : (ℓ : Loc nD τ sig) → Buf (Elt F) ℓ) (ρ : Dev nD → PrngReg)

/-- The arrays as launched: the program has no host operation. -/
abbrev V (c : Dev nD) (b : Ref sig .tc) : Buf (Elt F) ((c : Thread nD τ).loc b) := m ((c : Thread nD τ).loc b)

/-- A window's block of its array. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The window whose contents are not followed: the attention's rows. -/
def unread : Fin cfg0.W → Bool := fun w => match w with
  | ⟨0, _⟩ => false | ⟨1, _⟩ => false | ⟨2, _⟩ => false | ⟨3, _⟩ => false | ⟨4, _⟩ => true | ⟨5, _⟩ => false
  | ⟨n + 6, h⟩ => absurd (show n + 6 < 6 from h) (Nat.not_lt.2 (Nat.le_add_left _ _))

/-- After a point each input's buffer holds its block and the page sums' the slabs' sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => fun _ => Scalar.ofBits .bf16 0#16
    | ⟨5, _⟩ => k0_pay71 (iblk m c 3 t)
    | ⟨n + 6, h⟩ => absurd (show n + 6 < 6 from h) (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_eq (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t
    ∧ (dats m 0 c).after 5 t = k0_pay71 (iblk m c 3 t) := by
  dsimp only [dats]; exact ⟨rfl, rfl, rfl, rfl, rfl⟩

theorem before_eq (c : Dev nD) (t : Fin cfg0.N) : (∀ d, (dats m 0 c).before 0 t d = iblk m c 0 t)
    ∧ (∀ d, (dats m 0 c).before 1 t d = iblk m c 1 t) ∧ (∀ d, (dats m 0 c).before 2 t d = iblk m c 2 t)
    ∧ (∀ d, (dats m 0 c).before 3 t d = iblk m c 3 t) := by
  refine ⟨fun d => ?_, fun d => ?_, fun d => ?_, fun d => ?_⟩
  all_goals
    exact (Dat.before_in_eq_fetched _ _ rfl (fun _ => rfl) (fun _ _ _ => rfl)
      (fun t => by first | exact (after_eq m c t).1 | exact (after_eq m c t).2.1 | exact (after_eq m c t).2.2.1 | exact (after_eq m c t).2.2.2.1) t d).trans rfl

/-- The windows' staging memrefs at a point, and the body on them. -/
abbrev st (t : Fin cfg0.N) (w : Fin cfg0.W) := (cfg0.win w).stage (cfg0.slots t w)
abbrev bodyAt (t : Fin cfg0.N) : Prog (TpuEff nD τ sig (Elt F) Λ₀ .tc) PUnit :=
  cc0_moba_prompt (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 1200000 in
/-- The body obligation at every point, the attention's rows at anything. -/
theorem body_obligation (c : Dev nD) : BodyObligation (dats (F := F) m 0 c) (defs₀ (F := F)) Variants.none () Set.univ unread := fun t => by
  rw [bigSep_W0, bigSep_W0, show defs₀ (F := F) .tc cfg0.body (cfg0.bodyArgs t (cfg0.slots t)) = bodyAt t from by unfold defs₀; rw [Defs.onTc_tc]]
  obtain ⟨b0, b1, b2, b3⟩ := before_eq m c t
  obtain ⟨a0, a1, a2, a3, a5⟩ := after_eq m c t
  show iprop((dats m 0 c).Φ t.castSucc ∗ (dats m 0 c).owesAt () t.castSucc ∗ (∃ d, own c (st t 0) ((dats m 0 c).before 0 t d))
      ∗ (∃ d, own c (st t 1) ((dats m 0 c).before 1 t d)) ∗ (∃ d, own c (st t 2) ((dats m 0 c).before 2 t d))
      ∗ (∃ d, own c (st t 3) ((dats m 0 c).before 3 t d)) ∗ held c (st t 4) ∗ (∃ d, own c (st t 5) ((dats m 0 c).before 5 t d)))
    ⊢ wp frame (wpE (defs₀ (F := F)) Variants.none c none) Set.univ (bodyAt t) (fun _ => iprop((dats m 0 c).Φ t.succ
      ∗ (dats m 0 c).owesAt () t.succ ∗ own c (st t 0) ((dats m 0 c).after 0 t) ∗ own c (st t 1) ((dats m 0 c).after 1 t)
      ∗ own c (st t 2) ((dats m 0 c).after 2 t) ∗ own c (st t 3) ((dats m 0 c).after 3 t) ∗ held c (st t 4) ∗ own c (st t 5) ((dats m 0 c).after 5 t)))
  simp only [b0, b1, b2, b3]
  rw [show (dats m 0 c).owesAt () t.succ = (dats m 0 c).owesAt () t.castSucc from rfl, a0, a1, a2, a3, a5,
    show (dats m 0 c).Φ t.castSucc = Pipeline.ΦA spec0 c from rfl, show (dats m 0 c).Φ t.succ = Pipeline.ΦA spec0 c from rfl,
    show (Pipeline.ΦA spec0 c : sProp 𝕄) = iprop((held c (Memref.whole cc0_scratch0) ∗ held c (Memref.whole cc0_scratch1)
      ∗ held c (Memref.whole cc0_scratch2) ∗ held c (Memref.whole cc0_scratch3)) ∗ (∃ r, prngReg c r)) from by
      unfold Pipeline.ΦA; rw [scopedRest0_eq]; simp only [held, owns_whole]; try rfl]
  iintro ⟨⟨⟨S0, S1, S2, S3⟩, Hg⟩, Ho, ⟨%d0, H0⟩, ⟨%d1, H1⟩, ⟨%d2, H2⟩, ⟨%d3, H3⟩, H4, ⟨%d5, H5⟩⟩
  iapply run c (grid0.coords t)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hg]
  · isplitl [S0 S1 S2 S3]; swap; · iexact Hg
    isplitl [S0]; · iexact S0
    isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  iexact H5

-- the launch theorem's implicit arguments are found by unifying its conclusion with this one
set_option backward.isDefEq.respectTransparency.types false in
/-- The launch. -/
theorem launch : θ_run defs (onTc (τ := τ) (main (F := F))) (s₀ m ρ)
    (fun r => Pipeline.RDat.FramePost (cfgs (0 : Fin 1)) (fun c => (dats m 0 c).toRForget unread) (V m) r ∧ r.2.sem = fun _ => 0) :=
  Pipeline.θ_run_frame_forget (Q' := _) cfgs (dats m) (0 : Fin 1) launch0 defs₀ Variants.none unread m ρ main
    (hbody := fun c => (body_obligation m c).loose) (hshare := fun c => (dats m 0 c).share_full fun _ => rfl)
    (howed := fun _ _ => rfl) (V := V m) (hmain := Pipeline.hmain_region cfgs 0 defs₀ Variants.none m main main_chain)
    (hA := A_eq m) (hΦ := fun _ _ => rfl) (hQ' := fun _ h => h)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨Pipeline.RDat.FramePost.arr_in h.1 c 0 rfl, Pipeline.RDat.FramePost.arr_in h.1 c 1 rfl,
    Pipeline.RDat.FramePost.arr_in h.1 c 2 rfl, Pipeline.RDat.FramePost.arr_in h.1 c 3 rfl⟩, h.2⟩) (launch m ρ)

end Cert.Kernel6Ideal.Attn

end
-- ==== Proof.AttnClaim.lean ====
/- The prompt attention's page sums: the kernel's second result and the reference's are the same entries. -/
module

public import proofs.«01_k».proof.Defs
public import proofs.«01_k».proof.Proof.Attn
public import proofs.«01_k».proof.Proof.Gen.Reference6Ideal.Run
public import Idealize.ShloMosaic.Lib.Claim
public import Idealize.ShloMosaic.Lib.Pointwise

@[expose] public section

set_option maxRecDepth 16384

noncomputable section

namespace Cert.Proof.AttnClaim

open Idealize.ShloMosaic Idealize.ShloMosaic.TcCoe Idealize.SL.Sem

section
open Cert.Kernel6Ideal Cert.Kernel6Ideal.Gen Cert.Kernel6Ideal.Attn
open Idealize.ShloMosaic.Pipeline (Dat)
variable (m : (ℓ : Loc nD τ sig) → Buf (Elt Ideal) ℓ) (c : Dev nD)

/-- A page's sum of its 128 rows. -/
def G (x : S20480x128x128.Idx → EReal) : S20480x128.Idx → EReal := fun i => ∑ k : Fin 128, x (ix3 (i 0) k (i 1))

/-- Grid point `t` works on pages `40 t` to `40 t + 39`, and writes its block. -/
theorem ix_t : ∀ t : Fin cfg0.N, (win0_5.index t 0 = t.val ∧ win0_5.index t 1 = 0)
    ∧ win0_3.index t 0 = t.val ∧ win0_3.index t 1 = 0 ∧ win0_3.index t 2 = 0 :=
  (by decide +kernel : ∀ t : Fin grid0.N, (win0_5.index t 0 = t.val ∧ win0_5.index t 1 = 0)
    ∧ win0_3.index t 0 = t.val ∧ win0_3.index t 1 = 0 ∧ win0_3.index t 2 = 0)
theorem flush_t : ∀ t : Fin cfg0.N, (cfg0.win 5).flush t = true :=
  (by decide +kernel : ∀ t : Fin grid0.N, win0_5.flush t = true)

theorem tlt (t : Fin cfg0.N) : t.val < 512 := t.isLt

theorem emb5 (t : Fin cfg0.N) (y0 : Fin 40) (y1 : Fin 128) :
    (((cfg0.win 5).blk t).view.emb (ix2 y0 y1) : S20480x128.Idx) = ix2 (⟨t.val * 40 + y0.val, by have := tlt t; omega⟩ : Fin 20480) y1 := by
  funext a
  apply Fin.ext
  match a with
  | ⟨0, _⟩ => show win0_5.index t 0 * 40 + 1 * y0.val = t.val * 40 + y0.val; rw [(ix_t t).1.1]; omega
  | ⟨1, _⟩ => show win0_5.index t 1 * 128 + 1 * y1.val = y1.val; rw [(ix_t t).1.2]; omega

theorem emb3 (t : Fin cfg0.N) (y0 : Fin 40) (k y1 : Fin 128) :
    (((cfg0.win 3).blk t).view.emb (ix3 y0 k y1) : S20480x128x128.Idx) = ix3 (⟨t.val * 40 + y0.val, by have := tlt t; omega⟩ : Fin 20480) k y1 := by
  funext a
  apply Fin.ext
  match a with
  | ⟨0, _⟩ => show win0_3.index t 0 * 40 + 1 * y0.val = t.val * 40 + y0.val; rw [(ix_t t).2.1]; omega
  | ⟨1, _⟩ => show win0_3.index t 1 * 128 + 1 * k.val = k.val; rw [(ix_t t).2.2.1]; omega
  | ⟨2, _⟩ => show win0_3.index t 2 * 128 + 1 * y1.val = y1.val; rw [(ix_t t).2.2.2]; omega

theorem cover5 (i : S20480x128.Idx) : ∃ t : Fin cfg0.N, (cfg0.win 5).flush t = true ∧ i ∈ ((cfg0.win 5).blk t).view.set := by
  have i0 : (i 0).val < 20480 := (i 0).isLt
  have i1 : (i 1).val < 128 := (i 1).isLt
  obtain ⟨t, ht⟩ : ∃ t : Fin cfg0.N, t.val = (i 0).val / 40 := ⟨⟨(i 0).val / 40, by show (i 0).val / 40 < 512; omega⟩, rfl⟩
  refine ⟨t, flush_t t, ?_⟩
  have key : ∀ h, i ∈ ((View.whole main_v0_1).slice (Rect.unit (s := S20480x128) (fun a => win0_5.index t a * S40x128.size a) S40x128.size h)).set := by
    intro h
    rw [View.set_slice_whole, Rect.mem_set_unit]
    intro a
    match a with
    | ⟨0, _⟩ => show win0_5.index t 0 * 40 ≤ (i 0 : Nat) ∧ (i 0 : Nat) < win0_5.index t 0 * 40 + 40
                rw [(ix_t t).1.1]; omega
    | ⟨1, _⟩ => show win0_5.index t 1 * 128 ≤ (i 1 : Nat) ∧ (i 1 : Nat) < win0_5.index t 1 * 128 + 128
                rw [(ix_t t).1.2]; omega
  exact key _

/-- The page sums the kernel leaves. -/
theorem val : (dats m 0 c).arrAt 5 cfg0.N = G (m ((c : Thread nD τ).loc main_arg3)) := by
  refine (dats m 0 c).arrAt_eq_of_cover 5 (G (m ((c : Thread nD τ).loc main_arg3))) (fun t _ => ?_) cover5
  have hf : (dats m 0 c).flushed 5 t = (cfg0.win 5).cut (grid0.coords t) (k0_pay71 (iblk m c 3 t)) := by
    show (cfg0.win 5).cut (grid0.coords t) ((dats m 0 c).after 5 t) = _
    rw [(after_eq m c t).2.2.2.2]
  rw [hf]
  funext (y : S40x128.Idx)
  obtain ⟨y0, y1, rfl⟩ : ∃ (a : Fin 40) (b : Fin 128), y = ix2 a b := ⟨y 0, y 1, eq_ix2 y⟩
  rw [View.read_apply]
  show (k0_pay71 (iblk m c 3 t) (ix2 y0 y1) : EReal) = G (m ((c : Thread nD τ).loc main_arg3)) _
  refine Eq.trans ?_ (congrArg (G (m ((c : Thread nD τ).loc main_arg3))) (emb5 t y0 y1)).symm
  unfold k0_pay71 G
  refine (multiReduction_add_apply _ _ _ _ _ _).trans ?_
  rw [Ideal.reduceAdd_def, Ideal.reduceAdd_r3_a1]
  refine Finset.sum_congr rfl fun k _ => ?_
  unfold iblk
  rw [View.read_apply]
  exact congrArg (m ((c : Thread nD τ).loc main_arg3)) (emb3 t y0 k y1)

/-- The kernel's run: its page sums. -/
theorem run (g : Dev nD → PrngReg) : θ_run defs (onTc (τ := τ) (main (F := Ideal))) ⟨m, fun _ => 0, g⟩ (fun r => ∀ c : Dev nD,
    r.2.mem ((c : Thread nD τ).loc main_v0_1) = G (m ((c : Thread nD τ).loc main_arg3))) :=
  (θ_run defs _ _).mono (fun _ h c => ((((dats m 0 c).toRForget_arrAt_iff (fgt := unread) (w := 5) rfl _ _).mp ((h.1 c).1 5)).trans (val m c))) (launch m g)

/-- The reference's sum of a page. -/
theorem sum_eq (x : S20480x128x128.Idx → EReal) (h : S20480x128x128.ReducesTo [1] S20480x128) (hu : 0 < Cert.Reference6Ideal.S_.numel) :
    Host.reduceAdd (F := Ideal) (φ := .f32) x (constant Cert.Reference6Ideal.S_ .f32 0x00000000#32) h hu = G x := by
  funext i
  rw [Host.reduceAdd_apply, Ideal.hostReduceAdd_def, Ideal.hostReduceAdd_r3_a1]
  show Ideal.ofBits .f32 0x00000000#32 + _ = _
  rw [Ideal.ofBits_zero_f32, zero_add]
  rfl

end

/-- From arguments that agree, the kernel and the reference end with the same page sums. -/
theorem alg [h1 : Cert.Kernel6Ideal.Facts] [h2 : Cert.Reference6Ideal.Facts] : Cert.algebraic_Kernel6Ideal_Reference6Ideal := by
  intro m g m' g' _ hag
  refine ⟨fun c => G (m ((c : Thread Cert.Kernel6Ideal.nD Cert.Kernel6Ideal.τ).loc Cert.Kernel6Ideal.main_arg3)), ?_, ?_⟩
  · refine (θ_run _ _ _).mono (fun r h c => ?_) (θ_run_and (run m g) (Cert.Kernel6Ideal.Attn.frame (F := Ideal) m g))
    exact ⟨h.1 c, h.2.1 c⟩
  · refine (θ_run _ _ _).mono (fun r h c => ?_) (Cert.Reference6Ideal.Value.run (F := Ideal) m' g')
    exact ⟨((h c).1.trans (sum_eq _ _ _)).trans (congrArg G (hag c).2.2.2), (h c).2⟩

end Cert.Proof.AttnClaim

end
-- ==== Proof.MoeKit.lean ====
/- The launch set-up of the routed expert layer's kernel: what its host operations leave when the region is entered, the
   prefetched tables, the windows' blocks, and the names of the staging and scratch memrefs the body runs on. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers after the host operations. -/
abbrev V (c : Dev nD) (b : Ref sig .tc) : Buf (Elt F) ((c : Thread nD τ).loc b) :=
  StableHlo.after hostOps0 (fun b => m (c, b)) b

/-- No host operation takes fresh storage. -/
theorem host_fresh : (hostOps0 : List (HloOp τ sig (Elt F))).Forall fun op => op.fresh = ∅ := by
  simp only [List.Forall]; repeat' constructor

set_option maxHeartbeats 800000 in
/-- The main function is its host operations and then the region. -/
theorem hmain (𝒱 : Variants) :
    Pipeline.HMainP (Ix := Unit) (Name := ℕ) (U := UR sig nD τ) (Lvl := ℕ) pcfgs 0 defs₀ 𝒱 m (main (F := F)) (V m) :=
  Pipeline.hmainP_prefix pcfgs 0 defs₀ 𝒱 m main hostOps0 hostOps0_sub host_fresh main_chain

/-- A buffer no host operation writes is found as launched. -/
theorem V_kept (c : Dev nD) (b : Ref sig .tc)
    (hb : [main_v0, main_v1, main_c, main_v2, main_v3, main_v4, main_c_0, main_v5, main_v6, main_c_1, main_v7, main_v8,
      main_v9, main_v10, main_v11, main_v12, main_v13, main_v14].Forall fun r => b ≠ r) :
    V m c b = m ((c : Thread nD τ).loc b) :=
  StableHlo.after_of_forall_not_mem (b := Proc.devRef .tc b) _ _ (List.forall_iff_forall_mem.mp (by
    simp only [List.Forall] at hb
    simp only [hostOps0, List.Forall, StableHlo.nullary_writes, StableHlo.unary_writes, StableHlo.binary_writes,
      StableHlo.ternary_writes, StableHlo.reshape_writes, Finset.mem_singleton]
    obtain ⟨h0, h1, h2, h3, h4, h5, h6, h7, h8, h9, h10, h11, h12, h13, h14, h15, h16, h17⟩ := hb
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8,
      StableHlo.devRef_ne_of_ne h9, StableHlo.devRef_ne_of_ne h10, StableHlo.devRef_ne_of_ne h11,
      StableHlo.devRef_ne_of_ne h12, StableHlo.devRef_ne_of_ne h13, StableHlo.devRef_ne_of_ne h14,
      StableHlo.devRef_ne_of_ne h15, StableHlo.devRef_ne_of_ne h16, StableHlo.devRef_ne_of_ne h17⟩))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S161 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _
abbrev tbM0_2 : Memref sig .tc .smem S161 .i32 := Memref.whole main_v11
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 holds its block at every point, fetched there or not. -/
theorem before0_0_of (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
/-- Input window 1 holds its block at every point, fetched there or not. -/
theorem before0_1_of (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
/-- Input window 2 holds its block at every point, fetched there or not. -/
theorem before0_2_of (hO : Ok m) {c : Dev nD} (dat : Dat τ (Elt F) Unit ℕ (UR sig nD τ) ℕ (cfgM m hO) c)
    (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
/-- Input window 3 holds its block at every point, fetched there or not. -/
theorem before0_3_of (hO : Ok m) {c : Dev nD} (dat : Dat τ (Elt F) Unit ℕ (UR sig nD τ) ℕ (cfgM m hO) c)
    (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
/-- Input window 4 holds its block at every point, fetched there or not. -/
theorem before0_4_of (hO : Ok m) {c : Dev nD} (dat : Dat τ (Elt F) Unit ℕ (UR sig nD τ) ℕ (cfgM m hO) c)
    (hA : dat.A 4 = V m c (Pipeline.arrRef spec0 4)) (hafter : ∀ t, dat.after 4 t = iblk m hO c 4 t)
    (t : Fin (cfgM m hO).N) (d) : dat.before 4 t d = iblk m hO c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
/-- Input window 5 holds its block at every point, fetched there or not. -/
theorem before0_5_of (hO : Ok m) {c : Dev nD} (dat : Dat τ (Elt F) Unit ℕ (UR sig nD τ) ℕ (cfgM m hO) c)
    (hA : dat.A 5 = V m c (Pipeline.arrRef spec0 5)) (hafter : ∀ t, dat.after 5 t = iblk m hO c 5 t)
    (t : Fin (cfgM m hO).N) (d) : dat.before 5 t d = iblk m hO c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)
/-- Input window 6 holds its block at every point, fetched there or not. -/
theorem before0_6_of (hO : Ok m) {c : Dev nD} (dat : Dat τ (Elt F) Unit ℕ (UR sig nD τ) ℕ (cfgM m hO) c)
    (hA : dat.A 6 = V m c (Pipeline.arrRef spec0 6)) (hafter : ∀ t, dat.after 6 t = iblk m hO c 6 t)
    (t : Fin (cfgM m hO).N) (d) : dat.before 6 t d = iblk m hO c 6 t :=
  (dat.before_in_eq_fetched 6 rfl (fun _ => rfl) (fun _ _ _ => rfl)
    (fun t => by rw [hafter]; unfold Dat.blockOf iblk; rw [hA]; try rfl) t d).trans
    (by unfold Dat.fetched Dat.blockOf iblk; rw [hA]; try rfl)

/-! ## From a run's post to the arguments unchanged -/

/-- A run to the pipeline's post leaves every argument as launched. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_kept m c main_arg0 (by decide)),
      ((h c).2 main_arg1 (by decide : main_arg1 ∈ Pipeline.restRefs sig spec0)).trans (V_kept m c main_arg1 (by decide)),
      ((h c).1 0).trans (((dats 0 c).arrAt_in 0 rfl _).trans ((hA c 0).trans (V_kept m c main_arg2 (by decide)))),
      ((h c).1 1).trans (((dats 0 c).arrAt_in 1 rfl _).trans ((hA c 1).trans (V_kept m c main_arg3 (by decide)))),
      ((h c).2 main_arg4 (by decide : main_arg4 ∈ Pipeline.restRefs sig spec0)).trans (V_kept m c main_arg4 (by decide)),
      ((h c).1 3).trans (((dats 0 c).arrAt_in 3 rfl _).trans ((hA c 3).trans (V_kept m c main_arg5 (by decide)))),
      ((h c).2 main_arg6 (by decide : main_arg6 ∈ Pipeline.restRefs sig spec0)).trans (V_kept m c main_arg6 (by decide)),
      ((h c).1 5).trans (((dats 0 c).arrAt_in 5 rfl _).trans ((hA c 5).trans (V_kept m c main_arg7 (by decide)))),
      ((h c).2 main_arg8 (by decide : main_arg8 ∈ Pipeline.restRefs sig spec0)).trans (V_kept m c main_arg8 (by decide))⟩) h

/-! ## The kernel body on any staging memrefs: a subtype the run finds -/

/-- One staging buffer of output window 7, through which its contents are stated (`View.read_writes_of_cover`: the
    choice does not matter). -/
abbrev VO0_7 : View sig .tc .vmem S8192x128 .f32 := (Memref.whole cc0_stg7_0 : Memref sig .tc .vmem S8192x128 .f32).view
/-- Each window's current staging memref at point `t`, spelled as the pipeline passes it (`bodyAt0`), and its wholeness. -/
abbrev ms0_0 (hO : Ok m) (t : Fin (cfgM m hO).N) : Memref sig .tc .vmem S8192x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S8192x128 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2
abbrev scM0_3 : Memref sig .tc .vmem S1024x1024 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The body and the schedule at a point -/

/-- The output block is written back at every point. -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide)
    (Pipeline.Window.sep_of_coord cc0_transform_7 0 0 (fun _ => rfl) (by decide)) (P := 1) (m := 0) (by decide) rfl t).mpr
    (Nat.mod_one _) : ∀ t : Fin grid0.N, Pipeline.Window.flushOf grid0 true cc0_transform_7 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_ffn (grid0.coords t) (Memref.whole main_arg0) (Memref.isWhole_whole _) (Memref.whole main_arg1) (Memref.isWhole_whole _) (Memref.whole main_v11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Kernel4Ideal.Moe

end
-- ==== Proof.MoeRunZ.lean ====
/- The run of the expert kernel's body past the blocks in use, and the words its branches read. -/
module

public import proofs.«01_k».proof.Proof.MoeKit

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the table `xt` of blocks holds, as the body loads it: the number of blocks in use. -/
abbrev nuW (c : Dev nD) (xt1 : TbBuf0 (F := F) c tbM0_1) : BitVec 32 :=
  tbM0_1.view.readAt (Elt F) (Rect.unit (s := S1) ![0] S1.size inb_S1_S1_0).toLoadRect xt1
    (Shape.Idx.first (numel1_S1.symm ▸ Nat.one_pos))
/-- The expert of the block before, as the body loads it. -/
abbrev prevW (c : Dev nD) (i : grid0.Coords) (xt0 : TbBuf0 (F := F) c tbM0_0) : BitVec 32 :=
  tbM0_0.view.readAt (Elt F) (Rect.unit (s := S161) (k0_off2 i) S1.size (k0_off2_inb i)).toLoadRect xt0
    (Shape.Idx.first (numel1_S1.symm ▸ Nat.one_pos))
/-- The expert of this block, as the body loads it. -/
abbrev curW (c : Dev nD) (i : grid0.Coords) (xt0 : TbBuf0 (F := F) c tbM0_0) : BitVec 32 :=
  tbM0_0.view.readAt (Elt F) (Rect.unit (s := S161) (k0_off3 i) S1.size (k0_off3_inb i)).toLoadRect xt0
    (Shape.Idx.first (numel1_S1.symm ▸ Nat.one_pos))
/-- Whether the body casts the expert's weights into its scratch: at the first block, and where the expert changes. -/
abbrev reloadW (i : grid0.Coords) (cur prev : BitVec 32) : BitVec 1 :=
  Scalar.cmpi .ne (Scalar.extui (Scalar.ori (Scalar.cmpi .eq (BitVec.ofNat 32 (i 0).val) 0#32) (Scalar.cmpi .ne cur prev))) 0#32

/-- The offset of the block before: one less, and zero at the first. -/
theorem k0_off2_eq : ∀ i : grid0.Coords, k0_off2 i = ![(i 0).val - 1] := by decide +kernel
instance closedOff_k0_off2 (i : grid0.Coords) : ClosedOff (k0_off2 i) := ⟨![(i 0).val - 1], k0_off2_eq i⟩

set_option maxHeartbeats 2000000 in
/-- The body past the blocks in use: the output block is stored whole, the scratch buffers untouched. -/
noncomputable def runZ (c : Dev nD) (i : grid0.Coords) (arg4 : Memref sig .tc .vmem S8192x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole)
    (arg9 : Memref sig .tc .vmem S1x1024x1024 .f32) (harg9 : arg9.IsWhole) (arg10 : Memref sig .tc .vmem S1x1x1024 .f32) (harg10 : arg10.IsWhole) (arg11 : Memref sig .tc .vmem S8192x128 .f32) (harg11 : arg11.IsWhole) (arg12 : Memref sig .tc .vmem S1024x1024 .bf16) (harg12 : arg12.IsWhole) (arg13 : Memref sig .tc .vmem S1024x1024 .bf16) (harg13 : arg13.IsWhole)
    (arg14 : Memref sig .tc .vmem S1024x1024 .bf16) (harg14 : arg14.IsWhole) (arg15 : Memref sig .tc .vmem S1024x1024 .bf16) (harg15 : arg15.IsWhole)
    (x0 : Vec F S8192x128 .f32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (w0 w1 w2 w3 : Vec F S1024x1024 .bf16) (xt0 : TbBuf0 (F := F) c tbM0_0) (xt1 : TbBuf0 (F := F) c tbM0_1) (xt2 : TbBuf0 (F := F) c tbM0_2)
    (h1 : k0_cond1 i (nuW c xt1) = 1#1) (h2 : ¬ k0_cond2 i (nuW c xt1) = 1#1) :
     { L7 : List (View.Piece (Elt F) S8192x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare w0 ∗ owns (c : Thread nD τ) arg13 fullShare w1 ∗ owns (c : Thread nD τ) arg14 fullShare w2 ∗ owns (c : Thread nD τ) arg15 fullShare w3 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ owns (c : Thread nD τ) arg12 fullShare w0 ∗ owns (c : Thread nD τ) arg13 fullShare w1 ∗ owns (c : Thread nD τ) arg14 fullShare w2 ∗ owns (c : Thread nD τ) arg15 fullShare w3 ∗ tbPt0 c tbM0_0 xt0 ∗ tbPt0 c tbM0_1 xt1 ∗ tbPt0 c tbM0_2 xt2) -∗ K ⟨⟩))
          ⊢ wp frame (wpE (defs₀ (F := F)) Variants.none c none) E (cc0_moe_ffn i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_moe_ffn_eq_skeleton]; unfold cc0_moe_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hfs0; obtain rfl := harg13.eq_unread hfs1; obtain rfl := harg14.eq_unread hfs2; obtain rfl := harg15.eq_unread hfs3
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]
    · iexists _; isplitr; · ipureintro; exact harg15.read_unread _
      iexact HS3
    isplitl [HT0]; · iexact HT0
    isplitl [HT1]; · iexact HT1
    iexact HT2

end Cert.Kernel4Ideal.Moe

end
-- ==== Proof.MoeRunL.lean ====
/- The run of the expert kernel's body at a block whose weights are cast anew. -/
module

public import proofs.«01_k».proof.Proof.MoeRunZ

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a block whose expert is not the one before's: the weights are cast into scratch, then the block is computed. -/
noncomputable def runL (c : Dev nD) (i : grid0.Coords) (arg4 : Memref sig .tc .vmem S8192x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole)
    (arg9 : Memref sig .tc .vmem S1x1024x1024 .f32) (harg9 : arg9.IsWhole) (arg10 : Memref sig .tc .vmem S1x1x1024 .f32) (harg10 : arg10.IsWhole) (arg11 : Memref sig .tc .vmem S8192x128 .f32) (harg11 : arg11.IsWhole) (arg12 : Memref sig .tc .vmem S1024x1024 .bf16) (harg12 : arg12.IsWhole) (arg13 : Memref sig .tc .vmem S1024x1024 .bf16) (harg13 : arg13.IsWhole)
    (arg14 : Memref sig .tc .vmem S1024x1024 .bf16) (harg14 : arg14.IsWhole) (arg15 : Memref sig .tc .vmem S1024x1024 .bf16) (harg15 : arg15.IsWhole)
    (x0 : Vec F S8192x128 .f32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (xt2 : TbBuf0 (F := F) c tbM0_2)
    (h1 : ¬ k0_cond1 i (nuW c xt1) = 1#1) (h2 : k0_cond2 i (nuW c xt1) = 1#1) (h3 : reloadW i (curW c i xt0) (prevW c i xt0) = 1#1) :
    Σ' (L7 : List (View.Piece (Elt F) S8192x128 .f32)), Σ' (LT0 : List (View.Piece (Elt F) S1024x1024 .bf16)), Σ' (LT1 : List (View.Piece (Elt F) S1024x1024 .bf16)), Σ' (LT2 : List (View.Piece (Elt F) S1024x1024 .bf16)), { LT3 : List (View.Piece (Elt F) S1024x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LT3) ∗ tbPt0 c tbM0_0 xt0 ∗ tbPt0 c tbM0_1 xt1 ∗ tbPt0 c tbM0_2 xt2) -∗ K ⟨⟩))
          ⊢ wp frame (wpE (defs₀ (F := F)) Variants.none c none) E (cc0_moe_ffn i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_moe_ffn_eq_skeleton]; unfold cc0_moe_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HT0]; · iexact HT0
    isplitl [HT1]; · iexact HT1
    iexact HT2

end Cert.Kernel4Ideal.Moe

end
-- ==== Proof.MoeRunK.lean ====
/- The run of the expert kernel's body at a block whose weights are kept. -/
module

public import proofs.«01_k».proof.Proof.MoeRunL

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a block of the expert before's: the weights' casts are taken from scratch as they stand. -/
noncomputable def runK (c : Dev nD) (i : grid0.Coords) (arg4 : Memref sig .tc .vmem S8192x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole)
    (arg9 : Memref sig .tc .vmem S1x1024x1024 .f32) (harg9 : arg9.IsWhole) (arg10 : Memref sig .tc .vmem S1x1x1024 .f32) (harg10 : arg10.IsWhole) (arg11 : Memref sig .tc .vmem S8192x128 .f32) (harg11 : arg11.IsWhole) (arg12 : Memref sig .tc .vmem S1024x1024 .bf16) (harg12 : arg12.IsWhole) (arg13 : Memref sig .tc .vmem S1024x1024 .bf16) (harg13 : arg13.IsWhole)
    (arg14 : Memref sig .tc .vmem S1024x1024 .bf16) (harg14 : arg14.IsWhole) (arg15 : Memref sig .tc .vmem S1024x1024 .bf16) (harg15 : arg15.IsWhole)
    (x0 : Vec F S8192x128 .f32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (w0 w1 w2 : Vec F S1024x1024 .bf16) (xt0 : TbBuf0 (F := F) c tbM0_0) (xt1 : TbBuf0 (F := F) c tbM0_1) (xt2 : TbBuf0 (F := F) c tbM0_2)
    (h1 : ¬ k0_cond1 i (nuW c xt1) = 1#1) (h2 : k0_cond2 i (nuW c xt1) = 1#1) (h3 : ¬ reloadW i (curW c i xt0) (prevW c i xt0) = 1#1) :
    Σ' (L7 : List (View.Piece (Elt F) S8192x128 .f32)), { LT3 : List (View.Piece (Elt F) S1024x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare w0 ∗ owns (c : Thread nD τ) arg13 fullShare w1 ∗ owns (c : Thread nD τ) arg14 fullShare w2 ∗ (∃ d, owns (c : Thread nD τ) arg15 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ owns (c : Thread nD τ) arg12 fullShare w0 ∗ owns (c : Thread nD τ) arg13 fullShare w1 ∗ owns (c : Thread nD τ) arg14 fullShare w2 ∗ (∃ f, arg15.view.loc (c : Thread nD τ) ↦[arg15.view.set]{fullShare} arg15.view.writes (Elt F) f LT3) ∗ tbPt0 c tbM0_0 xt0 ∗ tbPt0 c tbM0_1 xt1 ∗ tbPt0 c tbM0_2 xt2) -∗ K ⟨⟩))
          ⊢ wp frame (wpE (defs₀ (F := F)) Variants.none c none) E (cc0_moe_ffn i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_moe_ffn_eq_skeleton]; unfold cc0_moe_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%ds3, %fs3, -, HS3⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hfs0; obtain rfl := harg13.eq_unread hfs1; obtain rfl := harg14.eq_unread hfs2
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]; · iexists _; iexact HS3
    isplitl [HT0]; · iexact HT0
    isplitl [HT1]; · iexact HT1
    iexact HT2

end Cert.Kernel4Ideal.Moe

end
-- ==== Proof.MoeBlock.lean ====
/- What the expert kernel's runs leave in the output block and in the scratch buffers, in closed form. -/
module

public import proofs.«01_k».proof.Proof.MoeRunK
public import Idealize.ShloMosaic.Lib.VecWindow
public import Idealize.ShloMosaic.Lib.Pipeline.Value
public import Idealize.ShloMosaic.Lib.ValueIdx

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## A block's tokens, its feed-forward layer and its output, in closed form -/

/-- The tokens of a block, cast: token `r`'s lane `l` is the packed block's row `8 r + l / 128`, lane `l % 128`. -/
def tokens (x0 : Vec F S8192x128 .f32) : FVec F S1024x1024 .bf16 := fun y =>
  truncf .bf16 (x0 : FVec F S8192x128 .f32) bitsLt_bf16_f32
    (ix2 (⟨8 * (y 0).val + (y 1).val / 128, by have h0 : (y 0).val < 1024 := (y 0).isLt; have h1 : (y 1).val < 1024 := (y 1).isLt; omega⟩ : Fin 8192)
      (⟨(y 1).val % 128, Nat.mod_lt _ (by omega)⟩ : Fin 128))

/-- The packed form of a block's result. -/
def packed (y : FVec F S1024x1024 .f32) : FVec F S8192x128 .f32 := fun i =>
  y (ix2 (⟨(i 0).val / 8, by have h0 : (i 0).val < 8192 := (i 0).isLt; omega⟩ : Fin 1024)
      (⟨128 * ((i 0).val % 8) + (i 1).val, by have h1 : (i 1).val < 128 := (i 1).isLt; omega⟩ : Fin 1024))

/-- A block's feed-forward layer, on its tokens and its expert's weights and biases. -/
def layer (x : FVec F S1024x1024 .bf16) (w0 : FVec F S1024x1024 .bf16) (b0 : Vec F S1x1x1024 .f32)
    (w1 : FVec F S1024x1024 .bf16) (b1 : Vec F S1x1x1024 .f32) (w2 : FVec F S1024x1024 .bf16) (b2 : Vec F S1x1x1024 .f32) :
    FVec F S1024x1024 .f32 :=
  k0_pay18 (k0_pay16 x w0 b0) (k0_pay17 x w1) b1 w2 b2

/-- The stores that assemble a block's tokens, last first. -/
abbrev tokenPieces (arg4 : Memref sig .tc .vmem S8192x128 .f32) (harg4 : arg4.IsWhole) (x0 : Vec F S8192x128 .f32) :
    List (View.Piece (Elt F) S1024x1024 .bf16) :=
  [⟨Rect.unit (s := S1024x1024) ![0, 896] S1024x128.size inb_S1024x1024_S1024x128_0_896, k0_pay7 (arg4.view.readAt (Elt F) (⟨![7, 0], S1024x128.size, ![8, 1], inb_S8192x128_S1024x128_7_0_s_8_1⟩ : LoadRect S8192x128) (harg4.unread x0))⟩,
   ⟨Rect.unit (s := S1024x1024) ![0, 768] S1024x128.size inb_S1024x1024_S1024x128_0_768, k0_pay7 (arg4.view.readAt (Elt F) (⟨![6, 0], S1024x128.size, ![8, 1], inb_S8192x128_S1024x128_6_0_s_8_1⟩ : LoadRect S8192x128) (harg4.unread x0))⟩,
   ⟨Rect.unit (s := S1024x1024) ![0, 640] S1024x128.size inb_S1024x1024_S1024x128_0_640, k0_pay7 (arg4.view.readAt (Elt F) (⟨![5, 0], S1024x128.size, ![8, 1], inb_S8192x128_S1024x128_5_0_s_8_1⟩ : LoadRect S8192x128) (harg4.unread x0))⟩,
   ⟨Rect.unit (s := S1024x1024) ![0, 512] S1024x128.size inb_S1024x1024_S1024x128_0_512, k0_pay7 (arg4.view.readAt (Elt F) (⟨![4, 0], S1024x128.size, ![8, 1], inb_S8192x128_S1024x128_4_0_s_8_1⟩ : LoadRect S8192x128) (harg4.unread x0))⟩,
   ⟨Rect.unit (s := S1024x1024) ![0, 384] S1024x128.size inb_S1024x1024_S1024x128_0_384, k0_pay7 (arg4.view.readAt (Elt F) (⟨![3, 0], S1024x128.size, ![8, 1], inb_S8192x128_S1024x128_3_0_s_8_1⟩ : LoadRect S8192x128) (harg4.unread x0))⟩,
   ⟨Rect.unit (s := S1024x1024) ![0, 256] S1024x128.size inb_S1024x1024_S1024x128_0_256, k0_pay7 (arg4.view.readAt (Elt F) (⟨![2, 0], S1024x128.size, ![8, 1], inb_S8192x128_S1024x128_2_0_s_8_1⟩ : LoadRect S8192x128) (harg4.unread x0))⟩,
   ⟨Rect.unit (s := S1024x1024) ![0, 128] S1024x128.size inb_S1024x1024_S1024x128_0_128, k0_pay7 (arg4.view.readAt (Elt F) (⟨![1, 0], S1024x128.size, ![8, 1], inb_S8192x128_S1024x128_1_0_s_8_1⟩ : LoadRect S8192x128) (harg4.unread x0))⟩,
   ⟨Rect.unit (s := S1024x1024) ![0, 0] S1024x128.size inb_S1024x1024_S1024x128_0_0, k0_pay7 (arg4.view.readAt (Elt F) (⟨![0, 0], S1024x128.size, ![8, 1], inb_S8192x128_S1024x128_0_0_s_8_1⟩ : LoadRect S8192x128) (harg4.unread x0))⟩]

/-- The stores that pack a block's result, last first. -/
abbrev resultPieces (y : FVec F S1024x1024 .f32) : List (View.Piece (Elt F) S8192x128 .f32) :=
  [⟨⟨(⟨![7, 0], S1024x128.size, ![8, 1], inb_S8192x128_S1024x128_7_0_s_8_1⟩ : LoadRect S8192x128), spos_8_1⟩, extractStridedSlice S1024x128 ![0, 896] y slices_S1024x1024_o0_896_S1024x128⟩,
   ⟨⟨(⟨![6, 0], S1024x128.size, ![8, 1], inb_S8192x128_S1024x128_6_0_s_8_1⟩ : LoadRect S8192x128), spos_8_1⟩, extractStridedSlice S1024x128 ![0, 768] y slices_S1024x1024_o0_768_S1024x128⟩,
   ⟨⟨(⟨![5, 0], S1024x128.size, ![8, 1], inb_S8192x128_S1024x128_5_0_s_8_1⟩ : LoadRect S8192x128), spos_8_1⟩, extractStridedSlice S1024x128 ![0, 640] y slices_S1024x1024_o0_640_S1024x128⟩,
   ⟨⟨(⟨![4, 0], S1024x128.size, ![8, 1], inb_S8192x128_S1024x128_4_0_s_8_1⟩ : LoadRect S8192x128), spos_8_1⟩, extractStridedSlice S1024x128 ![0, 512] y slices_S1024x1024_o0_512_S1024x128⟩,
   ⟨⟨(⟨![3, 0], S1024x128.size, ![8, 1], inb_S8192x128_S1024x128_3_0_s_8_1⟩ : LoadRect S8192x128), spos_8_1⟩, extractStridedSlice S1024x128 ![0, 384] y slices_S1024x1024_o0_384_S1024x128⟩,
   ⟨⟨(⟨![2, 0], S1024x128.size, ![8, 1], inb_S8192x128_S1024x128_2_0_s_8_1⟩ : LoadRect S8192x128), spos_8_1⟩, extractStridedSlice S1024x128 ![0, 256] y slices_S1024x1024_o0_256_S1024x128⟩,
   ⟨⟨(⟨![1, 0], S1024x128.size, ![8, 1], inb_S8192x128_S1024x128_1_0_s_8_1⟩ : LoadRect S8192x128), spos_8_1⟩, extractStridedSlice S1024x128 ![0, 128] y slices_S1024x1024_o0_128_S1024x128⟩,
   ⟨⟨(⟨![0, 0], S1024x128.size, ![8, 1], inb_S8192x128_S1024x128_0_0_s_8_1⟩ : LoadRect S8192x128), spos_8_1⟩, extractStridedSlice S1024x128 ![0, 0] y slices_S1024x1024_o0_0_S1024x128⟩]

/-- A cast strided load of the packed block, at one token's lane. -/
theorem tokenPiece (arg4 : Memref sig .tc .vmem S8192x128 .f32) (harg4 : arg4.IsWhole) (x0 : Vec F S8192x128 .f32)
    (j : Nat) (hj : j < 8) (inb) (inb' : ∀ a, (![0, 128 * j] : Fin 2 → Nat) a + S1024x128.size a ≤ S1024x1024.size a)
    (x : S1024x128.Idx) :
    k0_pay7 (arg4.view.readAt (Elt F) (⟨![j, 0], S1024x128.size, ![8, 1], inb⟩ : LoadRect S8192x128) (harg4.unread x0)) x
      = tokens x0 ((Rect.unit (s := S1024x1024) ![0, 128 * j] S1024x128.size inb').emb x) := by
  have h0 : (x 0).val < 1024 := (x 0).isLt
  have h1 : (x 1).val < 128 := (x 1).isLt
  unfold k0_pay7 tokens
  dsimp only
  rw [shapeCast_self]
  refine congrArg (fun z : F .f32 => FloatOps.truncf .bf16 bitsLt_bf16_f32 z) ?_
  refine (congrFun (harg4.read_unread x0) _).trans (congrArg x0 (funext fun a => Fin.ext ?_))
  match a with
  | ⟨0, _⟩ =>
    show j + 8 * (x 0).val = 8 * (0 + 1 * (x 0).val) + (128 * j + 1 * (x 1).val) / 128
    omega
  | ⟨1, _⟩ =>
    show 0 + 1 * (x 1).val = (128 * j + 1 * (x 1).val) % 128
    omega

/-- The assembled tokens cover the block, and read back as the tokens. -/
theorem tokens_read (v : View sig .tc .vmem S1024x1024 .bf16) (arg4 : Memref sig .tc .vmem S8192x128 .f32) (harg4 : arg4.IsWhole)
    (x0 : Vec F S8192x128 .f32) (f) : v.read (Elt F) (v.writes (Elt F) f (tokenPieces arg4 harg4 x0)) = tokens x0 := by
  funext y
  refine View.read_writes_apply_of_pieces v f (tokens x0) _ ?_ y ?_
  · intro p hp
    rcases List.mem_cons.mp hp with rfl | hp
    · exact tokenPiece arg4 harg4 x0 7 (by decide) _ inb_S1024x1024_S1024x128_0_896
    rcases List.mem_cons.mp hp with rfl | hp
    · exact tokenPiece arg4 harg4 x0 6 (by decide) _ inb_S1024x1024_S1024x128_0_768
    rcases List.mem_cons.mp hp with rfl | hp
    · exact tokenPiece arg4 harg4 x0 5 (by decide) _ inb_S1024x1024_S1024x128_0_640
    rcases List.mem_cons.mp hp with rfl | hp
    · exact tokenPiece arg4 harg4 x0 4 (by decide) _ inb_S1024x1024_S1024x128_0_512
    rcases List.mem_cons.mp hp with rfl | hp
    · exact tokenPiece arg4 harg4 x0 3 (by decide) _ inb_S1024x1024_S1024x128_0_384
    rcases List.mem_cons.mp hp with rfl | hp
    · exact tokenPiece arg4 harg4 x0 2 (by decide) _ inb_S1024x1024_S1024x128_0_256
    rcases List.mem_cons.mp hp with rfl | hp
    · exact tokenPiece arg4 harg4 x0 1 (by decide) _ inb_S1024x1024_S1024x128_0_128
    rcases List.mem_cons.mp hp with rfl | hp
    · exact tokenPiece arg4 harg4 x0 0 (by decide) _ inb_S1024x1024_S1024x128_0_0
    exact nomatch hp
  · have h0 : (y 0).val < 1024 := (y 0).isLt
    have h1 : (y 1).val < 1024 := (y 1).isLt
    have hm : ∀ j : Nat, (y 1).val / 128 = j → ∀ inb, y ∈ (Rect.unit (s := S1024x1024) ![0, 128 * j] S1024x128.size inb).set := by
      intro j hj inb
      rw [Rect.mem_set_unit]
      intro a
      match a with
      | ⟨0, _⟩ => exact ⟨Nat.zero_le _, by show (y 0).val < 0 + 1024; omega⟩
      | ⟨1, _⟩ => exact ⟨by show 128 * j ≤ (y 1).val; omega, by show (y 1).val < 128 * j + 128; omega⟩
    have hq : (y 1).val / 128 < 8 := by omega
    generalize hQ : (y 1).val / 128 = q at hq hm
    match q, hq with
    | 0, _ => exact ⟨_, .tail _ (.tail _ (.tail _ (.tail _ (.tail _ (.tail _ (.tail _ (.head _))))))), hm 0 rfl inb_S1024x1024_S1024x128_0_0⟩
    | 1, _ => exact ⟨_, .tail _ (.tail _ (.tail _ (.tail _ (.tail _ (.tail _ (.head _)))))), hm 1 rfl inb_S1024x1024_S1024x128_0_128⟩
    | 2, _ => exact ⟨_, .tail _ (.tail _ (.tail _ (.tail _ (.tail _ (.head _))))), hm 2 rfl inb_S1024x1024_S1024x128_0_256⟩
    | 3, _ => exact ⟨_, .tail _ (.tail _ (.tail _ (.tail _ (.head _)))), hm 3 rfl inb_S1024x1024_S1024x128_0_384⟩
    | 4, _ => exact ⟨_, .tail _ (.tail _ (.tail _ (.head _))), hm 4 rfl inb_S1024x1024_S1024x128_0_512⟩
    | 5, _ => exact ⟨_, .tail _ (.tail _ (.head _)), hm 5 rfl inb_S1024x1024_S1024x128_0_640⟩
    | 6, _ => exact ⟨_, .tail _ (.head _), hm 6 rfl inb_S1024x1024_S1024x128_0_768⟩
    | 7, _ => exact ⟨_, .head _, hm 7 rfl inb_S1024x1024_S1024x128_0_896⟩

/-- A column slice of the result, at the packed place it is stored. -/
theorem resultPiece (y : FVec F S1024x1024 .f32) (j : Nat) (hj : j < 8) (inb) (hs)
    (sl : (⟨2, ![1024, 1024]⟩ : Shape).Slices ![0, 128 * j] S1024x128)
    (x : S1024x128.Idx) :
    extractStridedSlice S1024x128 ![0, 128 * j] y sl x
      = packed y (Rect.emb (s := S8192x128) ⟨(⟨![j, 0], S1024x128.size, ![8, 1], inb⟩ : LoadRect S8192x128), hs⟩ x) := by
  have h0 : (x 0).val < 1024 := (x 0).isLt
  have h1 : (x 1).val < 128 := (x 1).isLt
  refine congrArg y (funext fun a => Fin.ext ?_)
  match a with
  | ⟨0, _⟩ =>
    show 0 + (x 0).val = (j + 8 * (x 0).val) / 8
    omega
  | ⟨1, _⟩ =>
    show 128 * j + (x 1).val = 128 * ((j + 8 * (x 0).val) % 8) + (0 + 1 * (x 1).val)
    omega

/-- The packed stores cover the output block, and read back as the packed result. -/
theorem result_read (v : View sig .tc .vmem S8192x128 .f32) (y : FVec F S1024x1024 .f32) (f) :
    v.read (Elt F) (v.writes (Elt F) f (resultPieces y)) = packed y := by
  funext i
  refine View.read_writes_apply_of_pieces v f (packed y) _ ?_ i ?_
  · intro p hp
    rcases List.mem_cons.mp hp with rfl | hp
    · exact resultPiece y 7 (by decide) _ _ slices_S1024x1024_o0_896_S1024x128
    rcases List.mem_cons.mp hp with rfl | hp
    · exact resultPiece y 6 (by decide) _ _ slices_S1024x1024_o0_768_S1024x128
    rcases List.mem_cons.mp hp with rfl | hp
    · exact resultPiece y 5 (by decide) _ _ slices_S1024x1024_o0_640_S1024x128
    rcases List.mem_cons.mp hp with rfl | hp
    · exact resultPiece y 4 (by decide) _ _ slices_S1024x1024_o0_512_S1024x128
    rcases List.mem_cons.mp hp with rfl | hp
    · exact resultPiece y 3 (by decide) _ _ slices_S1024x1024_o0_384_S1024x128
    rcases List.mem_cons.mp hp with rfl | hp
    · exact resultPiece y 2 (by decide) _ _ slices_S1024x1024_o0_256_S1024x128
    rcases List.mem_cons.mp hp with rfl | hp
    · exact resultPiece y 1 (by decide) _ _ slices_S1024x1024_o0_128_S1024x128
    rcases List.mem_cons.mp hp with rfl | hp
    · exact resultPiece y 0 (by decide) _ _ slices_S1024x1024_o0_0_S1024x128
    exact nomatch hp
  · have h0 : (i 0).val < 8192 := (i 0).isLt
    have h1 : (i 1).val < 128 := (i 1).isLt
    have hm : ∀ j : Nat, (i 0).val % 8 = j → ∀ inb, i ∈ (⟨![j, 0], S1024x128.size, ![8, 1], inb⟩ : LoadRect S8192x128).set := by
      intro j hj inb
      rw [LoadRect.mem_set]
      intro a
      match a with
      | ⟨0, _⟩ => exact ⟨(i 0).val / 8, by show (i 0).val / 8 < 1024; omega, by show (i 0).val = j + 8 * ((i 0).val / 8); omega⟩
      | ⟨1, _⟩ => exact ⟨(i 1).val, h1, by show (i 1).val = 0 + 1 * (i 1).val; omega⟩
    have hq : (i 0).val % 8 < 8 := by omega
    generalize hQ : (i 0).val % 8 = q at hq hm
    match q, hq with
    | 0, _ => exact ⟨_, .tail _ (.tail _ (.tail _ (.tail _ (.tail _ (.tail _ (.tail _ (.head _))))))), hm 0 rfl inb_S8192x128_S1024x128_0_0_s_8_1⟩
    | 1, _ => exact ⟨_, .tail _ (.tail _ (.tail _ (.tail _ (.tail _ (.tail _ (.head _)))))), hm 1 rfl inb_S8192x128_S1024x128_1_0_s_8_1⟩
    | 2, _ => exact ⟨_, .tail _ (.tail _ (.tail _ (.tail _ (.tail _ (.head _))))), hm 2 rfl inb_S8192x128_S1024x128_2_0_s_8_1⟩
    | 3, _ => exact ⟨_, .tail _ (.tail _ (.tail _ (.tail _ (.head _)))), hm 3 rfl inb_S8192x128_S1024x128_3_0_s_8_1⟩
    | 4, _ => exact ⟨_, .tail _ (.tail _ (.tail _ (.head _))), hm 4 rfl inb_S8192x128_S1024x128_4_0_s_8_1⟩
    | 5, _ => exact ⟨_, .tail _ (.tail _ (.head _)), hm 5 rfl inb_S8192x128_S1024x128_5_0_s_8_1⟩
    | 6, _ => exact ⟨_, .tail _ (.head _), hm 6 rfl inb_S8192x128_S1024x128_6_0_s_8_1⟩
    | 7, _ => exact ⟨_, .head _, hm 7 rfl inb_S8192x128_S1024x128_7_0_s_8_1⟩

/-- The assembled tokens, read whole. -/
theorem readCov_tokens (arg15 : Memref sig .tc .vmem S1024x1024 .bf16) (arg4 : Memref sig .tc .vmem S8192x128 .f32) (harg4 : arg4.IsWhole)
    (x0 : Vec F S8192x128 .f32) (inb) :
    arg15.view.readCov (tokenPieces arg4 harg4 x0) (Rect.unit (s := S1024x1024) ![0, 0] S1024x1024.size inb).toLoadRect = tokens x0 :=
  (View.readAt_full _ _ _).trans (tokens_read _ _ _ _ _)

/-- A weight scratch, read whole. -/
theorem read_w12 (a : Memref sig .tc .vmem S1024x1024 .bf16) (h : a.IsWhole) (w : Vec F S1024x1024 .bf16) (inb) :
    a.view.readAt (Elt F) (Rect.unit (s := S1024x1024) ![0, 0] S1024x1024.size inb).toLoadRect (h.unread w) = w :=
  (View.readAt_full _ _ _).trans (h.read_unread _)

/-- A weight block, read whole. -/
theorem read_w3 (a : Memref sig .tc .vmem S1x1024x1024 .f32) (h : a.IsWhole) (w : Vec F S1x1024x1024 .f32) (inb) :
    a.view.readAt (Elt F) (Rect.unit (s := S1x1024x1024) ![0, 0, 0] S1x1024x1024.size inb).toLoadRect (h.unread w) = w :=
  (View.readAt_full _ _ _).trans (h.read_unread _)

/-- A bias block, read whole. -/
theorem read_b (a : Memref sig .tc .vmem S1x1x1024 .f32) (h : a.IsWhole) (w : Vec F S1x1x1024 .f32) (inb) :
    a.view.readAt (Elt F) (Rect.unit (s := S1x1x1024) ![0, 0, 0] S1x1x1024.size inb).toLoadRect (h.unread w) = w :=
  (View.readAt_full _ _ _).trans (h.read_unread _)

/-! ## What the runs leave -/

set_option maxHeartbeats 1000000 in
/-- Where the weights are kept, the output block is the layer's on the scratch's weights. -/
theorem runK_read (c : Dev nD) (i : grid0.Coords) (arg4 : Memref sig .tc .vmem S8192x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole)
    (arg9 : Memref sig .tc .vmem S1x1024x1024 .f32) (harg9 : arg9.IsWhole) (arg10 : Memref sig .tc .vmem S1x1x1024 .f32) (harg10 : arg10.IsWhole) (arg11 : Memref sig .tc .vmem S8192x128 .f32) (harg11 : arg11.IsWhole) (arg12 : Memref sig .tc .vmem S1024x1024 .bf16) (harg12 : arg12.IsWhole) (arg13 : Memref sig .tc .vmem S1024x1024 .bf16) (harg13 : arg13.IsWhole)
    (arg14 : Memref sig .tc .vmem S1024x1024 .bf16) (harg14 : arg14.IsWhole) (arg15 : Memref sig .tc .vmem S1024x1024 .bf16) (harg15 : arg15.IsWhole)
    (x0 : Vec F S8192x128 .f32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (w0 w1 w2 : Vec F S1024x1024 .bf16) (xt0 : TbBuf0 (F := F) c tbM0_0) (xt1 : TbBuf0 (F := F) c tbM0_1) (xt2 : TbBuf0 (F := F) c tbM0_2)
    (h1 : ¬ k0_cond1 i (nuW c xt1) = 1#1) (h2 : k0_cond2 i (nuW c xt1) = 1#1) (h3 : ¬ reloadW i (curW c i xt0) (prevW c i xt0) = 1#1) (f) :
    arg11.view.read (Elt F) (arg11.view.writes (Elt F) f (runK c i arg4 harg4 arg5 harg5 arg6 harg6 arg7 harg7 arg8 harg8 arg9 harg9 arg10 harg10 arg11 harg11 arg12 harg12 arg13 harg13 arg14 harg14 arg15 harg15 x0 x1 x2 x3 x4 x5 x6 w0 w1 w2 xt0 xt1 xt2 h1 h2 h3).1)
      = packed (layer (tokens x0) w0 x2 w1 x4 w2 x6) := by
  have e : (runK c i arg4 harg4 arg5 harg5 arg6 harg6 arg7 harg7 arg8 harg8 arg9 harg9 arg10 harg10 arg11 harg11 arg12 harg12 arg13 harg13 arg14 harg14 arg15 harg15 x0 x1 x2 x3 x4 x5 x6 w0 w1 w2 xt0 xt1 xt2 h1 h2 h3).1
      = resultPieces (layer (arg15.view.readCov (tokenPieces arg4 harg4 x0) (Rect.unit (s := S1024x1024) ![0, 0] S1024x1024.size inb_S1024x1024_S1024x1024_0_0).toLoadRect) (arg12.view.readAt (Elt F) (Rect.unit (s := S1024x1024) ![0, 0] S1024x1024.size inb_S1024x1024_S1024x1024_0_0).toLoadRect (harg12.unread w0)) (arg6.view.readAt (Elt F) (Rect.unit (s := S1x1x1024) ![0, 0, 0] S1x1x1024.size inb_S1x1x1024_S1x1x1024_0_0_0).toLoadRect (harg6.unread x2)) (arg13.view.readAt (Elt F) (Rect.unit (s := S1024x1024) ![0, 0] S1024x1024.size inb_S1024x1024_S1024x1024_0_0).toLoadRect (harg13.unread w1)) (arg8.view.readAt (Elt F) (Rect.unit (s := S1x1x1024) ![0, 0, 0] S1x1x1024.size inb_S1x1x1024_S1x1x1024_0_0_0).toLoadRect (harg8.unread x4)) (arg14.view.readAt (Elt F) (Rect.unit (s := S1024x1024) ![0, 0] S1024x1024.size inb_S1024x1024_S1024x1024_0_0).toLoadRect (harg14.unread w2)) (arg10.view.readAt (Elt F) (Rect.unit (s := S1x1x1024) ![0, 0, 0] S1x1x1024.size inb_S1x1x1024_S1x1x1024_0_0_0).toLoadRect (harg10.unread x6))) := rfl
  rw [e, result_read]
  rw [readCov_tokens, read_w12, read_w12, read_w12, read_b, read_b, read_b]

set_option maxHeartbeats 1000000 in
/-- Where the weights are cast anew, the output block is the layer's on the weights' casts. -/
theorem runL_read (c : Dev nD) (i : grid0.Coords) (arg4 : Memref sig .tc .vmem S8192x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole)
    (arg9 : Memref sig .tc .vmem S1x1024x1024 .f32) (harg9 : arg9.IsWhole) (arg10 : Memref sig .tc .vmem S1x1x1024 .f32) (harg10 : arg10.IsWhole) (arg11 : Memref sig .tc .vmem S8192x128 .f32) (harg11 : arg11.IsWhole) (arg12 : Memref sig .tc .vmem S1024x1024 .bf16) (harg12 : arg12.IsWhole) (arg13 : Memref sig .tc .vmem S1024x1024 .bf16) (harg13 : arg13.IsWhole)
    (arg14 : Memref sig .tc .vmem S1024x1024 .bf16) (harg14 : arg14.IsWhole) (arg15 : Memref sig .tc .vmem S1024x1024 .bf16) (harg15 : arg15.IsWhole)
    (x0 : Vec F S8192x128 .f32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (xt2 : TbBuf0 (F := F) c tbM0_2)
    (h1 : ¬ k0_cond1 i (nuW c xt1) = 1#1) (h2 : k0_cond2 i (nuW c xt1) = 1#1) (h3 : reloadW i (curW c i xt0) (prevW c i xt0) = 1#1) (f) :
    arg11.view.read (Elt F) (arg11.view.writes (Elt F) f (runL c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 h1 h2 h3).1)
      = packed (layer (tokens x0) (k0_pay4 x1) x2 (k0_pay5 x3) x4 (k0_pay6 x5) x6) := by
  have e : (runL c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 h1 h2 h3).1
      = resultPieces (layer (arg15.view.readCov (tokenPieces arg4 harg4 x0) (Rect.unit (s := S1024x1024) ![0, 0] S1024x1024.size inb_S1024x1024_S1024x1024_0_0).toLoadRect) (arg12.view.readCov ([⟨Rect.unit (s := S1024x1024) ![0, 0] S1024x1024.size inb_S1024x1024_S1024x1024_0_0, k0_pay4 (arg5.view.readAt (Elt F) (Rect.unit (s := S1x1024x1024) ![0, 0, 0] S1x1024x1024.size inb_S1x1024x1024_S1x1024x1024_0_0_0).toLoadRect (harg5.unread x1))⟩] : List (View.Piece (Elt F) S1024x1024 .bf16)) (Rect.unit (s := S1024x1024) ![0, 0] S1024x1024.size inb_S1024x1024_S1024x1024_0_0).toLoadRect) (arg6.view.readAt (Elt F) (Rect.unit (s := S1x1x1024) ![0, 0, 0] S1x1x1024.size inb_S1x1x1024_S1x1x1024_0_0_0).toLoadRect (harg6.unread x2)) (arg13.view.readCov ([⟨Rect.unit (s := S1024x1024) ![0, 0] S1024x1024.size inb_S1024x1024_S1024x1024_0_0, k0_pay5 (arg7.view.readAt (Elt F) (Rect.unit (s := S1x1024x1024) ![0, 0, 0] S1x1024x1024.size inb_S1x1024x1024_S1x1024x1024_0_0_0).toLoadRect (harg7.unread x3))⟩] : List (View.Piece (Elt F) S1024x1024 .bf16)) (Rect.unit (s := S1024x1024) ![0, 0] S1024x1024.size inb_S1024x1024_S1024x1024_0_0).toLoadRect) (arg8.view.readAt (Elt F) (Rect.unit (s := S1x1x1024) ![0, 0, 0] S1x1x1024.size inb_S1x1x1024_S1x1x1024_0_0_0).toLoadRect (harg8.unread x4)) (arg14.view.readCov ([⟨Rect.unit (s := S1024x1024) ![0, 0] S1024x1024.size inb_S1024x1024_S1024x1024_0_0, k0_pay6 (arg9.view.readAt (Elt F) (Rect.unit (s := S1x1024x1024) ![0, 0, 0] S1x1024x1024.size inb_S1x1024x1024_S1x1024x1024_0_0_0).toLoadRect (harg9.unread x5))⟩] : List (View.Piece (Elt F) S1024x1024 .bf16)) (Rect.unit (s := S1024x1024) ![0, 0] S1024x1024.size inb_S1024x1024_S1024x1024_0_0).toLoadRect) (arg10.view.readAt (Elt F) (Rect.unit (s := S1x1x1024) ![0, 0, 0] S1x1x1024.size inb_S1x1x1024_S1x1x1024_0_0_0).toLoadRect (harg10.unread x6))) := rfl
  rw [e, result_read]
  rw [readCov_tokens, View.readCov_full, View.readCov_full, View.readCov_full, read_w3, read_w3, read_w3, read_b, read_b, read_b]

/-- The weights' casts the run leaves in scratch 0. -/
theorem runL_scratch0 (c : Dev nD) (i : grid0.Coords) (arg4 : Memref sig .tc .vmem S8192x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole)
    (arg9 : Memref sig .tc .vmem S1x1024x1024 .f32) (harg9 : arg9.IsWhole) (arg10 : Memref sig .tc .vmem S1x1x1024 .f32) (harg10 : arg10.IsWhole) (arg11 : Memref sig .tc .vmem S8192x128 .f32) (harg11 : arg11.IsWhole) (arg12 : Memref sig .tc .vmem S1024x1024 .bf16) (harg12 : arg12.IsWhole) (arg13 : Memref sig .tc .vmem S1024x1024 .bf16) (harg13 : arg13.IsWhole)
    (arg14 : Memref sig .tc .vmem S1024x1024 .bf16) (harg14 : arg14.IsWhole) (arg15 : Memref sig .tc .vmem S1024x1024 .bf16) (harg15 : arg15.IsWhole)
    (x0 : Vec F S8192x128 .f32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (xt2 : TbBuf0 (F := F) c tbM0_2)
    (h1 : ¬ k0_cond1 i (nuW c xt1) = 1#1) (h2 : k0_cond2 i (nuW c xt1) = 1#1) (h3 : reloadW i (curW c i xt0) (prevW c i xt0) = 1#1) (f) :
    arg12.view.read (Elt F) (arg12.view.writes (Elt F) f (runL c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 h1 h2 h3).2.1)
      = k0_pay4 x1 := by
  have e : (runL c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 h1 h2 h3).2.1 = ([⟨Rect.unit (s := S1024x1024) ![0, 0] S1024x1024.size inb_S1024x1024_S1024x1024_0_0, k0_pay4 (arg5.view.readAt (Elt F) (Rect.unit (s := S1x1024x1024) ![0, 0, 0] S1x1024x1024.size inb_S1x1024x1024_S1x1024x1024_0_0_0).toLoadRect (harg5.unread x1))⟩] : List (View.Piece (Elt F) S1024x1024 .bf16)) := rfl
  rw [e, View.read_writes_full, read_w3]

/-- The weights' casts the run leaves in scratch 1. -/
theorem runL_scratch1 (c : Dev nD) (i : grid0.Coords) (arg4 : Memref sig .tc .vmem S8192x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole)
    (arg9 : Memref sig .tc .vmem S1x1024x1024 .f32) (harg9 : arg9.IsWhole) (arg10 : Memref sig .tc .vmem S1x1x1024 .f32) (harg10 : arg10.IsWhole) (arg11 : Memref sig .tc .vmem S8192x128 .f32) (harg11 : arg11.IsWhole) (arg12 : Memref sig .tc .vmem S1024x1024 .bf16) (harg12 : arg12.IsWhole) (arg13 : Memref sig .tc .vmem S1024x1024 .bf16) (harg13 : arg13.IsWhole)
    (arg14 : Memref sig .tc .vmem S1024x1024 .bf16) (harg14 : arg14.IsWhole) (arg15 : Memref sig .tc .vmem S1024x1024 .bf16) (harg15 : arg15.IsWhole)
    (x0 : Vec F S8192x128 .f32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (xt2 : TbBuf0 (F := F) c tbM0_2)
    (h1 : ¬ k0_cond1 i (nuW c xt1) = 1#1) (h2 : k0_cond2 i (nuW c xt1) = 1#1) (h3 : reloadW i (curW c i xt0) (prevW c i xt0) = 1#1) (f) :
    arg13.view.read (Elt F) (arg13.view.writes (Elt F) f (runL c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 h1 h2 h3).2.2.1)
      = k0_pay5 x3 := by
  have e : (runL c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 h1 h2 h3).2.2.1 = ([⟨Rect.unit (s := S1024x1024) ![0, 0] S1024x1024.size inb_S1024x1024_S1024x1024_0_0, k0_pay5 (arg7.view.readAt (Elt F) (Rect.unit (s := S1x1024x1024) ![0, 0, 0] S1x1024x1024.size inb_S1x1024x1024_S1x1024x1024_0_0_0).toLoadRect (harg7.unread x3))⟩] : List (View.Piece (Elt F) S1024x1024 .bf16)) := rfl
  rw [e, View.read_writes_full, read_w3]

/-- The weights' casts the run leaves in scratch 2. -/
theorem runL_scratch2 (c : Dev nD) (i : grid0.Coords) (arg4 : Memref sig .tc .vmem S8192x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole)
    (arg9 : Memref sig .tc .vmem S1x1024x1024 .f32) (harg9 : arg9.IsWhole) (arg10 : Memref sig .tc .vmem S1x1x1024 .f32) (harg10 : arg10.IsWhole) (arg11 : Memref sig .tc .vmem S8192x128 .f32) (harg11 : arg11.IsWhole) (arg12 : Memref sig .tc .vmem S1024x1024 .bf16) (harg12 : arg12.IsWhole) (arg13 : Memref sig .tc .vmem S1024x1024 .bf16) (harg13 : arg13.IsWhole)
    (arg14 : Memref sig .tc .vmem S1024x1024 .bf16) (harg14 : arg14.IsWhole) (arg15 : Memref sig .tc .vmem S1024x1024 .bf16) (harg15 : arg15.IsWhole)
    (x0 : Vec F S8192x128 .f32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (xt2 : TbBuf0 (F := F) c tbM0_2)
    (h1 : ¬ k0_cond1 i (nuW c xt1) = 1#1) (h2 : k0_cond2 i (nuW c xt1) = 1#1) (h3 : reloadW i (curW c i xt0) (prevW c i xt0) = 1#1) (f) :
    arg14.view.read (Elt F) (arg14.view.writes (Elt F) f (runL c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 h1 h2 h3).2.2.2.1)
      = k0_pay6 x5 := by
  have e : (runL c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 h1 h2 h3).2.2.2.1 = ([⟨Rect.unit (s := S1024x1024) ![0, 0] S1024x1024.size inb_S1024x1024_S1024x1024_0_0, k0_pay6 (arg9.view.readAt (Elt F) (Rect.unit (s := S1x1024x1024) ![0, 0, 0] S1x1024x1024.size inb_S1x1024x1024_S1x1024x1024_0_0_0).toLoadRect (harg9.unread x5))⟩] : List (View.Piece (Elt F) S1024x1024 .bf16)) := rfl
  rw [e, View.read_writes_full, read_w3]

/-- Past the blocks in use the output block is zero. -/
theorem runZ_read (c : Dev nD) (i : grid0.Coords) (arg4 : Memref sig .tc .vmem S8192x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole)
    (arg9 : Memref sig .tc .vmem S1x1024x1024 .f32) (harg9 : arg9.IsWhole) (arg10 : Memref sig .tc .vmem S1x1x1024 .f32) (harg10 : arg10.IsWhole) (arg11 : Memref sig .tc .vmem S8192x128 .f32) (harg11 : arg11.IsWhole) (arg12 : Memref sig .tc .vmem S1024x1024 .bf16) (harg12 : arg12.IsWhole) (arg13 : Memref sig .tc .vmem S1024x1024 .bf16) (harg13 : arg13.IsWhole)
    (arg14 : Memref sig .tc .vmem S1024x1024 .bf16) (harg14 : arg14.IsWhole) (arg15 : Memref sig .tc .vmem S1024x1024 .bf16) (harg15 : arg15.IsWhole)
    (x0 : Vec F S8192x128 .f32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (w0 w1 w2 w3 : Vec F S1024x1024 .bf16) (xt0 : TbBuf0 (F := F) c tbM0_0) (xt1 : TbBuf0 (F := F) c tbM0_1) (xt2 : TbBuf0 (F := F) c tbM0_2)
    (h1 : k0_cond1 i (nuW c xt1) = 1#1) (h2 : ¬ k0_cond2 i (nuW c xt1) = 1#1) (f) :
    arg11.view.read (Elt F) (arg11.view.writes (Elt F) f (runZ c i arg4 harg4 arg5 harg5 arg6 harg6 arg7 harg7 arg8 harg8 arg9 harg9 arg10 harg10 arg11 harg11 arg12 harg12 arg13 harg13 arg14 harg14 arg15 harg15 x0 x1 x2 x3 x4 x5 x6 w0 w1 w2 w3 xt0 xt1 xt2 h1 h2).1)
      = k0_pay1 (F := F) := by
  have e : (runZ c i arg4 harg4 arg5 harg5 arg6 harg6 arg7 harg7 arg8 harg8 arg9 harg9 arg10 harg10 arg11 harg11 arg12 harg12 arg13 harg13 arg14 harg14 arg15 harg15 x0 x1 x2 x3 x4 x5 x6 w0 w1 w2 w3 xt0 xt1 xt2 h1 h2).1
      = [⟨Rect.unit (s := S8192x128) ![0, 0] S8192x128.size inb_S8192x128_S8192x128_0_0, k0_pay1 (F := F)⟩] := rfl
  rw [e, View.read_writes_full]

end Cert.Kernel4Ideal.Moe

end
-- ==== Proof.MoeTables.lean ====
/- The words of the expert kernel's tables: the blocks in use, the blocks' experts, and the table of the weights' experts. -/
module

public import proofs.«01_k».proof.Proof.MoeBlock
public import Idealize.ShloMosaic.Lib.Routing.OpsSet
public import Idealize.ShloMosaic.Lib.Pipeline.Value

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The words of the tables -/

/-- The number of blocks in use, as launched. -/
def nU : BitVec 32 := (m (((0 : Dev nD) : Thread nD τ).loc main_arg1) : IVec S1 32) (ix1 (0 : Fin 1))
/-- The expert of block `n`, as launched. -/
def bE (n : Fin 161) : BitVec 32 := (m (((0 : Dev nD) : Thread nD τ).loc main_arg0) : IVec S161 32) (ix1 n)

/-- The grid point of block `n`. -/
theorem coords_val (t : Fin grid0.N) : ((grid0.coords t) 0).val = t.val := by
  revert t; decide +kernel

theorem point_lt (t : Fin grid0.N) : t.val < 161 := t.isLt

theorem nuW_eq (c : Dev nD) : nuW c (tbl m 1) = nU m := by
  unfold nuW nU
  show V m 0 main_arg1 _ = _
  rw [V_kept m 0 main_arg1 (by decide)]
  refine congrArg (m (((0 : Dev nD) : Thread nD τ).loc main_arg1)) (funext fun a => ?_)
  match a with
  | ⟨0, _⟩ => exact Subsingleton.elim (α := Fin 1) _ _

theorem curW_eq (c : Dev nD) (t : Fin grid0.N) : curW c (grid0.coords t) (tbl m 0) = bE m ⟨t.val, point_lt t⟩ := by
  unfold curW bE
  show V m 0 main_arg0 _ = _
  rw [V_kept m 0 main_arg0 (by decide)]
  refine congrArg (m (((0 : Dev nD) : Thread nD τ).loc main_arg0)) (funext fun a => Fin.ext ?_)
  match a with
  | ⟨0, _⟩ =>
    show (BitVec.ofNat 32 ((grid0.coords t) 0).val).toNat + 1 * 0 = t.val
    rw [coords_val, BitVec.toNat_ofNat]
    have := point_lt t
    omega

theorem prevW_eq (c : Dev nD) (t p : Fin grid0.N) (h : p.val + 1 = t.val) :
    prevW c (grid0.coords t) (tbl m 0) = bE m ⟨p.val, point_lt p⟩ := by
  unfold prevW bE
  show V m 0 main_arg0 _ = _
  rw [V_kept m 0 main_arg0 (by decide)]
  refine congrArg (m (((0 : Dev nD) : Thread nD τ).loc main_arg0)) (funext fun a => Fin.ext ?_)
  match a with
  | ⟨0, _⟩ =>
    show (k0_off2 (grid0.coords t)) 0 + 1 * 0 = p.val
    rw [k0_off2_eq]
    show ((grid0.coords t) 0).val - 1 + 1 * 0 = p.val
    rw [coords_val]
    omega

/-- A kept block is not the first, and its expert is the block before's. -/
theorem kept_of_not_reload (c : Dev nD) (t : Fin grid0.N)
    (h : ¬ reloadW (grid0.coords t) (curW c (grid0.coords t) (tbl m 0)) (prevW c (grid0.coords t) (tbl m 0)) = 1#1) :
    ∃ p : Fin grid0.N, p.val + 1 = t.val ∧ bE m ⟨t.val, point_lt t⟩ = bE m ⟨p.val, point_lt p⟩ := by
  have ht := point_lt t
  by_cases h0 : t.val = 0
  · refine absurd ?_ h
    unfold reloadW
    rw [coords_val, h0]
    generalize Scalar.cmpi .ne (curW c (grid0.coords t) (tbl m 0)) (prevW c (grid0.coords t) (tbl m 0)) = b
    revert b; decide
  · refine ⟨⟨t.val - 1, by omega⟩, by show t.val - 1 + 1 = t.val; omega, ?_⟩
    rw [← curW_eq m c t, ← prevW_eq m c t ⟨t.val - 1, by omega⟩ (by show t.val - 1 + 1 = t.val; omega)]
    by_contra hne
    refine h ?_
    unfold reloadW
    rw [show Scalar.cmpi .ne (curW c (grid0.coords t) (tbl m 0)) (prevW c (grid0.coords t) (tbl m 0)) = 1#1 from by
      rw [show ∀ p (x y : BitVec 32), Scalar.cmpi p x y = IntOp.cmpi p x y from fun _ _ _ => rfl, WordCmp.cmpi_ne_eq, WordCmp.ofBool_decide_eq_one_iff]; exact hne]
    generalize Scalar.cmpi .eq (BitVec.ofNat 32 ((grid0.coords t) 0).val) 0#32 = b
    revert b; decide

/-- Whether block `n` is in use: the word the kernel compares. -/
theorem cond2_iff (i : grid0.Coords) (v : BitVec 32) : k0_cond2 i v = 1#1 ↔ (BitVec.ofNat 32 (i 0).val).toInt < v.toInt := by
  unfold k0_cond2
  dsimp only
  rw [show ∀ p (x y : BitVec 32), Scalar.cmpi p x y = IntOp.cmpi p x y from fun _ _ _ => rfl, show ∀ p (x y : BitVec 32), Scalar.cmpi p x y = IntOp.cmpi p x y from fun _ _ _ => rfl, WordCmp.cmpi_slt_eq]
  by_cases h : (BitVec.ofNat 32 (i 0).val).toInt < v.toInt
  · rw [decide_eq_true h]; exact iff_of_true (by decide) h
  · rw [decide_eq_false h]; exact iff_of_false (by decide) h

theorem cond1_iff (i : grid0.Coords) (v : BitVec 32) : k0_cond1 i v = 1#1 ↔ v.toInt ≤ (BitVec.ofNat 32 (i 0).val).toInt := by
  unfold k0_cond1
  dsimp only
  rw [show ∀ p (x y : BitVec 32), Scalar.cmpi p x y = IntOp.cmpi p x y from fun _ _ _ => rfl, show ∀ p (x y : BitVec 32), Scalar.cmpi p x y = IntOp.cmpi p x y from fun _ _ _ => rfl, WordCmp.cmpi_sge_eq]
  by_cases h : v.toInt ≤ (BitVec.ofNat 32 (i 0).val).toInt
  · rw [decide_eq_true h]; exact iff_of_true (by decide) h
  · rw [decide_eq_false h]; exact iff_of_false (by decide) h

theorem cond_iff (i : grid0.Coords) (v : BitVec 32) : k0_cond2 i v = 1#1 ↔ ¬ k0_cond1 i v = 1#1 := by
  rw [cond2_iff, cond1_iff]; omega

theorem toInt_small (n : Nat) (h : n < 161) : (BitVec.ofNat 32 n).toInt = (n : Int) := by
  rw [BitVec.toInt_eq_toNat_cond, BitVec.toNat_ofNat]
  have : n % 2 ^ 32 = n := Nat.mod_eq_of_lt (by omega)
  rw [this, if_pos (by omega)]

theorem used_iff (t : Fin grid0.N) : k0_cond2 (grid0.coords t) (nU m) = 1#1 ↔ (t.val : Int) < (nU m).toInt := by
  rw [cond2_iff, coords_val, toInt_small _ (point_lt t)]

/-! ## The table of the weights' experts -/

/-- The table's row: the block's own number, held below the number of blocks in use. -/
def row (n : Fin 161) : Fin 161 := ⟨min n.val ((nU m).toInt.toNat - 1), by omega⟩

/-- The host's lesser of a block's number and the last block in use. -/
theorem host_row (n : Fin 161) (hn : 1 ≤ (nU m).toInt) :
    IntOp.minsi (BitVec.ofNat 32 n.val) (IntOp.subi (nU m) 1#32) = BitVec.ofNat 32 (row m n).val := by
  have hl := n.isLt
  have hk : (nU m).toInt = ((nU m).toNat : Int) ∧ (nU m).toNat < 2 ^ 31 := by
    rw [BitVec.toInt_eq_toNat_cond] at hn ⊢
    have := (nU m).isLt
    split at hn <;> rename_i h <;> [skip; omega]
    rw [if_pos h]; omega
  show _ = BitVec.ofNat 32 (min n.val ((nU m).toInt.toNat - 1))
  generalize hv : (nU m) = v at hn hk ⊢
  obtain ⟨hk1, hk2⟩ := hk
  have hv1 : (v - 1#32).toNat = v.toNat - 1 := by
    rw [BitVec.toNat_sub]; show (2 ^ 32 - 1 + v.toNat) % 2 ^ 32 = _; omega
  have hv2 : (v - 1#32).toInt = ((v.toNat - 1 : Nat) : Int) := by
    rw [BitVec.toInt_eq_toNat_cond, hv1, if_pos (by omega)]
  have hs : BitVec.slt (BitVec.ofNat 32 n.val) (v - 1#32) = decide (n.val < v.toNat - 1) := by
    unfold BitVec.slt; rw [toInt_small _ hl, hv2]; exact decide_eq_decide.mpr (by omega)
  unfold IntOp.minsi
  rw [show IntOp.subi v 1#32 = v - 1#32 from rfl, hs]
  by_cases hc : n.val < v.toNat - 1
  · rw [decide_eq_true hc, if_pos rfl, hk1]
    exact congrArg _ (by omega)
  · rw [decide_eq_false hc, if_neg (by decide), hk1]
    refine BitVec.eq_of_toNat_eq ?_
    rw [hv1, BitVec.toNat_ofNat, Nat.mod_eq_of_lt (by omega)]
    omega

theorem tbl2_apply (n : Fin 161) (hn : 1 ≤ (nU m).toInt) : (tbl m 2 : IVec S161 32) (ix1 n) = bE m (row m n) := by
  show (StableHlo.after hostOps0 (fun b => m ((0 : Dev nD), b)) main_v11 : IVec S161 32) (ix1 n) = _
  simp only [hostOps0]
  after_results_simp
  have e : (fun i => shapeCast S_ (m (0, Proc.tc.devRef main_arg1) : IVec S1 32) shapeCasts_S1_S_ i) = fun _ => nU m := by
    funext i
    refine congrArg (m (((0 : Dev nD) : Thread nD τ).loc main_arg1) : IVec S1 32) (funext fun a => ?_)
    match a with
    | ⟨0, _⟩ => exact Subsingleton.elim (α := Fin 1) _ _
  refine (Routing.gather_take1 _ rfl rfl rfl rfl _ _ n (row m n) ?_ (by decide)).trans rfl
  have hr := host_row m n hn
  have h161 := (row m n).isLt
  show Scalar.select (IntOp.cmpi .slt (IntOp.minsi (BitVec.ofNat 32 n.val) (IntOp.subi ((fun i => shapeCast S_ (m (0, Proc.tc.devRef main_arg1) : IVec S1 32) shapeCasts_S1_S_ i) _) 1#32)) 0#32)
    (IntOp.addi (IntOp.minsi (BitVec.ofNat 32 n.val) (IntOp.subi ((fun i => shapeCast S_ (m (0, Proc.tc.devRef main_arg1) : IVec S1 32) shapeCasts_S1_S_ i) _) 1#32)) 161#32)
    (IntOp.minsi (BitVec.ofNat 32 n.val) (IntOp.subi ((fun i => shapeCast S_ (m (0, Proc.tc.devRef main_arg1) : IVec S1 32) shapeCasts_S1_S_ i) _) 1#32)) = _
  rw [e]
  dsimp only
  rw [hr, show IntOp.cmpi .slt (BitVec.ofNat 32 (row m n).val) 0#32 = 0#1 from by
    rw [WordCmp.cmpi_slt_eq, toInt_small _ h161, WordCmp.ofBool_decide_eq_zero_iff]; show ¬ ((row m n).val : Int) < 0; omega]
  rfl

end Cert.Kernel4Ideal.Moe

end
-- ==== Proof.MoeInputs.lean ====
/- The blocks the expert kernel's windows hold at each point, by the tables' words. -/
module

public import proofs.«01_k».proof.Proof.MoeTables

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The windows' index maps at the tables -/

/-- The expert whose weights block `n` is given. -/
def bC (n : Fin 161) : BitVec 32 := (tbl m 2 : IVec S161 32) (ix1 n)

theorem at2_eq (t : Fin grid0.N) (inb) :
    (tbl m).at 2 (Rect.unit (s := S161) ![(Scalar.indexCast (BitVec.ofNat 32 ((grid0.coords t) 0).val)).toNat] S1.size inb) numel1_S1
      = bC m ⟨t.val, point_lt t⟩ := by
  refine congrArg (tbl m 2 : IVec S161 32) (funext fun a => Fin.ext ?_)
  match a with
  | ⟨0, _⟩ =>
    show (BitVec.ofNat 32 ((grid0.coords t) 0).val).toNat + 1 * 0 = t.val
    rw [coords_val, BitVec.toNat_ofNat]
    have := point_lt t
    omega

theorem map1_eq (t : Fin grid0.N) :
    cc0_transform_1 k0_off1_inb numel1_S1 (tbl m) (grid0.coords t) = ![(bC m ⟨t.val, point_lt t⟩).toNat, 0, 0] := by
  unfold cc0_transform_1
  exact congrArg (fun z : BitVec 32 => (![z.toNat, 0, 0] : Fin 3 → Nat)) (at2_eq m t _)

theorem map2_eq (t : Fin grid0.N) :
    cc0_transform_2 k0_off1_inb numel1_S1 (tbl m) (grid0.coords t) = ![(bC m ⟨t.val, point_lt t⟩).toNat, 0, 0] := by
  unfold cc0_transform_2
  exact congrArg (fun z : BitVec 32 => (![z.toNat, 0, 0] : Fin 3 → Nat)) (at2_eq m t _)

theorem map3_eq (t : Fin grid0.N) :
    cc0_transform_3 k0_off1_inb numel1_S1 (tbl m) (grid0.coords t) = ![(bC m ⟨t.val, point_lt t⟩).toNat, 0, 0] := by
  unfold cc0_transform_3
  exact congrArg (fun z : BitVec 32 => (![z.toNat, 0, 0] : Fin 3 → Nat)) (at2_eq m t _)

theorem map4_eq (t : Fin grid0.N) :
    cc0_transform_4 k0_off1_inb numel1_S1 (tbl m) (grid0.coords t) = ![(bC m ⟨t.val, point_lt t⟩).toNat, 0, 0] := by
  unfold cc0_transform_4
  exact congrArg (fun z : BitVec 32 => (![z.toNat, 0, 0] : Fin 3 → Nat)) (at2_eq m t _)

theorem map5_eq (t : Fin grid0.N) :
    cc0_transform_5 k0_off1_inb numel1_S1 (tbl m) (grid0.coords t) = ![(bC m ⟨t.val, point_lt t⟩).toNat, 0, 0] := by
  unfold cc0_transform_5
  exact congrArg (fun z : BitVec 32 => (![z.toNat, 0, 0] : Fin 3 → Nat)) (at2_eq m t _)

theorem map6_eq (t : Fin grid0.N) :
    cc0_transform_6 k0_off1_inb numel1_S1 (tbl m) (grid0.coords t) = ![(bC m ⟨t.val, point_lt t⟩).toNat, 0, 0] := by
  unfold cc0_transform_6
  exact congrArg (fun z : BitVec 32 => (![z.toNat, 0, 0] : Fin 3 → Nat)) (at2_eq m t _)

theorem at1_eq : (tbl m).at 1 (Rect.unit (s := S1) ![0] S1.size inb_S1_S1_0) numel1_S1 = nU m := by
  refine (congrFun (V_kept m 0 main_arg1 (by decide)) _).trans ?_
  refine congrArg (m (((0 : Dev nD) : Thread nD τ).loc main_arg1) : IVec S1 32) (funext fun a => ?_)
  match a with
  | ⟨0, _⟩ => exact Subsingleton.elim (α := Fin 1) _ _

/-- The token window's map: the block's own number, held below the number of blocks in use. -/
theorem map0_eq (t : Fin grid0.N) (hn : 1 ≤ (nU m).toInt) :
    cc0_transform_0 inb_S1_S1_0 numel1_S1 (tbl m) (grid0.coords t) = ![(row m ⟨t.val, point_lt t⟩).val, 0] := by
  unfold cc0_transform_0
  have h := host_row m ⟨t.val, point_lt t⟩ hn
  have hl := (row m ⟨t.val, point_lt t⟩).isLt
  have h2 : (Scalar.minsi (BitVec.ofNat 32 ((grid0.coords t) 0).val)
      (Scalar.subi ((tbl m).at 1 (Rect.unit (s := S1) ![0] S1.size inb_S1_S1_0) numel1_S1) 1#32)).toNat = (row m ⟨t.val, point_lt t⟩).val := by
    rw [at1_eq, coords_val]
    refine (congrArg BitVec.toNat h).trans ?_
    rw [BitVec.toNat_ofNat]
    omega
  exact congrArg (fun z : Nat => (![z, 0] : Fin 2 → Nat)) h2

/-! ## The blocks the windows hold -/

/-- The expert of a block's weights is one of the experts. -/
theorem bC_lt (hO : Ok m) (n : Fin 161) : (bC m n).toNat < 32 := by
  have h := (hO.2.1 (grid0.coords ⟨n.val, n.isLt⟩)).elim fun h _ => h 0
  rw [map1_eq m ⟨n.val, n.isLt⟩] at h
  have h' : ((bC m n).toNat + 1) * 1 ≤ 32 := h
  omega

/-- The expert of a block's weights. -/
def expert (hO : Ok m) (n : Fin 161) : Fin 32 := ⟨(bC m n).toNat, bC_lt m hO n⟩

theorem iblk1_eq (hO : Ok m) (c : Dev nD) (t : Fin grid0.N) :
    (iblk m hO c 1 t : Vec F S1x1024x1024 .f32)
      = fun y : S1x1024x1024.Idx => (V m c main_arg3 : FVec F S32x1024x1024 .f32) (ix3 (expert m hO ⟨t.val, point_lt t⟩) (y 1 : Fin 1024) (y 2 : Fin 1024)) := by
  funext (y : S1x1024x1024.Idx)
  unfold iblk
  refine (View.read_apply _ _).trans ?_
  show (V m c main_arg3 : FVec F S32x1024x1024 .f32) _ = _
  refine congrArg (V m c main_arg3 : FVec F S32x1024x1024 .f32) (funext fun a => Fin.ext ?_)
  have hy : (y 0).val < 1 := (y 0).isLt
  have hm := map1_eq m t
  match a with
  | ⟨0, _⟩ =>
    show cc0_transform_1 k0_off1_inb numel1_S1 (tbl m) (grid0.coords t) 0 * 1 + 1 * (y 0).val = (bC m ⟨t.val, point_lt t⟩).toNat
    rw [hm]; show (bC m ⟨t.val, point_lt t⟩).toNat * 1 + 1 * (y 0).val = _; omega
  | ⟨1, _⟩ =>
    show cc0_transform_1 k0_off1_inb numel1_S1 (tbl m) (grid0.coords t) 1 * 1024 + 1 * (y 1).val = (y 1).val
    rw [hm]; show 0 * 1024 + 1 * (y 1).val = _; omega
  | ⟨2, _⟩ =>
    show cc0_transform_1 k0_off1_inb numel1_S1 (tbl m) (grid0.coords t) 2 * 1024 + 1 * (y 2).val = (y 2).val
    rw [hm]; show 0 * 1024 + 1 * (y 2).val = _; omega

theorem iblk3_eq (hO : Ok m) (c : Dev nD) (t : Fin grid0.N) :
    (iblk m hO c 3 t : Vec F S1x1024x1024 .f32)
      = fun y : S1x1024x1024.Idx => (V m c main_arg5 : FVec F S32x1024x1024 .f32) (ix3 (expert m hO ⟨t.val, point_lt t⟩) (y 1 : Fin 1024) (y 2 : Fin 1024)) := by
  funext (y : S1x1024x1024.Idx)
  unfold iblk
  refine (View.read_apply _ _).trans ?_
  show (V m c main_arg5 : FVec F S32x1024x1024 .f32) _ = _
  refine congrArg (V m c main_arg5 : FVec F S32x1024x1024 .f32) (funext fun a => Fin.ext ?_)
  have hy : (y 0).val < 1 := (y 0).isLt
  have hm := map3_eq m t
  match a with
  | ⟨0, _⟩ =>
    show cc0_transform_3 k0_off1_inb numel1_S1 (tbl m) (grid0.coords t) 0 * 1 + 1 * (y 0).val = (bC m ⟨t.val, point_lt t⟩).toNat
    rw [hm]; show (bC m ⟨t.val, point_lt t⟩).toNat * 1 + 1 * (y 0).val = _; omega
  | ⟨1, _⟩ =>
    show cc0_transform_3 k0_off1_inb numel1_S1 (tbl m) (grid0.coords t) 1 * 1024 + 1 * (y 1).val = (y 1).val
    rw [hm]; show 0 * 1024 + 1 * (y 1).val = _; omega
  | ⟨2, _⟩ =>
    show cc0_transform_3 k0_off1_inb numel1_S1 (tbl m) (grid0.coords t) 2 * 1024 + 1 * (y 2).val = (y 2).val
    rw [hm]; show 0 * 1024 + 1 * (y 2).val = _; omega

theorem iblk5_eq (hO : Ok m) (c : Dev nD) (t : Fin grid0.N) :
    (iblk m hO c 5 t : Vec F S1x1024x1024 .f32)
      = fun y : S1x1024x1024.Idx => (V m c main_arg7 : FVec F S32x1024x1024 .f32) (ix3 (expert m hO ⟨t.val, point_lt t⟩) (y 1 : Fin 1024) (y 2 : Fin 1024)) := by
  funext (y : S1x1024x1024.Idx)
  unfold iblk
  refine (View.read_apply _ _).trans ?_
  show (V m c main_arg7 : FVec F S32x1024x1024 .f32) _ = _
  refine congrArg (V m c main_arg7 : FVec F S32x1024x1024 .f32) (funext fun a => Fin.ext ?_)
  have hy : (y 0).val < 1 := (y 0).isLt
  have hm := map5_eq m t
  match a with
  | ⟨0, _⟩ =>
    show cc0_transform_5 k0_off1_inb numel1_S1 (tbl m) (grid0.coords t) 0 * 1 + 1 * (y 0).val = (bC m ⟨t.val, point_lt t⟩).toNat
    rw [hm]; show (bC m ⟨t.val, point_lt t⟩).toNat * 1 + 1 * (y 0).val = _; omega
  | ⟨1, _⟩ =>
    show cc0_transform_5 k0_off1_inb numel1_S1 (tbl m) (grid0.coords t) 1 * 1024 + 1 * (y 1).val = (y 1).val
    rw [hm]; show 0 * 1024 + 1 * (y 1).val = _; omega
  | ⟨2, _⟩ =>
    show cc0_transform_5 k0_off1_inb numel1_S1 (tbl m) (grid0.coords t) 2 * 1024 + 1 * (y 2).val = (y 2).val
    rw [hm]; show 0 * 1024 + 1 * (y 2).val = _; omega

theorem iblk2_eq (hO : Ok m) (c : Dev nD) (t : Fin grid0.N) :
    (iblk m hO c 2 t : Vec F S1x1x1024 .f32)
      = fun y : S1x1x1024.Idx => (V m c main_v12 : FVec F S32x1x1024 .f32) (ix3 (expert m hO ⟨t.val, point_lt t⟩) (0 : Fin 1) (y 2 : Fin 1024)) := by
  funext (y : S1x1x1024.Idx)
  unfold iblk
  refine (View.read_apply _ _).trans ?_
  show (V m c main_v12 : FVec F S32x1x1024 .f32) _ = _
  refine congrArg (V m c main_v12 : FVec F S32x1x1024 .f32) (funext fun a => Fin.ext ?_)
  have hy : (y 0).val < 1 := (y 0).isLt
  have hy1 : (y 1).val < 1 := (y 1).isLt
  have hm := map2_eq m t
  match a with
  | ⟨0, _⟩ =>
    show cc0_transform_2 k0_off1_inb numel1_S1 (tbl m) (grid0.coords t) 0 * 1 + 1 * (y 0).val = (bC m ⟨t.val, point_lt t⟩).toNat
    rw [hm]; show (bC m ⟨t.val, point_lt t⟩).toNat * 1 + 1 * (y 0).val = _; omega
  | ⟨1, _⟩ =>
    show cc0_transform_2 k0_off1_inb numel1_S1 (tbl m) (grid0.coords t) 1 * 1 + 1 * (y 1).val = 0
    rw [hm]; show 0 * 1 + 1 * (y 1).val = _; omega
  | ⟨2, _⟩ =>
    show cc0_transform_2 k0_off1_inb numel1_S1 (tbl m) (grid0.coords t) 2 * 1024 + 1 * (y 2).val = (y 2).val
    rw [hm]; show 0 * 1024 + 1 * (y 2).val = _; omega

theorem iblk4_eq (hO : Ok m) (c : Dev nD) (t : Fin grid0.N) :
    (iblk m hO c 4 t : Vec F S1x1x1024 .f32)
      = fun y : S1x1x1024.Idx => (V m c main_v13 : FVec F S32x1x1024 .f32) (ix3 (expert m hO ⟨t.val, point_lt t⟩) (0 : Fin 1) (y 2 : Fin 1024)) := by
  funext (y : S1x1x1024.Idx)
  unfold iblk
  refine (View.read_apply _ _).trans ?_
  show (V m c main_v13 : FVec F S32x1x1024 .f32) _ = _
  refine congrArg (V m c main_v13 : FVec F S32x1x1024 .f32) (funext fun a => Fin.ext ?_)
  have hy : (y 0).val < 1 := (y 0).isLt
  have hy1 : (y 1).val < 1 := (y 1).isLt
  have hm := map4_eq m t
  match a with
  | ⟨0, _⟩ =>
    show cc0_transform_4 k0_off1_inb numel1_S1 (tbl m) (grid0.coords t) 0 * 1 + 1 * (y 0).val = (bC m ⟨t.val, point_lt t⟩).toNat
    rw [hm]; show (bC m ⟨t.val, point_lt t⟩).toNat * 1 + 1 * (y 0).val = _; omega
  | ⟨1, _⟩ =>
    show cc0_transform_4 k0_off1_inb numel1_S1 (tbl m) (grid0.coords t) 1 * 1 + 1 * (y 1).val = 0
    rw [hm]; show 0 * 1 + 1 * (y 1).val = _; omega
  | ⟨2, _⟩ =>
    show cc0_transform_4 k0_off1_inb numel1_S1 (tbl m) (grid0.coords t) 2 * 1024 + 1 * (y 2).val = (y 2).val
    rw [hm]; show 0 * 1024 + 1 * (y 2).val = _; omega

theorem iblk6_eq (hO : Ok m) (c : Dev nD) (t : Fin grid0.N) :
    (iblk m hO c 6 t : Vec F S1x1x1024 .f32)
      = fun y : S1x1x1024.Idx => (V m c main_v14 : FVec F S32x1x1024 .f32) (ix3 (expert m hO ⟨t.val, point_lt t⟩) (0 : Fin 1) (y 2 : Fin 1024)) := by
  funext (y : S1x1x1024.Idx)
  unfold iblk
  refine (View.read_apply _ _).trans ?_
  show (V m c main_v14 : FVec F S32x1x1024 .f32) _ = _
  refine congrArg (V m c main_v14 : FVec F S32x1x1024 .f32) (funext fun a => Fin.ext ?_)
  have hy : (y 0).val < 1 := (y 0).isLt
  have hy1 : (y 1).val < 1 := (y 1).isLt
  have hm := map6_eq m t
  match a with
  | ⟨0, _⟩ =>
    show cc0_transform_6 k0_off1_inb numel1_S1 (tbl m) (grid0.coords t) 0 * 1 + 1 * (y 0).val = (bC m ⟨t.val, point_lt t⟩).toNat
    rw [hm]; show (bC m ⟨t.val, point_lt t⟩).toNat * 1 + 1 * (y 0).val = _; omega
  | ⟨1, _⟩ =>
    show cc0_transform_6 k0_off1_inb numel1_S1 (tbl m) (grid0.coords t) 1 * 1 + 1 * (y 1).val = 0
    rw [hm]; show 0 * 1 + 1 * (y 1).val = _; omega
  | ⟨2, _⟩ =>
    show cc0_transform_6 k0_off1_inb numel1_S1 (tbl m) (grid0.coords t) 2 * 1024 + 1 * (y 2).val = (y 2).val
    rw [hm]; show 0 * 1024 + 1 * (y 2).val = _; omega

/-! ## A kept block's weights are the block before's -/

theorem row_of_used (t : Fin grid0.N) (h : (t.val : Int) < (nU m).toInt) : row m ⟨t.val, point_lt t⟩ = ⟨t.val, point_lt t⟩ := by
  refine Fin.ext ?_
  show min t.val ((nU m).toInt.toNat - 1) = t.val
  omega

section

-- the map's word is not to be evaluated
attribute [local irreducible] cc0_transform_0

theorem iblk0_at (hO : Ok m) (c : Dev nD) (t : Fin grid0.N) (r : Nat) (hr : r < 161)
    (hm : cc0_transform_0 inb_S1_S1_0 numel1_S1 (tbl m) (grid0.coords t) = ![r, 0]) (y : S8192x128.Idx) :
    (iblk m hO c 0 t : Vec F S8192x128 .f32) y
      = (V m c main_arg2 : FVec F S1318912x128 .f32)
          (ix2 (⟨r * 8192 + (y 0).val, by
            have h0 : (y 0).val < 8192 := (y 0).isLt
            omega⟩ : Fin 1318912) (y 1 : Fin 128)) := by
  unfold iblk
  refine (View.read_apply _ _).trans ?_
  show (V m c main_arg2 : FVec F S1318912x128 .f32) _ = _
  refine congrArg (V m c main_arg2 : FVec F S1318912x128 .f32) (funext fun a => Fin.ext ?_)
  match a with
  | ⟨0, _⟩ =>
    show cc0_transform_0 inb_S1_S1_0 numel1_S1 (tbl m) (grid0.coords t) 0 * 8192 + 1 * (y 0).val = r * 8192 + (y 0).val
    rw [show cc0_transform_0 inb_S1_S1_0 numel1_S1 (tbl m) (grid0.coords t) 0 = r from congrFun hm 0, Nat.one_mul]
  | ⟨1, _⟩ =>
    show cc0_transform_0 inb_S1_S1_0 numel1_S1 (tbl m) (grid0.coords t) 1 * 128 + 1 * (y 1).val = (y 1).val
    rw [hm, Nat.one_mul]; show 0 * 128 + (y 1).val = _; rw [Nat.zero_mul, Nat.zero_add]

end

/-- A block in use is given its own rows of tokens. -/
theorem iblk0_eq (hO : Ok m) (c : Dev nD) (t : Fin grid0.N) (h : (t.val : Int) < (nU m).toInt) (y : S8192x128.Idx) :
    (iblk m hO c 0 t : Vec F S8192x128 .f32) y
      = (V m c main_arg2 : FVec F S1318912x128 .f32)
          (ix2 (⟨t.val * 8192 + (y 0).val, by
            have h0 : (y 0).val < 8192 := (y 0).isLt
            have h1 := point_lt t
            omega⟩ : Fin 1318912) (y 1 : Fin 128)) := by
  refine iblk0_at m hO c t t.val (point_lt t) ?_ y
  refine (map0_eq m t (by omega)).trans ?_
  rw [row_of_used m t h]

/-- A block in use is given its own expert's weights. -/
theorem bC_of_used (t : Fin grid0.N) (h : (t.val : Int) < (nU m).toInt) : bC m ⟨t.val, point_lt t⟩ = bE m ⟨t.val, point_lt t⟩ := by
  refine (tbl2_apply m ⟨t.val, point_lt t⟩ (by omega)).trans ?_
  rw [row_of_used m t h]

theorem expert_kept (hO : Ok m) (t p : Fin grid0.N) (h : (t.val : Int) < (nU m).toInt) (hp : p.val + 1 = t.val)
    (he : bE m ⟨t.val, point_lt t⟩ = bE m ⟨p.val, point_lt p⟩) :
    expert m hO ⟨t.val, point_lt t⟩ = expert m hO ⟨p.val, point_lt p⟩ := by
  refine Fin.ext ?_
  show (bC m ⟨t.val, point_lt t⟩).toNat = (bC m ⟨p.val, point_lt p⟩).toNat
  rw [bC_of_used m t h, bC_of_used m p (by omega), he]

end Cert.Kernel4Ideal.Moe

end
-- ==== Proof.MoePoint.lean ====
/- The expert kernel's body at a point: what it holds between points and what it leaves in the output block. -/
module

public import proofs.«01_k».proof.Proof.MoeInputs

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A block's tokens through the expert whose blocks of weights and biases the windows hold. -/
def blockOut (hO : Ok m) (c : Dev nD) (t : Fin grid0.N) : Vec F S8192x128 .f32 :=
  packed (layer (tokens (iblk m hO c 0 t)) (k0_pay4 (iblk m hO c 1 t)) (iblk m hO c 2 t) (k0_pay5 (iblk m hO c 3 t)) (iblk m hO c 4 t)
    (k0_pay6 (iblk m hO c 5 t)) (iblk m hO c 6 t))

/-- What a point leaves in the output block: zeros past the blocks in use, otherwise the block's tokens through its expert. -/
def outAt (hO : Ok m) (c : Dev nD) (t : Fin grid0.N) : Vec F S8192x128 .f32 :=
  if k0_cond1 (grid0.coords t) (nU m) = 1#1 then k0_pay1 (F := F) else blockOut m hO c t

/-- After `n` points the scratch buffers hold the cast weights of the last point's expert, if its block was in use. -/
def Held (hO : Ok m) (c : Dev nD) (n : Nat) (w0 w1 w2 : Vec F S1024x1024 .bf16) : Prop :=
  ∀ t : Fin grid0.N, t.val + 1 = n → k0_cond2 (grid0.coords t) (nU m) = 1#1 →
    w0 = k0_pay4 (iblk m hO c 1 t) ∧ w1 = k0_pay5 (iblk m hO c 3 t) ∧ w2 = k0_pay6 (iblk m hO c 5 t)

theorem held_at (hO : Ok m) (c : Dev nD) (t : Fin grid0.N) :
    Held m hO c (t.val + 1) (k0_pay4 (iblk m hO c 1 t)) (k0_pay5 (iblk m hO c 3 t)) (k0_pay6 (iblk m hO c 5 t)) := by
  intro s hs _
  obtain rfl : s = t := Fin.ext (by omega)
  exact ⟨rfl, rfl, rfl⟩

theorem held_unused (hO : Ok m) (c : Dev nD) (t : Fin grid0.N) (h : ¬ k0_cond2 (grid0.coords t) (nU m) = 1#1)
    (w0 w1 w2 : Vec F S1024x1024 .bf16) : Held m hO c (t.val + 1) w0 w1 w2 := by
  intro s hs h2
  obtain rfl : s = t := Fin.ext (by omega)
  exact absurd h2 h

/-- Where the kernel doesn't reload, the scratch buffers hold this point's expert already. -/
theorem held_kept (hO : Ok m) (c : Dev nD) (t : Fin grid0.N) (w0 w1 w2 : Vec F S1024x1024 .bf16)
    (h2 : k0_cond2 (grid0.coords t) (nU m) = 1#1)
    (h3 : ¬ reloadW (grid0.coords t) (curW c (grid0.coords t) (tbl m 0)) (prevW c (grid0.coords t) (tbl m 0)) = 1#1)
    (hw : Held m hO c t.val w0 w1 w2) :
    w0 = k0_pay4 (iblk m hO c 1 t) ∧ w1 = k0_pay5 (iblk m hO c 3 t) ∧ w2 = k0_pay6 (iblk m hO c 5 t) := by
  obtain ⟨p, hp, he⟩ := kept_of_not_reload m c t h3
  have hu := (used_iff m t).mp h2
  have hup : k0_cond2 (grid0.coords p) (nU m) = 1#1 := (used_iff m p).mpr (by omega)
  have hE := expert_kept m hO t p hu hp he
  have e1 : (iblk m hO c 1 p : Vec F S1x1024x1024 .f32) = iblk m hO c 1 t := by
    refine (iblk1_eq m hO c p).trans (Eq.trans ?_ (iblk1_eq m hO c t).symm)
    rw [hE]
  have e3 : (iblk m hO c 3 p : Vec F S1x1024x1024 .f32) = iblk m hO c 3 t := by
    refine (iblk3_eq m hO c p).trans (Eq.trans ?_ (iblk3_eq m hO c t).symm)
    rw [hE]
  have e5 : (iblk m hO c 5 p : Vec F S1x1024x1024 .f32) = iblk m hO c 5 t := by
    refine (iblk5_eq m hO c p).trans (Eq.trans ?_ (iblk5_eq m hO c t).symm)
    rw [hE]
  obtain ⟨a, b, d⟩ := hw p hp hup
  exact ⟨a.trans (congrArg k0_pay4 e1), b.trans (congrArg k0_pay5 e3), d.trans (congrArg k0_pay6 e5)⟩

/-- The invariant after `n` points. -/
def Phi (hO : Ok m) (c : Dev nD) (n : Nat) : sProp 𝕄 :=
  iprop(((∃ w0, ∃ w1, ∃ w2, ⌜Held m hO c n w0 w1 w2⌝ ∗ owns (c : Thread nD τ) scM0_0 fullShare w0 ∗ owns (c : Thread nD τ) scM0_1 fullShare w1 ∗ owns (c : Thread nD τ) scM0_2 fullShare w2)
      ∗ (∃ d, owns (c : Thread nD τ) scM0_3 fullShare d) ∗ (∃ r, prngReg c r))
    ∗ (tbPt0 c tbM0_0 (tbl m 0) ∗ tbPt0 c tbM0_1 (tbl m 1) ∗ tbPt0 c tbM0_2 (tbl m 2)))

/-- The proof data: the arrays as the region finds them; after a point each input's buffer at its block and the output's at
    `outAt`; the invariant `Phi`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ t := Phi m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body at a point -/

/-- What the body is called with, the input blocks read. -/
def pointPre (hO : Ok m) (c : Dev nD) (t : Fin (cfgM m hO).N) : sProp 𝕄 :=
  iprop(Phi m hO c t.val
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare (iblk m hO c 4 t)
    ∗ owns (c : Thread nD τ) (ms0_5 m hO t) fullShare (iblk m hO c 5 t)
    ∗ owns (c : Thread nD τ) (ms0_6 m hO t) fullShare (iblk m hO c 6 t)
    ∗ (∃ d, owns (c : Thread nD τ) (ms0_7 m hO t) fullShare d))

/-- What the body returns. -/
def pointPost (hO : Ok m) (c : Dev nD) (t : Fin (cfgM m hO).N) : sProp 𝕄 :=
  iprop(Phi m hO c (t.val + 1)
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare (iblk m hO c 4 t)
    ∗ owns (c : Thread nD τ) (ms0_5 m hO t) fullShare (iblk m hO c 5 t)
    ∗ owns (c : Thread nD τ) (ms0_6 m hO t) fullShare (iblk m hO c 6 t)
    ∗ owns (c : Thread nD τ) (ms0_7 m hO t) fullShare (outAt m hO c t))

set_option maxHeartbeats 1200000 in
/-- Past the blocks in use: the output block is filled with zeros and the scratch buffers stay. -/
theorem sound_unused (hO : Ok m) (c : Dev nD) (t : Fin (cfgM m hO).N)
    (h1 : k0_cond1 (grid0.coords t) (nU m) = 1#1) :
    pointPre m hO c t ⊢ wp frame (wpE (defs₀ (F := F)) Variants.none c none) Set.univ (bodyAt0 (adm m hO) t) (fun _ => pointPost m hO c t) := by
  have hn : nuW c (tbl m 1) = nU m := nuW_eq m c
  have h2 : ¬ k0_cond2 (grid0.coords t) (nU m) = 1#1 := fun h => (cond_iff _ _).mp h h1
  unfold pointPre pointPost bodyAt0
  unfold Phi
  iintro ⟨⟨⟨⟨%w0, %w1, %w2, %hw, HS0, HS1, HS2⟩, HS3, Hg⟩, ⟨HT0, HT1, HT2⟩⟩, H0, H1, H2, H3, H4, H5, H6, H7⟩
  icases HS3 with ⟨%w3, HS3⟩
  iapply ((runZ c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) w0 w1 w2 w3 (tbl m 0) (tbl m 1) (tbl m 2) (hn ▸ h1) (hn ▸ h2)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HT0]; · iexact HT0
  isplitl [HT1]; · iexact HT1
  isplitl [HT2]; · iexact HT2
  iintro ⟨H0, H1, H2, H3, H4, H5, H6, ⟨%e7, H7⟩, HS0, HS1, HS2, HS3, HT0, HT1, HT2⟩
  isplitl [HS0 HS1 HS2 HS3 Hg HT0 HT1 HT2]
  · isplitl [HS0 HS1 HS2 HS3 Hg]
    · isplitl [HS0 HS1 HS2]
      · iexists _; iexists _; iexists _
        isplitr
        · ipureintro; exact held_unused m hO c t h2 w0 w1 w2
        isplitl [HS0]
        · iexact HS0
        isplitl [HS1]
        · iexact HS1
        iexact HS2
      isplitl [HS3]
      · iexists _; iexact HS3
      iexact Hg
    isplitl [HT0]; · iexact HT0
    isplitl [HT1]; · iexact HT1
    iexact HT2
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  refine (runZ_read c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) w0 w1 w2 w3 (tbl m 0) (tbl m 1) (tbl m 2) (hn ▸ h1) (hn ▸ h2) e7).trans ?_
  unfold outAt
  rw [if_pos h1]

set_option maxHeartbeats 1200000 in
/-- A block in use whose expert has changed: the scratch buffers take the expert's cast weights. -/
theorem sound_reload (hO : Ok m) (c : Dev nD) (t : Fin (cfgM m hO).N)
    (h2 : k0_cond2 (grid0.coords t) (nU m) = 1#1)
    (h3 : reloadW (grid0.coords t) (curW c (grid0.coords t) (tbl m 0)) (prevW c (grid0.coords t) (tbl m 0)) = 1#1) :
    pointPre m hO c t ⊢ wp frame (wpE (defs₀ (F := F)) Variants.none c none) Set.univ (bodyAt0 (adm m hO) t) (fun _ => pointPost m hO c t) := by
  have hn : nuW c (tbl m 1) = nU m := nuW_eq m c
  have h1 : ¬ k0_cond1 (grid0.coords t) (nU m) = 1#1 := (cond_iff _ _).mp h2
  unfold pointPre pointPost bodyAt0
  unfold Phi
  iintro ⟨⟨⟨⟨%w0, %w1, %w2, %hw, HS0, HS1, HS2⟩, HS3, Hg⟩, ⟨HT0, HT1, HT2⟩⟩, H0, H1, H2, H3, H4, H5, H6, H7⟩
  iapply ((runL c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) (hn ▸ h1) (hn ▸ h2) h3).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HS2]; · iexists _; iexact HS2
  isplitl [HS3]; · iexact HS3
  isplitl [HT0]; · iexact HT0
  isplitl [HT1]; · iexact HT1
  isplitl [HT2]; · iexact HT2
  iintro ⟨H0, H1, H2, H3, H4, H5, H6, ⟨%e7, H7⟩, ⟨%fT0, HS0⟩, ⟨%fT1, HS1⟩, ⟨%fT2, HS2⟩, ⟨%fT3, HS3⟩, HT0, HT1, HT2⟩
  isplitl [HS0 HS1 HS2 HS3 Hg HT0 HT1 HT2]
  · isplitl [HS0 HS1 HS2 HS3 Hg]
    · isplitl [HS0 HS1 HS2]
      · iexists _; iexists _; iexists _
        isplitr
        · ipureintro; exact held_at m hO c t
        isplitl [HS0]
        · unfold owns; iexists _; isplitr
          swap; · iexact HS0
          ipureintro; exact runL_scratch0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) (hn ▸ h1) (hn ▸ h2) h3 fT0
        isplitl [HS1]
        · unfold owns; iexists _; isplitr
          swap; · iexact HS1
          ipureintro; exact runL_scratch1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) (hn ▸ h1) (hn ▸ h2) h3 fT1
        unfold owns; iexists _; isplitr
        swap; · iexact HS2
        ipureintro; exact runL_scratch2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) (hn ▸ h1) (hn ▸ h2) h3 fT2
      isplitl [HS3]
      · iexists _; unfold owns; iexists _; isplitr
        swap; · iexact HS3
        ipureintro; rfl
      iexact Hg
    isplitl [HT0]; · iexact HT0
    isplitl [HT1]; · iexact HT1
    iexact HT2
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  refine (runL_read c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) (hn ▸ h1) (hn ▸ h2) h3 e7).trans ?_
  unfold outAt blockOut
  rw [if_neg h1]

set_option maxHeartbeats 1200000 in
/-- A block in use whose expert is the one before's: the scratch buffers already hold its cast weights. -/
theorem sound_kept (hO : Ok m) (c : Dev nD) (t : Fin (cfgM m hO).N)
    (h2 : k0_cond2 (grid0.coords t) (nU m) = 1#1)
    (h3 : ¬ reloadW (grid0.coords t) (curW c (grid0.coords t) (tbl m 0)) (prevW c (grid0.coords t) (tbl m 0)) = 1#1) :
    pointPre m hO c t ⊢ wp frame (wpE (defs₀ (F := F)) Variants.none c none) Set.univ (bodyAt0 (adm m hO) t) (fun _ => pointPost m hO c t) := by
  have hn : nuW c (tbl m 1) = nU m := nuW_eq m c
  have h1 : ¬ k0_cond1 (grid0.coords t) (nU m) = 1#1 := (cond_iff _ _).mp h2
  unfold pointPre pointPost bodyAt0
  unfold Phi
  iintro ⟨⟨⟨⟨%w0, %w1, %w2, %hw, HS0, HS1, HS2⟩, HS3, Hg⟩, ⟨HT0, HT1, HT2⟩⟩, H0, H1, H2, H3, H4, H5, H6, H7⟩
  obtain ⟨rfl, rfl, rfl⟩ := held_kept m hO c t w0 w1 w2 h2 h3 hw
  iapply ((runK c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (k0_pay4 (iblk m hO c 1 t)) (k0_pay5 (iblk m hO c 3 t)) (k0_pay6 (iblk m hO c 5 t)) (tbl m 0) (tbl m 1) (tbl m 2) (hn ▸ h1) (hn ▸ h2) h3).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HT0]; · iexact HT0
  isplitl [HT1]; · iexact HT1
  isplitl [HT2]; · iexact HT2
  iintro ⟨H0, H1, H2, H3, H4, H5, H6, ⟨%e7, H7⟩, HS0, HS1, HS2, ⟨%fT3, HS3⟩, HT0, HT1, HT2⟩
  isplitl [HS0 HS1 HS2 HS3 Hg HT0 HT1 HT2]
  · isplitl [HS0 HS1 HS2 HS3 Hg]
    · isplitl [HS0 HS1 HS2]
      · iexists _; iexists _; iexists _
        isplitr
        · ipureintro; exact held_at m hO c t
        isplitl [HS0]
        · iexact HS0
        isplitl [HS1]
        · iexact HS1
        iexact HS2
      isplitl [HS3]
      · iexists _; unfold owns; iexists _; isplitr
        swap; · iexact HS3
        ipureintro; rfl
      iexact Hg
    isplitl [HT0]; · iexact HT0
    isplitl [HT1]; · iexact HT1
    iexact HT2
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  refine (runK_read c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (k0_pay4 (iblk m hO c 1 t)) (k0_pay5 (iblk m hO c 3 t)) (k0_pay6 (iblk m hO c 5 t)) (tbl m 0) (tbl m 1) (tbl m 2) (hn ▸ h1) (hn ▸ h2) h3 e7).trans ?_
  unfold outAt blockOut
  rw [if_neg h1]

/-- The body at any point. -/
theorem sound_point (hO : Ok m) (c : Dev nD) (t : Fin (cfgM m hO).N) :
    pointPre m hO c t ⊢ wp frame (wpE (defs₀ (F := F)) Variants.none c none) Set.univ (bodyAt0 (adm m hO) t) (fun _ => pointPost m hO c t) := by
  by_cases h1 : k0_cond1 (grid0.coords t) (nU m) = 1#1
  · exact sound_unused m hO c t h1
  · have h2 : k0_cond2 (grid0.coords t) (nU m) = 1#1 := (cond_iff _ _).mpr h1
    by_cases h3 : reloadW (grid0.coords t) (curW c (grid0.coords t) (tbl m 0)) (prevW c (grid0.coords t) (tbl m 0)) = 1#1
    · exact sound_reload m hO c t h2 h3
    · exact sound_kept m hO c t h2 h3

end Cert.Kernel4Ideal.Moe

end
-- ==== Proof.MoeFrame.lean ====
/- The expert kernel's launch: its body at every point, and its frame. -/
module

public import proofs.«01_k».proof.Proof.MoePoint
public import Idealize.ShloMosaic.Lib.Claim

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 1200000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have hp := sound_point m hO c t
  unfold bodyPre bodyPost
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6, after0_7]
  rw [show (dats m hO 0 c).Φ t.castSucc = Phi m hO c t.val from rfl, show (dats m hO 0 c).Φ t.succ = Phi m hO c (t.val + 1) from rfl]
  refine BIBase.Entails.trans (Q := iprop((dats m hO 0 c).owesAt () t.castSucc ∗ pointPre m hO c t)) ?_ ?_
  · unfold pointPre
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    isplitl [Ho]; · iexact Ho
    isplitl [HP]; · iexact HP
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · refine (sep_mono .rfl hp).trans ?_
    refine (wp_frame_l _ _ _).trans (wp_mono _ _ _ fun _ => ?_)
    unfold pointPost
    iintro ⟨Ho, HP, H0, H1, H2, H3, H4, H5, H6, H7⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation at every point: window 7 is written back, so it is left at its contents whatever the point's idle word says. -/
theorem body_obligation (hO : Ok m) (c : Dev nD) : BodyObligation (dats (F := F) m hO 0 c) (defs₀ (F := F)) Variants.none () Set.univ := fun t => by
  rw [bigSep_W0, bigSep_W0, defs₀_row m hO]
  have hf : ((cfgM m hO).win 7).flush t = true := flush0_7 (adm m hO) t
  refine triple_restated (sound_body m hO c t) rfl .rfl fun _ => ?_
  unfold bodyPost
  refine sep_mono BIBase.Entails.rfl (sep_mono BIBase.Entails.rfl ?_)
  refine sep_mono BIBase.Entails.rfl ?_
  refine sep_mono BIBase.Entails.rfl ?_
  refine sep_mono BIBase.Entails.rfl ?_
  refine sep_mono BIBase.Entails.rfl ?_
  refine sep_mono BIBase.Entails.rfl ?_
  refine sep_mono BIBase.Entails.rfl ?_
  refine sep_mono BIBase.Entails.rfl ?_
  show _ ⊢ (match (cfgM m hO).idle 7 ((cfgM m hO).grid.coords t) with
      | true => (match ((cfgM m hO).win 7).flush t with
        | false => iprop(∃ d, owns (c : Thread nD τ) (ms0_7 m hO t) fullShare ((dats m hO 0 c).before 7 t d))
        | true => owns (c : Thread nD τ) (ms0_7 m hO t) fullShare ((dats m hO 0 c).after 7 t))
      | false => owns (c : Thread nD τ) (ms0_7 m hO t) fullShare ((dats m hO 0 c).after 7 t))
  generalize (cfgM m hO).idle 7 ((cfgM m hO).grid.coords t) = b
  revert hf
  generalize ((cfgM m hO).win 7).flush t = f
  intro hf
  subst hf
  cases b
  · exact BIBase.Entails.rfl
  · exact BIBase.Entails.rfl

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 from rfl, PhiT0_eq, PhiA0_eq]
  unfold Phi
  iintro ⟨⟨⟨⟨%w0, HS0⟩, ⟨%w1, HS1⟩, ⟨%w2, HS2⟩, HS3⟩, Hg⟩, HT⟩
  isplitr [HT]
  · isplitl [HS0 HS1 HS2]
    · iexists _; iexists _; iexists _
      isplitr
      · ipureintro; exact (fun s hs _ => absurd hs (by omega) : Held m hO c 0 w0 w1 w2)
      isplitl [HS0]; · iexact HS0
      isplitl [HS1]; · iexact HS1
      iexact HS2
    isplitl [HS3]; · iexact HS3
    iexact Hg
  iexact HT

theorem hout (hO : Ok m) (c : Dev nD) :
    (dats m hO 0 c).Φ (Fin.last (cfgM m hO).N) ⊢ Pipeline.ΦA spec0 c := by
  rw [show (dats m hO 0 c).Φ (Fin.last (cfgM m hO).N) = Phi m hO c (cfgM m hO).N from rfl, PhiA0_eq]
  unfold Phi
  iintro ⟨⟨⟨%w0, %w1, %w2, %hw, HS0, HS1, HS2⟩, HS3, Hg⟩, -⟩
  isplitr [Hg]
  · isplitl [HS0]; · iexists _; iexact HS0
    isplitl [HS1]; · iexists _; iexact HS1
    isplitl [HS2]; · iexists _; iexact HS2
    iexact HS3
  iexact Hg

-- the launch theorem's implicit arguments are found by unifying its conclusion with this one
set_option backward.isDefEq.respectTransparency.types false in
/-- The launch. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => hin m hO c) (hout := fun c => hout m hO c)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

/-- Every run ends with the arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.Kernel4Ideal.Moe

end
-- ==== Proof.MoeNamed.lean ====
/- The precondition gives what the expert kernel's pipeline needs of its tables. -/
module

public import proofs.«01_k».proof.Proof.MoeInputs
public import proofs.«01_k».proof.Defs
public import proofs.«01_k».proof.Proof.Gen.Pre_experts_named

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (m : (ℓ : Loc nD τ sig) → Buf (Elt F) ℓ)

/-- What the tables have to say: some block is in use, and every block names one of the experts. -/
def Named : Prop := 1 ≤ (nU m).toInt ∧ ∀ n : Fin 161, (bE m n).toNat < 32

theorem coords_onto (i : grid0.Coords) : ∃ t : Fin grid0.N, grid0.coords t = i := by
  refine ⟨⟨(i 0).val, (i 0).isLt⟩, funext fun a => ?_⟩
  match a with
  | ⟨0, _⟩ => exact Fin.ext (coords_val _)

theorem bC_named (h : Named m) (n : Fin 161) : (bC m n).toNat < 32 := by
  have e : bC m n = bE m (row m n) := tbl2_apply m n h.1
  rw [e]
  exact h.2 _

theorem map0_in (h : Named m) (i : grid0.Coords) (a : Fin 2) :
    (cc0_transform_0 inb_S1_S1_0 numel1_S1 (tbl m) i a + 1) * S8192x128.size a ≤ S1318912x128.size a := by
  obtain ⟨t, rfl⟩ : ∃ t : Fin grid0.N, grid0.coords t = i := coords_onto i
  have hl := (row m ⟨t.val, point_lt t⟩).isLt
  have hm := map0_eq m t h.1
  match a with
  | ⟨0, _⟩ =>
    have h0 : cc0_transform_0 inb_S1_S1_0 numel1_S1 (tbl m) (grid0.coords t) 0 = (row m ⟨t.val, point_lt t⟩).val := congrFun hm 0
    show (cc0_transform_0 inb_S1_S1_0 numel1_S1 (tbl m) (grid0.coords t) 0 + 1) * 8192 ≤ 1318912
    rw [h0]
    omega
  | ⟨1, _⟩ =>
    have h0 : cc0_transform_0 inb_S1_S1_0 numel1_S1 (tbl m) (grid0.coords t) 1 = 0 := congrFun hm 1
    show (cc0_transform_0 inb_S1_S1_0 numel1_S1 (tbl m) (grid0.coords t) 1 + 1) * 128 ≤ 128
    rw [h0]

theorem map1_in (h : Named m) (i : grid0.Coords) (a : Fin 3) :
    (cc0_transform_1 k0_off1_inb numel1_S1 (tbl m) i a + 1) * S1x1024x1024.size a ≤ S32x1024x1024.size a := by
  obtain ⟨t, rfl⟩ : ∃ t : Fin grid0.N, grid0.coords t = i := coords_onto i
  have hl := bC_named m h ⟨t.val, point_lt t⟩
  rw [map1_eq m t]
  match a with
  | ⟨0, _⟩ => show ((bC m ⟨t.val, point_lt t⟩).toNat + 1) * 1 ≤ 32; omega
  | ⟨1, _⟩ => show (0 + 1) * 1024 ≤ 1024; omega
  | ⟨2, _⟩ => show (0 + 1) * 1024 ≤ 1024; omega

theorem map2_in (h : Named m) (i : grid0.Coords) (a : Fin 3) :
    (cc0_transform_2 k0_off1_inb numel1_S1 (tbl m) i a + 1) * S1x1x1024.size a ≤ S32x1x1024.size a := by
  obtain ⟨t, rfl⟩ : ∃ t : Fin grid0.N, grid0.coords t = i := coords_onto i
  have hl := bC_named m h ⟨t.val, point_lt t⟩
  rw [map2_eq m t]
  match a with
  | ⟨0, _⟩ => show ((bC m ⟨t.val, point_lt t⟩).toNat + 1) * 1 ≤ 32; omega
  | ⟨1, _⟩ => show (0 + 1) * 1 ≤ 1; omega
  | ⟨2, _⟩ => show (0 + 1) * 1024 ≤ 1024; omega

theorem map3_in (h : Named m) (i : grid0.Coords) (a : Fin 3) :
    (cc0_transform_3 k0_off1_inb numel1_S1 (tbl m) i a + 1) * S1x1024x1024.size a ≤ S32x1024x1024.size a := by
  obtain ⟨t, rfl⟩ : ∃ t : Fin grid0.N, grid0.coords t = i := coords_onto i
  have hl := bC_named m h ⟨t.val, point_lt t⟩
  rw [map3_eq m t]
  match a with
  | ⟨0, _⟩ => show ((bC m ⟨t.val, point_lt t⟩).toNat + 1) * 1 ≤ 32; omega
  | ⟨1, _⟩ => show (0 + 1) * 1024 ≤ 1024; omega
  | ⟨2, _⟩ => show (0 + 1) * 1024 ≤ 1024; omega

theorem map4_in (h : Named m) (i : grid0.Coords) (a : Fin 3) :
    (cc0_transform_4 k0_off1_inb numel1_S1 (tbl m) i a + 1) * S1x1x1024.size a ≤ S32x1x1024.size a := by
  obtain ⟨t, rfl⟩ : ∃ t : Fin grid0.N, grid0.coords t = i := coords_onto i
  have hl := bC_named m h ⟨t.val, point_lt t⟩
  rw [map4_eq m t]
  match a with
  | ⟨0, _⟩ => show ((bC m ⟨t.val, point_lt t⟩).toNat + 1) * 1 ≤ 32; omega
  | ⟨1, _⟩ => show (0 + 1) * 1 ≤ 1; omega
  | ⟨2, _⟩ => show (0 + 1) * 1024 ≤ 1024; omega

theorem map5_in (h : Named m) (i : grid0.Coords) (a : Fin 3) :
    (cc0_transform_5 k0_off1_inb numel1_S1 (tbl m) i a + 1) * S1x1024x1024.size a ≤ S32x1024x1024.size a := by
  obtain ⟨t, rfl⟩ : ∃ t : Fin grid0.N, grid0.coords t = i := coords_onto i
  have hl := bC_named m h ⟨t.val, point_lt t⟩
  rw [map5_eq m t]
  match a with
  | ⟨0, _⟩ => show ((bC m ⟨t.val, point_lt t⟩).toNat + 1) * 1 ≤ 32; omega
  | ⟨1, _⟩ => show (0 + 1) * 1024 ≤ 1024; omega
  | ⟨2, _⟩ => show (0 + 1) * 1024 ≤ 1024; omega

theorem map6_in (h : Named m) (i : grid0.Coords) (a : Fin 3) :
    (cc0_transform_6 k0_off1_inb numel1_S1 (tbl m) i a + 1) * S1x1x1024.size a ≤ S32x1x1024.size a := by
  obtain ⟨t, rfl⟩ : ∃ t : Fin grid0.N, grid0.coords t = i := coords_onto i
  have hl := bC_named m h ⟨t.val, point_lt t⟩
  rw [map6_eq m t]
  match a with
  | ⟨0, _⟩ => show ((bC m ⟨t.val, point_lt t⟩).toNat + 1) * 1 ≤ 32; omega
  | ⟨1, _⟩ => show (0 + 1) * 1 ≤ 1; omega
  | ⟨2, _⟩ => show (0 + 1) * 1024 ≤ 1024; omega

/-- Under such tables every window's block lies inside its array. -/
theorem ok_of_named (h : Named m) : Ok m :=
  ⟨fun i => ⟨map0_in m h i, .inl rfl⟩, fun i => ⟨map1_in m h i, .inl rfl⟩, fun i => ⟨map2_in m h i, .inl rfl⟩,
    fun i => ⟨map3_in m h i, .inl rfl⟩, fun i => ⟨map4_in m h i, .inl rfl⟩, fun i => ⟨map5_in m h i, .inl rfl⟩,
    fun i => ⟨map6_in m h i, .inl rfl⟩⟩

end

/-! ## The precondition -/

variable (m : (ℓ : Loc nD τ sig) → Buf (Elt Ideal) ℓ)

theorem named_of_pre (h : Cert.Pre_Kernel4Ideal m) : Named m := by
  have andi_one (a b : BitVec 1) : IntOp.andi a b = 1#1 ↔ a = 1#1 ∧ b = 1#1 := by revert a b; decide
  have hp := h 0
  constructor
  · have h1 := congrFun hp.2 (ix1 (0 : Fin 1))
    simp only [Cert.Pre_experts_named.fn, constantI, broadcastInDim, cmpi] at h1
    rw [WordCmp.cmpi_sge_eq, WordCmp.ofBool_decide_eq_one_iff] at h1
    exact h1
  · intro n
    have h1 := congrFun hp.1 (ix1 n)
    simp only [Cert.Pre_experts_named.fn, constantI, broadcastInDim, cmpi, andi, andi_one] at h1
    obtain ⟨ha, hb⟩ := h1
    rw [WordCmp.cmpi_sge_eq, WordCmp.ofBool_decide_eq_one_iff] at ha
    rw [WordCmp.cmpi_slt_eq, WordCmp.ofBool_decide_eq_one_iff] at hb
    have ha' : (0#32 : BitVec 32).toInt ≤ (bE m n).toInt := ha
    have hb' : (bE m n).toInt < (32#32 : BitVec 32).toInt := hb
    rw [show (0#32 : BitVec 32).toInt = 0 from by decide] at ha'
    rw [show (32#32 : BitVec 32).toInt = 32 from by decide] at hb'
    rw [BitVec.toInt_eq_toNat_cond] at ha' hb'
    have := (bE m n).isLt
    split at ha' <;> omega

theorem ok_of_pre (h : Cert.Pre_Kernel4Ideal m) : Ok m := ok_of_named m (named_of_pre m h)

end Cert.Kernel4Ideal.Moe

end
-- ==== Proof.Twins.lean ====
/- The kernels on words whose idealized programs are the same programs: their runs are those already described. -/
module

public import proofs.«01_k».proof.Defs
public import proofs.«01_k».proof.Proof.Attn
public import proofs.«01_k».proof.Proof.PostFrame
public import proofs.«01_k».proof.Proof.MoeFrame
public import proofs.«01_k».proof.Proof.MoeNamed
public import proofs.«01_k».proof.Proof.Gen.Kernel4
public import proofs.«01_k».proof.Proof.Gen.Kernel5
public import proofs.«01_k».proof.Proof.Gen.Kernel6
public import proofs.«01_k».proof.Proof.Gen.Pre_experts_named

@[expose] public section

set_option maxRecDepth 16384

noncomputable section

namespace Cert.Proof.Twins

open Idealize.ShloMosaic Idealize.ShloMosaic.TcCoe Idealize.SL.Sem Idealize.ShloMosaic.ValueIdx

section
variable {F : FTy → Type} [FloatOps F]

theorem defs4₀ : @Cert.Kernel4.defs₀ F _ _ = @Cert.Kernel4Ideal.defs₀ F _ _ := by
  unfold Cert.Kernel4.defs₀ Cert.Kernel4Ideal.defs₀
  refine congrArg Defs.onTc (funext fun l => funext fun x => ?_)
  match l, x with
  | 0, (t, s) => rfl
  | ⟨_ + 1, h⟩, _ => exact absurd h (Nat.not_lt.2 (Nat.le_add_left _ _))
/-- The experts' procedures. -/
theorem defs4 : @Cert.Kernel4.defs F _ _ = @Cert.Kernel4Ideal.defs F _ _ := congrArg (Pipeline.defs (Cert.Kernel4.pcfgs (F := F))) defs4₀

theorem defs5₀ : @Cert.Kernel5.defs₀ F _ _ = @Cert.Kernel5Ideal.defs₀ F _ _ := by
  unfold Cert.Kernel5.defs₀ Cert.Kernel5Ideal.defs₀
  refine congrArg Defs.onTc (funext fun l => funext fun x => ?_)
  match l, x with
  | 0, (t, s) => rfl
  | ⟨_ + 1, h⟩, _ => exact absurd h (Nat.not_lt.2 (Nat.le_add_left _ _))
/-- The projection's procedures. -/
theorem defs5 : @Cert.Kernel5.defs F _ _ = @Cert.Kernel5Ideal.defs F _ _ := congrArg (Pipeline.defs (Cert.Kernel5.pcfgs (F := F))) defs5₀

theorem defs6₀ : @Cert.Kernel6.defs₀ F _ _ = @Cert.Kernel6Ideal.defs₀ F _ _ := by
  unfold Cert.Kernel6.defs₀ Cert.Kernel6Ideal.defs₀
  refine congrArg Defs.onTc (funext fun l => funext fun x => ?_)
  match l, x with
  | 0, (t, s) => rfl
  | ⟨_ + 1, h⟩, _ => exact absurd h (Nat.not_lt.2 (Nat.le_add_left _ _))
/-- The attention's procedures. -/
theorem defs6 : @Cert.Kernel6.defs F _ _ = @Cert.Kernel6Ideal.defs F _ _ := congrArg (Pipeline.defs (Cert.Kernel6.pcfgs (F := F))) defs6₀

end

section
open Cert.Kernel5
/-- The projection's run. -/
theorem frame5 [Cert.Kernel5.Facts] : Cert.quiescent_Kernel5 := by
  intro m g _
  rw [defs5]
  exact Cert.Kernel5Ideal.Post.frame (F := Bits) m g
end

section
open Cert.Kernel6
/-- The attention's run. -/
theorem frame6 [Cert.Kernel6.Facts] : Cert.quiescent_Kernel6 := by
  intro m g _
  rw [defs6]
  exact Cert.Kernel6Ideal.Attn.frame (F := Bits) m g
end

section
open Cert.Kernel4Ideal Cert.Kernel4Ideal.Moe

/-- The precondition names the experts. -/
theorem named4 (m : (ℓ : Loc Cert.Kernel4.nD Cert.Kernel4.τ Cert.Kernel4.sig) → Buf (Elt Bits) ℓ) (h : Cert.Pre_Kernel4 m) : Named (F := Bits) m := by
  have andi_one (a b : BitVec 1) : IntOp.andi a b = 1#1 ↔ a = 1#1 ∧ b = 1#1 := by revert a b; decide
  have hp := h 0
  constructor
  · have h1 := congrFun hp.2 (ix1 (0 : Fin 1))
    simp only [Cert.Pre_experts_named.fn, constantI, broadcastInDim, cmpi] at h1
    rw [WordCmp.cmpi_sge_eq, WordCmp.ofBool_decide_eq_one_iff] at h1
    exact h1
  · intro n
    have h1 := congrFun hp.1 (ix1 n)
    simp only [Cert.Pre_experts_named.fn, constantI, broadcastInDim, cmpi, andi, andi_one] at h1
    obtain ⟨ha, hb⟩ := h1
    rw [WordCmp.cmpi_sge_eq, WordCmp.ofBool_decide_eq_one_iff] at ha
    rw [WordCmp.cmpi_slt_eq, WordCmp.ofBool_decide_eq_one_iff] at hb
    have ha' : (0#32 : BitVec 32).toInt ≤ (bE (F := Bits) m n).toInt := ha
    have hb' : (bE (F := Bits) m n).toInt < (32#32 : BitVec 32).toInt := hb
    rw [show (0#32 : BitVec 32).toInt = 0 from by decide] at ha'
    rw [show (32#32 : BitVec 32).toInt = 32 from by decide] at hb'
    rw [BitVec.toInt_eq_toNat_cond] at ha' hb'
    have := (bE (F := Bits) m n).isLt
    split at ha' <;> omega

end

section
open Cert.Kernel4
set_option maxHeartbeats 4000000 in
/-- Named experts: the run leaves the arguments as they were. -/
theorem frame4 [Cert.Kernel4.Facts] [Cert.Pre_experts_named.Facts] : Cert.quiescent_Kernel4 := by
  intro m g h
  rw [defs4]
  exact Cert.Kernel4Ideal.Moe.frame (F := Bits) m g (Cert.Kernel4Ideal.Moe.ok_of_named m (named4 m h))
end

end Cert.Proof.Twins

end
-- ==== Proof.Sel.lean ====
/- The run of the block choice's body at a point: the blocks' means in the scratch, and the chosen blocks in the result. -/
module

public import proofs.«01_k».proof.Proof.Gen.Kernel7Ideal.Launch
public import proofs.«01_k».proof.Proof.Gen.Kernel7Ideal.Skeleton
public import Idealize.ShloMosaic.Lib.Pipeline.FrameBody
public import Idealize.ShloMosaic.Lib.Pipeline.Value
public import Idealize.ShloMosaic.Lib.Ring
public import Idealize.ShloMosaic.Lib.Pointwise
public import Idealize.ShloMosaic.Lib.Tactic
public import Idealize.ShloMosaic.Lib.WritesUnit
public import Idealize.ShloMosaic.Lib.LoopRemainder
public import Idealize.ShloMosaic.Lib.VecWindow

@[expose] public section

set_option maxRecDepth 16384

noncomputable section

namespace Cert.Kernel7Ideal.Sel

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref held whole at `x`; -/
abbrev own (c : Dev nD) {S : Shape} {e : EltTy} (a : Memref sig .tc .vmem S e) (x : Vec F S e) : sProp 𝕄 :=
  owns (c : Thread nD τ) a fullShare x
/-- held at something. -/
abbrev held (c : Dev nD) {S : Shape} {e : EltTy} (a : Memref sig .tc .vmem S e) : sProp 𝕄 :=
  iprop(∃ d, owns (c : Thread nD τ) a fullShare d)
/-- The same of its buffer, as the run holds it; -/
abbrev buf (c : Dev nD) {S : Shape} {e : EltTy} (a : Memref sig .tc .vmem S e)
    (f : Buf (Elt F) (a.view.loc (c : Thread nD τ))) : sProp 𝕄 :=
  a.view.loc (c : Thread nD τ) ↦[a.view.set]{fullShare} f
/-- and of the table, half of which the region keeps. -/
abbrev tab (c : Dev nD) (a : Memref sig .tc .smem S4096 .i32) (f : Buf (Elt F) (a.view.loc (c : Thread nD τ))) : sProp 𝕄 :=
  a.view.loc (c : Thread nD τ) ↦{fullShare.right} f

/-- A buffer reading `x` is a memref held at `x`, -/
theorem to_own (c : Dev nD) {S : Shape} {e : EltTy} (a : Memref sig .tc .vmem S e) {f} {x : Vec F S e}
    (h : a.view.read (Elt F) f = x) : buf c a f ⊢ iprop(∃ g, ⌜a.view.read (Elt F) g = x⌝ ∗ buf c a g) := by
  iintro H; iexists _; isplitr; · ipureintro; exact h
  iexact H
/-- and held at something. -/
theorem to_held (c : Dev nD) {S : Shape} {e : EltTy} (a : Memref sig .tc .vmem S e) {f} :
    buf (F := F) c a f ⊢ iprop(∃ d g, ⌜a.view.read (Elt F) g = d⌝ ∗ buf c a g) := by
  iintro H; iexists _; iexists _; isplitr; swap; · iexact H
  ipureintro; rfl

/-! ## The blocks' means -/

/-- The page entry `n` of the table names. -/
def page (T : S4096.Idx → BitVec 32) (n : Nat) : Fin 5120 :=
  ⟨(T (ix1 (⟨n % 4096, Nat.mod_lt _ (by decide)⟩ : Fin 4096))).toNat % 5120, Nat.mod_lt _ (by decide)⟩

/-- The mean of block `j` of sample `b`: its two pages' sums, over the block's rows. -/
def meanAt (T : S4096.Idx → BitVec 32) (b : Nat) (x2 : Vec F S5120x512 .f32) (j : Nat) (l : Fin 512) : F .f32 :=
  FloatOps.mulf (FloatOps.addf (x2 (ix2 (page T (128 * b + 2 * j)) l)) (x2 (ix2 (page T (128 * b + 2 * j + 1)) l)))
    (Scalar.ofBits .f32 0x3B800000#32)

/-- The scratch after `k` trips: the first `k` blocks' means over zeros. -/
def means (T : S4096.Idx → BitVec 32) (b : Nat) (x2 : Vec F S5120x512 .f32) (k : Nat) : Vec F S128x512 .f32 := fun y =>
  if (y 0).val < k then meanAt T b x2 (y 0).val (y 1) else Scalar.ofBits .f32 0x00000000#32

/-- A page number below 5120 names a row of the page sums. -/
theorem row_ok (w : BitVec 32) (h : w.toNat < 5120) : k0_chk1 w := by
  unfold k0_chk1 k0_off2; intro a
  fin_cases a
  · show w.toNat + 1 ≤ 5120; omega
  · show (0 + 512 : ℕ) ≤ 512; omega

/-! ## The choice: three times the first lane of the greatest gate -/

/-- The lanes. -/
abbrev lanes : IVec S8x128 32 := iota .tc S8x128 32 [1] iota_S8x128_d1_w32
/-- The value below all gates. -/
abbrev low : FVec F S8x128 .f32 := broadcast S8x128 (Scalar.ofBits .f32 0xFF800000#32)

/-- A head's gates, the lanes past the blocks lowered. -/
def gate (q : Vec F S1x1x8x128 .f32) (km : Vec F S128x128 .f32) : FVec F S8x128 .f32 :=
  select (cmpi .slt lanes (broadcast S8x128 64#32))
    (matmul dot_S8x128_S128x128_S8x128_1_1_0_0_n_n (some .fp32) (shapeCast S8x128 q shapeCasts_S1x1x8x128_S8x128) km (constant S8x128 .f32 0x00000000#32)) low

/-- The first lane of a row's greatest gate. -/
def best (g : FVec F S8x128 .f32) : IVec S8x1 32 :=
  shapeCast S8x1 (multiReductionI .minsi [1] S8 (select (cmpf .oeq g (broadcastTo S8x128 (shapeCast S8x1
    (multiReduction .maximumf [1] S8 g 0xFF800000#32 reduces_S8x128_S8 (.inl rfl) rfl) shapeCasts_S8_S8x1) broadcasts_S8x1_S8x128)) lanes
    (broadcast S8x128 128#32)) 2147483647#32 reduces_S8x128_S8 rfl) shapeCasts_S8_S8x1

/-- The gates with a row's best lowered. -/
def drop (g : FVec F S8x128 .f32) : FVec F S8x128 .f32 :=
  select (cmpi .eq lanes (broadcastTo S8x128 (best g) broadcasts_S8x1_S8x128)) low g

/-- A row's best at lane `r`. -/
def put (r : BitVec 32) (g : FVec F S8x128 .f32) (o : IVec S8x128 32) : IVec S8x128 32 :=
  select (cmpi .eq lanes (broadcast S8x128 r)) (broadcastTo S8x128 (shapeCast S8x1 (best g) shapeCasts_S8x1_S8x1) broadcasts_S8x1_S8x128) o

/-- A head's three blocks. -/
def picks (q : Vec F S1x1x8x128 .f32) (km : Vec F S128x128 .f32) : IVec S1x1x8x128 32 :=
  shapeCast S1x1x8x128 (put 2#32 (drop (drop (gate q km))) (put 1#32 (drop (gate q km)) (put 0#32 (gate q km) (broadcast S8x128 0#32))))
    shapeCasts_S8x128_S1x1x8x128

/-- The queries of head `h`, -/
def headQ (x3 : Vec F S1x4x8x128 .f32) (h : Fin 4) : Vec F S1x1x8x128 .f32 := fun z => x3 (ix4 (0 : Fin 1) h (z 2) (z 3))
/-- its columns of the blocks' means, -/
def headK (km : Vec F S128x512 .f32) (h : Fin 4) : Vec F S128x128 .f32 := fun z =>
  km (ix2 (z 0) (⟨128 * h.val + (z 1).val, by have := (z 1).isLt; have h1 : S128x128.size 1 = 128 := rfl; have := h.isLt; omega⟩ : Fin 512))
/-- and all heads' blocks. -/
def chosen (x3 : Vec F S1x4x8x128 .f32) (km : Vec F S128x512 .f32) : Vec F S1x4x8x128 .i32 := fun y =>
  picks (headQ x3 (y 1)) (headK km (y 1)) (ix4 (0 : Fin 1) (0 : Fin 1) (y 2) (y 3))

section

variable (c : Dev nD) (i : grid0.Coords)
  (arg1 : Memref sig .tc .smem S4096 .i32) (harg1 : arg1.IsWhole)
  (arg2 : Memref sig .tc .vmem S5120x512 .f32) (harg2 : arg2.IsWhole)
  (arg3 : Memref sig .tc .vmem S1x4x8x128 .f32) (harg3 : arg3.IsWhole)
  (arg4 : Memref sig .tc .vmem S1x4x8x128 .i32) (harg4 : arg4.IsWhole)
  (arg5 : Memref sig .tc .vmem S128x512 .f32) (harg5 : arg5.IsWhole)

/-- A row of the page sums, read off the staging buffer at a page number. -/
theorem row_read (x2 : Vec F S5120x512 .f32) (w : BitVec 32) (inb) (T : S4096.Idx → BitVec 32) (n : Nat)
    (hw : w.toNat = (page T n).val) (l : Fin 512) :
    View.readAt (Elt F) arg2.view (Rect.unit (s := S5120x512) (k0_off2 w) S1x512.size inb).toLoadRect (harg2.unread x2) (ix2 (0 : Fin 1) l)
      = x2 (ix2 (page T n) l) := by
  show arg2.view.read (Elt F) (harg2.unread x2) _ = _
  rw [harg2.read_unread]
  refine congrArg x2 (funext fun a => Fin.ext ?_)
  fin_cases a
  · show w.toNat + 1 * 0 = (page T n).val; omega
  · show 0 + 1 * l.val = l.val; omega

/-- A word of the table, as the loop reads it. -/
theorem word_read (f1 : Buf (Elt F) (arg1.view.loc (c : Thread nD τ)))
    (hT : ∀ y, (arg1.view.read (Elt F) f1 y : BitVec 32).toNat < 5120) (off : Fin 1 → Nat) (n : Nat) (h : off = ![n]) (hn : n < 4096) (inb) :
    (arg1.view.readAt (Elt F) (Rect.unit (s := S4096) off S1.size inb).toLoadRect f1 (Shape.Idx.first (numel1_S1.symm ▸ Nat.one_pos)) : BitVec 32).toNat
      = (page (arg1.view.read (Elt F) f1) n).val := by
  subst h
  show (arg1.view.read (Elt F) f1 _ : BitVec 32).toNat = (arg1.view.read (Elt F) f1 _ : BitVec 32).toNat % 5120
  rw [Nat.mod_eq_of_lt (hT _)]
  refine congrArg (fun y => (arg1.view.read (Elt F) f1 y : BitVec 32).toNat) (funext fun a => Fin.ext ?_)
  fin_cases a
  show n + 1 * 0 = n % 4096
  omega

/-- A trip writes the next block's mean. -/
theorem trip (f1 : Buf (Elt F) (arg1.view.loc (c : Thread nD τ))) (x2 : Vec F S5120x512 .f32)
    (f5 : Buf (Elt F) (arg5.view.loc (c : Thread nD τ))) (k : Fin k0_t1_loop.trips)
    (hT : ∀ y, (arg1.view.read (Elt F) f1 y : BitVec 32).toNat < 5120)
    (h5 : arg5.view.read (Elt F) f5 = means (arg1.view.read (Elt F) f1) (i 0).val x2 k.val) (inb) (ia) (ib) :
    arg5.view.read (Elt F) (arg5.view.writes (Elt F) f5 [⟨Rect.unit (s := S128x512) (k0_off5 k) S1x512.size inb,
      k0_pay3
        (View.readAt (Elt F) arg2.view (Rect.unit (s := S5120x512) (k0_off2 (arg1.view.readAt (Elt F) (Rect.unit (s := S4096) (k0_off1 i k) S1.size (k0_off1_inb i k)).toLoadRect f1 (Shape.Idx.first (numel1_S1.symm ▸ Nat.one_pos)))) S1x512.size ia).toLoadRect (harg2.unread x2))
        (View.readAt (Elt F) arg2.view (Rect.unit (s := S5120x512) (k0_off4 (arg1.view.readAt (Elt F) (Rect.unit (s := S4096) (k0_off3 i k) S1.size (k0_off3_inb i k)).toLoadRect f1 (Shape.Idx.first (numel1_S1.symm ▸ Nat.one_pos)))) S1x512.size ib).toLoadRect (harg2.unread x2))⟩])
      = means (arg1.view.read (Elt F) f1) (i 0).val x2 (k.val + 1) := by
  have hk : k.val < 64 := k.isLt.trans_le k0_t1_abs.2.1
  have hi : (i 0).val < 32 := (i 0).isLt
  funext y
  by_cases hy : (y 0).val = k.val
  · refine (View.read_writes_cons_rows_of_mem arg5.view f5 (size := S1x512.size) inb _ [] y (ix2 (0 : Fin 1) (y 1)) (o := k.val) (k0_off5_eq k) (by rw [hy]; rfl) rfl).trans ?_
    unfold k0_pay3 means
    rw [shapeCast_self, if_pos (by omega), hy]
    refine congrArg (fun z => FloatOps.mulf z _) (congrArg₂ FloatOps.addf ?_ ?_)
    · exact row_read arg2 harg2 x2 _ _ _ _ (word_read c arg1 f1 hT _ _ (k0_off1_eq i k) (by omega) _) _
    · exact row_read arg2 harg2 x2 _ _ _ _ (word_read c arg1 f1 hT _ _ (k0_off3_eq i k) (by omega) _) _
  · refine (View.read_writes_cons_rows_of_not_mem arg5.view f5 (size := S1x512.size) inb _ [] y (o := k.val) (W := 1) (k0_off5_eq k) rfl (by omega)).trans ?_
    refine (congrFun h5 y).trans ?_
    unfold means
    by_cases h : (y 0).val < k.val
    · rw [if_pos h, if_pos (by omega)]
    · rw [if_neg h, if_neg (by omega)]

/-- Before the first trip the scratch is zero. -/
theorem means_zero (T : S4096.Idx → BitVec 32) (b : Nat) (x2 : Vec F S5120x512 .f32) (f5 : Buf (Elt F) (arg5.view.loc (c : Thread nD τ))) (inb) :
    arg5.view.read (Elt F) (arg5.view.writes (Elt F) f5 [⟨Rect.unit (s := S128x512) ![0, 0] S128x512.size inb, k0_pay2⟩]) = means T b x2 0 :=
  (View.read_writes_full _ _ _ _ _).trans (by
    unfold k0_pay2
    refine (shapeCast_self _ _).trans ?_
    funext y
    exact (if_neg (Nat.not_lt_zero _)).symm)

/-- The loop's trips. -/
theorem trips64 : k0_t1_loop.trips = 64 := by decide

/-- What the loop over the blocks keeps. -/
def inv (f1 : Buf (Elt F) (arg1.view.loc (c : Thread nD τ))) (x2 : Vec F S5120x512 .f32) (k : Nat) : sProp 𝕄 :=
  iprop(tab c arg1 f1 ∗ buf c arg2 (harg2.unread x2) ∗
    (∃ f, ⌜arg5.view.read (Elt F) f = means (arg1.view.read (Elt F) f1) (i 0).val x2 k⌝ ∗ buf c arg5 f))

set_option maxHeartbeats 4000000 in
/-- A trip of it. -/
theorem step (f1 : Buf (Elt F) (arg1.view.loc (c : Thread nD τ))) (x2 : Vec F S5120x512 .f32)
    (hT : ∀ y, (arg1.view.read (Elt F) f1 y : BitVec 32).toNat < 5120) (E : Set ℕ) (k : Fin k0_t1_loop.trips) (acc : PUnit) :
    inv c i arg1 arg2 harg2 arg5 f1 x2 k.val ⊢ wp frame (wpE (defs₀ (F := F)) Variants.none c none) E
      (k0_t1_body i arg1 harg1 arg2 harg2 arg3 harg3 arg4 harg4 arg5 harg5 k acc) fun _ => inv c i arg1 arg2 harg2 arg5 f1 x2 (k.val + 1) := by
  unfold inv tab buf k0_t1_body
  iintro ⟨H1, H2, ⟨%f5, %h5, H5⟩⟩
  sl_exec (disch := exact row_ok _ (hT _))
  sl_step
  isplitl [H1]; · iexact H1
  isplitl [H2]; · iexact H2
  iexists _
  isplitr; swap; · iexact H5
  ipureintro
  exact trip c i arg1 arg2 harg2 arg5 f1 x2 f5 k hT h5 _ _ _

/-- The four heads' stores, read back. -/
theorem heads (f4 : Buf (Elt F) (arg4.view.loc (c : Thread nD τ))) (x3 : Vec F S1x4x8x128 .f32) (km : Vec F S128x512 .f32) (b0) (b1) (b2) (b3)
    (p0 p1 p2 p3 : IVec S1x1x8x128 32) (h0 : p0 = picks (headQ x3 0) (headK km 0)) (h1 : p1 = picks (headQ x3 1) (headK km 1))
    (h2 : p2 = picks (headQ x3 2) (headK km 2)) (h3 : p3 = picks (headQ x3 3) (headK km 3)) :
    arg4.view.read (Elt F) (arg4.view.writes (Elt F) f4 [⟨Rect.unit (s := S1x4x8x128) ![0, 3, 0, 0] ![1, 1, 8, 128] b3, p3⟩,
      ⟨Rect.unit (s := S1x4x8x128) ![0, 2, 0, 0] ![1, 1, 8, 128] b2, p2⟩, ⟨Rect.unit (s := S1x4x8x128) ![0, 1, 0, 0] ![1, 1, 8, 128] b1, p1⟩,
      ⟨Rect.unit (s := S1x4x8x128) ![0, 0, 0, 0] ![1, 1, 8, 128] b0, p0⟩]) = chosen x3 km := by
  subst h0 h1 h2 h3
  funext y
  have hit : ∀ (h : Fin 4) (inb) (L), y 1 = h →
      arg4.view.read (Elt F) (arg4.view.writes (Elt F) f4 (⟨Rect.unit (s := S1x4x8x128) ![0, h.val, 0, 0] ![1, 1, 8, 128] inb, picks (headQ x3 h) (headK km h)⟩ :: L)) y
        = chosen x3 km y := fun h inb L hy => by
    refine (View.read_writes_cons_unit_of_mem arg4.view f4 inb _ L y (ix4 (0 : Fin 1) (0 : Fin 1) (y 2) (y 3)) rfl fun a => ?_).trans ?_
    · fin_cases a
      · have := (y 0).isLt; show (y 0).val = 0 + 0; have h : S1x4x8x128.size 0 = 1 := rfl; omega
      · show (y 1).val = h.val + 0; rw [hy]; rfl
      · exact (Nat.zero_add _).symm
      · exact (Nat.zero_add _).symm
    · subst hy; rfl
  have miss : ∀ (h : Nat) (inb) (w) (L), (y 1).val < h →
      arg4.view.read (Elt F) (arg4.view.writes (Elt F) f4 (⟨Rect.unit (s := S1x4x8x128) ![0, h, 0, 0] ![1, 1, 8, 128] inb, w⟩ :: L)) y
        = arg4.view.read (Elt F) (arg4.view.writes (Elt F) f4 L) y := fun h inb w L hy =>
    View.read_writes_cons_unit_of_not_mem arg4.view f4 inb _ L y rfl (1 : Fin 4) (Or.inl hy)
  have hb : (y 1).val < 4 := (y 1).isLt
  by_cases e3 : (y 1).val = 3
  · exact hit 3 _ _ (Fin.ext e3)
  refine (miss 3 _ _ _ (by omega)).trans ?_
  by_cases e2 : (y 1).val = 2
  · exact hit 2 _ _ (Fin.ext e2)
  refine (miss 2 _ _ _ (by omega)).trans ?_
  by_cases e1 : (y 1).val = 1
  · exact hit 1 _ _ (Fin.ext e1)
  refine (miss 1 _ _ _ (by omega)).trans ?_
  exact hit 0 _ _ (Fin.ext (by show (y 1).val = 0; omega))

/-- A head's queries, as the body loads them; -/
theorem q_read (x3 : Vec F S1x4x8x128 .f32) (h : Fin 4) (inb) :
    View.readAt (Elt F) arg3.view (Rect.unit (s := S1x4x8x128) ![0, h.val, 0, 0] ![1, 1, 8, 128] inb).toLoadRect (harg3.unread x3) = headQ x3 h := by
  funext z
  show arg3.view.read (Elt F) (harg3.unread x3) _ = _
  rw [harg3.read_unread]
  refine congrArg x3 (funext fun a => Fin.ext ?_)
  fin_cases a
  · have : (z 0).val < 1 := (z 0).isLt
    show 0 + 1 * (z 0).val = 0; omega
  · have : (z 1).val < 1 := (z 1).isLt
    show h.val + 1 * (z 1).val = h.val; omega
  · show 0 + 1 * (z 2).val = (z 2).val; omega
  · show 0 + 1 * (z 3).val = (z 3).val; omega

/-- and its columns of the scratch. -/
theorem k_read (f5 : Buf (Elt F) (arg5.view.loc (c : Thread nD τ))) (km : Vec F S128x512 .f32) (h5 : arg5.view.read (Elt F) f5 = km) (h : Fin 4) (n : Nat)
    (hn : n = 128 * h.val) (inb) :
    View.readAt (Elt F) arg5.view (Rect.unit (s := S128x512) ![0, n] ![128, 128] inb).toLoadRect f5 = headK km h := by
  subst hn
  funext z
  refine (congrFun h5 _).trans (congrArg km (funext fun a => Fin.ext ?_))
  fin_cases a
  · show 0 + 1 * (z 0).val = (z 0).val; omega
  · show 128 * h.val + 1 * (z 1).val = 128 * h.val + (z 1).val; omega

set_option maxHeartbeats 4000000 in
/-- The body at a point. -/
theorem run (f1 : Buf (Elt F) (arg1.view.loc (c : Thread nD τ))) (x2 : Vec F S5120x512 .f32) (x3 : Vec F S1x4x8x128 .f32)
    (hT : ∀ y, (arg1.view.read (Elt F) f1 y : BitVec 32).toNat < 5120) (E : Set ℕ) (K : PUnit → sProp 𝕄) :
    iprop(tab c arg1 f1 ∗ own c arg2 x2 ∗ own c arg3 x3 ∗ held c arg4 ∗ held c arg5
        ∗ (iprop(tab c arg1 f1 ∗ own c arg2 x2 ∗ own c arg3 x3
            ∗ own c arg4 (chosen x3 (means (arg1.view.read (Elt F) f1) (i 0).val x2 64)) ∗ held c arg5) -∗ K ⟨⟩))
      ⊢ wp frame (wpE (defs₀ (F := F)) Variants.none c none) E (cc0_moba_sel i arg1 harg1 arg2 harg2 arg3 harg3 arg4 harg4 arg5 harg5) K := by
  simp only [cc0_moba_sel_eq_skeleton]; unfold cc0_moba_sel_skel
  simp only [k0_part1_eq_skeleton, k0_part2_eq_skeleton, k0_part3_eq_skeleton, k0_part4_eq_skeleton, k0_part5_eq_skeleton, k0_part6_eq_skeleton]; unfold k0_part1_skel k0_part2_skel k0_part3_skel k0_part4_skel k0_part5_skel k0_part6_skel
  unfold tab own held owns
  iintro ⟨H1, ⟨%f2, %hf2, H2⟩, ⟨%f3, %hf3, H3⟩, ⟨%d4, %f4, -, H4⟩, ⟨%d5, %f5, -, H5⟩, Hk⟩
  obtain rfl := harg2.eq_unread hf2; obtain rfl := harg3.eq_unread hf3
  sl_exec
  simp only [bind_assoc]
  sl_for (fun k _ => inv c i arg1 arg2 harg2 arg5 f1 x2 k) $$ [H1 H2 H5]
  · intro k acc; exact step c i arg1 harg1 arg2 harg2 arg3 harg3 arg4 harg4 arg5 harg5 f1 x2 hT E k acc
  · unfold inv tab buf
    isplitl [H1]; · iexact H1
    isplitl [H2]; · iexact H2
    iexists _
    isplitr; swap; · iexact H5
    ipureintro
    exact means_zero c arg5 _ _ _ _ _
  iintro %acc H
  unfold inv tab buf
  icases H with ⟨H1, H2, ⟨%g5, %h5, H5⟩⟩
  sl_exec
  replace h5 := h5.trans (congrArg (means (arg1.view.read (Elt F) f1) (i 0).val x2) trips64)
  sl_step
  iapply Hk
  isplitl [H1]; · iexact H1
  isplitl [H2]; · iapply to_own c arg2 hf2; iexact H2
  isplitl [H3]; · iapply to_own c arg3 hf3; iexact H3
  isplitl [H4]
  · iexists _; isplitr; swap; · iexact H4
    ipureintro
    refine heads c arg4 f4 x3 _ _ _ _ _ _ _ _ _ ?_ ?_ ?_ ?_
    · rw [← q_read arg3 harg3 x3 0 inb_S1x4x8x128_S1x1x8x128_0_0_0_0, ← k_read c arg5 g5 _ h5 0 0 rfl inb_S128x512_S128x128_0_0]; rfl
    · rw [← q_read arg3 harg3 x3 1 inb_S1x4x8x128_S1x1x8x128_0_1_0_0, ← k_read c arg5 g5 _ h5 1 128 rfl inb_S128x512_S128x128_0_128]; rfl
    · rw [← q_read arg3 harg3 x3 2 inb_S1x4x8x128_S1x1x8x128_0_2_0_0, ← k_read c arg5 g5 _ h5 2 256 rfl inb_S128x512_S128x128_0_256]; rfl
    · rw [← q_read arg3 harg3 x3 3 inb_S1x4x8x128_S1x1x8x128_0_3_0_0, ← k_read c arg5 g5 _ h5 3 384 rfl inb_S128x512_S128x128_0_384]; rfl
  iapply to_held; iexact H5

end
end Cert.Kernel7Ideal.Sel

end
-- ==== Proof.SelFrame.lean ====
/- The block choice's launch: its body at every point, and its frame. -/
module

public import proofs.«01_k».proof.Proof.Sel
public import Idealize.ShloMosaic.Lib.Claim

@[expose] public section

set_option maxRecDepth 16384

noncomputable section

namespace Cert.Kernel7Ideal.Sel

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: the table laid flat. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub host_fresh main_chain

/-- The other buffers are found as launched. -/
theorem V_kept (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The table when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

/-- The table's memref, and its words. -/
abbrev tabM : Memref sig .tc .smem S4096 .i32 := Memref.whole main_v0
abbrev words : S4096.Idx → BitVec 32 := tabM.view.read (Elt F) (tbl m 0)

/-- What the run needs: every word names a page. -/
def Named : Prop := ∀ y, (words m y).toNat < 5120

theorem PhiT_eq (c : Dev nD) : (Pipeline.ΦT pre0 (tbl m) c : sProp 𝕄) = tab c tabM (tbl m 0) := by
  unfold Pipeline.ΦT Pipeline.prefHeld
  rw [show (Finset.univ : Finset (Fin 1)) = {(0 : Fin 1)} from by decide, bigSep_singleton]
  rfl

/-- A window's block of its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The blocks chosen at a point. -/
def outAt (c : Dev nD) (t : Fin (cfgM m).N) : Vec F S1x4x8x128 .i32 :=
  chosen (iblk m c 1 t) (means (words m) (grid0.coords t 0).val (iblk m c 0 t) 64)

/-- After a point each input's buffer holds its block, the output's the chosen blocks; the table and the scratch are kept. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t | ⟨1, _⟩ => iblk m c 1 t | ⟨2, _⟩ => outAt m c t
    | ⟨n + 3, h⟩ => absurd (show n + 3 < 3 from h) (Nat.not_lt.2 (Nat.le_add_left _ _))
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by dsimp only [dats]

theorem after_eq (c : Dev nD) (t : Fin (cfgM m).N) : (dats m 0 c).after 0 t = iblk m c 0 t ∧ (dats m 0 c).after 1 t = iblk m c 1 t
    ∧ (dats m 0 c).after 2 t = outAt m c t := by
  dsimp only [dats]; exact ⟨rfl, rfl, rfl⟩

theorem before_eq (c : Dev nD) (t : Fin (cfgM m).N) : (∀ d, (dats m 0 c).before 0 t d = iblk m c 0 t)
    ∧ (∀ d, (dats m 0 c).before 1 t d = iblk m c 1 t) := by
  refine ⟨fun d => ?_, fun d => ?_⟩
  all_goals
    exact (Dat.before_in_eq_fetched _ _ rfl (fun _ => rfl) (fun _ _ _ => rfl)
      (fun t => by first | exact (after_eq m c t).1 | exact (after_eq m c t).2.1) t d).trans rfl

/-- The output block is written back at every point. -/
theorem flush2 (a : (pcfg0 (F := F)).Adm) : ∀ t : Fin (cfg0 a).N, ((cfg0 a).win 2).flush t = true :=
  (fun t => (Pipeline.Window.flushOf_reads cc0_transform_2 reads0_2 hreads0_2 0 (by decide) (by decide)
    (Pipeline.Window.sep_of_coord cc0_transform_2 0 0 (fun _ => rfl) (by decide)) (P := 1) (m := 0) (by decide) rfl t).mpr
    (Nat.mod_one _) : ∀ t : Fin grid0.N, Pipeline.Window.flushOf grid0 true cc0_transform_2 t = true)

/-- The windows' staging memrefs at a point, and the body on them. -/
abbrev st (t : Fin (cfgM m).N) (w : Fin (cfgM m).W) := ((cfgM m).win w).stage ((cfgM m).slots t w)
abbrev bodyAt (t : Fin (cfgM m).N) : Prog (TpuEff nD τ sig (Elt F) Λ₀ .tc) PUnit :=
  cc0_moba_sel (grid0.coords t) tabM (Memref.isWhole_whole _) (spec0_0.stage ((cfgM m).slots t 0)) (hstage0_0 (((cfgM m).slots t 0).cast nbuf0_0))
    (spec0_1.stage ((cfgM m).slots t 1)) (hstage0_1 (((cfgM m).slots t 1).cast nbuf0_1)) (spec0_2.stage ((cfgM m).slots t 2)) (hstage0_2 (((cfgM m).slots t 2).cast nbuf0_2))
    (Memref.whole cc0_scratch0) (Memref.isWhole_whole _)

set_option maxHeartbeats 1200000 in
/-- The body at a point. -/
theorem point (hN : Named m) (c : Dev nD) (t : Fin (cfgM m).N) :
    iprop((dats m 0 c).Φ t.castSucc ∗ (dats m 0 c).owesAt () t.castSucc ∗ (∃ d, own c (st m t 0) ((dats m 0 c).before 0 t d))
      ∗ (∃ d, own c (st m t 1) ((dats m 0 c).before 1 t d)) ∗ (∃ d, own c (st m t 2) ((dats m 0 c).before 2 t d)))
    ⊢ wp frame (wpE (defs₀ (F := F)) Variants.none c none) Set.univ (bodyAt m t) (fun _ => iprop((dats m 0 c).Φ t.succ
      ∗ (dats m 0 c).owesAt () t.succ ∗ own c (st m t 0) ((dats m 0 c).after 0 t) ∗ own c (st m t 1) ((dats m 0 c).after 1 t)
      ∗ own c (st m t 2) ((dats m 0 c).after 2 t))) := by
  obtain ⟨b0, b1⟩ := before_eq m c t
  obtain ⟨a0, a1, a2⟩ := after_eq m c t
  simp only [b0, b1]
  rw [show (dats m 0 c).owesAt () t.succ = (dats m 0 c).owesAt () t.castSucc from rfl, a0, a1, a2,
    show (dats m 0 c).Φ t.castSucc = iprop(Pipeline.ΦA spec0 c ∗ Pipeline.ΦT pre0 (tbl m) c) from rfl,
    show (dats m 0 c).Φ t.succ = iprop(Pipeline.ΦA spec0 c ∗ Pipeline.ΦT pre0 (tbl m) c) from rfl, PhiT_eq,
    show (Pipeline.ΦA spec0 c : sProp 𝕄) = iprop(held c (Memref.whole cc0_scratch0) ∗ (∃ r, prngReg c r)) from by
      unfold Pipeline.ΦA; rw [scopedRest0_eq]; simp only [held, owns_whole]; try rfl]
  iintro ⟨⟨⟨S0, Hg⟩, HT⟩, Ho, ⟨%d0, H0⟩, ⟨%d1, H1⟩, ⟨%d2, H2⟩⟩
  iapply run c (grid0.coords t) tabM (Memref.isWhole_whole _) (st m t 0) _ (st m t 1) _ (st m t 2) _ (Memref.whole cc0_scratch0) _ (tbl m 0) (iblk m c 0 t) (iblk m c 1 t) hN
  isplitl [HT]; · iexact HT
  isplitl [H0]; · iexact H0
  isplitl [H1]; · iexact H1
  isplitl [H2]; · iexists _; iexact H2
  isplitl [S0]; · iexact S0
  iintro ⟨HT, H0, H1, H2, S0⟩
  isplitl [S0 Hg HT]
  · isplitl [S0 Hg]; swap; · iexact HT
    isplitl [S0]; · iexact S0
    iexact Hg
  isplitl [Ho]; · iexact Ho
  isplitl [H0]; · iexact H0
  isplitl [H1]; · iexact H1
  iexact H2

/-- The body obligation at every point. -/
theorem body_obligation (hN : Named m) (c : Dev nD) : BodyObligation (dats (F := F) m 0 c) (defs₀ (F := F)) Variants.none () Set.univ := fun t => by
  rw [bigSep_W0, bigSep_W0, show defs₀ (F := F) .tc (cfgM m).body ((cfgM m).bodyArgs t ((cfgM m).slots t)) = bodyAt m t from by unfold defs₀; rw [Defs.onTc_tc]]
  have hf : ((cfgM m).win 2).flush t = true := flush2 (adm m) t
  refine triple_restated (point m hN c t) rfl .rfl fun _ => ?_
  refine sep_mono .rfl (sep_mono .rfl (sep_mono .rfl (sep_mono .rfl ?_)))
  show _ ⊢ (match (cfgM m).idle 2 ((cfgM m).grid.coords t) with
      | true => (match ((cfgM m).win 2).flush t with
        | false => iprop(∃ d, owns (c : Thread nD τ) (st m t 2) fullShare ((dats m 0 c).before 2 t d))
        | true => owns (c : Thread nD τ) (st m t 2) fullShare ((dats m 0 c).after 2 t))
      | false => owns (c : Thread nD τ) (st m t 2) fullShare ((dats m 0 c).after 2 t))
  generalize (cfgM m).idle 2 ((cfgM m).grid.coords t) = b
  revert hf
  generalize ((cfgM m).win 2).flush t = f
  intro hf
  subst hf
  cases b <;> exact .rfl

-- the launch theorem's implicit arguments are found by unifying its conclusion with this one
set_option backward.isDefEq.respectTransparency.types false in
/-- The launch. -/
theorem launch (hN : Named m) : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m hN c).loose) (hshare := fun c => (dats m 0 c).share_full fun _ => rfl)
    (howed := fun _ _ => rfl) (V := V m) (hmain := hmain m) (hA := A_eq m) (hpf := V_pre m)
    (hin := fun _ => .rfl) (hout := fun _ => by
      show iprop(Pipeline.ΦA spec0 _ ∗ Pipeline.ΦT pre0 (tbl m) _) ⊢ _
      iintro ⟨H, -⟩; iexact H)

/-- Every run ends with the chosen blocks in the result, the arguments unchanged and every counter at zero. -/
theorem full (hN : Named m) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0)
      ∧ ∀ c : Dev nD, r.2.mem ((c.tc : Thread nD τ).loc main_v1) = (dats m 0 c).arrAt 2 (cfgM m).N) :=
  (θ_run defs _ _).mono (fun _ h => ⟨⟨fun c => ⟨
      ((h.1 c).2 main_arg0 (by decide : main_arg0 ∈ Pipeline.restRefs sig spec0)).trans (V_kept m c main_arg0 (by decide)),
      ((h.1 c).1 0).trans (((dats m 0 c).arrAt_in 0 rfl _).trans ((A_eq m c 0).trans (V_kept m c main_arg1 (by decide)))),
      ((h.1 c).1 1).trans (((dats m 0 c).arrAt_in 1 rfl _).trans ((A_eq m c 1).trans (V_kept m c main_arg2 (by decide))))⟩, h.2⟩,
    fun c => (h.1 c).1 2⟩) (launch m ρ hN)

end Cert.Kernel7Ideal.Sel

end
-- ==== Proof.SelRow.lean ====
module

public import Idealize.ShloMosaic.Lib.Pointwise
public import Idealize.ShloMosaic.Lib.SortNet.Extract

@[expose] public section

set_option maxRecDepth 16384

/-!
The first place of the largest entry of a row of extended reals, taken as the smallest lane number among the lanes that equal the row's
maximum. A row that is continued by `⊥` has the same first place.
-/

noncomputable section

open Idealize.ShloMosaic

namespace Cert.Proof.SelRow

/-- Lane `n` is the first that holds the row's largest entry. -/
def First {N : Nat} (g : Fin N → EReal) (n : Fin N) : Prop := (∀ l, g l ≤ g n) ∧ ∀ l < n, g l < g n

/-- The row's largest entry, as a fold. -/
def top {N : Nat} (g : Fin N → EReal) : EReal := Finset.univ.fold max ⊥ g

/-- The smallest lane number among the lanes holding the largest entry, as a fold over words; the other lanes offer `big`. -/
def place {N : Nat} (big : BitVec 32) (g : Fin N → EReal) : BitVec 32 :=
  Finset.univ.fold IntOp.minsi 2147483647#32 fun l : Fin N => if g l = top g then BitVec.ofNat 32 l.val else big

theorem exists_first {N : Nat} (hN : 0 < N) (g : Fin N → EReal) : ∃ n, First g n := by
  classical
  obtain ⟨w, -, hw⟩ := Finset.exists_max_image (Finset.univ : Finset (Fin N)) g ⟨⟨0, hN⟩, Finset.mem_univ _⟩
  let S := Finset.univ.filter fun l => g l = g w
  have hS : S.Nonempty := ⟨w, Finset.mem_filter.2 ⟨Finset.mem_univ _, rfl⟩⟩
  have hm := Finset.mem_filter.1 (S.min'_mem hS)
  refine ⟨S.min' hS, fun l => hm.2 ▸ hw l (Finset.mem_univ _), fun l hl => ?_⟩
  refine lt_of_le_of_ne (hm.2 ▸ hw l (Finset.mem_univ _)) fun e => ?_
  exact absurd (S.min'_le l (Finset.mem_filter.2 ⟨Finset.mem_univ _, e.trans hm.2⟩)) (not_le.2 hl)

theorem top_eq {N : Nat} {g : Fin N → EReal} {n : Fin N} (h : First g n) : top g = g n := by
  refine le_antisymm ((Finset.fold_max_le _).2 ⟨bot_le, fun l _ => h.1 l⟩) ?_
  exact (Finset.le_fold_max _).2 (Or.inr ⟨n, Finset.mem_univ _, le_rfl⟩)

theorem toInt_minsi (a b : BitVec 32) : (IntOp.minsi a b).toInt = min a.toInt b.toInt := by
  unfold IntOp.minsi
  by_cases h : a.slt b = true
  · rw [if_pos h, min_eq_left (le_of_lt (BitVec.slt_iff_toInt_lt.1 h))]
  · rw [if_neg h, min_eq_right (not_lt.1 fun e => h (BitVec.slt_iff_toInt_lt.2 e))]

theorem fold_minsi {N : Nat} (a : BitVec 32) (f : Fin N → BitVec 32) :
    (Finset.univ.fold IntOp.minsi a f).toInt = Finset.univ.fold min a.toInt fun l => (f l).toInt := by
  classical
  refine Finset.induction_on (Finset.univ : Finset (Fin N)) ?_ fun x s hx ih => ?_
  · rw [Finset.fold_empty, Finset.fold_empty]
  · rw [Finset.fold_insert hx, Finset.fold_insert hx, toInt_minsi, ih]

theorem toInt_small {k : Nat} (h : k < 2 ^ 31) : (BitVec.ofNat 32 k).toInt = k := by
  rw [BitVec.toInt_eq_toNat_cond, BitVec.toNat_ofNat, Nat.mod_eq_of_lt (by omega), if_pos (by omega)]

theorem place_eq {N : Nat} (b : Nat) (hb : N ≤ b) (hb' : b < 2 ^ 31) {g : Fin N → EReal} {n : Fin N} (h : First g n) :
    place (BitVec.ofNat 32 b) g = BitVec.ofNat 32 n.val := by
  have hn := n.isLt
  refine BitVec.eq_of_toInt_eq ?_
  unfold place
  rw [fold_minsi, top_eq h]
  refine le_antisymm ?_ ?_
  · refine (Finset.fold_min_le _).2 (Or.inr ⟨n, Finset.mem_univ _, ?_⟩)
    rw [if_pos rfl]
  · refine (Finset.le_fold_min _).2 ⟨?_, fun l _ => ?_⟩
    · refine (toInt_small (k := n.val) (by omega)).le.trans ?_
      have : (2147483647#32 : BitVec 32).toInt = 2147483647 := by decide
      refine le_trans ?_ this.ge
      omega
    · have hl := l.isLt
      by_cases e : g l = g n
      · rw [if_pos e, toInt_small (k := l.val) (by omega), toInt_small (k := n.val) (by omega)]
        have : ¬ l < n := fun hlt => absurd e (ne_of_lt (h.2 l hlt))
        have := Fin.not_lt.1 this
        exact_mod_cast this
      · rw [if_neg e, toInt_small hb', toInt_small (k := n.val) (by omega)]; omega

/-- The row continued by `⊥` to 128 lanes. -/
def wide (g : Fin 64 → EReal) : Fin 128 → EReal := fun l => if h : l.val < 64 then g ⟨l.val, h⟩ else ⊥

theorem wide_first {g : Fin 64 → EReal} {n : Fin 64} (h : First g n) : First (wide g) ⟨n.val, by omega⟩ := by
  have hn : wide g ⟨n.val, by omega⟩ = g n := dif_pos n.isLt
  refine ⟨fun l => ?_, fun l hl => ?_⟩
  · rw [hn]
    unfold wide
    split
    · exact h.1 _
    · exact bot_le
  · rw [hn]
    have hl' : l.val < n.val := hl
    unfold wide
    rw [dif_pos (by omega)]
    exact h.2 _ hl'

/-- The first place of a row and of its continuation are one word. -/
theorem place_wide (b c : Nat) (hb : 128 ≤ b) (hb' : b < 2 ^ 31) (hc : 64 ≤ c) (hc' : c < 2 ^ 31) (g : Fin 64 → EReal) :
    place (BitVec.ofNat 32 b) (wide g) = place (BitVec.ofNat 32 c) g := by
  obtain ⟨n, h⟩ := exists_first (by decide) g
  rw [place_eq b hb hb' (wide_first h), place_eq c hc hc' h]

/-- The row without the lane a word names. -/
def without {N : Nat} (w : BitVec 32) (g : Fin N → EReal) : Fin N → EReal := fun l => if BitVec.ofNat 32 l.val = w then ⊥ else g l

theorem without_wide (w : BitVec 32) (g : Fin 64 → EReal) : without w (wide g) = wide (without w g) := by
  funext l
  unfold without wide
  by_cases h : l.val < 64
  · rw [dif_pos h, dif_pos h]
  · rw [dif_neg h, dif_neg h, ite_self]

/-- The first, second and third choice of a row. -/
def nth {N : Nat} (big : BitVec 32) (g : Fin N → EReal) : Nat → Fin N → EReal
  | 0 => g
  | r + 1 => without (place big (nth big g r)) (nth big g r)

theorem nth_wide (b c : Nat) (hb : 128 ≤ b) (hb' : b < 2 ^ 31) (hc : 64 ≤ c) (hc' : c < 2 ^ 31) (g : Fin 64 → EReal) :
    ∀ r, nth (BitVec.ofNat 32 b) (wide g) r = wide (nth (BitVec.ofNat 32 c) g r)
  | 0 => rfl
  | r + 1 => by
    show without (place _ (nth _ (wide g) r)) (nth _ (wide g) r) = wide (without (place _ (nth _ g r)) (nth _ g r))
    rw [nth_wide b c hb hb' hc hc' g r, place_wide b c hb hb' hc hc', without_wide]

/-- The `r`-th choice over the continued row is the `r`-th choice over the row. -/
theorem choice (b c : Nat) (hb : 128 ≤ b) (hb' : b < 2 ^ 31) (hc : 64 ≤ c) (hc' : c < 2 ^ 31) (g : Fin 64 → EReal) (r : Nat) :
    place (BitVec.ofNat 32 b) (nth (BitVec.ofNat 32 b) (wide g) r) = place (BitVec.ofNat 32 c) (nth (BitVec.ofNat 32 c) g r) := by
  rw [nth_wide b c hb hb' hc hc' g r, place_wide b c hb hb' hc hc']

/-! ## The rows themselves -/

/-- The page a word of the table names. -/
def pg (pt : Shape.Idx ⟨2, ![32, 128]⟩ → BitVec 32) (b : Fin 32) (n : Fin 128) : Fin 5120 :=
  ⟨(pt (ix2 b n)).toNat % 5120, Nat.mod_lt _ (by decide)⟩

/-- Feature `d` of head `h` among the page sums' columns. -/
def col (h : Fin 4) (d : Fin 128) : Fin 512 := ⟨128 * h.val + d.val, by omega⟩

/-- The gates of a query over the 64 blocks: its products with the blocks' means, a block being two pages of 128 rows. -/
def rowG (pt : Shape.Idx ⟨2, ![32, 128]⟩ → BitVec 32) (ps : Shape.Idx ⟨2, ![5120, 512]⟩ → EReal) (q : Shape.Idx ⟨4, ![32, 4, 8, 128]⟩ → EReal)
    (b : Fin 32) (h : Fin 4) (s : Fin 8) : Fin 64 → EReal := fun l =>
  ∑ d : Fin 128, q (ix4 b h s d) * ((ps (ix2 (pg pt b ⟨2 * l.val, by omega⟩) (col h d)) + ps (ix2 (pg pt b ⟨2 * l.val + 1, by omega⟩) (col h d)))
    * ((1 / 256 : ℝ) : EReal))

/-- The blocks chosen: three numbers, then zeros. -/
def spec (pt : Shape.Idx ⟨2, ![32, 128]⟩ → BitVec 32) (ps : Shape.Idx ⟨2, ![5120, 512]⟩ → EReal) (q : Shape.Idx ⟨4, ![32, 4, 8, 128]⟩ → EReal) :
    Shape.Idx ⟨4, ![32, 4, 8, 128]⟩ → BitVec 32 := fun i =>
  if (i 3).val < 3 then place 64#32 (nth 64#32 (rowG pt ps q (i 0) (i 1) (i 2)) (i 3).val) else 0#32

end Cert.Proof.SelRow

end
-- ==== Proof.SelKer.lean ====
module

public import Idealize.ShloMosaic.Lib.Pointwise
public import proofs.«01_k».proof.Proof.Sel
public import proofs.«01_k».proof.Proof.SelRow

@[expose] public section

set_option maxRecDepth 16384

/-! The kernel's choice, row by row: the three first places of the gates' row over the 64 blocks. -/

noncomputable section

open Idealize.ShloMosaic Idealize.ShloMosaic.TcCoe

namespace Cert.Kernel7Ideal.Sel

open Cert.Proof.SelRow

theorem neg_inf : Ideal.ofBits .f32 0xFF800000#32 = ⊥ := by simp [Ideal.ofBits, Ideal.ieee]

theorem lane_no (s : Fin 8) (l : Fin 128) : List.foldl (fun n a => n * (![8, 128] : Fin 2 → ℕ) a + (ix2 s l a).val) 0 [1] = l.val := by
  show 0 * 128 + l.val = l.val
  omega

theorem sel_eq {α : Type} (a b : BitVec 32) (x y : α) : Scalar.select (IntOp.cmpi .eq a b) x y = if a = b then x else y := by
  unfold Scalar.select IntOp.cmpi
  by_cases h : a = b
  · subst h; simp
  · rw [if_neg h]
    refine if_neg ?_
    show ¬ BitVec.ofBool (a == b) = 1
    rw [beq_false_of_ne h]
    decide

theorem sel_slt {α : Type} (l : Fin 128) (x y : α) :
    Scalar.select (IntOp.cmpi .slt (BitVec.ofNat 32 l.val) 64#32) x y = if l.val < 64 then x else y := by
  have h : ∀ l : Fin 128, IntOp.cmpi .slt (BitVec.ofNat 32 l.val) 64#32 = if l.val < 64 then 1#1 else 0#1 := by decide
  rw [h]
  unfold Scalar.select
  split <;> simp

/-- The best lane of a row. -/
theorem best_row (g : FVec Ideal S8x128 .f32) (s : Fin 8) : best g (ix2 s (0 : Fin 1)) = place 128#32 fun l : Fin 128 => g (ix2 s l) := by
  unfold best place top
  simp only [pointwise]
  rw [neg_inf]
  refine congrArg (fun f => Finset.fold IntOp.minsi 2147483647#32 f Finset.univ) (funext fun k => ?_)
  rw [lane_no]
  rfl

/-- A head's row of gates. -/
theorem gate_row (q : Vec Ideal S1x1x8x128 .f32) (km : Vec Ideal S128x128 .f32) (s : Fin 8) :
    (fun l : Fin 128 => gate q km (ix2 s l)) = wide fun l : Fin 64 => ∑ d : Fin 128, q (ix4 (0 : Fin 1) (0 : Fin 1) s d) * km (ix2 ⟨l.val, by omega⟩ d) := by
  funext l
  unfold gate wide
  simp only [pointwise]
  rw [lane_no, sel_slt, neg_inf, zero_add]
  by_cases h : l.val < 64
  · rw [if_pos h, dif_pos h]
  · rw [if_neg h, dif_neg h]

/-- A row without its best. -/
theorem drop_row (g : FVec Ideal S8x128 .f32) (s : Fin 8) :
    (fun l : Fin 128 => drop g (ix2 s l)) = without (place 128#32 fun l : Fin 128 => g (ix2 s l)) fun l : Fin 128 => g (ix2 s l) := by
  funext l
  unfold drop without
  rw [← best_row]
  simp only [pointwise]
  rw [lane_no, sel_eq, neg_inf]
  rfl

theorem lane_is (l : Fin 128) : (BitVec.ofNat 32 l.val = 2#32 ↔ l.val = 2) ∧ (BitVec.ofNat 32 l.val = 1#32 ↔ l.val = 1)
    ∧ (BitVec.ofNat 32 l.val = 0#32 ↔ l.val = 0) := by
  revert l; decide

/-- The three choices at the first three lanes, zeros at the others. -/
theorem picks_row (q : Vec Ideal S1x1x8x128 .f32) (km : Vec Ideal S128x128 .f32) (s : Fin 8) (l : Fin 128) (g : Fin 64 → EReal)
    (hg : g = fun l : Fin 64 => ∑ d : Fin 128, q (ix4 (0 : Fin 1) (0 : Fin 1) s d) * km (ix2 ⟨l.val, by omega⟩ d)) :
    picks q km (ix4 (0 : Fin 1) (0 : Fin 1) s l) = if l.val < 3 then place 64#32 (nth 64#32 g l.val) else 0#32 := by
  have e0 : (fun l : Fin 128 => gate q km (ix2 s l)) = nth 128#32 (wide g) 0 := by rw [gate_row, hg]; rfl
  have e1 : (fun l : Fin 128 => drop (gate q km) (ix2 s l)) = nth 128#32 (wide g) 1 := by rw [drop_row, e0]; rfl
  have e2 : (fun l : Fin 128 => drop (drop (gate q km)) (ix2 s l)) = nth 128#32 (wide g) 2 := by rw [drop_row, e1]; rfl
  have b0 : best (gate q km) (ix2 s (0 : Fin 1)) = place 64#32 (nth 64#32 g 0) := by
    rw [best_row, e0]; exact choice 128 64 (by decide) (by decide) (by decide) (by decide) g 0
  have b1 : best (drop (gate q km)) (ix2 s (0 : Fin 1)) = place 64#32 (nth 64#32 g 1) := by
    rw [best_row, e1]; exact choice 128 64 (by decide) (by decide) (by decide) (by decide) g 1
  have b2 : best (drop (drop (gate q km))) (ix2 s (0 : Fin 1)) = place 64#32 (nth 64#32 g 2) := by
    rw [best_row, e2]; exact choice 128 64 (by decide) (by decide) (by decide) (by decide) g 2
  unfold picks put
  simp only [pointwise]
  rw [lane_no, sel_eq, sel_eq, sel_eq]
  refine Eq.trans (b := if BitVec.ofNat 32 l.val = 2#32 then best (drop (drop (gate q km))) (ix2 s (0 : Fin 1))
    else if BitVec.ofNat 32 l.val = 1#32 then best (drop (gate q km)) (ix2 s (0 : Fin 1))
    else if BitVec.ofNat 32 l.val = 0#32 then best (gate q km) (ix2 s (0 : Fin 1)) else 0#32) rfl ?_
  rw [b0, b1, b2]
  obtain ⟨h2, h1, h0⟩ := lane_is l
  by_cases c2 : l.val = 2
  · rw [if_pos (h2.2 c2), if_pos (by omega), c2]
  rw [if_neg (fun h => c2 (h2.1 h))]
  by_cases c1 : l.val = 1
  · rw [if_pos (h1.2 c1), if_pos (by omega), c1]
  rw [if_neg (fun h => c1 (h1.1 h))]
  by_cases c0 : l.val = 0
  · rw [if_pos (h0.2 c0), if_pos (by omega), c0]
  rw [if_neg (fun h => c0 (h0.1 h)), if_neg (by omega)]

end Cert.Kernel7Ideal.Sel

end
-- ==== Proof.SelValue.lean ====
module

public import Idealize.ShloMosaic.Lib.Pointwise
public import proofs.«01_k».proof.Proof.SelFrame
public import proofs.«01_k».proof.Proof.SelKer

@[expose] public section

set_option maxRecDepth 16384

/-! What the block choice leaves in its result: at every sample, head and query the three blocks of the largest gates. -/

noncomputable section

open Idealize.ShloMosaic Idealize.ShloMosaic.TcCoe Idealize.SL.Sem

namespace Cert.Kernel7Ideal.Sel

open Cert.Kernel7Ideal.Gen
open Cert.Proof.SelRow
open Idealize.ShloMosaic.Pipeline (Dat)

section
variable {F : FTy → Type} [FloatOps F] (m : (ℓ : Loc nD τ sig) → Buf (Elt F) ℓ)

/-- The table of pages, as launched. -/
abbrev pt : S32x128.Idx → BitVec 32 := m (((0 : Dev nD) : Thread nD τ).loc main_arg0)

theorem words_eq : words m = shapeCast S4096 (pt m) shapeCasts_S32x128_S4096 := by
  show (StableHlo.after hostOps0 (fun b => m ((0 : Dev nD), b)) main_v0 : IVec S4096 32) = _
  simp only [hostOps0]
  after_results_simp
  rfl

theorem words_at (b : Fin 32) (n : Fin 128) : words m (ix1 (⟨128 * b.val + n.val, by omega⟩ : Fin 4096)) = pt m (ix2 b n) := by
  rw [words_eq]
  simp only [pointwise]

theorem named_of (h : ∀ i, (pt m i).toNat < 5120) : Named m := by
  intro y
  rw [words_eq]
  exact h _

theorem page_eq (b : Fin 32) (n : Fin 128) : page (words m) (128 * b.val + n.val) = pg (pt m) b n := by
  refine Fin.ext ?_
  show (words m (ix1 (⟨(128 * b.val + n.val) % 4096, Nat.mod_lt _ (by decide)⟩ : Fin 4096))).toNat % 5120 = (pt m (ix2 b n)).toNat % 5120
  rw [← words_at m b n]
  refine congrArg (fun k : Fin 4096 => (words m (ix1 k)).toNat % 5120) (Fin.ext ?_)
  show (128 * b.val + n.val) % 4096 = 128 * b.val + n.val
  have := b.isLt; have := n.isLt
  omega

theorem tlt (t : Fin (cfgM m).N) : t.val < 32 := t.isLt

theorem coord : ∀ t : Fin grid0.N, (grid0.coords t 0).val = t.val := by decide +kernel

theorem ix_1 (t : Fin grid0.N) : cc0_transform_1 (grid0.coords t) = ![t.val, 0, 0, 0] := by
  have h : t.val < 32 := t.isLt
  funext a
  match a with
  | ⟨0, _⟩ =>
    show (BitVec.ofNat 32 ((grid0.coords t) 0).val).toNat = t.val
    rw [coord, BitVec.toNat_ofNat]
    omega
  | ⟨1, _⟩ => rfl
  | ⟨2, _⟩ => rfl
  | ⟨3, _⟩ => rfl
theorem ix_2 (t : Fin grid0.N) : cc0_transform_2 (grid0.coords t) = ![t.val, 0, 0, 0] := by
  have h : t.val < 32 := t.isLt
  funext a
  match a with
  | ⟨0, _⟩ =>
    show (BitVec.ofNat 32 ((grid0.coords t) 0).val).toNat = t.val
    rw [coord, BitVec.toNat_ofNat]
    omega
  | ⟨1, _⟩ => rfl
  | ⟨2, _⟩ => rfl
  | ⟨3, _⟩ => rfl
theorem ix_0 (t : Fin grid0.N) : cc0_transform_0 (grid0.coords t) = ![0, 0] := by
  funext a
  match a with
  | ⟨0, _⟩ => rfl
  | ⟨1, _⟩ => rfl

theorem emb1 (t : Fin (cfgM m).N) (h : Fin 4) (s : Fin 8) (l : Fin 128) :
    ((((cfgM m).win 1).blk t).view.emb (ix4 (0 : Fin 1) h s l) : S32x4x8x128.Idx) = ix4 (⟨t.val, tlt m t⟩ : Fin 32) h s l := by
  funext a
  apply Fin.ext
  match a with
  | ⟨0, _⟩ => show cc0_transform_1 (grid0.coords t) 0 * 1 + 1 * 0 = t.val
              rw [show cc0_transform_1 (grid0.coords t) 0 = t.val from congrFun (ix_1 t) 0]; omega
  | ⟨1, _⟩ => show cc0_transform_1 (grid0.coords t) 1 * 4 + 1 * h.val = h.val
              rw [show cc0_transform_1 (grid0.coords t) 1 = 0 from congrFun (ix_1 t) 1]; omega
  | ⟨2, _⟩ => show cc0_transform_1 (grid0.coords t) 2 * 8 + 1 * s.val = s.val
              rw [show cc0_transform_1 (grid0.coords t) 2 = 0 from congrFun (ix_1 t) 2]; omega
  | ⟨3, _⟩ => show cc0_transform_1 (grid0.coords t) 3 * 128 + 1 * l.val = l.val
              rw [show cc0_transform_1 (grid0.coords t) 3 = 0 from congrFun (ix_1 t) 3]; omega

theorem emb2 (t : Fin (cfgM m).N) (h : Fin 4) (s : Fin 8) (l : Fin 128) :
    ((((cfgM m).win 2).blk t).view.emb (ix4 (0 : Fin 1) h s l) : S32x4x8x128.Idx) = ix4 (⟨t.val, tlt m t⟩ : Fin 32) h s l := by
  funext a
  apply Fin.ext
  match a with
  | ⟨0, _⟩ => show cc0_transform_2 (grid0.coords t) 0 * 1 + 1 * 0 = t.val
              rw [show cc0_transform_2 (grid0.coords t) 0 = t.val from congrFun (ix_2 t) 0]; omega
  | ⟨1, _⟩ => show cc0_transform_2 (grid0.coords t) 1 * 4 + 1 * h.val = h.val
              rw [show cc0_transform_2 (grid0.coords t) 1 = 0 from congrFun (ix_2 t) 1]; omega
  | ⟨2, _⟩ => show cc0_transform_2 (grid0.coords t) 2 * 8 + 1 * s.val = s.val
              rw [show cc0_transform_2 (grid0.coords t) 2 = 0 from congrFun (ix_2 t) 2]; omega
  | ⟨3, _⟩ => show cc0_transform_2 (grid0.coords t) 3 * 128 + 1 * l.val = l.val
              rw [show cc0_transform_2 (grid0.coords t) 3 = 0 from congrFun (ix_2 t) 3]; omega

theorem emb0 (t : Fin (cfgM m).N) (r : Fin 5120) (k : Fin 512) :
    ((((cfgM m).win 0).blk t).view.emb (ix2 r k) : S5120x512.Idx) = ix2 r k := by
  funext a
  apply Fin.ext
  match a with
  | ⟨0, _⟩ => show cc0_transform_0 (grid0.coords t) 0 * 5120 + 1 * r.val = r.val
              rw [show cc0_transform_0 (grid0.coords t) 0 = 0 from congrFun (ix_0 t) 0]; omega
  | ⟨1, _⟩ => show cc0_transform_0 (grid0.coords t) 1 * 512 + 1 * k.val = k.val
              rw [show cc0_transform_0 (grid0.coords t) 1 = 0 from congrFun (ix_0 t) 1]; omega

theorem cover2 (i : S32x4x8x128.Idx) : ∃ t : Fin (cfgM m).N, ((cfgM m).win 2).flush t = true ∧ i ∈ (((cfgM m).win 2).blk t).view.set := by
  have i0 : (i 0).val < 32 := (i 0).isLt
  have i1 : (i 1).val < 4 := (i 1).isLt
  have i2 : (i 2).val < 8 := (i 2).isLt
  have i3 : (i 3).val < 128 := (i 3).isLt
  obtain ⟨t, ht⟩ : ∃ t : Fin (cfgM m).N, t.val = (i 0).val := ⟨⟨(i 0).val, i0⟩, rfl⟩
  refine ⟨t, flush2 _ _, ?_⟩
  have key : ∀ h, i ∈ ((View.whole main_v1).slice (Rect.unit (s := S32x4x8x128) (fun a => cc0_transform_2 (grid0.coords t) a * S1x4x8x128.size a) S1x4x8x128.size h)).set := by
    intro h
    rw [View.set_slice_whole, Rect.mem_set_unit]
    intro a
    match a with
    | ⟨0, _⟩ => show cc0_transform_2 (grid0.coords t) 0 * 1 ≤ (i 0 : Nat) ∧ (i 0 : Nat) < cc0_transform_2 (grid0.coords t) 0 * 1 + 1
                rw [show cc0_transform_2 (grid0.coords t) 0 = t.val from congrFun (ix_2 t) 0]; omega
    | ⟨1, _⟩ => show cc0_transform_2 (grid0.coords t) 1 * 4 ≤ (i 1 : Nat) ∧ (i 1 : Nat) < cc0_transform_2 (grid0.coords t) 1 * 4 + 4
                rw [show cc0_transform_2 (grid0.coords t) 1 = 0 from congrFun (ix_2 t) 1]; omega
    | ⟨2, _⟩ => show cc0_transform_2 (grid0.coords t) 2 * 8 ≤ (i 2 : Nat) ∧ (i 2 : Nat) < cc0_transform_2 (grid0.coords t) 2 * 8 + 8
                rw [show cc0_transform_2 (grid0.coords t) 2 = 0 from congrFun (ix_2 t) 2]; omega
    | ⟨3, _⟩ => show cc0_transform_2 (grid0.coords t) 3 * 128 ≤ (i 3 : Nat) ∧ (i 3 : Nat) < cc0_transform_2 (grid0.coords t) 3 * 128 + 128
                rw [show cc0_transform_2 (grid0.coords t) 3 = 0 from congrFun (ix_2 t) 3]; omega
  exact key _

end

section
variable (m : (ℓ : Loc nD τ sig) → Buf (Elt Ideal) ℓ) (c : Dev nD)

theorem two56th : Ideal.ofBits .f32 0x3B800000#32 = ((1 / 256 : ℝ) : EReal) := by
  simp [Ideal.ofBits, Ideal.ieee, -EReal.coe_mul]; norm_num

/-- The page sums and the queries, as launched. -/
abbrev ps : S5120x512.Idx → EReal := m ((c : Thread nD τ).loc main_arg1)
abbrev qs : S32x4x8x128.Idx → EReal := m ((c : Thread nD τ).loc main_arg2)

abbrev x0 (t : Fin (cfgM m).N) : S5120x512.Idx → EReal := iblk m c 0 t
abbrev x1 (t : Fin (cfgM m).N) : S1x4x8x128.Idx → EReal := iblk m c 1 t

theorem iblk0_at (t : Fin (cfgM m).N) (r : Fin 5120) (k : Fin 512) : x0 m c t (ix2 r k) = ps m c (ix2 r k) := by
  refine (View.read_apply _ _).trans ?_
  exact (congrArg (V m c main_arg1) (emb0 m t r k)).trans (congrFun (V_kept m c main_arg1 (by decide)) (ix2 r k))

theorem iblk1_at (t : Fin (cfgM m).N) (h : Fin 4) (s : Fin 8) (l : Fin 128) :
    x1 m c t (ix4 (0 : Fin 1) h s l) = qs m c (ix4 (⟨t.val, tlt m t⟩ : Fin 32) h s l) := by
  refine (View.read_apply _ _).trans ?_
  exact (congrArg (V m c main_arg2) (emb1 m t h s l)).trans (congrFun (V_kept m c main_arg2 (by decide)) (ix4 (⟨t.val, tlt m t⟩ : Fin 32) h s l))

theorem mean_at (t : Fin (cfgM m).N) (l : Fin 64) (h : Fin 4) (d : Fin 128) :
    means (F := Ideal) (words m) (grid0.coords t 0).val (iblk m c 0 t) 64 (ix2 (⟨l.val, by omega⟩ : Fin 128) (col h d))
      = (ps m c (ix2 (pg (pt m) ⟨t.val, tlt m t⟩ ⟨2 * l.val, by omega⟩) (col h d))
        + ps m c (ix2 (pg (pt m) ⟨t.val, tlt m t⟩ ⟨2 * l.val + 1, by omega⟩) (col h d))) * ((1 / 256 : ℝ) : EReal) := by
  have e0 := page_eq m ⟨t.val, tlt m t⟩ ⟨2 * l.val, by omega⟩
  have e1 := page_eq m ⟨t.val, tlt m t⟩ ⟨2 * l.val + 1, by omega⟩
  unfold means
  refine (if_pos l.isLt).trans ?_
  show (x0 m c t (ix2 (page (words m) (128 * (grid0.coords t 0).val + 2 * l.val)) (col h d))
    + x0 m c t (ix2 (page (words m) (128 * (grid0.coords t 0).val + 2 * l.val + 1)) (col h d))) * Ideal.ofBits .f32 0x3B800000#32 = _
  rw [two56th, coord, ← e0, ← e1]
  exact congrArg (· * ((1 / 256 : ℝ) : EReal)) (congrArg₂ (fun a b : EReal => a + b) (iblk0_at m c t _ _) (iblk0_at m c t _ _))

theorem outAt_at (t : Fin (cfgM m).N) (h : Fin 4) (s : Fin 8) (l : Fin 128) :
    outAt m c t (ix4 (0 : Fin 1) h s l) = spec (pt m) (ps m c) (qs m c) (ix4 (⟨t.val, tlt m t⟩ : Fin 32) h s l) := by
  refine (picks_row (headQ (iblk m c 1 t) h) (headK (means (words m) (grid0.coords t 0).val (iblk m c 0 t) 64) h) s l
    (rowG (pt m) (ps m c) (qs m c) ⟨t.val, tlt m t⟩ h s) ?_).trans rfl
  funext k
  refine Finset.sum_congr rfl fun d _ => ?_
  exact (congrArg₂ (fun a b : EReal => a * b) (iblk1_at m c t h s d) (mean_at m c t k h d)).symm

/-- The kernel's result. -/
theorem val : (dats m 0 c).arrAt 2 (cfgM m).N = spec (pt m) (ps m c) (qs m c) := by
  refine (dats m 0 c).arrAt_eq_of_cover 2 (spec (pt m) (ps m c) (qs m c)) (fun t _ => ?_) (cover2 m)
  have hf : (dats m 0 c).flushed 2 t = ((cfgM m).win 2).cut (grid0.coords t) (outAt m c t) := by
    show ((cfgM m).win 2).cut (grid0.coords t) ((dats m 0 c).after 2 t) = _
    rw [(after_eq m c t).2.2]
  rw [hf]
  funext (y : S1x4x8x128.Idx)
  obtain ⟨z, h, s, l, rfl⟩ : ∃ (z : Fin 1) (h : Fin 4) (s : Fin 8) (l : Fin 128), y = ix4 z h s l := ⟨y 0, y 1, y 2, y 3, eq_ix4 y⟩
  obtain rfl : z = 0 := Subsingleton.elim _ _
  refine Eq.trans ?_ (View.read_apply _ _).symm
  show (outAt m c t (ix4 (0 : Fin 1) h s l) : BitVec 32) = spec (pt m) (ps m c) (qs m c) _
  exact (outAt_at m c t h s l).trans (congrArg (spec (pt m) (ps m c) (qs m c)) (emb2 m t h s l)).symm

end

end Cert.Kernel7Ideal.Sel

end
-- ==== Proof.SelRef.lean ====
module

public import Idealize.ShloMosaic.Lib.Pointwise
public import Idealize.ShloMosaic.Lib.WordCmp
public import Idealize.ShloMosaic.Lib.KernelVsHost
public import proofs.«01_k».proof.Proof.SelRow
public import proofs.«01_k».proof.Proof.Gen.Reference7Ideal.Run

@[expose] public section

set_option maxRecDepth 16384

/-! The reference's choice, entry by entry. -/

noncomputable section

open Idealize.ShloMosaic Idealize.ShloMosaic.TcCoe

namespace Cert.Proof.SelRef

open Cert.Reference7Ideal Cert.Reference7Ideal.Gen Cert.Proof.SelRow

theorem neg_inf : Ideal.ofBits .f32 0xFF800000#32 = ⊥ := by simp [Ideal.ofBits, Ideal.ieee]

theorem sel_eq {α : Type} (a b : BitVec 32) (x y : α) : Scalar.select (IntOp.cmpi .eq a b) x y = if a = b then x else y := by
  unfold Scalar.select IntOp.cmpi
  by_cases h : a = b
  · subst h; simp
  · rw [if_neg h]
    refine if_neg ?_
    show ¬ BitVec.ofBool (a == b) = 1
    rw [beq_false_of_ne h]
    decide

variable (h3 : S32x4x8x64.ReducesTo [3] S32x4x8) (hu : 0 < S_.numel) (b1 : S32x4x8.BroadcastsInDim S32x4x8x1 ![0, 1, 2])
  (b2 : S32x4x8x1.BroadcastsInDim S32x4x8x64 ![0, 1, 2, 3]) (b3 : S64.BroadcastsInDim S32x4x8x64 ![3]) (b4 : S_.BroadcastsInDim S32x4x8x64 ![])
  (b5 : S64.BroadcastsInDim S1x1x1x64 ![3]) (b6 : S1x1x1x64.BroadcastsInDim S32x4x8x64 ![0, 1, 2, 3])

/-- The first place of the largest gate, -/
def bestR (g : FVec Ideal S32x4x8x64 .f32) : IVec S32x4x8 32 :=
  Host.reduce IntOp.minsi (select (cmpf .oeq g (broadcastInDim S32x4x8x64 ![0, 1, 2, 3] b2 (broadcastInDim S32x4x8x1 ![0, 1, 2] b1
    (Host.reduce FloatOps.maximumf g (constant S_ .f32 0xFF800000#32) h3 hu)))) (broadcastInDim S32x4x8x64 ![3] b3 (iotaInDim S64 32 0))
    (broadcastInDim S32x4x8x64 ![] b4 (id (constantI S_ 32 64#32)))) (constantI S_ 32 2147483647#32) h3 hu
/-- and the gates without it. -/
def dropR (g : FVec Ideal S32x4x8x64 .f32) : FVec Ideal S32x4x8x64 .f32 :=
  select (cmpi .eq (broadcastInDim S32x4x8x64 ![0, 1, 2, 3] b6 (broadcastInDim S1x1x1x64 ![3] b5 (iotaInDim S64 32 0)))
    (broadcastInDim S32x4x8x64 ![0, 1, 2, 3] b2 (broadcastInDim S32x4x8x1 ![0, 1, 2] b1 (bestR h3 hu b1 b2 b3 b4 g))))
    (broadcastInDim S32x4x8x64 ![] b4 (id (constant S_ .f32 0xFF800000#32))) g

theorem best_row (g : FVec Ideal S32x4x8x64 .f32) (b : Fin 32) (h : Fin 4) (s : Fin 8) :
    bestR h3 hu b1 b2 b3 b4 g (ix3 b h s) = place 64#32 fun l : Fin 64 => g (ix4 b h s l) := by
  unfold bestR place top
  simp only [pointwise, id]
  rw [neg_inf]
  rfl

theorem drop_row (g : FVec Ideal S32x4x8x64 .f32) (b : Fin 32) (h : Fin 4) (s : Fin 8) :
    (fun l : Fin 64 => dropR h3 hu b1 b2 b3 b4 b5 b6 g (ix4 b h s l)) = without (place 64#32 fun l : Fin 64 => g (ix4 b h s l)) fun l : Fin 64 => g (ix4 b h s l) := by
  funext l
  unfold dropR without
  rw [← best_row h3 hu b1 b2 b3 b4]
  simp only [pointwise, id]
  rw [neg_inf, sel_eq]
  rfl

/-- The reference's gates of the page table, the page sums and the queries. -/
def gateR (pt : IVec S32x128 32) (ps : FVec Ideal S5120x512 .f32) (q : FVec Ideal S32x4x8x128 .f32) : FVec Ideal S32x4x8x64 .f32 :=
  Host.dotGeneral dot_S32x4x8x128_S32x64x4x128_S32x4x8x64_3_3_2_1_01_02 none q (Host.divf (Host.reduceAdd (shapeCast _
    (Host.gather gather_S5120x512_S32x128x1_S32x128x512_2_0_n_n_0_2_1512 ps (broadcastInDim S32x128x1 ![0, 1] bcast_S32x128_S32x128x1_0_1
      (select (cmpi .slt pt (broadcastInDim S32x128 ![] bcast_S_S32x128 (constantI S_ 32 0#32))) (addi pt (broadcastInDim S32x128 ![] bcast_S_S32x128 (constantI S_ 32 5120#32))) pt)))
    shapeCasts_S32x128x512_S32x64x2x4x128) (constant S_ .f32 0x00000000#32) reducesTo_S32x64x2x4x128_S32x64x4x128_d2 h_S_)
    (broadcastInDim S32x64x4x128 ![] bcast_S_S32x64x4x128 (constant S_ .f32 0x43800000#32)))

theorem two56 : Ideal.ofBits .f32 0x43800000#32 = ((256 : ℝ) : EReal) := by
  simp [Ideal.ofBits, Ideal.ieee, -EReal.coe_mul]; norm_num

/-- The dimension numbers of a gather of rows by a table of numbers. -/
abbrev rowDims (wf : GatherDims.WF S5120x512 S32x128x1 S32x128x512 [2] [0] [] [0] [] 2 ![1, 512]) : GatherDims S5120x512 S32x128x1 S32x128x512 where
  offsetDims := [2]
  collapsedSliceDims := [0]
  operandBatchingDims := []
  startIndicesBatchingDims := []
  startIndexMap := [0]
  indexVectorDim := 2
  sliceSizes := ![1, 512]
  wf := wf

/-- A gathered row at a number inside the table. -/
theorem row_dims {α : Type} (wf : GatherDims.WF S5120x512 S32x128x1 S32x128x512 [2] [0] [] [0] [] 2 ![1, 512])
    (x : S5120x512.Idx → α) (idx : IVec S32x128x1 32) (b : Fin 32) (n : Fin 128) (k : Fin 512) (e : Fin 5120)
    (he : idx (ix3 b n (0 : Fin 1)) = BitVec.ofNat 32 e.val) : Host.gather (rowDims wf) x idx (ix3 b n k) = x (ix2 e k) := by
  have hb := e.isLt
  have h0 : (BitVec.ofNat 32 e.val).toInt.toNat = e.val := by rw [toInt_small (by omega)]; rfl
  have hk1 : (1 : Fin 2) ∈ (rowDims wf).sKept := (GatherDims.mem_sKept _ _).mpr ⟨(by decide : (1 : Fin 2) ∉ ([0] : List (Fin 2))), List.not_mem_nil⟩
  unfold Host.gather
  refine congrArg x (funext fun r => Fin.ext ?_)
  match r with
  | ⟨0, _⟩ =>
    show (rowDims wf).start (ix3 b n k) idx 0 + (rowDims wf).batchCoord (ix3 b n k) 0 + (rowDims wf).offCoord (ix3 b n k) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hs : (rowDims wf).siIdx (ix3 b n k) ⟨List.idxOf (0 : Fin 2) (rowDims wf).startIndexMap,
        List.idxOf_lt_length_iff.2 (List.mem_singleton.mpr rfl)⟩ = ix3 b n (0 : Fin 1) := by
      funext r; refine Fin.ext ?_
      match r with
      | ⟨0, _⟩ => rfl
      | ⟨1, _⟩ => rfl
      | ⟨2, _⟩ => rfl
    rw [hs, he, h0]
    show min e.val 5119 = e.val
    omega
  | ⟨1, _⟩ =>
    show (rowDims wf).start (ix3 b n k) idx 1 + (rowDims wf).batchCoord (ix3 b n k) 1 + (rowDims wf).offCoord (ix3 b n k) 1 = k.val
    rw [GatherDims.batchCoord_eq_zero _ _ _ List.not_mem_nil]
    unfold GatherDims.start GatherDims.offCoord
    rw [dif_neg (show (1 : Fin 2) ∉ (rowDims wf).startIndexMap from (by decide : (1 : Fin 2) ∉ ([0] : List (Fin 2)))), dif_pos hk1]
    simp only [Nat.zero_add]
    rfl

/-- The table's word, as the gather takes it. -/
theorem word (pt : IVec S32x128 32) (hp : ∀ i, (pt i).toNat < 5120) (b : Fin 32) (n : Fin 128) :
    broadcastInDim S32x128x1 ![0, 1] bcast_S32x128_S32x128x1_0_1
      (select (cmpi .slt pt (broadcastInDim S32x128 ![] bcast_S_S32x128 (constantI S_ 32 0#32))) (addi pt (broadcastInDim S32x128 ![] bcast_S_S32x128 (constantI S_ 32 5120#32))) pt)
      (ix3 b n (0 : Fin 1)) = BitVec.ofNat 32 (pg pt b n).val := by
  have h := hp (ix2 b n)
  simp only [pointwise]
  show Scalar.select (IntOp.cmpi .slt (pt (ix2 b n)) 0#32) (IntOp.addi (pt (ix2 b n)) 5120#32) (pt (ix2 b n)) = _
  unfold Scalar.select
  rw [if_neg]
  · refine BitVec.eq_of_toNat_eq ?_
    show _ = (BitVec.ofNat 32 ((pt (ix2 b n)).toNat % 5120)).toNat
    rw [BitVec.toNat_ofNat]
    omega
  · intro hc
    have hc' : IntOp.cmpi .slt (pt (ix2 b n)) 0#32 = 1#1 := hc
    rw [WordCmp.cmpi_slt_eq, WordCmp.ofBool_decide_eq_one_iff, BitVec.toInt_eq_toNat_cond, if_pos (by omega)] at hc'
    have h0 : (0#32 : BitVec 32).toInt = 0 := by decide
    rw [h0] at hc'
    omega

/-- The gates with the gathered rows' numbers left open. -/
def gateOf (idx : IVec S32x128x1 32) (ps : FVec Ideal S5120x512 .f32) (q : FVec Ideal S32x4x8x128 .f32) : FVec Ideal S32x4x8x64 .f32 :=
  Host.dotGeneral dot_S32x4x8x128_S32x64x4x128_S32x4x8x64_3_3_2_1_01_02 none q (Host.divf (Host.reduceAdd (shapeCast _
    (Host.gather gather_S5120x512_S32x128x1_S32x128x512_2_0_n_n_0_2_1512 ps idx)
    shapeCasts_S32x128x512_S32x64x2x4x128) (constant S_ .f32 0x00000000#32) reducesTo_S32x64x2x4x128_S32x64x4x128_d2 h_S_)
    (broadcastInDim S32x64x4x128 ![] bcast_S_S32x64x4x128 (constant S_ .f32 0x43800000#32)))

theorem pair (l : Fin 64) (f : Fin 128 → EReal) (h : ∀ k : Fin 2, l.val * 2 + k.val < 128) :
    ∑ k : Fin 2, f ⟨l.val * 2 + k.val, h k⟩ = f ⟨2 * l.val, by omega⟩ + f ⟨2 * l.val + 1, by omega⟩ := by
  rw [Fin.sum_univ_two]
  refine congrArg₂ (· + ·) (congrArg f (Fin.ext ?_)) (congrArg f (Fin.ext ?_))
  · show l.val * 2 + 0 = 2 * l.val; omega
  · show l.val * 2 + 1 = 2 * l.val + 1; omega

theorem gate_of (idx : IVec S32x128x1 32) (ps : FVec Ideal S5120x512 .f32) (q : FVec Ideal S32x4x8x128 .f32) (P : Fin 32 → Fin 128 → Fin 5120)
    (hi : ∀ b n, idx (ix3 b n (0 : Fin 1)) = BitVec.ofNat 32 (P b n).val) (b : Fin 32) (h : Fin 4) (s : Fin 8) (l : Fin 64) :
    gateOf idx ps q (ix4 b h s l) = ∑ d : Fin 128, q (ix4 b h s d) * ((ps (ix2 (P b ⟨2 * l.val, by omega⟩) (col h d))
      + ps (ix2 (P b ⟨2 * l.val + 1, by omega⟩) (col h d))) * ((1 / 256 : ℝ) : EReal)) := by
  have e (n : Fin 128) (k : Fin 512) :
      Host.gather gather_S5120x512_S32x128x1_S32x128x512_2_0_n_n_0_2_1512 ps idx (ix3 b n k) = ps (ix2 (P b n) k) :=
    row_dims Facts₀.gather_S5120x512_S32x128x1_S32x128x512_2_0_n_n_0_2_1512_wf ps idx b n k (P b n) (hi b n)
  unfold gateOf
  simp only [pointwise, Ideal.hostReduceAdd_def, e]
  rw [zero_add]
  refine Finset.sum_congr rfl fun d _ => ?_
  rw [two56, Ideal.div_coe (by norm_num), zero_add]
  refine congrArg (fun z => q (ix4 b h s d) * (z * ((1 / 256 : ℝ) : EReal))) ?_
  refine (pair l (fun n => ps (ix2 (P b n) ⟨h.val * 128 + d.val, by omega⟩)) (fun k => by omega)).trans ?_
  have hc : (⟨h.val * 128 + d.val, by omega⟩ : Fin 512) = col h d := Fin.ext (by show h.val * 128 + d.val = 128 * h.val + d.val; omega)
  rw [hc]

/-- The reference's gates are the rows. -/
theorem gate_row (pt : IVec S32x128 32) (hp : ∀ i, (pt i).toNat < 5120) (ps : FVec Ideal S5120x512 .f32) (q : FVec Ideal S32x4x8x128 .f32)
    (b : Fin 32) (h : Fin 4) (s : Fin 8) : (fun l : Fin 64 => gateR pt ps q (ix4 b h s l)) = rowG pt ps q b h s :=
  funext fun l => gate_of _ ps q (pg pt) (word pt hp) b h s l

/-- Three choices side by side, then zeros. -/
def wide3 (x y z : IVec S32x4x8 32) : IVec S32x4x8x128 32 :=
  pad S32x4x8x128 ![0, 0, 0, 0] ![0, 0, 0, 125] ![0, 0, 0, 0] (concatenate S32x4x8x3 3
      [⟨S32x4x8x1, broadcastInDim S32x4x8x1 ![0, 1, 2] bcast_S32x4x8_S32x4x8x1_0_1_2 x⟩,
       ⟨S32x4x8x1, broadcastInDim S32x4x8x1 ![0, 1, 2] bcast_S32x4x8_S32x4x8x1_0_1_2 y⟩,
       ⟨S32x4x8x1, broadcastInDim S32x4x8x1 ![0, 1, 2] bcast_S32x4x8_S32x4x8x1_0_1_2 z⟩] concatenates_S32x4x8x1_S32x4x8x1_S32x4x8x1_S32x4x8x3_d3)
    (id (constantI S_ 32 0#32)) pads_S32x4x8x3_S32x4x8x128_000_000_000_01250 h_S_

theorem wide3_at (x y z : IVec S32x4x8 32) (b : Fin 32) (h : Fin 4) (s : Fin 8) (l : Fin 128) :
    wide3 x y z (ix4 b h s l) = if l.val = 0 then x (ix3 b h s) else if l.val = 1 then y (ix3 b h s) else if l.val = 2 then z (ix3 b h s) else 0#32 := by
  by_cases hl : l.val < 3
  · unfold wide3
    rw [pad_apply_of_inside (k := ix4 b h s (⟨l.val, hl⟩ : Fin 3))]
    · obtain ⟨l, _⟩ := l
      have hl' : l < 3 := hl
      interval_cases l
      · refine (concatenate_apply _ _ _ _ _).trans ((concatenateAt_cons _ _ _ _ _ _ _ _).trans ((dif_pos (show (0 : ℕ) < 1 by decide)).trans ?_))
        exact congrArg x (funext fun a => Fin.ext (by fin_cases a <;> rfl))
      · refine (concatenate_apply _ _ _ _ _).trans ((concatenateAt_cons _ _ _ _ _ _ _ _).trans ((dif_neg (show ¬ (1 : ℕ) < 1 by decide)).trans
          ((concatenateAt_cons _ _ _ _ _ _ _ _).trans ((dif_pos (show (1 - 1 : ℕ) < 1 by decide)).trans ?_))))
        exact congrArg y (funext fun a => Fin.ext (by fin_cases a <;> rfl))
      · refine (concatenate_apply _ _ _ _ _).trans ((concatenateAt_cons _ _ _ _ _ _ _ _).trans ((dif_neg (show ¬ (2 : ℕ) < 1 by decide)).trans
          ((concatenateAt_cons _ _ _ _ _ _ _ _).trans ((dif_neg (show ¬ (2 - 1 : ℕ) < 1 by decide)).trans ((concatenateAt_singleton _ _ _ _ _ _).trans ?_)))))
        exact congrArg z (funext fun a => Fin.ext (by fin_cases a <;> rfl))
    · intro a
      match a with
      | ⟨0, _⟩ => show b.val = 0 + b.val * 1; omega
      | ⟨1, _⟩ => show h.val = 0 + h.val * 1; omega
      | ⟨2, _⟩ => show s.val = 0 + s.val * 1; omega
      | ⟨3, _⟩ => show l.val = 0 + l.val * 1; omega
  · rw [if_neg (by omega), if_neg (by omega), if_neg (by omega)]
    unfold wide3 pad
    rw [dif_neg]
    · rfl
    · intro hin
      have h3 : (l.val - 0) / 1 < 3 := (hin 3).2.2
      omega

/-- What the reference returns. -/
theorem res_eq (m : (ℓ : Loc nD τ sig) → Buf (Elt Ideal) ℓ) (c : Dev nD)
    (hp : ∀ i : S32x128.Idx, (m ((c.tc : Thread nD τ).loc main_arg0) i : BitVec 32).toNat < 5120) :
    Value.res_main_v53 m c = spec (m ((c.tc : Thread nD τ).loc main_arg0)) (m ((c.tc : Thread nD τ).loc main_arg1)) (m ((c.tc : Thread nD τ).loc main_arg2)) := by
  let B := bestR reducesTo_S32x4x8x64_S32x4x8_d3 h_S_ bcast_S32x4x8_S32x4x8x1_0_1_2 bcast_S32x4x8x1_S32x4x8x64_0_1_2_3 bcast_S64_S32x4x8x64_3 bcast_S_S32x4x8x64
  let D := dropR reducesTo_S32x4x8x64_S32x4x8_d3 h_S_ bcast_S32x4x8_S32x4x8x1_0_1_2 bcast_S32x4x8x1_S32x4x8x64_0_1_2_3 bcast_S64_S32x4x8x64_3 bcast_S_S32x4x8x64 bcast_S64_S1x1x1x64_3 bcast_S1x1x1x64_S32x4x8x64_0_1_2_3
  have hres : Value.res_main_v53 m c = (fun g => wide3 (B g) (B (D g)) (B (D (D g))))
      (gateR (m ((c.tc : Thread nD τ).loc main_arg0)) (m ((c.tc : Thread nD τ).loc main_arg1)) (m ((c.tc : Thread nD τ).loc main_arg2))) := rfl
  rw [hres]
  funext (y : S32x4x8x128.Idx)
  obtain ⟨b, h, s, l, rfl⟩ : ∃ (b : Fin 32) (h : Fin 4) (s : Fin 8) (l : Fin 128), y = ix4 b h s l := ⟨y 0, y 1, y 2, y 3, eq_ix4 y⟩
  have hg := gate_row (m ((c.tc : Thread nD τ).loc main_arg0)) hp (m ((c.tc : Thread nD τ).loc main_arg1)) (m ((c.tc : Thread nD τ).loc main_arg2)) b h s
  generalize gateR (m ((c.tc : Thread nD τ).loc main_arg0)) (m ((c.tc : Thread nD τ).loc main_arg1)) (m ((c.tc : Thread nD τ).loc main_arg2)) = g at hg ⊢
  generalize hr : rowG (m ((c.tc : Thread nD τ).loc main_arg0)) (m ((c.tc : Thread nD τ).loc main_arg1)) (m ((c.tc : Thread nD τ).loc main_arg2)) b h s = r at hg
  have hs : spec (m ((c.tc : Thread nD τ).loc main_arg0)) (m ((c.tc : Thread nD τ).loc main_arg1)) (m ((c.tc : Thread nD τ).loc main_arg2)) (ix4 b h s l)
      = if l.val < 3 then place 64#32 (nth 64#32 r l.val) else 0#32 := by rw [← hr]; rfl
  rw [hs]
  have e0 : (fun l : Fin 64 => g (ix4 b h s l)) = nth 64#32 r 0 := hg
  have e1 : (fun l : Fin 64 => D g (ix4 b h s l)) = nth 64#32 r 1 := by rw [drop_row, e0]; rfl
  have e2 : (fun l : Fin 64 => D (D g) (ix4 b h s l)) = nth 64#32 r 2 := by rw [drop_row, e1]; rfl
  show wide3 (B g) (B (D g)) (B (D (D g))) (ix4 b h s l) = _
  have eB : ∀ g : FVec Ideal S32x4x8x64 .f32, B g (ix3 b h s) = place 64#32 fun l : Fin 64 => g (ix4 b h s l) := fun g => best_row _ _ _ _ _ _ g b h s
  rw [wide3_at, eB, eB, eB, e0, e1, e2]
  by_cases c0 : l.val = 0
  · rw [if_pos c0, if_pos (by omega), c0]
  rw [if_neg c0]
  by_cases c1 : l.val = 1
  · rw [if_pos c1, if_pos (by omega), c1]
  rw [if_neg c1]
  by_cases c2 : l.val = 2
  · rw [if_pos c2, if_pos (by omega), c2]
  rw [if_neg c2, if_neg (by omega)]

end Cert.Proof.SelRef

end
-- ==== Proof.SelClaim.lean ====
module

public import proofs.«01_k».proof.Defs
public import Idealize.ShloMosaic.Lib.Claim
public import Idealize.ShloMosaic.Lib.WordCmp
public import proofs.«01_k».proof.Proof.SelValue
public import proofs.«01_k».proof.Proof.SelRef
public import proofs.«01_k».proof.Proof.Gen.Pre_pages_named

@[expose] public section

set_option maxRecDepth 16384

/-! The sampled tokens' choice of blocks: the kernel's result and the reference's are the same entries. -/

noncomputable section

namespace Cert.Proof.SelClaim

open Idealize.ShloMosaic Idealize.ShloMosaic.TcCoe Idealize.SL.Sem

/-- The precondition: every word of the table names a page. -/
theorem pages_ok [Cert.Pre_pages_named.Facts] {F : FTy → Type} [FloatOps F] (pt : IVec Cert.Pre_pages_named.S32x128 32)
    (ps : FVec F Cert.Pre_pages_named.S5120x512 .f32) (q : FVec F Cert.Pre_pages_named.S32x4x8x128 .f32)
    (h : Cert.Pre_pages_named.fn pt ps q = fun _ => 1#1) (i : Cert.Pre_pages_named.S32x128.Idx) : (pt i).toNat < 5120 := by
  have andi_one (a b : BitVec 1) : IntOp.andi a b = 1#1 ↔ a = 1#1 ∧ b = 1#1 := by revert a b; decide
  have h1 := congrFun h i
  simp only [Cert.Pre_pages_named.fn, constantI, broadcastInDim, cmpi, andi, andi_one] at h1
  obtain ⟨ha, hb⟩ := h1
  rw [WordCmp.cmpi_sge_eq, WordCmp.ofBool_decide_eq_one_iff] at ha
  rw [WordCmp.cmpi_slt_eq, WordCmp.ofBool_decide_eq_one_iff] at hb
  have ha' : (0#32 : BitVec 32).toInt ≤ (pt i).toInt := ha
  have hb' : (pt i).toInt < (5120#32 : BitVec 32).toInt := hb
  rw [show (0#32 : BitVec 32).toInt = 0 from by decide] at ha'
  rw [show (5120#32 : BitVec 32).toInt = 5120 from by decide] at hb'
  rw [BitVec.toInt_eq_toNat_cond] at ha' hb'
  have := (pt i).isLt
  split at ha' <;> omega

theorem ok_of_pre [Cert.Pre_pages_named.Facts] (m : (ℓ : Loc Cert.Kernel7Ideal.nD Cert.Kernel7Ideal.τ Cert.Kernel7Ideal.sig) → Buf (Elt Ideal) ℓ)
    (h : Cert.Pre_Kernel7Ideal m) (i : Cert.Pre_pages_named.S32x128.Idx) : (Cert.Kernel7Ideal.Sel.pt m i).toNat < 5120 :=
  pages_ok _ _ _ (h 0) i

theorem frame [Cert.Kernel7Ideal.Facts] [Cert.Pre_pages_named.Facts] : Cert.quiescent_Kernel7Ideal := fun m g h =>
  (θ_run _ _ _).mono (fun _ h => h.1) (Cert.Kernel7Ideal.Sel.full (F := Ideal) m g (Cert.Kernel7Ideal.Sel.named_of m (ok_of_pre m h)))

/-- From arguments that agree, the kernel and the reference end with the same blocks. -/
theorem alg [Cert.Kernel7Ideal.Facts] [Cert.Reference7Ideal.Facts] [Cert.Pre_pages_named.Facts] : Cert.algebraic_Kernel7Ideal_Reference7Ideal := by
  intro m g m' g' hpre hag
  have hp := ok_of_pre m hpre
  refine ⟨fun c => Cert.Proof.SelRow.spec (Cert.Kernel7Ideal.Sel.pt m) (Cert.Kernel7Ideal.Sel.ps m c) (Cert.Kernel7Ideal.Sel.qs m c), ?_, ?_⟩
  · refine (θ_run _ _ _).mono (fun r h c => ?_) (Cert.Kernel7Ideal.Sel.full (F := Ideal) m g (Cert.Kernel7Ideal.Sel.named_of m hp))
    exact ⟨(h.2 c).trans (Cert.Kernel7Ideal.Sel.val m c), h.1.1 c⟩
  · refine (θ_run _ _ _).mono (fun r h c => ?_) (Cert.Reference7Ideal.Value.run (F := Ideal) m' g')
    obtain ⟨hr, ha⟩ := h c
    obtain ⟨a0, a1, a2⟩ := hag c
    obtain rfl : c = 0 := Subsingleton.elim _ _
    refine ⟨hr.trans ?_, ha⟩
    refine (Cert.Proof.SelRef.res_eq m' 0 (fun i => by rw [a0]; exact hp i)).trans ?_
    rw [a0, a1, a2]

end Cert.Proof.SelClaim

end
-- ==== Proof.SelBits.lean ====
module

public import proofs.«01_k».proof.Defs
public import proofs.«01_k».proof.Proof.SelClaim
public import proofs.«01_k».proof.Proof.Gen.Kernel7

@[expose] public section

set_option maxRecDepth 16384

/-! The block choice on words: it is the same program, so its runs are those already described. -/

noncomputable section

namespace Cert.Proof.SelBits

open Idealize.ShloMosaic Idealize.ShloMosaic.TcCoe Idealize.SL.Sem

variable {F : FTy → Type} [FloatOps F]

theorem defs₀_eq : @Cert.Kernel7.defs₀ F _ _ = @Cert.Kernel7Ideal.defs₀ F _ _ := by
  unfold Cert.Kernel7.defs₀ Cert.Kernel7Ideal.defs₀
  refine congrArg Defs.onTc (funext fun l => funext fun x => ?_)
  match l, x with
  | 0, (t, s) => rfl
  | ⟨_ + 1, h⟩, _ => exact absurd h (Nat.not_lt.2 (Nat.le_add_left _ _))

theorem defs_eq : @Cert.Kernel7.defs F _ _ = @Cert.Kernel7Ideal.defs F _ _ :=
  congrArg (Pipeline.defs (Cert.Kernel7.pcfgs (F := F))) defs₀_eq

open Cert.Kernel7

theorem frame [Cert.Kernel7.Facts] [Cert.Pre_pages_named.Facts] : Cert.quiescent_Kernel7 := by
  intro m g h
  rw [defs_eq]
  have hp : ∀ i : Cert.Pre_pages_named.S32x128.Idx, (Cert.Kernel7Ideal.Sel.pt (F := Bits) m i).toNat < 5120 := fun i => SelClaim.pages_ok _ _ _ (h 0) i
  exact (θ_run _ _ _).mono (fun _ h => h.1) (Cert.Kernel7Ideal.Sel.full (F := Bits) m g (Cert.Kernel7Ideal.Sel.named_of m hp))

end Cert.Proof.SelBits

end
-- ==== Proof.MoeSpec.lean ====
/- A routed expert's feed-forward layer at one entry, over the extended reals: what the kernel's block and the host's
   reference are both read to. -/
module

public import Idealize.ShloMosaic.Lib.Pointwise
public import Idealize.ShloMosaic.Lib.Claim
public import Idealize.ShloMosaic.PureOps.Ideal.Laws

@[expose] public section

noncomputable section

namespace Cert.Proof.Expert

open Idealize.ShloMosaic

/-- A token against column `j` of a weight matrix, with the column's bias. -/
def lin (x : Fin 1024 → EReal) (w : Fin 1024 → Fin 1024 → EReal) (b : Fin 1024 → EReal) (j : Fin 1024) : EReal :=
  (∑ k, x k * w k j) + b j

/-- The gate's entry, held below seven. -/
def gate (a : EReal) : EReal := min a (Ideal.ofBits .f32 0x40E00000#32)

/-- The other branch's entry, held between minus seven and seven. -/
def clip (a : EReal) : EReal := min (Ideal.ofBits .f32 0x40E00000#32) (max (Ideal.ofBits .f32 0xC0E00000#32) a)

/-- One hidden entry: one more than the clipped branch times the gate's swish. -/
def act (g u : EReal) : EReal :=
  (u + Ideal.ofBits .f32 0x3F800000#32) * (g * Ideal.logistic (Ideal.ofBits .f32 0x3FD9DB23#32 * g))

/-- One entry of the expert's layer on a token. -/
def ffn (x : Fin 1024 → EReal) (wg : Fin 1024 → Fin 1024 → EReal) (bg : Fin 1024 → EReal)
    (wu : Fin 1024 → Fin 1024 → EReal) (bu : Fin 1024 → EReal) (wd : Fin 1024 → Fin 1024 → EReal) (bd : Fin 1024 → EReal)
    (j : Fin 1024) : EReal :=
  lin (fun k => act (gate (lin x wg bg k)) (clip (lin x wu bu k))) wd bd j

end Cert.Proof.Expert

end
-- ==== Proof.MoeValue.lean ====
/- The routed experts' layer on the kernel's side: what the result array holds after the run, entry by entry. -/
module

public import proofs.«01_k».proof.Proof.MoeSpec
public import proofs.«01_k».proof.Proof.MoeFrame
public import proofs.«01_k».proof.Proof.MoeNamed
public import Idealize.ShloMosaic.Lib.Pipeline.Value

@[expose] public section

set_option maxRecDepth 16384

noncomputable section

namespace Cert.Proof.MoeValue

open Idealize.ShloMosaic Idealize.ShloMosaic.TcCoe Idealize.SL.Sem
open Cert.Kernel4Ideal Cert.Kernel4Ideal.Gen Cert.Kernel4Ideal.Moe Cert.Proof.Expert

variable (m : (ℓ : Loc nD τ sig) → Buf (Elt Ideal) ℓ) (c : Dev nD)

theorem pay16_apply (x w : FVec Ideal S1024x1024 .bf16) (b : Vec Ideal S1x1x1024 .f32) (r j : Fin 1024) :
    k0_pay16 x w b (ix2 r j) = gate (lin (fun k => x (ix2 r k)) (fun k j => w (ix2 k j)) (fun j => b (ix3 0 0 j)) j) := by
  pointwise [k0_pay16, gate, lin]

theorem layer_apply (x w0 : FVec Ideal S1024x1024 .bf16) (b0 : Vec Ideal S1x1x1024 .f32)
    (w1 : FVec Ideal S1024x1024 .bf16) (b1 : Vec Ideal S1x1x1024 .f32) (w2 : FVec Ideal S1024x1024 .bf16) (b2 : Vec Ideal S1x1x1024 .f32)
    (r j : Fin 1024) :
    layer x w0 b0 w1 b1 w2 b2 (ix2 r j)
      = ffn (fun k => x (ix2 r k)) (fun k j => w0 (ix2 k j)) (fun j => b0 (ix3 0 0 j)) (fun k j => w1 (ix2 k j)) (fun j => b1 (ix3 0 0 j))
          (fun k j => w2 (ix2 k j)) (fun j => b2 (ix3 0 0 j)) j := by
  pointwise [layer, k0_pay16, k0_pay17, k0_pay18, ffn, act, clip, gate, lin]

theorem pay4_apply (w : Vec Ideal S1x1024x1024 .f32) (k j : Fin 1024) : k0_pay4 w (ix2 k j) = w (ix3 0 k j) := by
  pointwise [k0_pay4]
theorem pay5_apply (w : Vec Ideal S1x1024x1024 .f32) (k j : Fin 1024) : k0_pay5 w (ix2 k j) = w (ix3 0 k j) := by
  pointwise [k0_pay5]
theorem pay6_apply (w : Vec Ideal S1x1024x1024 .f32) (k j : Fin 1024) : k0_pay6 w (ix2 k j) = w (ix3 0 k j) := by
  pointwise [k0_pay6]

/-! ## The arguments, as launched -/

/-- The packed tokens, the three weights and the three biases. -/
def X : S1318912x128.Idx → EReal := m ((c.tc : Thread nD τ).loc main_arg2)
def Wg : S32x1024x1024.Idx → EReal := m ((c.tc : Thread nD τ).loc main_arg3)
def Bg : S32x1024.Idx → EReal := m ((c.tc : Thread nD τ).loc main_arg4)
def Wu : S32x1024x1024.Idx → EReal := m ((c.tc : Thread nD τ).loc main_arg5)
def Bu : S32x1024.Idx → EReal := m ((c.tc : Thread nD τ).loc main_arg6)
def Wd : S32x1024x1024.Idx → EReal := m ((c.tc : Thread nD τ).loc main_arg7)
def Bd : S32x1024.Idx → EReal := m ((c.tc : Thread nD τ).loc main_arg8)

theorem V_x : (V m c main_arg2 : S1318912x128.Idx → EReal) = X m c := V_kept m c main_arg2 (by decide)
theorem V_wg : (V m c main_arg3 : S32x1024x1024.Idx → EReal) = Wg m c := V_kept m c main_arg3 (by decide)
theorem V_wu : (V m c main_arg5 : S32x1024x1024.Idx → EReal) = Wu m c := V_kept m c main_arg5 (by decide)
theorem V_wd : (V m c main_arg7 : S32x1024x1024.Idx → EReal) = Wd m c := V_kept m c main_arg7 (by decide)

theorem V_bg (e : Fin 32) (j : Fin 1024) : (V m c main_v12 : S32x1x1024.Idx → EReal) (ix3 e 0 j) = Bg m c (ix2 e j) := by
  have h : (V m c main_v12 : S32x1x1024.Idx → EReal) = shapeCast S32x1x1024 (Bg m c) shapeCasts_S32x1024_S32x1x1024 := by
    show StableHlo.after hostOps0 _ _ = _
    simp only [hostOps0]
    after_results_simp <;> rfl
  rw [h]
  pointwise

theorem V_bu (e : Fin 32) (j : Fin 1024) : (V m c main_v13 : S32x1x1024.Idx → EReal) (ix3 e 0 j) = Bu m c (ix2 e j) := by
  have h : (V m c main_v13 : S32x1x1024.Idx → EReal) = shapeCast S32x1x1024 (Bu m c) shapeCasts_S32x1024_S32x1x1024 := by
    show StableHlo.after hostOps0 _ _ = _
    simp only [hostOps0]
    after_results_simp <;> rfl
  rw [h]
  pointwise

theorem V_bd (e : Fin 32) (j : Fin 1024) : (V m c main_v14 : S32x1x1024.Idx → EReal) (ix3 e 0 j) = Bd m c (ix2 e j) := by
  have h : (V m c main_v14 : S32x1x1024.Idx → EReal) = shapeCast S32x1x1024 (Bd m c) shapeCasts_S32x1024_S32x1x1024 := by
    show StableHlo.after hostOps0 _ _ = _
    simp only [hostOps0]
    after_results_simp <;> rfl
  rw [h]
  pointwise

/-! ## The result -/

/-- Feature `k` of token `r` of block `n`, from the packed array. -/
def tok (n : Fin 161) (r k : Fin 1024) : EReal :=
  X m c (ix2 ⟨n.val * 8192 + (8 * r.val + k.val / 128), by omega⟩ ⟨k.val % 128, Nat.mod_lt _ (by omega)⟩)

/-- Entry `j` of token `r` of block `n` through expert `e`. -/
def Y (e : Fin 32) (n : Fin 161) (r j : Fin 1024) : EReal :=
  ffn (tok m c n r) (fun k j => Wg m c (ix3 e k j)) (fun j => Bg m c (ix2 e j)) (fun k j => Wu m c (ix3 e k j)) (fun j => Bu m c (ix2 e j))
    (fun k j => Wd m c (ix3 e k j)) (fun j => Bd m c (ix2 e j)) j

/-- The expert a block names. -/
def pick (h : Named m) (n : Fin 161) : Fin 32 := ⟨(bE m n).toNat, h.2 n⟩

/-- The packed result: zeros past the blocks in use, and otherwise each block's tokens through the block's expert. -/
def G (h : Named m) : S1318912x128.Idx → EReal := fun i =>
  let n : Fin 161 := ⟨(i 0).val / 8192, by have : (i 0).val < 1318912 := (i 0).isLt; omega⟩
  if (n.val : Int) < (nU m).toInt then
    Y m c (pick m h n) n ⟨(i 0).val % 8192 / 8, by omega⟩ ⟨128 * ((i 0).val % 8) + (i 1).val, by have : (i 1).val < 128 := (i 1).isLt; omega⟩
  else 0

theorem blockOut_apply (h : Named m) (t : Fin grid0.N) (hu : (t.val : Int) < (nU m).toInt) (y0 : Fin 8192) (y1 : Fin 128) :
    blockOut m (ok_of_named m h) c t (ix2 y0 y1)
      = Y m c (pick m h ⟨t.val, point_lt t⟩) ⟨t.val, point_lt t⟩ ⟨y0.val / 8, by omega⟩ ⟨128 * (y0.val % 8) + y1.val, by omega⟩ := by
  have he : expert m (ok_of_named m h) ⟨t.val, point_lt t⟩ = pick m h ⟨t.val, point_lt t⟩ :=
    Fin.ext (show (bC m ⟨t.val, point_lt t⟩).toNat = (bE m ⟨t.val, point_lt t⟩).toNat from congrArg (fun b : BitVec 32 => b.toNat) (bC_of_used m t hu))
  unfold blockOut
  refine (layer_apply _ _ _ _ _ _ _ ⟨y0.val / 8, by omega⟩ ⟨128 * (y0.val % 8) + y1.val, by omega⟩).trans ?_
  unfold Y
  rw [iblk1_eq, iblk2_eq, iblk3_eq, iblk4_eq, iblk5_eq, iblk6_eq, he]
  congr 1
  · funext k
    refine (iblk0_eq m (ok_of_named m h) c t hu _).trans ?_
    rw [V_x]
    rfl
  · funext k j; rw [pay4_apply, V_wg]; rfl
  · funext j; exact V_bg m c _ j
  · funext k j; rw [pay5_apply, V_wu]; rfl
  · funext j; exact V_bu m c _ j
  · funext k j; rw [pay6_apply, V_wd]; rfl
  · funext j; exact V_bd m c _ j

theorem outAt_apply (h : Named m) (t : Fin grid0.N) (y0 : Fin 8192) (y1 : Fin 128) :
    outAt m (ok_of_named m h) c t (ix2 y0 y1)
      = G m c h (ix2 ⟨t.val * 8192 + y0.val, by have := point_lt t; omega⟩ y1) := by
  have ht := point_lt t
  have hn : (⟨(t.val * 8192 + y0.val) / 8192, by omega⟩ : Fin 161) = ⟨t.val, ht⟩ := Fin.ext (by show (t.val * 8192 + y0.val) / 8192 = t.val; omega)
  have hr : (⟨(t.val * 8192 + y0.val) % 8192 / 8, by omega⟩ : Fin 1024) = ⟨y0.val / 8, by omega⟩ := Fin.ext (by show (t.val * 8192 + y0.val) % 8192 / 8 = y0.val / 8; omega)
  have hj : (⟨128 * ((t.val * 8192 + y0.val) % 8) + y1.val, by omega⟩ : Fin 1024) = ⟨128 * (y0.val % 8) + y1.val, by omega⟩ :=
    Fin.ext (by show 128 * ((t.val * 8192 + y0.val) % 8) + y1.val = 128 * (y0.val % 8) + y1.val; omega)
  show _ = (if ((⟨(t.val * 8192 + y0.val) / 8192, by omega⟩ : Fin 161).val : Int) < (nU m).toInt then
    Y m c (pick m h ⟨(t.val * 8192 + y0.val) / 8192, by omega⟩) ⟨(t.val * 8192 + y0.val) / 8192, by omega⟩ ⟨(t.val * 8192 + y0.val) % 8192 / 8, by omega⟩
      ⟨128 * ((t.val * 8192 + y0.val) % 8) + y1.val, by omega⟩ else 0)
  rw [hn, hr, hj]
  unfold outAt
  by_cases hu : (t.val : Int) < (nU m).toInt
  · rw [if_pos hu, if_neg ((cond_iff _ _).mp ((used_iff m t).mpr hu))]
    exact blockOut_apply m c h t hu y0 y1
  · rw [if_neg hu, if_pos (by
      by_contra hc
      exact hu ((used_iff m t).mp ((cond_iff _ _).mpr hc)))]
    pointwise [k0_pay1]

theorem ix7 (t : Fin grid0.N) : cc0_transform_7 (grid0.coords t) = ![t.val, 0] := by
  unfold cc0_transform_7
  funext a
  match a with
  | ⟨0, _⟩ =>
    show (BitVec.ofNat 32 ((grid0.coords t) 0).val).toNat = t.val
    rw [coords_val, BitVec.toNat_ofNat]
    have := point_lt t
    omega
  | ⟨1, _⟩ => rfl

/-- Entry `(y0, y1)` of the block written at point `t`, in the whole result. -/
theorem emb7 (hO : Ok m) (t : Fin (cfgM m hO).N) (y0 : Fin 8192) (y1 : Fin 128) :
    ((((cfgM m hO).win 7).blk t).view.emb (ix2 y0 y1) : S1318912x128.Idx)
      = ix2 (⟨t.val * 8192 + y0.val, by have := point_lt t; omega⟩ : Fin 1318912) y1 := by
  funext a
  apply Fin.ext
  match a with
  | ⟨0, _⟩ =>
    show cc0_transform_7 (grid0.coords t) 0 * 8192 + 1 * y0.val = t.val * 8192 + y0.val
    rw [show cc0_transform_7 (grid0.coords t) 0 = t.val from congrFun (ix7 t) 0]; omega
  | ⟨1, _⟩ =>
    show cc0_transform_7 (grid0.coords t) 1 * 128 + 1 * y1.val = y1.val
    rw [show cc0_transform_7 (grid0.coords t) 1 = 0 from congrFun (ix7 t) 1]; omega

theorem cover7 (hO : Ok m) (i : S1318912x128.Idx) :
    ∃ t : Fin (cfgM m hO).N, ((cfgM m hO).win 7).flush t = true ∧ i ∈ (((cfgM m hO).win 7).blk t).view.set := by
  have i0 : (i 0).val < 1318912 := (i 0).isLt
  have i1 : (i 1).val < 128 := (i 1).isLt
  obtain ⟨t, ht⟩ : ∃ t : Fin (cfgM m hO).N, t.val = (i 0).val / 8192 := ⟨⟨(i 0).val / 8192, by show (i 0).val / 8192 < 161; omega⟩, rfl⟩
  refine ⟨t, flush0_7 _ _, ?_⟩
  have key : ∀ h, i ∈ ((View.whole main_v15).slice (Rect.unit (s := S1318912x128) (fun a => cc0_transform_7 (grid0.coords t) a * S8192x128.size a) S8192x128.size h)).set := by
    intro h
    rw [View.set_slice_whole, Rect.mem_set_unit]
    intro a
    match a with
    | ⟨0, _⟩ => show cc0_transform_7 (grid0.coords t) 0 * 8192 ≤ (i 0 : Nat) ∧ (i 0 : Nat) < cc0_transform_7 (grid0.coords t) 0 * 8192 + 8192
                rw [show cc0_transform_7 (grid0.coords t) 0 = t.val from congrFun (ix7 t) 0]; omega
    | ⟨1, _⟩ => show cc0_transform_7 (grid0.coords t) 1 * 128 ≤ (i 1 : Nat) ∧ (i 1 : Nat) < cc0_transform_7 (grid0.coords t) 1 * 128 + 128
                rw [show cc0_transform_7 (grid0.coords t) 1 = 0 from congrFun (ix7 t) 1]; omega
  exact key _

theorem val7 (h : Named m) : (dats m (ok_of_named m h) 0 c).arrAt 7 (cfgM m (ok_of_named m h)).N = G m c h := by
  refine (dats m (ok_of_named m h) 0 c).arrAt_eq_of_cover 7 (G m c h) (fun t _ => ?_) (cover7 m _)
  have hf : (dats m (ok_of_named m h) 0 c).flushed 7 t = ((cfgM m (ok_of_named m h)).win 7).cut (grid0.coords t) (outAt m (ok_of_named m h) c t) := by
    show ((cfgM m (ok_of_named m h)).win 7).cut (grid0.coords t) ((dats m (ok_of_named m h) 0 c).after 7 t) = _
    rw [after0_7]
  rw [hf]
  funext (y : S8192x128.Idx)
  obtain ⟨y0, y1, rfl⟩ : ∃ (a : Fin 8192) (b : Fin 128), y = ix2 a b := ⟨y 0, y 1, eq_ix2 y⟩
  refine Eq.trans ?_ (View.read_apply _ _).symm
  show (outAt m (ok_of_named m h) c t (ix2 y0 y1) : EReal) = G m c h _
  exact (outAt_apply m c h t y0 y1).trans (congrArg (G m c h) (emb7 m (ok_of_named m h) t y0 y1)).symm

/-- Every run of the kernel ends with the result at `G` and the arguments unchanged. -/
theorem run (ρ : Dev nD → PrngReg) (h : Named m) :
    θ_run defs (onTc (τ := τ) (main (F := Ideal))) ⟨m, fun _ => 0, ρ⟩ fun r =>
      (∀ c : Dev nD, r.2.mem ((c.tc : Thread nD τ).loc main_v15) = G m c h)
      ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  θ_run_and ((θ_run defs _ _).mono (fun r hr c => ((hr c).1 7).trans (val7 m c h)) (run_main m ρ (ok_of_named m h)))
    (unchanged m ρ (ok_of_named m h))

end Cert.Proof.MoeValue

end
-- ==== Proof.MoeGather.lean ====
/- Rows of a table gathered by a column of row numbers, the rows themselves matrices or vectors. -/
module

public import proofs.«01_k».proof.Proof.MoeSpec
public import proofs.«01_k».proof.Proof.Gen.Reference4Ideal.Run
public import Idealize.ShloMosaic.Lib.Routing.Ops
public import Idealize.ShloMosaic.Lib.StackMember
public import Idealize.ShloMosaic.Lib.WordCmp

@[expose] public section

set_option maxRecDepth 16384

noncomputable section

namespace Cert.Proof.MoeRef

open Idealize.ShloMosaic Idealize.ShloMosaic.TcCoe Idealize.SL.Sem
open Cert.Reference4Ideal Cert.Reference4Ideal.Value Cert.Proof.Expert

/-- The dimension numbers of a gather of whole matrices by a column of numbers. -/
abbrev matDims (wf : GatherDims.WF S32x1024x1024 S161x1 S161x1024x1024 [1, 2] [0] [] [0] [] 1 ![1, 1024, 1024]) :
    GatherDims S32x1024x1024 S161x1 S161x1024x1024 where
  offsetDims := [1, 2]
  collapsedSliceDims := [0]
  operandBatchingDims := []
  startIndicesBatchingDims := []
  startIndexMap := [0]
  indexVectorDim := 1
  sliceSizes := ![1, 1024, 1024]
  wf := wf

theorem gather3_dims {α : Type} (wf : GatherDims.WF S32x1024x1024 S161x1 S161x1024x1024 [1, 2] [0] [] [0] [] 1 ![1, 1024, 1024])
    (x : S32x1024x1024.Idx → α) (idx : IVec S161x1 32) (n : Fin 161) (a b : Fin 1024) (e : Fin 32)
    (he : idx (ix2 n (0 : Fin 1)) = BitVec.ofNat 32 e.val) :
    Host.gather (matDims wf) x idx (ix3 n a b) = x (ix3 e a b) := by
  have hb := e.isLt
  have h0 : (BitVec.ofNat 32 e.val).toInt.toNat = e.val := by
    rw [BitVec.toInt_eq_toNat_cond, BitVec.toNat_ofNat, Nat.mod_eq_of_lt (by omega), if_pos (by omega)]
    rfl
  have hk1 : (1 : Fin 3) ∈ (matDims wf).sKept := (GatherDims.mem_sKept _ _).mpr ⟨(by decide : (1 : Fin 3) ∉ ([0] : List (Fin 3))), List.not_mem_nil⟩
  have hk2 : (2 : Fin 3) ∈ (matDims wf).sKept := (GatherDims.mem_sKept _ _).mpr ⟨(by decide : (2 : Fin 3) ∉ ([0] : List (Fin 3))), List.not_mem_nil⟩
  unfold Host.gather
  refine congrArg x (funext fun q => Fin.ext ?_)
  match q with
  | ⟨0, _⟩ =>
    show (matDims wf).start (ix3 n a b) idx 0 + (matDims wf).batchCoord (ix3 n a b) 0 + (matDims wf).offCoord (ix3 n a b) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (matDims wf).startIndexMap from List.mem_singleton.mpr rfl)]
    have hs : (matDims wf).siIdx (ix3 n a b) ⟨List.idxOf (0 : Fin 3) (matDims wf).startIndexMap,
        List.idxOf_lt_length_iff.2 (List.mem_singleton.mpr rfl)⟩ = ix2 n (0 : Fin 1) := by
      funext r; refine Fin.ext ?_
      match r with
      | ⟨0, _⟩ => rfl
      | ⟨1, _⟩ => rfl
    rw [hs, he, h0]
    show min e.val 31 = e.val
    omega
  | ⟨1, _⟩ =>
    show (matDims wf).start (ix3 n a b) idx 1 + (matDims wf).batchCoord (ix3 n a b) 1 + (matDims wf).offCoord (ix3 n a b) 1 = a.val
    rw [GatherDims.batchCoord_eq_zero _ _ _ List.not_mem_nil]
    unfold GatherDims.start GatherDims.offCoord
    rw [dif_neg (show (1 : Fin 3) ∉ (matDims wf).startIndexMap from (by decide : (1 : Fin 3) ∉ ([0] : List (Fin 3)))), dif_pos hk1]
    simp only [Nat.zero_add]
    rfl
  | ⟨2, _⟩ =>
    show (matDims wf).start (ix3 n a b) idx 2 + (matDims wf).batchCoord (ix3 n a b) 2 + (matDims wf).offCoord (ix3 n a b) 2 = b.val
    rw [GatherDims.batchCoord_eq_zero _ _ _ List.not_mem_nil]
    unfold GatherDims.start GatherDims.offCoord
    rw [dif_neg (show (2 : Fin 3) ∉ (matDims wf).startIndexMap from (by decide : (2 : Fin 3) ∉ ([0] : List (Fin 3)))), dif_pos hk2]
    simp only [Nat.zero_add]
    rfl

/-- A gathered matrix: where the column holds expert `e` at `n`, the result's matrix `n` is the table's matrix `e`. -/
theorem gather3 {α : Type} (x : S32x1024x1024.Idx → α) (idx : IVec S161x1 32) (n : Fin 161) (a b : Fin 1024) (e : Fin 32)
    (he : idx (ix2 n (0 : Fin 1)) = BitVec.ofNat 32 e.val) :
    Host.gather gather_S32x1024x1024_S161x1_S161x1024x1024_12_0_n_n_0_1_110241024 x idx (ix3 n a b) = x (ix3 e a b) :=
  gather3_dims Facts₀.gather_S32x1024x1024_S161x1_S161x1024x1024_12_0_n_n_0_1_110241024_wf x idx n a b e he

/-- A gathered row: where the column holds expert `e` at `n`, the result's row `n` is the table's row `e`. -/
theorem gather2 {α : Type} (x : S32x1024.Idx → α) (idx : IVec S161x1 32) (n : Fin 161) (b : Fin 1024) (e : Fin 32)
    (he : idx (ix2 n (0 : Fin 1)) = BitVec.ofNat 32 e.val) :
    Host.gather gather_S32x1024_S161x1_S161x1024_1_0_n_n_0_1_11024 x idx (ix2 n b) = x (ix2 e b) :=
  Routing.gather_row gather_S32x1024_S161x1_S161x1024_1_0_n_n_0_1_11024 rfl rfl rfl rfl rfl x idx n b e he (by decide)

/-- The products of the reference, block by block. -/
theorem dot_apply (A B : FVec Ideal S161x1024x1024 .f32) (n : Fin 161) (r j : Fin 1024) :
    Host.dotGeneral dot_S161x1024x1024_S161x1024x1024_S161x1024x1024_2_1_1_2_0_0 none A B (ix3 n r j)
      = ∑ k : Fin 1024, A (ix3 n r k) * B (ix3 n k j) :=
  StackMember.dotGeneral_stack_apply Facts₀.dot_S161x1024x1024_S161x1024x1024_S161x1024x1024_2_1_1_2_0_0_wf none A B n r j

end Cert.Proof.MoeRef

end
-- ==== Proof.MoeRef.lean ====
/- The routed experts' layer on the reference's side: its result, entry by entry. -/
module

public import proofs.«01_k».proof.Proof.MoeGather

@[expose] public section

set_option maxRecDepth 16384

noncomputable section

namespace Cert.Proof.MoeRef

open Idealize.ShloMosaic Idealize.ShloMosaic.TcCoe Idealize.SL.Sem
open Cert.Reference4Ideal Cert.Reference4Ideal.Facts₀ Cert.Reference4Ideal.Value Cert.Proof.Expert

variable (m : (ℓ : Loc nD τ sig) → Buf (Elt Ideal) ℓ) (c : Dev nD)

/-- The blocks' experts, the number of blocks in use, the packed tokens, the three weights and the three biases. -/
def Be : S161.Idx → BitVec 32 := m ((c.tc : Thread nD τ).loc main_arg0)
def Nu : S1.Idx → BitVec 32 := m ((c.tc : Thread nD τ).loc main_arg1)
def X : S1318912x128.Idx → EReal := m ((c.tc : Thread nD τ).loc main_arg2)
def Wg : S32x1024x1024.Idx → EReal := m ((c.tc : Thread nD τ).loc main_arg3)
def Bg : S32x1024.Idx → EReal := m ((c.tc : Thread nD τ).loc main_arg4)
def Wu : S32x1024x1024.Idx → EReal := m ((c.tc : Thread nD τ).loc main_arg5)
def Bu : S32x1024.Idx → EReal := m ((c.tc : Thread nD τ).loc main_arg6)
def Wd : S32x1024x1024.Idx → EReal := m ((c.tc : Thread nD τ).loc main_arg7)
def Bd : S32x1024.Idx → EReal := m ((c.tc : Thread nD τ).loc main_arg8)

/-! ## The reference's own steps, named -/

/-- The column of the blocks' experts, a negative number counted from the end. -/
def col : IVec S161x1 32 :=
  broadcastInDim S161x1 ![0] bcast_S161_S161x1_0 (select (cmpi .slt (Be m c) (broadcastInDim S161 ![] bcast_S_S161 (constantI S_ 32 0#32))) (addi (Be m c) (broadcastInDim S161 ![] bcast_S_S161 (constantI S_ 32 32#32))) (Be m c))

/-- The tokens, block by block. -/
def xs : FVec Ideal S161x1024x1024 .f32 := shapeCast _ (X m c) shapeCasts_S1318912x128_S161x1024x1024

/-- A product with each block's own weights, and the block's own bias added. -/
def linear (x : FVec Ideal S161x1024x1024 .f32) (W : FVec Ideal S32x1024x1024 .f32) (B : FVec Ideal S32x1024 .f32) : FVec Ideal S161x1024x1024 .f32 :=
  addf (Host.dotGeneral dot_S161x1024x1024_S161x1024x1024_S161x1024x1024_2_1_1_2_0_0 none x
      (Host.gather gather_S32x1024x1024_S161x1_S161x1024x1024_12_0_n_n_0_1_110241024 W (col m c)))
    (broadcastInDim S161x1024x1024 ![0, 1, 2] bcast_S161x1x1024_S161x1024x1024_0_1_2
      (broadcastInDim S161x1x1024 ![0, 2] bcast_S161x1024_S161x1x1024_0_2 (Host.gather gather_S32x1024_S161x1_S161x1024_1_0_n_n_0_1_11024 B (col m c))))

def gates : FVec Ideal S161x1024x1024 .f32 :=
  minimumf (linear m c (xs m c) (Wg m c) (Bg m c)) (broadcastInDim S161x1024x1024 ![] bcast_S_S161x1024x1024 (constant S_ .f32 0x40E00000#32))

def ups : FVec Ideal S161x1024x1024 .f32 :=
  minimumf (broadcastInDim S161x1024x1024 ![] bcast_S_S161x1024x1024 (id (constant S_ .f32 0x40E00000#32)))
    (maximumf (broadcastInDim S161x1024x1024 ![] bcast_S_S161x1024x1024 (id (constant S_ .f32 0xC0E00000#32))) (linear m c (xs m c) (Wu m c) (Bu m c)))

def hidden : FVec Ideal S161x1024x1024 .f32 :=
  mulf (addf (ups m c) (broadcastInDim S161x1024x1024 ![] bcast_S_S161x1024x1024 (constant S_ .f32 0x3F800000#32)))
    (mulf (gates m c) (Host.divf (broadcastInDim S161x1024x1024 ![] bcast_S_S161x1024x1024 (constant S_ .f32 0x3F800000#32))
      (addf (broadcastInDim S161x1024x1024 ![] bcast_S_S161x1024x1024 (constant S_ .f32 0x3F800000#32))
        (Host.exp (Host.negf (mulf (broadcastInDim S161x1024x1024 ![] bcast_S_S161x1024x1024 (constant S_ .f32 0x3FD9DB23#32)) (gates m c)))))))

def kept : IVec S161x1024x1024 1 :=
  broadcastInDim S161x1024x1024 ![0, 1, 2] bcast_S161x1x1_S161x1024x1024_0_1_2 (broadcastInDim S161x1x1 ![0] bcast_S161_S161x1x1_0
    (cmpi .slt (iotaInDim S161 32 0) (broadcastInDim S161 ![] bcast_S_S161 (shapeCast _ (Nu m c) shapeCasts_S1_S_))))

theorem res_eq : res_main_v76 m c = shapeCast _ (select (kept m c) (linear m c (hidden m c) (Wd m c) (Bd m c))
    (broadcastInDim S161x1024x1024 ![] bcast_S_S161x1024x1024 (id (constant (F := Ideal) S_ .f32 0x00000000#32)))) shapeCasts_S161x1024x1024_S1318912x128 := rfl

/-! ## Each step at an entry -/

section
variable (hB : ∀ n : Fin 161, (Be m c (ix1 n)).toNat < 32)

/-- The expert a block names. -/
def pick (n : Fin 161) : Fin 32 := ⟨(Be m c (ix1 n)).toNat, hB n⟩

theorem col_apply (n : Fin 161) : col m c (ix2 n (0 : Fin 1)) = BitVec.ofNat 32 (pick m c hB n).val := by
  have h := hB n
  have h1 : IntOp.cmpi .slt (Be m c (ix1 n)) 0#32 = 0#1 := by
    rw [WordCmp.cmpi_slt_eq, WordCmp.ofBool_decide_eq_zero_iff]
    rw [BitVec.toInt_eq_toNat_cond, if_pos (by omega), show (0#32 : BitVec 32).toInt = 0 from by decide]
    omega
  have h2 : col m c (ix2 n (0 : Fin 1)) = Be m c (ix1 n) := by
    pointwise [col, h1]
  rw [h2]
  exact BitVec.eq_of_toNat_eq (by rw [BitVec.toNat_ofNat]; exact (Nat.mod_eq_of_lt (Be m c (ix1 n)).isLt).symm)

theorem linear_apply (x : FVec Ideal S161x1024x1024 .f32) (W : FVec Ideal S32x1024x1024 .f32) (B : FVec Ideal S32x1024 .f32) (n : Fin 161) (r j : Fin 1024) :
    linear m c x W B (ix3 n r j) = lin (fun k => x (ix3 n r k)) (fun k j => W (ix3 (pick m c hB n) k j)) (fun j => B (ix2 (pick m c hB n) j)) j := by
  have hg3 := fun k => gather3 W (col m c) n k j _ (col_apply m c hB n)
  have hg2 := gather2 B (col m c) n j _ (col_apply m c hB n)
  pointwise [linear, lin, dot_apply, hg3, hg2]

theorem xs_apply (n : Fin 161) (r k : Fin 1024) : xs m c (ix3 n r k)
    = X m c (ix2 ⟨n.val * 8192 + (8 * r.val + k.val / 128), by omega⟩ ⟨k.val % 128, Nat.mod_lt _ (by omega)⟩) := by
  refine shapeCast_apply (X m c) shapeCasts_S1318912x128_S161x1024x1024 (ix3 n r k) _ ?_
  rw [Shape.rowMajor_val_three, Shape.rowMajor_val_two]
  show (n.val * 8192 + (8 * r.val + k.val / 128)) * 128 + k.val % 128 = (n.val * 1024 + r.val) * 1024 + k.val
  omega

/-- Feature `k` of token `r` of block `n`, from the packed array. -/
def tok (n : Fin 161) (r k : Fin 1024) : EReal :=
  X m c (ix2 ⟨n.val * 8192 + (8 * r.val + k.val / 128), by omega⟩ ⟨k.val % 128, Nat.mod_lt _ (by omega)⟩)

/-- Entry `j` of token `r` of block `n` through expert `e`. -/
def Y (e : Fin 32) (n : Fin 161) (r j : Fin 1024) : EReal :=
  ffn (tok m c n r) (fun k j => Wg m c (ix3 e k j)) (fun j => Bg m c (ix2 e j)) (fun k j => Wu m c (ix3 e k j)) (fun j => Bu m c (ix2 e j))
    (fun k j => Wd m c (ix3 e k j)) (fun j => Bd m c (ix2 e j)) j

theorem gates_apply (n : Fin 161) (r k : Fin 1024) : gates m c (ix3 n r k)
    = gate (lin (tok m c n r) (fun k j => Wg m c (ix3 (pick m c hB n) k j)) (fun j => Bg m c (ix2 (pick m c hB n) j)) k) := by
  have hl := linear_apply m c hB (xs m c) (Wg m c) (Bg m c) n r k
  rw [show (fun k => xs m c (ix3 n r k)) = tok m c n r from funext fun k => xs_apply m c n r k] at hl
  pointwise [gates, gate, hl]

theorem ups_apply (n : Fin 161) (r k : Fin 1024) : ups m c (ix3 n r k)
    = clip (lin (tok m c n r) (fun k j => Wu m c (ix3 (pick m c hB n) k j)) (fun j => Bu m c (ix2 (pick m c hB n) j)) k) := by
  have hl := linear_apply m c hB (xs m c) (Wu m c) (Bu m c) n r k
  rw [show (fun k => xs m c (ix3 n r k)) = tok m c n r from funext fun k => xs_apply m c n r k] at hl
  pointwise [ups, clip, hl, id_eq]

theorem hidden_apply (n : Fin 161) (r k : Fin 1024) : hidden m c (ix3 n r k) = act (gates m c (ix3 n r k)) (ups m c (ix3 n r k)) := by
  pointwise [hidden, act, Ideal.logistic]

theorem out_apply (n : Fin 161) (r j : Fin 1024) : linear m c (hidden m c) (Wd m c) (Bd m c) (ix3 n r j) = Y m c (pick m c hB n) n r j := by
  rw [linear_apply m c hB]
  unfold Y ffn
  congr 1
  funext k
  rw [hidden_apply, gates_apply m c hB, ups_apply m c hB]

theorem kept_apply (n : Fin 161) (r j : Fin 1024) : kept m c (ix3 n r j) = 1#1 ↔ (n.val : Int) < (Nu m c (ix1 0)).toInt := by
  have h : kept m c (ix3 n r j) = IntOp.cmpi .slt (BitVec.ofNat 32 n.val) (Nu m c (ix1 0)) := by
    pointwise [kept]
  rw [h, WordCmp.cmpi_slt_eq, WordCmp.ofBool_decide_eq_one_iff]
  have hn := n.isLt
  rw [BitVec.toInt_eq_toNat_cond, BitVec.toNat_ofNat, Nat.mod_eq_of_lt (by omega : n.val < 2 ^ 32), if_pos (by omega)]

/-- The packed result: zeros past the blocks in use, and otherwise each block's tokens through the block's expert. -/
def G : S1318912x128.Idx → EReal := fun i =>
  let n : Fin 161 := ⟨(i 0).val / 8192, by have : (i 0).val < 1318912 := (i 0).isLt; omega⟩
  if (n.val : Int) < (Nu m c (ix1 0)).toInt then
    Y m c (pick m c hB n) n ⟨(i 0).val % 8192 / 8, by omega⟩ ⟨128 * ((i 0).val % 8) + (i 1).val, by have : (i 1).val < 128 := (i 1).isLt; omega⟩
  else 0

theorem res_apply : res_main_v76 m c = G m c hB := by
  funext i
  have i0 : (i 0).val < 1318912 := (i 0).isLt
  have i1 : (i 1).val < 128 := (i 1).isLt
  rw [res_eq]
  refine (shapeCast_apply _ shapeCasts_S161x1024x1024_S1318912x128 i
    (ix3 (⟨(i 0).val / 8192, by omega⟩ : Fin 161) (⟨(i 0).val % 8192 / 8, by omega⟩ : Fin 1024) (⟨128 * ((i 0).val % 8) + (i 1).val, by omega⟩ : Fin 1024)) ?_).trans ?_
  · rw [Shape.rowMajor_val_three, Shape.rowMajor_val_two]
    show ((i 0).val / 8192 * 1024 + (i 0).val % 8192 / 8) * 1024 + (128 * ((i 0).val % 8) + (i 1).val) = (i 0).val * 128 + (i 1).val
    omega
  · show _ = (if (((⟨(i 0).val / 8192, by omega⟩ : Fin 161).val : Nat) : Int) < (Nu m c (ix1 0)).toInt then _ else _)
    by_cases hu : (((⟨(i 0).val / 8192, by omega⟩ : Fin 161).val : Nat) : Int) < (Nu m c (ix1 0)).toInt
    · rw [if_pos hu]
      show (if kept m c (ix3 _ _ _) = 1#1 then linear m c (hidden m c) (Wd m c) (Bd m c) (ix3 _ _ _) else _) = _
      rw [if_pos ((kept_apply m c _ _ _).mpr hu)]
      exact out_apply m c hB _ _ _
    · rw [if_neg hu]
      show (if kept m c (ix3 _ _ _) = 1#1 then linear m c (hidden m c) (Wd m c) (Bd m c) (ix3 _ _ _) else _) = _
      rw [if_neg (fun hk => hu ((kept_apply m c _ _ _).mp hk))]
      pointwise [id_eq]

end

end Cert.Proof.MoeRef

end
-- ==== Proof.MoeClaim.lean ====
/- The routed experts' layer: the kernel's result and the reference's are the same entries. -/
module

public import proofs.«01_k».proof.Defs
public import proofs.«01_k».proof.Proof.MoeValue
public import proofs.«01_k».proof.Proof.MoeRef

@[expose] public section

set_option maxRecDepth 16384

noncomputable section

namespace Cert.Proof.MoeClaim

open Idealize.ShloMosaic Idealize.ShloMosaic.TcCoe Idealize.SL.Sem Cert.Proof.Expert

section
open Cert.Kernel4Ideal Cert.Kernel4Ideal.Moe
variable (m : (ℓ : Loc nD τ sig) → Buf (Elt Ideal) ℓ)
  (m' : (ℓ : Loc Cert.Reference4Ideal.nD Cert.Reference4Ideal.τ Cert.Reference4Ideal.sig) → Buf (Elt Ideal) ℓ) (c : Dev nD)

theorem named_ref (h : Named m) (h0 : MoeRef.Be m' c = m ((0 : Dev nD).tc.loc main_arg0)) (n : Fin 161) :
    (MoeRef.Be m' c (ix1 n)).toNat < 32 := by
  rw [h0]
  exact h.2 n

theorem eqG (h : Named m) (h0 : MoeRef.Be m' c = m ((0 : Dev nD).tc.loc main_arg0)) (h1 : MoeRef.Nu m' c = m ((0 : Dev nD).tc.loc main_arg1))
    (h2 : MoeRef.X m' c = MoeValue.X m c) (h3 : MoeRef.Wg m' c = MoeValue.Wg m c) (h4 : MoeRef.Bg m' c = MoeValue.Bg m c)
    (h5 : MoeRef.Wu m' c = MoeValue.Wu m c) (h6 : MoeRef.Bu m' c = MoeValue.Bu m c) (h7 : MoeRef.Wd m' c = MoeValue.Wd m c)
    (h8 : MoeRef.Bd m' c = MoeValue.Bd m c) :
    MoeRef.G m' c (named_ref m m' c h h0) = MoeValue.G m c h := by
  have hY : MoeRef.Y m' c = MoeValue.Y m c := by
    unfold MoeRef.Y MoeValue.Y MoeRef.tok MoeValue.tok
    rw [h2, h3, h4, h5, h6, h7, h8]
  have hn : MoeRef.Nu m' c (ix1 0) = nU m := by rw [h1]; rfl
  have hp : ∀ n, MoeRef.pick m' c (named_ref m m' c h h0) n = MoeValue.pick m h n := fun n =>
    Fin.ext (show (MoeRef.Be m' c (ix1 n)).toNat = (bE m n).toNat from congrArg (fun f : Cert.Reference4Ideal.S161.Idx → BitVec 32 => (f (ix1 n)).toNat) h0)
  funext i
  unfold MoeRef.G MoeValue.G
  simp only [hY, hn, hp]

end

theorem alg [h1 : Cert.Kernel4Ideal.Facts] [h2 : Cert.Reference4Ideal.Facts] [h3 : Cert.Pre_experts_named.Facts] : Cert.algebraic_Kernel4Ideal_Reference4Ideal := by
  intro m g m' g' hpre hag
  have hN := Cert.Kernel4Ideal.Moe.named_of_pre m hpre
  refine ⟨fun c => MoeValue.G m c hN, ?_, ?_⟩
  · refine (θ_run _ _ _).mono (fun r h c => ?_) (MoeValue.run m g hN)
    exact ⟨h.1 c, h.2 c⟩
  · refine (θ_run _ _ _).mono (fun r h c => ?_) (Cert.Reference4Ideal.Value.run (F := Ideal) m' g')
    obtain ⟨hr, ha⟩ := h c
    obtain ⟨a0, a1, a2, a3, a4, a5, a6, a7, a8⟩ := hag c
    obtain rfl : c = 0 := Subsingleton.elim _ _
    refine ⟨hr.trans ?_, ha⟩
    exact (MoeRef.res_apply m' 0 (named_ref m m' 0 hN a0)).trans (eqG m m' 0 hN a0 a1 a2 a3 a4 a5 a6 a7 a8)

end Cert.Proof.MoeClaim

end
-- ==== Proof.lean ====
module

public import proofs.«01_k».proof.Proof.Gen.Kernel6Ideal
public import proofs.«01_k».proof.Proof.Gen.Kernel6
public import proofs.«01_k».proof.Proof.Gen.Reference6Ideal
public import proofs.«01_k».proof.Defs
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.ProjPromptClaim
public import proofs.«01_k».proof.Proof.ProjSampleClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_experts_named
public import proofs.«01_k».proof.Proof.PostClaim
public import proofs.«01_k».proof.Proof.AttnClaim
public import proofs.«01_k».proof.Proof.Twins
public import proofs.«01_k».proof.Proof.SelClaim
public import proofs.«01_k».proof.Proof.SelBits
public import proofs.«01_k».proof.Proof.MoeNamed
public import proofs.«01_k».proof.Proof.MoeFrame
public import proofs.«01_k».proof.Proof.MoeClaim
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Reference7Ideal
public import proofs.«01_k».proof.Proof.Gen.Reference7Ideal.Run
public import proofs.«01_k».proof.Proof.Gen.Pre_pages_named
public import Idealize.ShloMosaic.Adequacy
public import Idealize.ShloMosaic.Init

@[expose] public section

noncomputable section

namespace Cert.Proof

open Idealize.ShloMosaic Idealize.SL.Sem Cert.Kernel2

/-- The reference's run keeps its arguments; the program has no semaphore. -/
theorem frameRef2 [Cert.Reference2Ideal.Facts] : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- The reference's run keeps its arguments; the program has no semaphore. -/
theorem frameRef3 [Cert.Reference3Ideal.Facts] : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

/-- The reference's run keeps its arguments; the program has no semaphore. -/
theorem frameRef4 [Cert.Reference4Ideal.Facts] : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference's run keeps its arguments; the program has no semaphore. -/
theorem frameRef5 [Cert.Reference5Ideal.Facts] : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The reference's run keeps its arguments; the program has no semaphore. -/
theorem frameRef6 [Cert.Reference6Ideal.Facts] : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference's run keeps its arguments; the program has no semaphore. -/
theorem frameRef7 [Cert.Reference7Ideal.Facts] : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_experts_named.Gen.facts, Cert.Pre_pages_named.Gen.facts,
  fun m ρ _ => Cert.Kernel2.Gen.frame m ρ,
  fun m ρ _ => Cert.Kernel2Ideal.Gen.frame m ρ,
  frameRef2,
  fun m ρ _ => Cert.Kernel3.Gen.frame m ρ,
  fun m ρ _ => Cert.Kernel3Ideal.Gen.frame m ρ,
  frameRef3,
  Twins.frame4,
  fun m ρ h => Cert.Kernel4Ideal.Moe.frame m ρ (Cert.Kernel4Ideal.Moe.ok_of_pre m h),
  frameRef4,
  fun m ρ _ => frameRef4 m ρ trivial,
  Twins.frame5,
  fun m ρ _ => Cert.Kernel5Ideal.Post.frame m ρ,
  frameRef5,
  Twins.frame6,
  fun m ρ _ => Cert.Kernel6Ideal.Attn.frame m ρ,
  frameRef6,
  SelBits.frame,
  SelClaim.frame,
  frameRef7,
  fun m ρ _ => frameRef7 m ρ trivial,
  trivial,
  ProjPromptClaim.alg,
  trivial,
  ProjSampleClaim.alg,
  trivial,
  MoeClaim.alg,
  trivial,
  PostClaim.alg,
  trivial,
  AttnClaim.alg,
  trivial,
  SelClaim.alg⟩

end Cert.Proof

end
